-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_length [hPre_rows_have_length : Cert.Pre_rows_have_length.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_length.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_length [hPre_rows_have_length : Cert.Pre_rows_have_length.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_length.fn (F := Ideal) (m ((c.tc : Thread Cert.ReferenceIdeal.nD Cert.ReferenceIdeal.τ).loc Cert.ReferenceIdeal.main_arg0))) = (fun _ => 1#1)

def Pre_Tail [hPre_in_range : Cert.Pre_in_range.Facts] (m : (ℓ : Loc Cert.Tail.nD Cert.Tail.τ Cert.Tail.sig) → Buf (Elt Bits) ℓ) : Prop :=
  ∀ c : Dev Cert.Tail.nD,
    (Cert.Pre_in_range.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2))) = (fun _ => 1#1)

def Pre_TailIdeal [hPre_in_range : Cert.Pre_in_range.Facts] (m : (ℓ : Loc Cert.TailIdeal.nD Cert.TailIdeal.τ Cert.TailIdeal.sig) → Buf (Elt Ideal) ℓ) : Prop :=
  ∀ c : Dev Cert.TailIdeal.nD,
    (Cert.Pre_in_range.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_in_range [hPre_in_range : Cert.Pre_in_range.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_in_range.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectReferenceIdeal (m : (ℓ : Loc Cert.SelectReferenceIdeal.nD Cert.SelectReferenceIdeal.τ Cert.SelectReferenceIdeal.sig) → Buf (Elt Ideal) ℓ) : Prop :=
  True

def Pre_Scores [hPre_pairs_in_range : Cert.Pre_pairs_in_range.Facts] (m : (ℓ : Loc Cert.Scores.nD Cert.Scores.τ Cert.Scores.sig) → Buf (Elt Bits) ℓ) : Prop :=
  ∀ c : Dev Cert.Scores.nD,
    (Cert.Pre_pairs_in_range.fn (F := Bits) (m ((c.tc : Thread Cert.Scores.nD Cert.Scores.τ).loc Cert.Scores.main_arg0)) (m ((c.tc : Thread Cert.Scores.nD Cert.Scores.τ).loc Cert.Scores.main_arg1))) = (fun _ => 1#1)

def Pre_ScoresIdeal [hPre_pairs_in_range : Cert.Pre_pairs_in_range.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_pairs_in_range.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1))) = (fun _ => 1#1)

def Pre_ScoresReferenceIdeal (m : (ℓ : Loc Cert.ScoresReferenceIdeal.nD Cert.ScoresReferenceIdeal.τ Cert.ScoresReferenceIdeal.sig) → Buf (Elt Ideal) ℓ) : Prop :=
  True

def Pre_ScoresReferenceIdeal_pairs_in_range [hPre_pairs_in_range : Cert.Pre_pairs_in_range.Facts] (m : (ℓ : Loc Cert.ScoresReferenceIdeal.nD Cert.ScoresReferenceIdeal.τ Cert.ScoresReferenceIdeal.sig) → Buf (Elt Ideal) ℓ) : Prop :=
  ∀ c : Dev Cert.ScoresReferenceIdeal.nD,
    (Cert.Pre_pairs_in_range.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1))) = (fun _ => 1#1)

def Pre_Merge [hPre_in_ranges : Cert.Pre_in_ranges.Facts] (m : (ℓ : Loc Cert.Merge.nD Cert.Merge.τ Cert.Merge.sig) → Buf (Elt Bits) ℓ) : Prop :=
  ∀ c : Dev Cert.Merge.nD,
    (Cert.Pre_in_ranges.fn (F := Bits) (m ((c.tc : Thread Cert.Merge.nD Cert.Merge.τ).loc Cert.Merge.main_arg0)) (m ((c.tc : Thread Cert.Merge.nD Cert.Merge.τ).loc Cert.Merge.main_arg1)) (m ((c.tc : Thread Cert.Merge.nD Cert.Merge.τ).loc Cert.Merge.main_arg2)) (m ((c.tc : Thread Cert.Merge.nD Cert.Merge.τ).loc Cert.Merge.main_arg3)) (m ((c.tc : Thread Cert.Merge.nD Cert.Merge.τ).loc Cert.Merge.main_arg4))) = (fun _ => 1#1)

def Pre_MergeIdeal [hPre_in_ranges : Cert.Pre_in_ranges.Facts] (m : (ℓ : Loc Cert.MergeIdeal.nD Cert.MergeIdeal.τ Cert.MergeIdeal.sig) → Buf (Elt Ideal) ℓ) : Prop :=
  ∀ c : Dev Cert.MergeIdeal.nD,
    (Cert.Pre_in_ranges.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_in_ranges [hPre_in_ranges : Cert.Pre_in_ranges.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_in_ranges.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_have_length [hKernelIdeal : Cert.KernelIdeal.Facts] [hPre_rows_have_length : Cert.Pre_rows_have_length.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_length m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_have_length [hReferenceIdeal : Cert.ReferenceIdeal.Facts] [hPre_rows_have_length : Cert.Pre_rows_have_length.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_length m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Tail [hTail : Cert.Tail.Facts] [hPre_in_range : Cert.Pre_in_range.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2))
      ∧ r.2.sem = fun _ => 0)

def quiescent_TailIdeal [hTailIdeal : Cert.TailIdeal.Facts] [hPre_in_range : Cert.Pre_in_range.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2))
      ∧ r.2.sem = fun _ => 0)

def quiescent_TailReferenceIdeal_pre_in_range [hTailReferenceIdeal : Cert.TailReferenceIdeal.Facts] [hPre_in_range : Cert.Pre_in_range.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_in_range m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0))
      ∧ r.2.sem = fun _ => 0)

def quiescent_Scores [hScores : Cert.Scores.Facts] [hPre_pairs_in_range : Cert.Pre_pairs_in_range.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1))
      ∧ r.2.sem = fun _ => 0)

def quiescent_ScoresIdeal [hScoresIdeal : Cert.ScoresIdeal.Facts] [hPre_pairs_in_range : Cert.Pre_pairs_in_range.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1))
      ∧ r.2.sem = fun _ => 0)

def quiescent_ScoresReferenceIdeal_pre_pairs_in_range [hScoresReferenceIdeal : Cert.ScoresReferenceIdeal.Facts] [hPre_pairs_in_range : Cert.Pre_pairs_in_range.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal_pairs_in_range m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1))
      ∧ r.2.sem = fun _ => 0)

def quiescent_Merge [hMerge : Cert.Merge.Facts] [hPre_in_ranges : Cert.Pre_in_ranges.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] [hPre_in_ranges : Cert.Pre_in_ranges.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_MergeReferenceIdeal_pre_in_ranges [hMergeReferenceIdeal : Cert.MergeReferenceIdeal.Facts] [hPre_in_ranges : Cert.Pre_in_ranges.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_in_ranges m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def preserves_Kernel_KernelIdeal : Prop :=
  True

def algebraic_KernelIdeal_ReferenceIdeal_pre_rows_have_length [hKernelIdeal : Cert.KernelIdeal.Facts] [hReferenceIdeal : Cert.ReferenceIdeal.Facts] [hPre_rows_have_length : Cert.Pre_rows_have_length.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_length m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Tail_TailIdeal : Prop :=
  True

def algebraic_TailIdeal_TailReferenceIdeal [hTailIdeal : Cert.TailIdeal.Facts] [hTailReferenceIdeal : Cert.TailReferenceIdeal.Facts] [hPre_in_range : Cert.Pre_in_range.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)) →
    ∃ (v0 : (c : Dev Cert.TailIdeal.nD) → Buf (Elt Ideal) ((c.tc : Thread Cert.TailIdeal.nD Cert.TailIdeal.τ).loc Cert.TailIdeal.main_v30)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v30) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v59) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2))

def preserves_Select_SelectIdeal : Prop :=
  True

def algebraic_SelectIdeal_SelectReferenceIdeal [hSelectIdeal : Cert.SelectIdeal.Facts] [hSelectReferenceIdeal : Cert.SelectReferenceIdeal.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v5_0)) (v1 : (c : Dev Cert.SelectIdeal.nD) → Buf (Elt Ideal) ((c.tc : Thread Cert.SelectIdeal.nD Cert.SelectIdeal.τ).loc Cert.SelectIdeal.main_v5_1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v5_0) = v0 c
          ∧ r.2.mem ((c.tc : Thread Cert.SelectIdeal.nD Cert.SelectIdeal.τ).loc Cert.SelectIdeal.main_v5_1) = v1 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v35) = v0 c
          ∧ r.2.mem ((c.tc : Thread Cert.SelectReferenceIdeal.nD Cert.SelectReferenceIdeal.τ).loc Cert.SelectReferenceIdeal.main_v36) = v1 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0))

def preserves_Scores_ScoresIdeal : Prop :=
  True

def algebraic_ScoresIdeal_ScoresReferenceIdeal [hScoresIdeal : Cert.ScoresIdeal.Facts] [hScoresReferenceIdeal : Cert.ScoresReferenceIdeal.Facts] [hPre_pairs_in_range : Cert.Pre_pairs_in_range.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)) →
    ∃ (v0 : (c : Dev Cert.ScoresIdeal.nD) → Buf (Elt Ideal) ((c.tc : Thread Cert.ScoresIdeal.nD Cert.ScoresIdeal.τ).loc Cert.ScoresIdeal.main_v7)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v7) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v12) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] [hPre_in_ranges : Cert.Pre_in_ranges.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v32) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hSelect : Cert.Select.Facts) (hSelectIdeal : Cert.SelectIdeal.Facts) (hSelectReferenceIdeal : Cert.SelectReferenceIdeal.Facts) (hScores : Cert.Scores.Facts) (hScoresIdeal : Cert.ScoresIdeal.Facts) (hScoresReferenceIdeal : Cert.ScoresReferenceIdeal.Facts) (hMerge : Cert.Merge.Facts) (hMergeIdeal : Cert.MergeIdeal.Facts) (hMergeReferenceIdeal : Cert.MergeReferenceIdeal.Facts) (hPre_rows_have_length : Cert.Pre_rows_have_length.Facts) (hPre_in_range : Cert.Pre_in_range.Facts) (hPre_pairs_in_range : Cert.Pre_pairs_in_range.Facts) (hPre_in_ranges : Cert.Pre_in_ranges.Facts),
    quiescent_Kernel (hKernel := hKernel)
    ∧ quiescent_KernelIdeal (hKernelIdeal := hKernelIdeal)
    ∧ quiescent_KernelIdeal_pre_rows_have_length (hKernelIdeal := hKernelIdeal) (hPre_rows_have_length := hPre_rows_have_length)
    ∧ quiescent_ReferenceIdeal (hReferenceIdeal := hReferenceIdeal)
    ∧ quiescent_ReferenceIdeal_pre_rows_have_length (hReferenceIdeal := hReferenceIdeal) (hPre_rows_have_length := hPre_rows_have_length)
    ∧ quiescent_Tail (hTail := hTail) (hPre_in_range := hPre_in_range)
    ∧ quiescent_TailIdeal (hTailIdeal := hTailIdeal) (hPre_in_range := hPre_in_range)
    ∧ quiescent_TailReferenceIdeal (hTailReferenceIdeal := hTailReferenceIdeal)
    ∧ quiescent_TailReferenceIdeal_pre_in_range (hTailReferenceIdeal := hTailReferenceIdeal) (hPre_in_range := hPre_in_range)
    ∧ quiescent_Select (hSelect := hSelect)
    ∧ quiescent_SelectIdeal (hSelectIdeal := hSelectIdeal)
    ∧ quiescent_SelectReferenceIdeal (hSelectReferenceIdeal := hSelectReferenceIdeal)
    ∧ quiescent_Scores (hScores := hScores) (hPre_pairs_in_range := hPre_pairs_in_range)
    ∧ quiescent_ScoresIdeal (hScoresIdeal := hScoresIdeal) (hPre_pairs_in_range := hPre_pairs_in_range)
    ∧ quiescent_ScoresReferenceIdeal (hScoresReferenceIdeal := hScoresReferenceIdeal)
    ∧ quiescent_ScoresReferenceIdeal_pre_pairs_in_range (hScoresReferenceIdeal := hScoresReferenceIdeal) (hPre_pairs_in_range := hPre_pairs_in_range)
    ∧ quiescent_Merge (hMerge := hMerge) (hPre_in_ranges := hPre_in_ranges)
    ∧ quiescent_MergeIdeal (hMergeIdeal := hMergeIdeal) (hPre_in_ranges := hPre_in_ranges)
    ∧ quiescent_MergeReferenceIdeal (hMergeReferenceIdeal := hMergeReferenceIdeal)
    ∧ quiescent_MergeReferenceIdeal_pre_in_ranges (hMergeReferenceIdeal := hMergeReferenceIdeal) (hPre_in_ranges := hPre_in_ranges)
    ∧ preserves_Kernel_KernelIdeal
    ∧ algebraic_KernelIdeal_ReferenceIdeal_pre_rows_have_length (hKernelIdeal := hKernelIdeal) (hReferenceIdeal := hReferenceIdeal) (hPre_rows_have_length := hPre_rows_have_length)
    ∧ preserves_Tail_TailIdeal
    ∧ algebraic_TailIdeal_TailReferenceIdeal (hTailIdeal := hTailIdeal) (hTailReferenceIdeal := hTailReferenceIdeal) (hPre_in_range := hPre_in_range)
    ∧ preserves_Select_SelectIdeal
    ∧ algebraic_SelectIdeal_SelectReferenceIdeal (hSelectIdeal := hSelectIdeal) (hSelectReferenceIdeal := hSelectReferenceIdeal)
    ∧ preserves_Scores_ScoresIdeal
    ∧ algebraic_ScoresIdeal_ScoresReferenceIdeal (hScoresIdeal := hScoresIdeal) (hScoresReferenceIdeal := hScoresReferenceIdeal) (hPre_pairs_in_range := hPre_pairs_in_range)
    ∧ preserves_Merge_MergeIdeal
    ∧ algebraic_MergeIdeal_MergeReferenceIdeal (hMergeIdeal := hMergeIdeal) (hMergeReferenceIdeal := hMergeReferenceIdeal) (hPre_in_ranges := hPre_in_ranges)
-- ==== Pre_in_range.lean ====
abbrev S8192 : Shape := ⟨1, ![8192]⟩
abbrev S4x2048x1024 : Shape := ⟨3, ![4, 2048, 1024]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192 32) (main_arg1 : IVec S8192 32) (main_arg2 : FVec F S4x2048x1024 .f32) : IVec S_ 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 2048#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  let main_c_2 : IVec S_ 32 := constantI S_ 32 0#32
  let main_v6 : IVec S8192 32 := broadcastInDim S8192 ![] bcast_S_S8192 main_c_2
  let main_v7 : IVec S8192 1 := cmpi .sge main_arg1 main_v6
  let main_c_3 : IVec S_ 32 := constantI S_ 32 2048#32
  let main_v8 : IVec S8192 32 := broadcastInDim S8192 ![] bcast_S_S8192 main_c_3
  let main_v9 : IVec S8192 1 := cmpi .slt main_arg1 main_v8
  let main_v10 : IVec S8192 1 := andi main_v7 main_v9
  let main_c_4 : IVec S_ 1 := constantI S_ 1 1#1
  let main_v11 : IVec S_ 1 := (fun x v => Host.reduce IntOp.andi x v reducesTo_S8192_S_d0 h_S_) main_v10 main_c_4
  let main_v12 : IVec S_ 1 := andi main_v5 main_v11
  main_v12
-- ==== Pre_in_ranges.lean ====
abbrev S8192 : Shape := ⟨1, ![8192]⟩
abbrev S408 : Shape := ⟨1, ![408]⟩
abbrev S4x2048x1024 : Shape := ⟨3, ![4, 2048, 1024]⟩
abbrev S4x102x1 : Shape := ⟨3, ![4, 102, 1]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S408 : S_.BroadcastsInDim S408 (![] : Fin 0 → Fin S408.rank)
  reducesTo_S408_S_d0 : S408.ReducesTo [0] S_

variable [Facts]

def fn_part1 {F : FTy → Type} [FloatOps F] (main_arg2 : IVec S408 32) (main_v12 : IVec S_ 1) (main_v14 : IVec S408 1) (main_v15 : IVec S408 32) : IVec S_ 1 :=
  let main_v16 : IVec S408 1 := cmpi .slt main_arg2 main_v15
  let main_v17 : IVec S408 1 := andi main_v14 main_v16
  let main_c_7 : IVec S_ 1 := constantI S_ 1 1#1
  let main_v18 : IVec S_ 1 := (fun x v => Host.reduce IntOp.andi x v reducesTo_S408_S_d0 h_S_) main_v17 main_c_7
  let main_v19 : IVec S_ 1 := andi main_v12 main_v18
  main_v19

def fn {F : FTy → Type} [FloatOps F] (main_arg0 : IVec S8192 32) (main_arg1 : IVec S8192 32) (main_arg2 : IVec S408 32) (main_arg3 : FVec F S4x2048x1024 .f32) (main_arg4 : FVec F S4x102x1 .f32) : IVec S_ 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 2048#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  let main_c_2 : IVec S_ 32 := constantI S_ 32 0#32
  let main_v6 : IVec S8192 32 := broadcastInDim S8192 ![] bcast_S_S8192 main_c_2
  let main_v7 : IVec S8192 1 := cmpi .sge main_arg1 main_v6
  let main_c_3 : IVec S_ 32 := constantI S_ 32 2048#32
  let main_v8 : IVec S8192 32 := broadcastInDim S8192 ![] bcast_S_S8192 main_c_3
  let main_v9 : IVec S8192 1 := cmpi .slt main_arg1 main_v8
  let main_v10 : IVec S8192 1 := andi main_v7 main_v9
  let main_c_4 : IVec S_ 1 := constantI S_ 1 1#1
  let main_v11 : IVec S_ 1 := (fun x v => Host.reduce IntOp.andi x v reducesTo_S8192_S_d0 h_S_) main_v10 main_c_4
  let main_v12 : IVec S_ 1 := andi main_v5 main_v11
  let main_c_5 : IVec S_ 32 := constantI S_ 32 0#32
  let main_v13 : IVec S408 32 := broadcastInDim S408 ![] bcast_S_S408 main_c_5
  let main_v14 : IVec S408 1 := cmpi .sge main_arg2 main_v13
  let main_c_6 : IVec S_ 32 := constantI S_ 32 102#32
  let main_v15 : IVec S408 32 := broadcastInDim S408 ![] bcast_S_S408 main_c_6
  fn_part1 (F := F) main_arg2 main_v12 main_v14 main_v15
-- ==== Pre_pairs_in_range.lean ====
abbrev S8192 : Shape := ⟨1, ![8192]⟩
abbrev S4x2048x1024 : Shape := ⟨3, ![4, 2048, 1024]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192 32) (main_arg1 : FVec F S4x2048x1024 .f32) : IVec S_ 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 2048#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== Pre_rows_have_length.lean ====
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩

class Facts : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)

variable [Facts]

def fn_norm {F : FTy → Type} [FloatOps F] (arg0 : FVec F S4x2048x1024 .f32) : FVec F S4x2048x1 .f32 :=
  let v0 : FVec F S4x2048x1024 .f32 := mulf arg0 arg0
  let cst : FVec F S_ .f32 := constant S_ .f32 0x00000000#32
  let v1 : FVec F S4x2048 .f32 := (fun x v => Host.reduceAdd x v reducesTo_S4x2048x1024_S4x2048_d2 h_S_) v0 cst
  let v2 : FVec F S4x2048x1 .f32 := broadcastInDim S4x2048x1 ![0, 1] bcast_S4x2048_S4x2048x1_0_1 v1
  let v3 : FVec F S4x2048x1 .f32 := Host.sqrt v2
  v3

def fn {F : FTy → Type} [FloatOps F] (main_arg0 : FVec F S4x2048x1024 .f32) : IVec S4x2048x1 1 :=
  let main_v0 : FVec F S4x2048x1 .f32 := fn_norm (F := F) main_arg0
  let main_cst : FVec F S_ .f32 := constant S_ .f32 0x2B8CBCCC#32
  let main_v1 : FVec F S4x2048x1 .f32 := broadcastInDim S4x2048x1 ![] bcast_S_S4x2048x1 main_cst
  let main_v2 : IVec S4x2048x1 1 := cmpf .oge main_v0 main_v1
  let main_cst_0 : FVec F S_ .f32 := constant S_ .f32 0x7F800000#32
  let main_v3 : FVec F S4x2048x1 .f32 := broadcastInDim S4x2048x1 ![] bcast_S_S4x2048x1 main_cst_0
  let main_v4 : IVec S4x2048x1 1 := cmpf .olt main_v0 main_v3
  let main_v5 : IVec S4x2048x1 1 := andi main_v2 main_v4
  main_v5
-- ==== Kernel.lean ====
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S4x2048x2048 : Shape := ⟨3, ![4, 2048, 2048]⟩
abbrev S4x1x2048 : Shape := ⟨3, ![4, 1, 2048]⟩
abbrev S1x128x1024 : Shape := ⟨3, ![1, 128, 1024]⟩
abbrev S1x2048x1024 : Shape := ⟨3, ![1, 2048, 1024]⟩
abbrev S1x128x1 : Shape := ⟨3, ![1, 128, 1]⟩
abbrev S1x1x2048 : Shape := ⟨3, ![1, 1, 2048]⟩
abbrev S128x1024 : Shape := ⟨2, ![128, 1024]⟩
abbrev S2048x1024 : Shape := ⟨2, ![2048, 1024]⟩
abbrev S128x2048 : Shape := ⟨2, ![128, 2048]⟩
abbrev S128x1 : Shape := ⟨2, ![128, 1]⟩
abbrev S8x2048 : Shape := ⟨2, ![8, 2048]⟩
abbrev S2x2048 : Shape := ⟨2, ![2, 2048]⟩
abbrev S1x2048 : Shape := ⟨2, ![1, 2048]⟩

abbrev nBuf : Space → Nat
  | .hbm => 52
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S4x2048, .f32⟩
  | .hbm, ⟨4, _⟩ => ⟨S4x2048x1, .f32⟩
  | .hbm, ⟨5, _⟩ => ⟨S4x2048x1, .f32⟩
  | .hbm, ⟨6, _⟩ => ⟨S_, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x1024, .f32⟩
  | .hbm, ⟨11, _⟩ => ⟨S4x2048x1024, .f32⟩
  | .hbm, ⟨12, _⟩ => ⟨S_, .i32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x2048, .f32⟩
  | .hbm, ⟨41, _⟩ => ⟨S4x2048x2048, .i32⟩
  | .hbm, ⟨42, _⟩ => ⟨S4x2048x2048, .i32⟩
  | .hbm, ⟨43, _⟩ => ⟨S4x2048x2048, .i1⟩
  | .hbm, ⟨44, _⟩ => ⟨S_, .f32⟩
  | .hbm, ⟨45, _⟩ => ⟨S_, .f32⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S4x2048, .f32⟩
  | .hbm, ⟨50, _⟩ => ⟨S4x2048x1, .f32⟩
  | .hbm, ⟨51, _⟩ => ⟨S4x1x2048, .f32⟩
  | .local _ .vmem, ⟨0, _⟩ => ⟨S1x128x1024, .f32⟩
  | .local _ .vmem, ⟨1, _⟩ => ⟨S1x128x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x128x1, .f32⟩
  | .local _ .vmem, ⟨5, _⟩ => ⟨S1x128x1, .f32⟩
  | .local _ .vmem, ⟨6, _⟩ => ⟨S1x128x1, .f32⟩
  | .local _ .vmem, ⟨7, _⟩ => ⟨S1x128x1, .f32⟩
  | .local _ .vmem, ⟨8, _⟩ => ⟨S1x1x2048, .f32⟩
  | .local _ .vmem, ⟨9, _⟩ => ⟨S1x1x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_call1_v1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call2_call0_cst : Ref sig .tc := ⟨.hbm, 13, rfl⟩
abbrev main_call2_call0_v0 : Ref sig .tc := ⟨.hbm, 14, rfl⟩
abbrev main_call2_call0_v1 : Ref sig .tc := ⟨.hbm, 15, rfl⟩
abbrev main_call2_call0_cst_0 : Ref sig .tc := ⟨.hbm, 16, rfl⟩
abbrev main_call2_call0_v2 : Ref sig .tc := ⟨.hbm, 17, rfl⟩
abbrev main_call2_call0_v3 : Ref sig .tc := ⟨.hbm, 18, rfl⟩
abbrev main_call2_call0_v4 : Ref sig .tc := ⟨.hbm, 19, rfl⟩
abbrev main_call2_call0_v5 : Ref sig .tc := ⟨.hbm, 20, rfl⟩
abbrev main_call2_call0_v6 : Ref sig .tc := ⟨.hbm, 21, rfl⟩
abbrev main_call2_call0_v7 : Ref sig .tc := ⟨.hbm, 22, rfl⟩
abbrev main_call2_call0_cst_1 : Ref sig .tc := ⟨.hbm, 23, rfl⟩
abbrev main_call2_call0_v8 : Ref sig .tc := ⟨.hbm, 24, rfl⟩
abbrev main_call2_call0_cst_2 : Ref sig .tc := ⟨.hbm, 25, rfl⟩
abbrev main_call2_call0_v9 : Ref sig .tc := ⟨.hbm, 26, rfl⟩
abbrev main_call2_call0_v10 : Ref sig .tc := ⟨.hbm, 27, rfl⟩
abbrev main_call2_call0_v11 : Ref sig .tc := ⟨.hbm, 28, rfl⟩
abbrev main_call2_call0_v12 : Ref sig .tc := ⟨.hbm, 29, rfl⟩
abbrev main_call2_call0_cst_3 : Ref sig .tc := ⟨.hbm, 30, rfl⟩
abbrev main_call2_call0_v13 : Ref sig .tc := ⟨.hbm, 31, rfl⟩
abbrev main_call2_call0_cst_4 : Ref sig .tc := ⟨.hbm, 32, rfl⟩
abbrev main_call2_call0_call0_v0 : Ref sig .tc := ⟨.hbm, 33, rfl⟩
abbrev main_call2_call0_call0_v1 : Ref sig .tc := ⟨.hbm, 34, rfl⟩
abbrev main_call2_v0 : Ref sig .tc := ⟨.hbm, 35, rfl⟩
abbrev main_v4 : Ref sig .tc := ⟨.hbm, 36, rfl⟩
abbrev main_cst_0 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_call3_v0 : Ref sig .tc := ⟨.hbm, 45, rfl⟩
abbrev main_call3_v1 : Ref sig .tc := ⟨.hbm, 46, rfl⟩
abbrev main_v11 : Ref sig .tc := ⟨.hbm, 47, rfl⟩
abbrev main_cst_2 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S4x2048x2048 : Shape := ⟨3, ![4, 2048, 2048]⟩
abbrev S4x1x2048 : Shape := ⟨3, ![4, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S4x2048, .f32⟩
  | .hbm, ⟨4, _⟩ => ⟨S4x2048x1, .f32⟩
  | .hbm, ⟨5, _⟩ => ⟨S4x2048x1, .f32⟩
  | .hbm, ⟨6, _⟩ => ⟨S_, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x1024, .f32⟩
  | .hbm, ⟨11, _⟩ => ⟨S4x2048x1024, .f32⟩
  | .hbm, ⟨12, _⟩ => ⟨S_, .i32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x2048, .f32⟩
  | .hbm, ⟨38, _⟩ => ⟨S_, .f32⟩
  | .hbm, ⟨39, _⟩ => ⟨S4x2048x2048, .f32⟩
  | .hbm, ⟨40, _⟩ => ⟨S4x2048x2048, .i1⟩
  | .hbm, ⟨41, _⟩ => ⟨S_, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x2048, .f32⟩
  | .hbm, ⟨48, _⟩ => ⟨S4x2048x2048, .f32⟩
  | .hbm, ⟨49, _⟩ => ⟨S_, .f32⟩
  | .hbm, ⟨50, _⟩ => ⟨S4x2048, .f32⟩
  | .hbm, ⟨51, _⟩ => ⟨S4x1x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_call1_v1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call2_call0_cst : Ref sig .tc := ⟨.hbm, 13, rfl⟩
abbrev main_call2_call0_v0 : Ref sig .tc := ⟨.hbm, 14, rfl⟩
abbrev main_call2_call0_v1 : Ref sig .tc := ⟨.hbm, 15, rfl⟩
abbrev main_call2_call0_cst_0 : Ref sig .tc := ⟨.hbm, 16, rfl⟩
abbrev main_call2_call0_v2 : Ref sig .tc := ⟨.hbm, 17, rfl⟩
abbrev main_call2_call0_v3 : Ref sig .tc := ⟨.hbm, 18, rfl⟩
abbrev main_call2_call0_v4 : Ref sig .tc := ⟨.hbm, 19, rfl⟩
abbrev main_call2_call0_v5 : Ref sig .tc := ⟨.hbm, 20, rfl⟩
abbrev main_call2_call0_v6 : Ref sig .tc := ⟨.hbm, 21, rfl⟩
abbrev main_call2_call0_v7 : Ref sig .tc := ⟨.hbm, 22, rfl⟩
abbrev main_call2_call0_cst_1 : Ref sig .tc := ⟨.hbm, 23, rfl⟩
abbrev main_call2_call0_v8 : Ref sig .tc := ⟨.hbm, 24, rfl⟩
abbrev main_call2_call0_cst_2 : Ref sig .tc := ⟨.hbm, 25, rfl⟩
abbrev main_call2_call0_v9 : Ref sig .tc := ⟨.hbm, 26, rfl⟩
abbrev main_call2_call0_v10 : Ref sig .tc := ⟨.hbm, 27, rfl⟩
abbrev main_call2_call0_v11 : Ref sig .tc := ⟨.hbm, 28, rfl⟩
abbrev main_call2_call0_v12 : Ref sig .tc := ⟨.hbm, 29, rfl⟩
abbrev main_call2_call0_cst_3 : Ref sig .tc := ⟨.hbm, 30, rfl⟩
abbrev main_call2_call0_v13 : Ref sig .tc := ⟨.hbm, 31, rfl⟩
abbrev main_call2_call0_cst_4 : Ref sig .tc := ⟨.hbm, 32, rfl⟩
abbrev main_call2_call0_call0_v0 : Ref sig .tc := ⟨.hbm, 33, rfl⟩
abbrev main_call2_call0_call0_v1 : Ref sig .tc := ⟨.hbm, 34, rfl⟩
abbrev main_call2_v0 : Ref sig .tc := ⟨.hbm, 35, rfl⟩
abbrev main_v4 : Ref sig .tc := ⟨.hbm, 36, rfl⟩
abbrev main_v5 : Ref sig .tc := ⟨.hbm, 37, rfl⟩
abbrev main_cst_0 : Ref sig .tc := ⟨.hbm, 38, rfl⟩
abbrev main_v6 : Ref sig .tc := ⟨.hbm, 39, rfl⟩
abbrev main_v7 : Ref sig .tc := ⟨.hbm, 40, rfl⟩
abbrev main_cst_1 : Ref sig .tc := ⟨.hbm, 41, rfl⟩
abbrev main_v8 : Ref sig .tc := ⟨.hbm, 42, rfl⟩
abbrev main_v9 : Ref sig .tc := ⟨.hbm, 43, rfl⟩
abbrev main_cst_2 : Ref sig .tc := ⟨.hbm, 44, rfl⟩
abbrev main_v10 : Ref sig .tc := ⟨.hbm, 45, rfl⟩
abbrev main_v11 : Ref sig .tc := ⟨.hbm, 46, rfl⟩
abbrev main_call3_v0 : Ref sig .tc := ⟨.hbm, 47, rfl⟩
abbrev main_v12 : Ref sig .tc := ⟨.hbm, 48, rfl⟩
abbrev main_cst_3 : Ref sig .tc := ⟨.hbm, 49, rfl⟩
abbrev main_v13 : Ref sig .tc := ⟨.hbm, 50, rfl⟩
abbrev main_v14 : Ref sig .tc := ⟨.hbm, 51, rfl⟩

abbrev nD : Nat := 1
abbrev τ : Topo := Topo.v7x

variable {F : FTy → Type} [FloatOps F]
-- ==== Tail.lean ====
abbrev S8192 : Shape := ⟨1, ![8192]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S4x102x1024 : Shape := ⟨3, ![4, 102, 1024]⟩
abbrev S1x2048x1024 : Shape := ⟨3, ![1, 2048, 1024]⟩
abbrev S1x102x1024 : Shape := ⟨3, ![1, 102, 1024]⟩
abbrev S1 : Shape := ⟨1, ![1]⟩
abbrev S1x1x1024 : Shape := ⟨3, ![1, 1, 1024]⟩
abbrev S1x1024 : Shape := ⟨2, ![1, 1024]⟩
abbrev S4x102x102 : Shape := ⟨3, ![4, 102, 102]⟩
abbrev S4x102 : Shape := ⟨2, ![4, 102]⟩
abbrev S4 : Shape := ⟨1, ![4]⟩
abbrev S4x1 : Shape := ⟨2, ![4, 1]⟩
abbrev S4x102x1 : Shape := ⟨3, ![4, 102, 1]⟩
abbrev S4x102x2 : Shape := ⟨3, ![4, 102, 2]⟩
abbrev S408 : Shape := ⟨1, ![408]⟩
abbrev S4x1946x1024 : Shape := ⟨3, ![4, 1946, 1024]⟩
abbrev S1x102x1 : Shape := ⟨3, ![1, 102, 1]⟩
abbrev S1x1946x1024 : Shape := ⟨3, ![1, 1946, 1024]⟩
abbrev S1x1x1 : Shape := ⟨3, ![1, 1, 1]⟩
abbrev S1x1 : Shape := ⟨2, ![1, 1]⟩

abbrev nBuf : Space → Nat
  | .hbm => 49
  | .vmem => 12
  | .smem => 3
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S4x2048, .f32⟩
  | .hbm, ⟨4, _⟩ => ⟨S4x2048x1, .f32⟩
  | .hbm, ⟨5, _⟩ => ⟨S4x2048x1, .f32⟩
  | .hbm, ⟨6, _⟩ => ⟨S_, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x1024, .f32⟩
  | .hbm, ⟨11, _⟩ => ⟨S4x2048x1024, .f32⟩
  | .hbm, ⟨12, _⟩ => ⟨S4x102x1024, .f32⟩
  | .hbm, ⟨13, _⟩ => ⟨S4x102x1024, .f32⟩
  | .hbm, ⟨14, _⟩ => ⟨S4x102x1024, .bf16⟩
  | .hbm, ⟨15, _⟩ => ⟨S4x102x1024, .bf16⟩
  | .hbm, ⟨16, _⟩ => ⟨S4x102x102, .f32⟩
  | .hbm, ⟨17, _⟩ => ⟨S4x102x102, .i32⟩
  | .hbm, ⟨18, _⟩ => ⟨S_, .f32⟩
  | .hbm, ⟨19, _⟩ => ⟨S_, .i32⟩
  | .hbm, ⟨20, _⟩ => ⟨S4x102, .f32⟩
  | .hbm, ⟨21, _⟩ => ⟨S4x102, .i32⟩
  | .hbm, ⟨22, _⟩ => ⟨S4, .i32⟩
  | .hbm, ⟨23, _⟩ => ⟨S4x1, .i32⟩
  | .hbm, ⟨24, _⟩ => ⟨S_, .f32⟩
  | .hbm, ⟨25, _⟩ => ⟨S4x102, .f32⟩
  | .hbm, ⟨26, _⟩ => ⟨S_, .i32⟩
  | .hbm, ⟨27, _⟩ => ⟨S4x1, .i32⟩
  | .hbm, ⟨28, _⟩ => ⟨S4x1, .i1⟩
  | .hbm, ⟨29, _⟩ => ⟨S_, .i32⟩
  | .hbm, ⟨30, _⟩ => ⟨S4x1, .i32⟩
  | .hbm, ⟨31, _⟩ => ⟨S4x1, .i32⟩
  | .hbm, ⟨32, _⟩ => ⟨S4x1, .i32⟩
  | .hbm, ⟨33, _⟩ => ⟨S_, .i32⟩
  | .hbm, ⟨34, _⟩ => ⟨S4x102, .i32⟩
  | .hbm, ⟨35, _⟩ => ⟨S4x102, .i1⟩
  | .hbm, ⟨36, _⟩ => ⟨S_, .i32⟩
  | .hbm, ⟨37, _⟩ => ⟨S4x102, .i32⟩
  | .hbm, ⟨38, _⟩ => ⟨S4x102, .i32⟩
  | .hbm, ⟨39, _⟩ => ⟨S4x102, .i32⟩
  | .hbm, ⟨40, _⟩ => ⟨S4x102, .i32⟩
  | .hbm, ⟨41, _⟩ => ⟨S4x102x1, .i32⟩
  | .hbm, ⟨42, _⟩ => ⟨S4x102x1, .i32⟩
  | .hbm, ⟨43, _⟩ => ⟨S4x102x2, .i32⟩
  | .hbm, ⟨44, _⟩ => ⟨S_, .f32⟩
  | .hbm, ⟨45, _⟩ => ⟨S4x102, .f32⟩
  | .hbm, ⟨46, _⟩ => ⟨S4x102, .f32⟩
  | .hbm, ⟨47, _⟩ => ⟨S4x102x1, .f32⟩
  | .hbm, ⟨48, _⟩ => ⟨S4x1946x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x102x1024, .f32⟩
  | .local _ .vmem, ⟨3, _⟩ => ⟨S1x102x1024, .f32⟩
  | .local _ .vmem, ⟨4, _⟩ => ⟨S1x102x1024, .f32⟩
  | .local _ .vmem, ⟨5, _⟩ => ⟨S1x102x1024, .f32⟩
  | .local _ .vmem, ⟨6, _⟩ => ⟨S1x2048x1024, .f32⟩
  | .local _ .vmem, ⟨7, _⟩ => ⟨S1x2048x1024, .f32⟩
  | .local _ .vmem, ⟨8, _⟩ => ⟨S1x102x1, .f32⟩
  | .local _ .vmem, ⟨9, _⟩ => ⟨S1x102x1, .f32⟩
  | .local _ .vmem, ⟨10, _⟩ => ⟨S1x1946x1024, .f32⟩
  | .local _ .vmem, ⟨11, _⟩ => ⟨S1x1946x1024, .f32⟩
  | .local _ .smem, ⟨0, _⟩ => ⟨S8192, .i32⟩
  | .local _ .smem, ⟨1, _⟩ => ⟨S8192, .i32⟩
  | .local _ .smem, ⟨2, _⟩ => ⟨S408, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_call1_v1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_v0 : Ref sig .tc := ⟨.hbm, 17, rfl⟩
abbrev main_call2_cst : Ref sig .tc := ⟨.hbm, 18, rfl⟩
abbrev main_call2_c : Ref sig .tc := ⟨.hbm, 19, rfl⟩
abbrev main_call2_v1_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v29 : Ref sig .tc := ⟨.hbm, 47, rfl⟩
abbrev main_v30 : Ref sig .tc := ⟨.hbm, 48, rfl⟩
abbrev main_arg1 : Ref sig .tc := ⟨.smem, 0, rfl⟩
abbrev main_arg0 : Ref sig .tc := ⟨.smem, 1, rfl⟩
abbrev main_v28 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c102_i32 : BitVec 32 := 102#32
  let v0 : BitVec 32 := Scalar.addi c0_i32 c102_i32
  let c1_i32 : BitVec 32 := 1#32
  ⟨c0_i32, v0, c1_i32⟩
def k0_off1 (i : grid0.Coords) (k0_t1 : Fin k0_t1_loop.trips) : Fin 1 → Nat :=
  let arg0 : BitVec 32 := BitVec.ofNat 32 (i 0).val
  let c2048_i32 : BitVec 32 := 2048#32
  let v1 : BitVec 32 := Scalar.muli arg0 c2048_i32
  let c0_i32 : BitVec 32 := 0#32
  let c1_i32 : BitVec 32 := 1#32
  let arg5 : BitVec 32 := Scf.iv c0_i32 c1_i32 k0_t1
  let v2 : BitVec 32 := Scalar.addi v1 arg5
  let v3 : Index := Scalar.indexCast v2
  ![v3.toNat]
def k0_off2 (i : grid0.Coords) (k0_t1 : Fin k0_t1_loop.trips) : Fin 1 → Nat :=
  let arg0 : BitVec 32 := BitVec.ofNat 32 (i 0).val
  let c2048_i32_1 : BitVec 32 := 2048#32
  let v5 : BitVec 32 := Scalar.muli arg0 c2048_i32_1
  let c1024_i32 : BitVec 32 := 1024#32
  let v6 : BitVec 32 := Scalar.addi v5 c1024_i32
  let c0_i32 : BitVec 32 := 0#32
  let c1_i32 : BitVec 32 := 1#32
  let arg5 : BitVec 32 := Scf.iv c0_i32 c1_i32 k0_t1
  let v7 : BitVec 32 := Scalar.addi v6 arg5
  let v8 : Index := Scalar.indexCast v7
  ![v8.toNat]
def k0_off3 (v4 : BitVec 32) : Fin 3 → Nat :=
  let c0 : Index := 0#32
  let v10 : Index := Scalar.indexCast v4
  let c0_2 : Index := 0#32
  ![0, v10.toNat, 0]

def k0_chk1 (v4 : BitVec 32) : Prop :=
  (∀ a, (k0_off3 v4) a + S1x1x1024.size a ≤ S1x2048x1024.size a)
theorem k0_off3_inb : ∀ (v4 : BitVec 32) (k0_hw1 : k0_chk1 v4), ∀ a, (k0_off3 v4) a + S1x1x1024.size a ≤ S1x2048x1024.size a := fun v4 k0_hw1 => k0_hw1

def k0_off4 (k0_t1 : Fin k0_t1_loop.trips) : Fin 3 → Nat :=
  let c0_3 : Index := 0#32
  let c0_i32 : BitVec 32 := 0#32
  let c1_i32 : BitVec 32 := 1#32
  let arg5 : BitVec 32 := Scf.iv c0_i32 c1_i32 k0_t1
  let v13 : Index := Scalar.indexCast arg5
  let c0_4 : Index := 0#32
  ![0, v13.toNat, 0]
def k0_off5 (v9 : BitVec 32) : Fin 3 → Nat :=
  let c0_5 : Index := 0#32
  let v17 : Index := Scalar.indexCast v9
  let c0_6 : Index := 0#32
  ![0, v17.toNat, 0]

def k0_chk2 (v9 : BitVec 32) : Prop :=
  (∀ a, (k0_off5 v9) a + S1x1x1024.size a ≤ S1x2048x1024.size a)
theorem k0_off5_inb : ∀ (v9 : BitVec 32) (k0_hw2 : k0_chk2 v9), ∀ a, (k0_off5 v9) a + S1x1x1024.size a ≤ S1x2048x1024.size a := fun v9 k0_hw2 => k0_hw2

def k0_off6 (k0_t1 : Fin k0_t1_loop.trips) : Fin 3 → Nat :=
  let c0_7 : Index := 0#32
  let c0_i32 : BitVec 32 := 0#32
  let c1_i32 : BitVec 32 := 1#32
  let arg5 : BitVec 32 := Scf.iv c0_i32 c1_i32 k0_t1
  let v20 : Index := Scalar.indexCast arg5
  let c0_8 : Index := 0#32
  ![0, v20.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x102x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x102x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

abbrev pre1 : Pipeline.Prefetch sig := ⟨3, ![main_arg0.idx, main_arg1.idx, main_v28.idx], fun | 0 => main_arg0.names | 1 => main_arg1.names | 2 => main_v28.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

@[reducible] def k1_t1_loop : Scf.Loop 32 :=
  let c0_i32 : BitVec 32 := 0#32
  let c1844_i32 : BitVec 32 := 1844#32
  let v0 : BitVec 32 := Scalar.addi c0_i32 c1844_i32
  let c1_i32 : BitVec 32 := 1#32
  ⟨c0_i32, v0, c1_i32⟩
def k1_off1 (i : grid1.Coords) (k1_t1 : Fin k1_t1_loop.trips) : Fin 1 → Nat :=
  let arg0 : BitVec 32 := BitVec.ofNat 32 (i 0).val
  let c2048_i32 : BitVec 32 := 2048#32
  let v4 : BitVec 32 := Scalar.muli arg0 c2048_i32
  let c0_i32 : BitVec 32 := 0#32
  let c1_i32 : BitVec 32 := 1#32
  let arg7 : BitVec 32 := Scf.iv c0_i32 c1_i32 k1_t1
  let v5 : BitVec 32 := Scalar.addi v4 arg7
  let v6 : Index := Scalar.indexCast v5
  ![v6.toNat]
def k1_off2 (v7 : BitVec 32) : Fin 3 → Nat :=
  let c0 : Index := 0#32
  let v8 : Index := Scalar.indexCast v7
  let c0_12 : Index := 0#32
  ![0, v8.toNat, 0]

def k1_chk1 (v7 : BitVec 32) : Prop :=
  (∀ a, (k1_off2 v7) a + S1x1x1024.size a ≤ S1x2048x1024.size a)
theorem k1_off2_inb : ∀ (v7 : BitVec 32) (k1_hw1 : k1_chk1 v7), ∀ a, (k1_off2 v7) a + S1x1x1024.size a ≤ S1x2048x1024.size a := fun v7 k1_hw1 => k1_hw1

def k1_off3 (k1_t1 : Fin k1_t1_loop.trips) : Fin 3 → Nat :=
  let c0_13 : Index := 0#32
  let c0_i32 : BitVec 32 := 0#32
  let c1_i32 : BitVec 32 := 1#32
  let arg7 : BitVec 32 := Scf.iv c0_i32 c1_i32 k1_t1
  let v11 : Index := Scalar.indexCast arg7
  let c0_14 : Index := 0#32
  ![0, v11.toNat, 0]
@[reducible] def k1_t2_loop : Scf.Loop 32 :=
  let c0_i32_1 : BitVec 32 := 0#32
  let c102_i32 : BitVec 32 := 102#32
  let v1 : BitVec 32 := Scalar.addi c0_i32_1 c102_i32
  let c1_i32_2 : BitVec 32 := 1#32
  ⟨c0_i32_1, v1, c1_i32_2⟩
def k1_off4 (i : grid1.Coords) (k1_t2 : Fin k1_t2_loop.trips) : Fin 1 → Nat :=
  let arg0 : BitVec 32 := BitVec.ofNat 32 (i 0).val
  let c2048_i32 : BitVec 32 := 2048#32
  let v4 : BitVec 32 := Scalar.muli arg0 c2048_i32
  let c1024_i32 : BitVec 32 := 1024#32
  let v5 : BitVec 32 := Scalar.addi v4 c1024_i32
  let c0_i32_1 : BitVec 32 := 0#32
  let c1_i32_2 : BitVec 32 := 1#32
  let arg7 : BitVec 32 := Scf.iv c0_i32_1 c1_i32_2 k1_t2
  let v6 : BitVec 32 := Scalar.addi v5 arg7
  let v7 : Index := Scalar.indexCast v6
  ![v7.toNat]
def k1_off5 (v8 : BitVec 32) : Fin 3 → Nat :=
  let c0 : Index := 0#32
  let v9 : Index := Scalar.indexCast v8
  let c0_12 : Index := 0#32
  ![0, v9.toNat, 0]

def k1_chk2 (v8 : BitVec 32) : Prop :=
  (∀ a, (k1_off5 v8) a + S1x1x1024.size a ≤ S1x2048x1024.size a)
theorem k1_off5_inb : ∀ (v8 : BitVec 32) (k1_hw2 : k1_chk2 v8), ∀ a, (k1_off5 v8) a + S1x1x1024.size a ≤ S1x2048x1024.size a := fun v8 k1_hw2 => k1_hw2

def k1_off6 (k1_t2 : Fin k1_t2_loop.trips) : Fin 3 → Nat :=
  let c0_14 : Index := 0#32
  let c1844_i32_13 : BitVec 32 := 1844#32
  let c0_i32_1 : BitVec 32 := 0#32
  let c1_i32_2 : BitVec 32 := 1#32
  let arg7 : BitVec 32 := Scf.iv c0_i32_1 c1_i32_2 k1_t2
  let v12 : BitVec 32 := Scalar.addi c1844_i32_13 arg7
  let v13 : Index := Scalar.indexCast v12
  let c0_15 : Index := 0#32
  ![0, v13.toNat, 0]
@[reducible] def k1_t3_loop : Scf.Loop 32 :=
  let c0_i32_4 : BitVec 32 := 0#32
  let c102_i32_5 : BitVec 32 := 102#32
  let v2 : BitVec 32 := Scalar.addi c0_i32_4 c102_i32_5
  let c1_i32_6 : BitVec 32 := 1#32
  ⟨c0_i32_4, v2, c1_i32_6⟩
def k1_off7 (i : grid1.Coords) (k1_t3 : Fin k1_t3_loop.trips) : Fin 1 → Nat :=
  let arg0 : BitVec 32 := BitVec.ofNat 32 (i 0).val
  let c102_i32_12 : BitVec 32 := 102#32
  let v4 : BitVec 32 := Scalar.muli arg0 c102_i32_12
  let c0_i32_4 : BitVec 32 := 0#32
  let c1_i32_6 : BitVec 32 := 1#32
  let arg7 : BitVec 32 := Scf.iv c0_i32_4 c1_i32_6 k1_t3
  let v5 : BitVec 32 := Scalar.addi v4 arg7
  let v6 : Index := Scalar.indexCast v5
  ![v6.toNat]
def k1_off8 (i : grid1.Coords) (k1_t3 : Fin k1_t3_loop.trips) : Fin 1 → Nat :=
  let arg0 : BitVec 32 := BitVec.ofNat 32 (i 0).val
  let c2048_i32 : BitVec 32 := 2048#32
  let v8 : BitVec 32 := Scalar.muli arg0 c2048_i32
  let c0_i32_4 : BitVec 32 := 0#32
  let c1_i32_6 : BitVec 32 := 1#32
  let arg7 : BitVec 32 := Scf.iv c0_i32_4 c1_i32_6 k1_t3
  let v9 : BitVec 32 := Scalar.addi v8 arg7
  let v10 : Index := Scalar.indexCast v9
  ![v10.toNat]
def k1_off9 (v7 : BitVec 32) : Fin 3 → Nat :=
  let c0 : Index := 0#32
  let c1844_i32_13 : BitVec 32 := 1844#32
  let v12 : BitVec 32 := Scalar.addi c1844_i32_13 v7
  let v13 : Index := Scalar.indexCast v12
  let c0_14 : Index := 0#32
  ![0, v13.toNat, 0]

def k1_off10 (v11 : BitVec 32) : Fin 3 → Nat :=
  let c0_15 : Index := 0#32
  let v16 : Index := Scalar.indexCast v11
  let c0_16 : Index := 0#32
  ![0, v16.toNat, 0]

def k1_chk4 (v11 : BitVec 32) : Prop :=
  (∀ a, (k1_off10 v11) a + S1x1x1024.size a ≤ S1x2048x1024.size a)
theorem k1_off10_inb : ∀ (v11 : BitVec 32) (k1_hw4 : k1_chk4 v11), ∀ a, (k1_off10 v11) a + S1x1x1024.size a ≤ S1x2048x1024.size a := fun v11 k1_hw4 => k1_hw4

def k1_off11 (v7 : BitVec 32) : Fin 3 → Nat :=
  let c0_17 : Index := 0#32
  let c1844_i32_13 : BitVec 32 := 1844#32
  let v12 : BitVec 32 := Scalar.addi c1844_i32_13 v7
  let v20 : Index := Scalar.indexCast v12
  let c0_18 : Index := 0#32
  ![0, v20.toNat, 0]

def k1_chk3 (v7 : BitVec 32) : Prop :=
  (∀ a, (k1_off9 v7) a + S1x1x1024.size a ≤ S1x1946x1024.size a) ∧
  (∀ a, (k1_off11 v7) a + S1x1x1024.size a ≤ S1x1946x1024.size a)
theorem k1_off9_inb : ∀ (v7 : BitVec 32) (k1_hw3 : k1_chk3 v7), ∀ a, (k1_off9 v7) a + S1x1x1024.size a ≤ S1x1946x1024.size a := fun v7 k1_hw3 => k1_hw3.1
theorem k1_off11_inb : ∀ (v7 : BitVec 32) (k1_hw3 : k1_chk3 v7), ∀ a, (k1_off11 v7) a + S1x1x1024.size a ≤ S1x1946x1024.size a := fun v7 k1_hw3 => k1_hw3.2

@[reducible] def k1_t4_loop : Scf.Loop 32 :=
  let c0_i32_8 : BitVec 32 := 0#32
  let c102_i32_9 : BitVec 32 := 102#32
  let v3 : BitVec 32 := Scalar.addi c0_i32_8 c102_i32_9
  let c1_i32_10 : BitVec 32 := 1#32
  ⟨c0_i32_8, v3, c1_i32_10⟩
def k1_off12 (k1_t4 : Fin k1_t4_loop.trips) : Fin 3 → Nat :=
  let c0 : Index := 0#32
  let c0_i32_8 : BitVec 32 := 0#32
  let c1_i32_10 : BitVec 32 := 1#32
  let arg7 : BitVec 32 := Scf.iv c0_i32_8 c1_i32_10 k1_t4
  let v4 : Index := Scalar.indexCast arg7
  let c0_12 : Index := 0#32
  ![0, v4.toNat, 0]
def k1_off13 (k1_t4 : Fin k1_t4_loop.trips) : Fin 3 → Nat :=
  let c0_14 : Index := 0#32
  let c1844_i32_13 : BitVec 32 := 1844#32
  let c0_i32_8 : BitVec 32 := 0#32
  let c1_i32_10 : BitVec 32 := 1#32
  let arg7 : BitVec 32 := Scf.iv c0_i32_8 c1_i32_10 k1_t4
  let v7 : BitVec 32 := Scalar.addi c1844_i32_13 arg7
  let v8 : Index := Scalar.indexCast v7
  let c0_15 : Index := 0#32
  ![0, v8.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x102x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1946x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== TailReferenceIdeal.lean ====
abbrev S8192 : Shape := ⟨1, ![8192]⟩
abbrev S4x2048x1024 : Shape := ⟨3, ![4, 2048, 1024]⟩
abbrev S4x2048 : Shape := ⟨2, ![4, 2048]⟩
abbrev S4x1844 : Shape := ⟨2, ![4, 1844]⟩
abbrev S4x102 : Shape := ⟨2, ![4, 102]⟩
abbrev S_ : Shape := ⟨0, ![]⟩
abbrev S4x2048x1 : Shape := ⟨3, ![4, 2048, 1]⟩
abbrev S4x102x1 : Shape := ⟨3, ![4, 102, 1]⟩
abbrev S1 : Shape := ⟨1, ![1]⟩
abbrev S1x1x1 : Shape := ⟨3, ![1, 1, 1]⟩
abbrev S4x102x1024 : Shape := ⟨3, ![4, 102, 1024]⟩
abbrev S4x102x102 : Shape := ⟨3, ![4, 102, 102]⟩
abbrev S4 : Shape := ⟨1, ![4]⟩
abbrev S4x1 : Shape := ⟨2, ![4, 1]⟩
abbrev S4x1844x1 : Shape := ⟨3, ![4, 1844, 1]⟩
abbrev S4x1844x1024 : Shape := ⟨3, ![4, 1844, 1024]⟩
abbrev S4x102x2 : Shape := ⟨3, ![4, 102, 2]⟩
abbrev S4x1946x1024 : Shape := ⟨3, ![4, 1946, 1024]⟩

abbrev nBuf : Space → Nat
  | .hbm => 189
  | .vmem => 0
  | .smem => 0
  | _ => 0

abbrev hbmTy0_0 (i : Nat) : BufTy := match i % 128 with
  | 0 => ⟨S8192, .i32⟩
  | 1 => ⟨S8192, .i32⟩
  | 2 => ⟨S4x2048x1024, .f32⟩
  | 3 => ⟨S4x2048, .i32⟩
  | 4 => ⟨S4x1844, .i32⟩
  | 5 => ⟨S4x2048, .i32⟩
  | 6 => ⟨S4x102, .i32⟩
  | 7 => ⟨S4x2048, .i32⟩
  | 8 => ⟨S4x102, .i32⟩
  | 9 => ⟨S4x2048x1024, .f32⟩
  | 10 => ⟨S_, .f32⟩
  | 11 => ⟨S4x2048, .f32⟩
  | 12 => ⟨S4x2048x1, .f32⟩
  | 13 => ⟨S4x2048x1, .f32⟩
  | 14 => ⟨S_, .f32⟩
  | 15 => ⟨S_, .f32⟩
  | 16 => ⟨S4x2048x1, .f32⟩
  | 17 => ⟨S4x2048x1, .f32⟩
  | 18 => ⟨S4x2048x1024, .f32⟩
  | 19 => ⟨S4x2048x1024, .f32⟩
  | 20 => ⟨S4x102x1, .i32⟩
  | 21 => ⟨S_, .i32⟩
  | 22 => ⟨S4x102x1, .i32⟩
  | 23 => ⟨S4x102x1, .i1⟩
  | 24 => ⟨S_, .i32⟩
  | 25 => ⟨S4x102x1, .i32⟩
  | 26 => ⟨S4x102x1, .i32⟩
  | 27 => ⟨S4x102x1, .i32⟩
  | 28 => ⟨S1, .i32⟩
  | 29 => ⟨S_, .i32⟩
  | 30 => ⟨S4x102x1, .i32⟩
  | 31 => ⟨S4x102x1, .i1⟩
  | 32 => ⟨S1x1x1, .i32⟩
  | 33 => ⟨S4x102x1, .i32⟩
  | 34 => ⟨S4x102x1, .i1⟩
  | 35 => ⟨S4x102x1, .i1⟩
  | 36 => ⟨S_, .i1⟩
  | 37 => ⟨S4x102, .i1⟩
  | 38 => ⟨S4x102x1024, .f32⟩
  | 39 => ⟨S4x102x1024, .i1⟩
  | 40 => ⟨S_, .f32⟩
  | 41 => ⟨S4x102x1024, .f32⟩
  | 42 => ⟨S4x102x1024, .f32⟩
  | 43 => ⟨S4x102x1, .i32⟩
  | 44 => ⟨S_, .i32⟩
  | 45 => ⟨S4x102x1, .i32⟩
  | 46 => ⟨S4x102x1, .i1⟩
  | 47 => ⟨S_, .i32⟩
  | 48 => ⟨S4x102x1, .i32⟩
  | 49 => ⟨S4x102x1, .i32⟩
  | 50 => ⟨S4x102x1, .i32⟩
  | 51 => ⟨S1, .i32⟩
  | 52 => ⟨S_, .i32⟩
  | 53 => ⟨S4x102x1, .i32⟩
  | 54 => ⟨S4x102x1, .i1⟩
  | 55 => ⟨S1x1x1, .i32⟩
  | 56 => ⟨S4x102x1, .i32⟩
  | 57 => ⟨S4x102x1, .i1⟩
  | 58 => ⟨S4x102x1, .i1⟩
  | 59 => ⟨S_, .i1⟩
  | 60 => ⟨S4x102, .i1⟩
  | 61 => ⟨S4x102x1024, .f32⟩
  | 62 => ⟨S4x102x1024, .i1⟩
  | 63 => ⟨S_, .f32⟩
  | 64 => ⟨S4x102x1024, .f32⟩
  | 65 => ⟨S4x102x1024, .f32⟩
  | 66 => ⟨S4x102x102, .f32⟩
  | 67 => ⟨S4x102x102, .i32⟩
  | 68 => ⟨S_, .f32⟩
  | 69 => ⟨S_, .i32⟩
  | 70 => ⟨S4x102, .f32⟩
  | 71 => ⟨S4x102, .i32⟩
  | 72 => ⟨S4, .i32⟩
  | 73 => ⟨S4x1, .i32⟩
  | 74 => ⟨S4x1844x1, .i32⟩
  | 75 => ⟨S_, .i32⟩
  | 76 => ⟨S4x1844x1, .i32⟩
  | 77 => ⟨S4x1844x1, .i1⟩
  | 78 => ⟨S_, .i32⟩
  | 79 => ⟨S4x1844x1, .i32⟩
  | 80 => ⟨S4x1844x1, .i32⟩
  | 81 => ⟨S4x1844x1, .i32⟩
  | 82 => ⟨S1, .i32⟩
  | 83 => ⟨S_, .i32⟩
  | 84 => ⟨S4x1844x1, .i32⟩
  | 85 => ⟨S4x1844x1, .i1⟩
  | 86 => ⟨S1x1x1, .i32⟩
  | 87 => ⟨S4x1844x1, .i32⟩
  | 88 => ⟨S4x1844x1, .i1⟩
  | 89 => ⟨S4x1844x1, .i1⟩
  | 90 => ⟨S_, .i1⟩
  | 91 => ⟨S4x1844, .i1⟩
  | 92 => ⟨S4x1844x1024, .f32⟩
  | 93 => ⟨S4x1844x1024, .i1⟩
  | 94 => ⟨S_, .f32⟩
  | 95 => ⟨S4x1844x1024, .f32⟩
  | 96 => ⟨S4x1844x1024, .f32⟩
  | 97 => ⟨S4x102x1, .i32⟩
  | 98 => ⟨S_, .i32⟩
  | 99 => ⟨S4x102x1, .i32⟩
  | 100 => ⟨S4x102x1, .i1⟩
  | 101 => ⟨S_, .i32⟩
  | 102 => ⟨S4x102x1, .i32⟩
  | 103 => ⟨S4x102x1, .i32⟩
  | 104 => ⟨S4x102x1, .i32⟩
  | 105 => ⟨S1, .i32⟩
  | 106 => ⟨S_, .i32⟩
  | 107 => ⟨S4x102x1, .i32⟩
  | 108 => ⟨S4x102x1, .i1⟩
  | 109 => ⟨S1x1x1, .i32⟩
  | 110 => ⟨S4x102x1, .i32⟩
  | 111 => ⟨S4x102x1, .i1⟩
  | 112 => ⟨S4x102x1, .i1⟩
  | 113 => ⟨S_, .i1⟩
  | 114 => ⟨S4x102, .i1⟩
  | 115 => ⟨S4x102x1024, .f32⟩
  | 116 => ⟨S4x102x1024, .i1⟩
  | 117 => ⟨S_, .f32⟩
  | 118 => ⟨S4x102x1024, .f32⟩
  | 119 => ⟨S4x102x1024, .f32⟩
  | 120 => ⟨S4x102x1, .i32⟩
  | 121 => ⟨S_, .i32⟩
  | 122 => ⟨S4x102x1, .i32⟩
  | 123 => ⟨S4x102x1, .i1⟩
  | 124 => ⟨S_, .i32⟩
  | 125 => ⟨S4x102x1, .i32⟩
  | 126 => ⟨S4x102x1, .i32⟩
  | 127 => ⟨S4x102x1, .i32⟩
  | _ => ⟨S8192, .i32⟩

abbrev hbmTy0_1 (i : Nat) : BufTy := match i % 128 with
  | 0 => ⟨S1, .i32⟩
  | 1 => ⟨S_, .i32⟩
  | 2 => ⟨S4x102x1, .i32⟩
  | 3 => ⟨S4x102x1, .i1⟩
  | 4 => ⟨S1x1x1, .i32⟩
  | 5 => ⟨S4x102x1, .i32⟩
  | 6 => ⟨S4x102x1, .i1⟩
  | 7 => ⟨S4x102x1, .i1⟩
  | 8 => ⟨S_, .i1⟩
  | 9 => ⟨S4x102, .i1⟩
  | 10 => ⟨S4x102x1024, .f32⟩
  | 11 => ⟨S4x102x1024, .i1⟩
  | 12 => ⟨S_, .f32⟩
  | 13 => ⟨S4x102x1024, .f32⟩
  | 14 => ⟨S4x102x1024, .f32⟩
  | 15 => ⟨S_, .f32⟩
  | 16 => ⟨S4x102, .f32⟩
  | 17 => ⟨S_, .i32⟩
  | 18 => ⟨S4x1, .i32⟩
  | 19 => ⟨S4x1, .i1⟩
  | 20 => ⟨S_, .i32⟩
  | 21 => ⟨S4x1, .i32⟩
  | 22 => ⟨S4x1, .i32⟩
  | 23 => ⟨S4x1, .i32⟩
  | 24 => ⟨S_, .i32⟩
  | 25 => ⟨S4x102, .i32⟩
  | 26 => ⟨S4x102, .i1⟩
  | 27 => ⟨S_, .i32⟩
  | 28 => ⟨S4x102, .i32⟩
  | 29 => ⟨S4x102, .i32⟩
  | 30 => ⟨S4x102, .i32⟩
  | 31 => ⟨S4x102, .i32⟩
  | 32 => ⟨S4x102x1, .i32⟩
  | 33 => ⟨S4x102x1, .i32⟩
  | 34 => ⟨S4x102x2, .i32⟩
  | 35 => ⟨S_, .f32⟩
  | 36 => ⟨S4x102, .f32⟩
  | 37 => ⟨S4x102, .f32⟩
  | 38 => ⟨S_, .i32⟩
  | 39 => ⟨S4x1, .i32⟩
  | 40 => ⟨S4x1, .i1⟩
  | 41 => ⟨S_, .i32⟩
  | 42 => ⟨S4x1, .i32⟩
  | 43 => ⟨S4x1, .i32⟩
  | 44 => ⟨S4x1, .i32⟩
  | 45 => ⟨S_, .i32⟩
  | 46 => ⟨S4x102, .i32⟩
  | 47 => ⟨S4x102, .i1⟩
  | 48 => ⟨S_, .i32⟩
  | 49 => ⟨S4x102, .i32⟩
  | 50 => ⟨S4x102, .i32⟩
  | 51 => ⟨S4x102, .i32⟩
  | 52 => ⟨S4x102, .i32⟩
  | 53 => ⟨S4x102x1, .i32⟩
  | 54 => ⟨S4x102x1, .i32⟩
  | 55 => ⟨S4x102x2, .i32⟩
  | 56 => ⟨S4x102x1024, .f32⟩
  | 57 => ⟨S4x102x1, .f32⟩
  | 58 => ⟨S4x102x1024, .f32⟩
  | 59 => ⟨S4x102x1024, .f32⟩
  | 60 => ⟨S4x1946x1024, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call2_c : Ref sig .tc := ⟨.hbm, 21, rfl⟩
abbrev main_call2_v0 : Ref sig .tc := ⟨.hbm, 22, rfl⟩
abbrev main_call2_v1 : Ref sig .tc := ⟨.hbm, 23, rfl⟩
abbrev main_call2_c_0 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_c_1 : Ref sig .tc := ⟨.hbm, 28, rfl⟩
abbrev main_call2_c_2 : Ref sig .tc := ⟨.hbm, 29, rfl⟩
abbrev main_call2_v5 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_v9 : Ref sig .tc := ⟨.hbm, 34, rfl⟩
abbrev main_call2_v10 : Ref sig .tc := ⟨.hbm, 35, rfl⟩
abbrev main_call2_c_3 : Ref sig .tc := ⟨.hbm, 36, rfl⟩
abbrev main_call2_v11 : Ref sig .tc := ⟨.hbm, 37, rfl⟩
abbrev main_call2_v12 : Ref sig .tc := ⟨.hbm, 38, rfl⟩
abbrev main_call2_v13 : Ref sig .tc := ⟨.hbm, 39, rfl⟩
abbrev main_call2_cst : Ref sig .tc := ⟨.hbm, 40, rfl⟩
abbrev main_call2_v14 : Ref sig .tc := ⟨.hbm, 41, rfl⟩
abbrev main_v11 : Ref sig .tc := ⟨.hbm, 42, rfl⟩
abbrev main_v12 : Ref sig .tc := ⟨.hbm, 43, rfl⟩
abbrev main_call3_c : Ref sig .tc := ⟨.hbm, 44, rfl⟩
abbrev main_call3_v0 : Ref sig .tc := ⟨.hbm, 45, rfl⟩
abbrev main_call3_v1 : Ref sig .tc := ⟨.hbm, 46, rfl⟩
abbrev main_call3_c_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_c_1 : Ref sig .tc := ⟨.hbm, 51, rfl⟩
abbrev main_call3_c_2 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_c_3 : Ref sig .tc := ⟨.hbm, 59, rfl⟩
abbrev main_call3_v11 : Ref sig .tc := ⟨.hbm, 60, rfl⟩
abbrev main_call3_v12 : Ref sig .tc := ⟨.hbm, 61, rfl⟩
abbrev main_call3_v13 : Ref sig .tc := ⟨.hbm, 62, rfl⟩
abbrev main_call3_cst : Ref sig .tc := ⟨.hbm, 63, rfl⟩
abbrev main_call3_v14 : Ref sig .tc := ⟨.hbm, 64, rfl⟩
abbrev main_v13 : Ref sig .tc := ⟨.hbm, 65, rfl⟩
abbrev main_v14 : Ref sig .tc := ⟨.hbm, 66, rfl⟩
abbrev main_call4_v0 : Ref sig .tc := ⟨.hbm, 67, rfl⟩
abbrev main_call4_cst : Ref sig .tc := ⟨.hbm, 68, rfl⟩
abbrev main_call4_c : Ref sig .tc := ⟨.hbm, 69, rfl⟩
abbrev main_call4_v1_0 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_call5_c : Ref sig .tc := ⟨.hbm, 75, rfl⟩
abbrev main_call5_v0 : Ref sig .tc := ⟨.hbm, 76, rfl⟩
abbrev main_call5_v1 : Ref sig .tc := ⟨.hbm, 77, rfl⟩
abbrev main_call5_c_0 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_c_1 : Ref sig .tc := ⟨.hbm, 82, rfl⟩
abbrev main_call5_c_2 : Ref sig .tc := ⟨.hbm, 83, rfl⟩
abbrev main_call5_v5 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_c_3 : Ref sig .tc := ⟨.hbm, 90, rfl⟩
abbrev main_call5_v11 : Ref sig .tc := ⟨.hbm, 91, rfl⟩
abbrev main_call5_v12 : Ref sig .tc := ⟨.hbm, 92, rfl⟩
abbrev main_call5_v13 : Ref sig .tc := ⟨.hbm, 93, rfl⟩
abbrev main_call5_cst : Ref sig .tc := ⟨.hbm, 94, rfl⟩
abbrev main_call5_v14 : Ref sig .tc := ⟨.hbm, 95, rfl⟩
abbrev main_v19 : Ref sig .tc := ⟨.hbm, 96, rfl⟩
abbrev main_v20 : Ref sig .tc := ⟨.hbm, 97, rfl⟩
abbrev main_call6_c : Ref sig .tc := ⟨.hbm, 98, rfl⟩
abbrev main_call6_v0 : Ref sig .tc := ⟨.hbm, 99, rfl⟩
abbrev main_call6_v1 : Ref sig .tc := ⟨.hbm, 100, rfl⟩
abbrev main_call6_c_0 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_call6_c_1 : Ref sig .tc := ⟨.hbm, 105, rfl⟩
abbrev main_call6_c_2 : Ref sig .tc := ⟨.hbm, 106, rfl⟩
abbrev main_call6_v5 : Ref sig .tc := ⟨.hbm, 107, rfl⟩
abbrev main_call6_v6 : Ref sig .tc := ⟨.hbm, 108, rfl⟩
abbrev main_call6_v7 : Ref sig .tc := ⟨.hbm, 109, rfl⟩
abbrev main_call6_v8 : Ref sig .tc := ⟨.hbm, 110, rfl⟩
abbrev main_call6_v9 : Ref sig .tc := ⟨.hbm, 111, rfl⟩
abbrev main_call6_v10 : Ref sig .tc := ⟨.hbm, 112, rfl⟩
abbrev main_call6_c_3 : Ref sig .tc := ⟨.hbm, 113, rfl⟩
abbrev main_call6_v11 : Ref sig .tc := ⟨.hbm, 114, rfl⟩
abbrev main_call6_v12 : Ref sig .tc := ⟨.hbm, 115, rfl⟩
abbrev main_call6_v13 : Ref sig .tc := ⟨.hbm, 116, rfl⟩
abbrev main_call6_cst : Ref sig .tc := ⟨.hbm, 117, rfl⟩
abbrev main_call6_v14 : Ref sig .tc := ⟨.hbm, 118, rfl⟩
abbrev main_v21 : Ref sig .tc := ⟨.hbm, 119, rfl⟩
abbrev main_v22 : Ref sig .tc := ⟨.hbm, 120, rfl⟩
abbrev main_call7_c : Ref sig .tc := ⟨.hbm, 121, rfl⟩
abbrev main_call7_v0 : Ref sig .tc := ⟨.hbm, 122, rfl⟩
abbrev main_call7_v1 : Ref sig .tc := ⟨.hbm, 123, rfl⟩
abbrev main_call7_c_0 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_call7_c_1 : Ref sig .tc := ⟨.hbm, 128, rfl⟩
abbrev main_call7_c_2 : Ref sig .tc := ⟨.hbm, 129, rfl⟩
abbrev main_call7_v5 : Ref sig .tc := ⟨.hbm, 130, rfl⟩
abbrev main_call7_v6 : Ref sig .tc := ⟨.hbm, 131, rfl⟩
abbrev main_call7_v7 : Ref sig .tc := ⟨.hbm, 132, rfl⟩
abbrev main_call7_v8 : Ref sig .tc := ⟨.hbm, 133, rfl⟩
abbrev main_call7_v9 : Ref sig .tc := ⟨.hbm, 134, rfl⟩
abbrev main_call7_v10 : Ref sig .tc := ⟨.hbm, 135, rfl⟩
abbrev main_call7_c_3 : Ref sig .tc := ⟨.hbm, 136, rfl⟩
abbrev main_call7_v11 : Ref sig .tc := ⟨.hbm, 137, rfl⟩
abbrev main_call7_v12 : Ref sig .tc := ⟨.hbm, 138, rfl⟩
abbrev main_call7_v13 : Ref sig .tc := ⟨.hbm, 139, rfl⟩
abbrev main_call7_cst : Ref sig .tc := ⟨.hbm, 140, rfl⟩
abbrev main_call7_v14 : Ref sig .tc := ⟨.hbm, 141, rfl⟩
abbrev main_v23 : Ref sig .tc := ⟨.hbm, 142, rfl⟩
abbrev main_cst_0 : Ref sig .tc := ⟨.hbm, 143, rfl⟩
abbrev main_v24 : Ref sig .tc := ⟨.hbm, 144, rfl⟩
abbrev main_c : Ref sig .tc := ⟨.hbm, 145, rfl⟩
abbrev main_v25 : Ref sig .tc := ⟨.hbm, 146, rfl⟩
abbrev main_v26 : Ref sig .tc := ⟨.hbm, 147, rfl⟩
abbrev main_c_1 : Ref sig .tc := ⟨.hbm, 148, rfl⟩
abbrev main_v27 : Ref sig .tc := ⟨.hbm, 149, rfl⟩
abbrev main_v28 : Ref sig .tc := ⟨.hbm, 150, rfl⟩
abbrev main_v29 : Ref sig .tc := ⟨.hbm, 151, rfl⟩
abbrev main_c_2 : Ref sig .tc := ⟨.hbm, 152, rfl⟩
abbrev main_v30 : Ref sig .tc := ⟨.hbm, 153, rfl⟩
abbrev main_v31 : Ref sig .tc := ⟨.hbm, 154, rfl⟩
abbrev main_c_3 : Ref sig .tc := ⟨.hbm, 155, rfl⟩
abbrev main_v32 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_cst_4 : Ref sig .tc := ⟨.hbm, 163, rfl⟩
abbrev main_v39 : Ref sig .tc := ⟨.hbm, 164, rfl⟩
abbrev main_v40 : Ref sig .tc := ⟨.hbm, 165, rfl⟩
abbrev main_c_5 : Ref sig .tc := ⟨.hbm, 166, rfl⟩
abbrev main_v41 : Ref sig .tc := ⟨.hbm, 167, rfl⟩
abbrev main_v42 : Ref sig .tc := ⟨.hbm, 168, rfl⟩
abbrev main_c_6 : Ref sig .tc := ⟨.hbm, 169, rfl⟩
abbrev main_v43 : Ref sig .tc := ⟨.hbm, 170, rfl⟩
abbrev main_v44 : Ref sig .tc := ⟨.hbm, 171, rfl⟩
abbrev main_v45 : Ref sig .tc := ⟨.hbm, 172, rfl⟩
abbrev main_c_7 : Ref sig .tc := ⟨.hbm, 173, rfl⟩
abbrev main_v46 : Ref sig .tc := ⟨.hbm, 174, rfl⟩
abbrev main_v47 : Ref sig .tc := ⟨.hbm, 175, rfl⟩
abbrev main_c_8 : Ref sig .tc := ⟨.hbm, 176, rfl⟩
abbrev main_v48 : Ref sig .tc := ⟨.hbm, 177, rfl⟩
abbrev main_v49 : Ref sig .tc := ⟨.hbm, 178, rfl⟩
abbrev main_v50 : Ref sig .tc := ⟨.hbm, 179, rfl⟩
abbrev main_v51 : Ref sig .tc := ⟨.hbm, 180, rfl⟩
abbrev main_v52 : Ref sig .tc := ⟨.hbm, 181, rfl⟩
abbrev main_v53 : Ref sig .tc := ⟨.hbm, 182, rfl⟩
abbrev main_v54 : Ref sig .tc := ⟨.hbm, 183, rfl⟩
abbrev main_v55 : Ref sig .tc := ⟨.hbm, 184, rfl⟩
abbrev main_v56 : Ref sig .tc := ⟨.hbm, 185, rfl⟩
abbrev main_v57 : Ref sig .tc := ⟨.hbm, 186, rfl⟩
abbrev main_v58 : Ref sig .tc := ⟨.hbm, 187, rfl⟩
abbrev main_v59 : Ref sig .tc := ⟨.hbm, 188, rfl⟩

abbrev nD : Nat := 1
abbrev τ : Topo := Topo.v7x

variable {F : FTy → Type} [FloatOps F]
-- ==== Select.lean ====
abbrev S4x1x2048 : Shape := ⟨3, ![4, 1, 2048]⟩
abbrev S4x2048 : Shape := ⟨2, ![4, 2048]⟩
abbrev S_ : Shape := ⟨0, ![]⟩
abbrev S4x2048x1 : Shape := ⟨3, ![4, 2048, 1]⟩
abbrev S1x1x2048 : Shape := ⟨3, ![1, 1, 2048]⟩
abbrev S1x2048x1 : Shape := ⟨3, ![1, 2048, 1]⟩
abbrev S1x2048 : Shape := ⟨2, ![1, 2048]⟩
abbrev S8x2048 : Shape := ⟨2, ![8, 2048]⟩
abbrev S1x128x1 : Shape := ⟨3, ![1, 128, 1]⟩
abbrev S128x1 : Shape := ⟨2, ![128, 1]⟩
abbrev S128x2048 : Shape := ⟨2, ![128, 2048]⟩
abbrev S2048 : Shape := ⟨1, ![2048]⟩
abbrev S128 : Shape := ⟨1, ![128]⟩

abbrev nBuf : Space → Nat
  | .hbm => 9
  | .vmem => 8
  | .smem => 0
  | _ => 0

abbrev bufTy : (tb : Table) → Fin (tcTables nBuf tb) → BufTy
  | .hbm, ⟨0, _⟩ => ⟨S4x1x2048, .f32⟩
  | .hbm, ⟨1, _⟩ => ⟨S4x2048, .f32⟩
  | .hbm, ⟨2, _⟩ => ⟨S_, .f32⟩
  | .hbm, ⟨3, _⟩ => ⟨S4x2048, .f32⟩
  | .hbm, ⟨4, _⟩ => ⟨S4x2048, .f32⟩
  | .hbm, ⟨5, _⟩ => ⟨S4x1x2048, .f32⟩
  | .hbm, ⟨6, _⟩ => ⟨S4x2048x1, .f32⟩
  | .hbm, ⟨7, _⟩ => ⟨S4x1x2048, .i32⟩
  | .hbm, ⟨8, _⟩ => ⟨S4x1x2048, .i32⟩
  | .local _ .vmem, ⟨0, _⟩ => ⟨S1x1x2048, .f32⟩
  | .local _ .vmem, ⟨1, _⟩ => ⟨S1x1x2048, .f32⟩
  | .local _ .vmem, ⟨2, _⟩ => ⟨S1x2048x1, .f32⟩
  | .local _ .vmem, ⟨3, _⟩ => ⟨S1x2048x1, .f32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | _, _ => ⟨S4x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SelectReferenceIdeal.lean ====
abbrev S4x1x2048 : Shape := ⟨3, ![4, 1, 2048]⟩
abbrev S4x2048 : Shape := ⟨2, ![4, 2048]⟩
abbrev S_ : Shape := ⟨0, ![]⟩
abbrev S4x204 : Shape := ⟨2, ![4, 204]⟩
abbrev S4x102 : Shape := ⟨2, ![4, 102]⟩
abbrev S4 : Shape := ⟨1, ![4]⟩
abbrev S4x1 : Shape := ⟨2, ![4, 1]⟩
abbrev S4x204x1 : Shape := ⟨3, ![4, 204, 1]⟩
abbrev S4x204x2 : Shape := ⟨3, ![4, 204, 2]⟩
abbrev S4x1844 : Shape := ⟨2, ![4, 1844]⟩
abbrev S4x1024 : Shape := ⟨2, ![4, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x1x2048, .f32⟩
  | .hbm, ⟨1, _⟩ => ⟨S4x2048, .f32⟩
  | .hbm, ⟨2, _⟩ => ⟨S_, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .i32⟩
  | .hbm, ⟨7, _⟩ => ⟨S4x2048, .f32⟩
  | .hbm, ⟨8, _⟩ => ⟨S4x2048, .i32⟩
  | .hbm, ⟨9, _⟩ => ⟨S4x204, .i32⟩
  | .hbm, ⟨10, _⟩ => ⟨S4x102, .i32⟩
  | .hbm, ⟨11, _⟩ => ⟨S4x102, .i32⟩
  | .hbm, ⟨12, _⟩ => ⟨S4, .i32⟩
  | .hbm, ⟨13, _⟩ => ⟨S4x1, .i32⟩
  | .hbm, ⟨14, _⟩ => ⟨S_, .i1⟩
  | .hbm, ⟨15, _⟩ => ⟨S4x2048, .i1⟩
  | .hbm, ⟨16, _⟩ => ⟨S_, .i32⟩
  | .hbm, ⟨17, _⟩ => ⟨S4x1, .i32⟩
  | .hbm, ⟨18, _⟩ => ⟨S4x1, .i1⟩
  | .hbm, ⟨19, _⟩ => ⟨S_, .i32⟩
  | .hbm, ⟨20, _⟩ => ⟨S4x1, .i32⟩
  | .hbm, ⟨21, _⟩ => ⟨S4x1, .i32⟩
  | .hbm, ⟨22, _⟩ => ⟨S4x1, .i32⟩
  | .hbm, ⟨23, _⟩ => ⟨S_, .i32⟩
  | .hbm, ⟨24, _⟩ => ⟨S4x204, .i32⟩
  | .hbm, ⟨25, _⟩ => ⟨S4x204, .i1⟩
  | .hbm, ⟨26, _⟩ => ⟨S_, .i32⟩
  | .hbm, ⟨27, _⟩ => ⟨S4x204, .i32⟩
  | .hbm, ⟨28, _⟩ => ⟨S4x204, .i32⟩
  | .hbm, ⟨29, _⟩ => ⟨S4x204, .i32⟩
  | .hbm, ⟨30, _⟩ => ⟨S4x204, .i32⟩
  | .hbm, ⟨31, _⟩ => ⟨S4x204x1, .i32⟩
  | .hbm, ⟨32, _⟩ => ⟨S4x204x1, .i32⟩
  | .hbm, ⟨33, _⟩ => ⟨S4x204x2, .i32⟩
  | .hbm, ⟨34, _⟩ => ⟨S_, .i1⟩
  | .hbm, ⟨35, _⟩ => ⟨S4x204, .i1⟩
  | .hbm, ⟨36, _⟩ => ⟨S4x2048, .i1⟩
  | .hbm, ⟨37, _⟩ => ⟨S_, .i32⟩
  | .hbm, ⟨38, _⟩ => ⟨S_, .i32⟩
  | .hbm, ⟨39, _⟩ => ⟨S4x2048, .i32⟩
  | .hbm, ⟨40, _⟩ => ⟨S4x2048, .i32⟩
  | .hbm, ⟨41, _⟩ => ⟨S4x2048, .i32⟩
  | .hbm, ⟨42, _⟩ => ⟨S4x2048, .i32⟩
  | .hbm, ⟨43, _⟩ => ⟨S4x2048, .i32⟩
  | .hbm, ⟨44, _⟩ => ⟨S4x2048, .i32⟩
  | .hbm, ⟨45, _⟩ => ⟨S4x2048, .i32⟩
  | .hbm, ⟨46, _⟩ => ⟨S4x1844, .i32⟩
  | .hbm, ⟨47, _⟩ => ⟨S_, .i32⟩
  | .hbm, ⟨48, _⟩ => ⟨S_, .i32⟩
  | .hbm, ⟨49, _⟩ => ⟨S4x2048, .i32⟩
  | .hbm, ⟨50, _⟩ => ⟨S_, .i32⟩
  | .hbm, ⟨51, _⟩ => ⟨S_, .i32⟩
  | .hbm, ⟨52, _⟩ => ⟨S4x1024, .i32⟩
  | .hbm, ⟨53, _⟩ => ⟨S_, .i32⟩
  | .hbm, ⟨54, _⟩ => ⟨S_, .i32⟩
  | .hbm, ⟨55, _⟩ => ⟨S4x1024, .i32⟩
  | .hbm, ⟨56, _⟩ => ⟨S4x2048, .i32⟩
  | .hbm, ⟨57, _⟩ => ⟨S4x1x2048, .i32⟩
  | .hbm, ⟨58, _⟩ => ⟨S4x1x2048, .i32⟩
  | _, _ => ⟨S4x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_c_6 : Ref sig .tc := ⟨.hbm, 38, rfl⟩
abbrev main_call1_v0 : Ref sig .tc := ⟨.hbm, 39, rfl⟩
abbrev main_call1_v1 : Ref sig .tc := ⟨.hbm, 40, rfl⟩
abbrev main_v27 : Ref sig .tc := ⟨.hbm, 41, rfl⟩
abbrev main_v28 : Ref sig .tc := ⟨.hbm, 42, rfl⟩
abbrev main_call2_v0 : Ref sig .tc := ⟨.hbm, 43, rfl⟩
abbrev main_call2_v1_0 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_call3_v0 : Ref sig .tc := ⟨.hbm, 48, rfl⟩
abbrev main_v31 : Ref sig .tc := ⟨.hbm, 49, rfl⟩
abbrev main_c_8 : Ref sig .tc := ⟨.hbm, 50, rfl⟩
abbrev main_call4_v0 : Ref sig .tc := ⟨.hbm, 51, rfl⟩
abbrev main_v32 : Ref sig .tc := ⟨.hbm, 52, rfl⟩
abbrev main_c_9 : Ref sig .tc := ⟨.hbm, 53, rfl⟩
abbrev main_call5_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Scores.lean ====
abbrev S8192 : Shape := ⟨1, ![8192]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S4x102x1024 : Shape := ⟨3, ![4, 102, 1024]⟩
abbrev S1x2048x1024 : Shape := ⟨3, ![1, 2048, 1024]⟩
abbrev S1x102x1024 : Shape := ⟨3, ![1, 102, 1024]⟩
abbrev S1 : Shape := ⟨1, ![1]⟩
abbrev S1x1x1024 : Shape := ⟨3, ![1, 1, 1024]⟩
abbrev S1x1024 : Shape := ⟨2, ![1, 1024]⟩
abbrev S4x102x102 : Shape := ⟨3, ![4, 102, 102]⟩

abbrev nBuf : Space → Nat
  | .hbm => 17
  | .vmem => 6
  | .smem => 1
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S4x2048, .f32⟩
  | .hbm, ⟨4, _⟩ => ⟨S4x2048x1, .f32⟩
  | .hbm, ⟨5, _⟩ => ⟨S4x2048x1, .f32⟩
  | .hbm, ⟨6, _⟩ => ⟨S_, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x1024, .f32⟩
  | .hbm, ⟨11, _⟩ => ⟨S4x2048x1024, .f32⟩
  | .hbm, ⟨12, _⟩ => ⟨S4x102x1024, .f32⟩
  | .hbm, ⟨13, _⟩ => ⟨S4x102x1024, .f32⟩
  | .hbm, ⟨14, _⟩ => ⟨S4x102x1024, .bf16⟩
  | .hbm, ⟨15, _⟩ => ⟨S4x102x1024, .bf16⟩
  | .hbm, ⟨16, _⟩ => ⟨S4x102x102, .f32⟩
  | .local _ .vmem, ⟨0, _⟩ => ⟨S1x2048x1024, .f32⟩
  | .local _ .vmem, ⟨1, _⟩ => ⟨S1x2048x1024, .f32⟩
  | .local _ .vmem, ⟨2, _⟩ => ⟨S1x102x1024, .f32⟩
  | .local _ .vmem, ⟨3, _⟩ => ⟨S1x102x1024, .f32⟩
  | .local _ .vmem, ⟨4, _⟩ => ⟨S1x102x1024, .f32⟩
  | .local _ .vmem, ⟨5, _⟩ => ⟨S1x102x1024, .f32⟩
  | .local _ .smem, ⟨0, _⟩ => ⟨S8192, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_call1_v1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c102_i32 : BitVec 32 := 102#32
  let v0 : BitVec 32 := Scalar.addi c0_i32 c102_i32
  let c1_i32 : BitVec 32 := 1#32
  ⟨c0_i32, v0, c1_i32⟩
def k0_off1 (i : grid0.Coords) (k0_t1 : Fin k0_t1_loop.trips) : Fin 1 → Nat :=
  let arg0 : BitVec 32 := BitVec.ofNat 32 (i 0).val
  let c2048_i32 : BitVec 32 := 2048#32
  let v1 : BitVec 32 := Scalar.muli arg0 c2048_i32
  let c0_i32 : BitVec 32 := 0#32
  let c1_i32 : BitVec 32 := 1#32
  let arg5 : BitVec 32 := Scf.iv c0_i32 c1_i32 k0_t1
  let v2 : BitVec 32 := Scalar.addi v1 arg5
  let v3 : Index := Scalar.indexCast v2
  ![v3.toNat]
def k0_off2 (i : grid0.Coords) (k0_t1 : Fin k0_t1_loop.trips) : Fin 1 → Nat :=
  let arg0 : BitVec 32 := BitVec.ofNat 32 (i 0).val
  let c2048_i32_1 : BitVec 32 := 2048#32
  let v5 : BitVec 32 := Scalar.muli arg0 c2048_i32_1
  let c1024_i32 : BitVec 32 := 1024#32
  let v6 : BitVec 32 := Scalar.addi v5 c1024_i32
  let c0_i32 : BitVec 32 := 0#32
  let c1_i32 : BitVec 32 := 1#32
  let arg5 : BitVec 32 := Scf.iv c0_i32 c1_i32 k0_t1
  let v7 : BitVec 32 := Scalar.addi v6 arg5
  let v8 : Index := Scalar.indexCast v7
  ![v8.toNat]
def k0_off3 (v4 : BitVec 32) : Fin 3 → Nat :=
  let c0 : Index := 0#32
  let v10 : Index := Scalar.indexCast v4
  let c0_2 : Index := 0#32
  ![0, v10.toNat, 0]

def k0_chk1 (v4 : BitVec 32) : Prop :=
  (∀ a, (k0_off3 v4) a + S1x1x1024.size a ≤ S1x2048x1024.size a)
theorem k0_off3_inb : ∀ (v4 : BitVec 32) (k0_hw1 : k0_chk1 v4), ∀ a, (k0_off3 v4) a + S1x1x1024.size a ≤ S1x2048x1024.size a := fun v4 k0_hw1 => k0_hw1

def k0_off4 (k0_t1 : Fin k0_t1_loop.trips) : Fin 3 → Nat :=
  let c0_3 : Index := 0#32
  let c0_i32 : BitVec 32 := 0#32
  let c1_i32 : BitVec 32 := 1#32
  let arg5 : BitVec 32 := Scf.iv c0_i32 c1_i32 k0_t1
  let v13 : Index := Scalar.indexCast arg5
  let c0_4 : Index := 0#32
  ![0, v13.toNat, 0]
def k0_off5 (v9 : BitVec 32) : Fin 3 → Nat :=
  let c0_5 : Index := 0#32
  let v17 : Index := Scalar.indexCast v9
  let c0_6 : Index := 0#32
  ![0, v17.toNat, 0]

def k0_chk2 (v9 : BitVec 32) : Prop :=
  (∀ a, (k0_off5 v9) a + S1x1x1024.size a ≤ S1x2048x1024.size a)
theorem k0_off5_inb : ∀ (v9 : BitVec 32) (k0_hw2 : k0_chk2 v9), ∀ a, (k0_off5 v9) a + S1x1x1024.size a ≤ S1x2048x1024.size a := fun v9 k0_hw2 => k0_hw2

def k0_off6 (k0_t1 : Fin k0_t1_loop.trips) : Fin 3 → Nat :=
  let c0_7 : Index := 0#32
  let c0_i32 : BitVec 32 := 0#32
  let c1_i32 : BitVec 32 := 1#32
  let arg5 : BitVec 32 := Scf.iv c0_i32 c1_i32 k0_t1
  let v20 : Index := Scalar.indexCast arg5
  let c0_8 : Index := 0#32
  ![0, v20.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x102x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x102x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ScoresReferenceIdeal.lean ====
abbrev S8192 : Shape := ⟨1, ![8192]⟩
abbrev S4x2048x1024 : Shape := ⟨3, ![4, 2048, 1024]⟩
abbrev S4x2048 : Shape := ⟨2, ![4, 2048]⟩
abbrev S4x102 : Shape := ⟨2, ![4, 102]⟩
abbrev S_ : Shape := ⟨0, ![]⟩
abbrev S4x2048x1 : Shape := ⟨3, ![4, 2048, 1]⟩
abbrev S4x102x1 : Shape := ⟨3, ![4, 102, 1]⟩
abbrev S1 : Shape := ⟨1, ![1]⟩
abbrev S1x1x1 : Shape := ⟨3, ![1, 1, 1]⟩
abbrev S4x102x1024 : Shape := ⟨3, ![4, 102, 1024]⟩
abbrev S4x102x102 : Shape := ⟨3, ![4, 102, 102]⟩

abbrev nBuf : Space → Nat
  | .hbm => 64
  | .vmem => 0
  | .smem => 0
  | _ => 0

abbrev bufTy : (tb : Table) → Fin (tcTables nBuf tb) → BufTy
  | .hbm, ⟨0, _⟩ => ⟨S8192, .i32⟩
  | .hbm, ⟨1, _⟩ => ⟨S4x2048x1024, .f32⟩
  | .hbm, ⟨2, _⟩ => ⟨S4x2048, .i32⟩
  | .hbm, ⟨3, _⟩ => ⟨S4x102, .i32⟩
  | .hbm, ⟨4, _⟩ => ⟨S4x2048, .i32⟩
  | .hbm, ⟨5, _⟩ => ⟨S4x102, .i32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S4x102x1, .i32⟩
  | .hbm, ⟨18, _⟩ => ⟨S_, .i32⟩
  | .hbm, ⟨19, _⟩ => ⟨S4x102x1, .i32⟩
  | .hbm, ⟨20, _⟩ => ⟨S4x102x1, .i1⟩
  | .hbm, ⟨21, _⟩ => ⟨S_, .i32⟩
  | .hbm, ⟨22, _⟩ => ⟨S4x102x1, .i32⟩
  | .hbm, ⟨23, _⟩ => ⟨S4x102x1, .i32⟩
  | .hbm, ⟨24, _⟩ => ⟨S4x102x1, .i32⟩
  | .hbm, ⟨25, _⟩ => ⟨S1, .i32⟩
  | .hbm, ⟨26, _⟩ => ⟨S_, .i32⟩
  | .hbm, ⟨27, _⟩ => ⟨S4x102x1, .i32⟩
  | .hbm, ⟨28, _⟩ => ⟨S4x102x1, .i1⟩
  | .hbm, ⟨29, _⟩ => ⟨S1x1x1, .i32⟩
  | .hbm, ⟨30, _⟩ => ⟨S4x102x1, .i32⟩
  | .hbm, ⟨31, _⟩ => ⟨S4x102x1, .i1⟩
  | .hbm, ⟨32, _⟩ => ⟨S4x102x1, .i1⟩
  | .hbm, ⟨33, _⟩ => ⟨S_, .i1⟩
  | .hbm, ⟨34, _⟩ => ⟨S4x102, .i1⟩
  | .hbm, ⟨35, _⟩ => ⟨S4x102x1024, .f32⟩
  | .hbm, ⟨36, _⟩ => ⟨S4x102x1024, .i1⟩
  | .hbm, ⟨37, _⟩ => ⟨S_, .f32⟩
  | .hbm, ⟨38, _⟩ => ⟨S4x102x1024, .f32⟩
  | .hbm, ⟨39, _⟩ => ⟨S4x102x1024, .f32⟩
  | .hbm, ⟨40, _⟩ => ⟨S4x102x1, .i32⟩
  | .hbm, ⟨41, _⟩ => ⟨S_, .i32⟩
  | .hbm, ⟨42, _⟩ => ⟨S4x102x1, .i32⟩
  | .hbm, ⟨43, _⟩ => ⟨S4x102x1, .i1⟩
  | .hbm, ⟨44, _⟩ => ⟨S_, .i32⟩
  | .hbm, ⟨45, _⟩ => ⟨S4x102x1, .i32⟩
  | .hbm, ⟨46, _⟩ => ⟨S4x102x1, .i32⟩
  | .hbm, ⟨47, _⟩ => ⟨S4x102x1, .i32⟩
  | .hbm, ⟨48, _⟩ => ⟨S1, .i32⟩
  | .hbm, ⟨49, _⟩ => ⟨S_, .i32⟩
  | .hbm, ⟨50, _⟩ => ⟨S4x102x1, .i32⟩
  | .hbm, ⟨51, _⟩ => ⟨S4x102x1, .i1⟩
  | .hbm, ⟨52, _⟩ => ⟨S1x1x1, .i32⟩
  | .hbm, ⟨53, _⟩ => ⟨S4x102x1, .i32⟩
  | .hbm, ⟨54, _⟩ => ⟨S4x102x1, .i1⟩
  | .hbm, ⟨55, _⟩ => ⟨S4x102x1, .i1⟩
  | .hbm, ⟨56, _⟩ => ⟨S_, .i1⟩
  | .hbm, ⟨57, _⟩ => ⟨S4x102, .i1⟩
  | .hbm, ⟨58, _⟩ => ⟨S4x102x1024, .f32⟩
  | .hbm, ⟨59, _⟩ => ⟨S4x102x1024, .i1⟩
  | .hbm, ⟨60, _⟩ => ⟨S_, .f32⟩
  | .hbm, ⟨61, _⟩ => ⟨S4x102x1024, .f32⟩
  | .hbm, ⟨62, _⟩ => ⟨S4x102x1024, .f32⟩
  | .hbm, ⟨63, _⟩ => ⟨S4x102x102, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v4 : Ref sig .tc := ⟨.hbm, 10, rfl⟩
abbrev main_cst : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call2_c : Ref sig .tc := ⟨.hbm, 18, rfl⟩
abbrev main_call2_v0 : Ref sig .tc := ⟨.hbm, 19, rfl⟩
abbrev main_call2_v1 : Ref sig .tc := ⟨.hbm, 20, rfl⟩
abbrev main_call2_c_0 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_c_1 : Ref sig .tc := ⟨.hbm, 25, rfl⟩
abbrev main_call2_c_2 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_c_3 : Ref sig .tc := ⟨.hbm, 33, rfl⟩
abbrev main_call2_v11 : Ref sig .tc := ⟨.hbm, 34, rfl⟩
abbrev main_call2_v12 : Ref sig .tc := ⟨.hbm, 35, rfl⟩
abbrev main_call2_v13 : Ref sig .tc := ⟨.hbm, 36, rfl⟩
abbrev main_call2_cst : Ref sig .tc := ⟨.hbm, 37, rfl⟩
abbrev main_call2_v14 : Ref sig .tc := ⟨.hbm, 38, rfl⟩
abbrev main_v9 : Ref sig .tc := ⟨.hbm, 39, rfl⟩
abbrev main_v10 : Ref sig .tc := ⟨.hbm, 40, rfl⟩
abbrev main_call3_c : Ref sig .tc := ⟨.hbm, 41, rfl⟩
abbrev main_call3_v0 : Ref sig .tc := ⟨.hbm, 42, rfl⟩
abbrev main_call3_v1 : Ref sig .tc := ⟨.hbm, 43, rfl⟩
abbrev main_call3_c_0 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_call3_c_1 : Ref sig .tc := ⟨.hbm, 48, rfl⟩
abbrev main_call3_c_2 : Ref sig .tc := ⟨.hbm, 49, rfl⟩
abbrev main_call3_v5 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_v9 : Ref sig .tc := ⟨.hbm, 54, rfl⟩
abbrev main_call3_v10 : Ref sig .tc := ⟨.hbm, 55, rfl⟩
abbrev main_call3_c_3 : Ref sig .tc := ⟨.hbm, 56, rfl⟩
abbrev main_call3_v11 : Ref sig .tc := ⟨.hbm, 57, rfl⟩
abbrev main_call3_v12 : Ref sig .tc := ⟨.hbm, 58, rfl⟩
abbrev main_call3_v13 : Ref sig .tc := ⟨.hbm, 59, rfl⟩
abbrev main_call3_cst : Ref sig .tc := ⟨.hbm, 60, rfl⟩
abbrev main_call3_v14 : Ref sig .tc := ⟨.hbm, 61, rfl⟩
abbrev main_v11 : Ref sig .tc := ⟨.hbm, 62, rfl⟩
abbrev main_v12 : Ref sig .tc := ⟨.hbm, 63, rfl⟩

abbrev nD : Nat := 1
abbrev τ : Topo := Topo.v7x

variable {F : FTy → Type} [FloatOps F]
-- ==== Merge.lean ====
abbrev S8192 : Shape := ⟨1, ![8192]⟩
abbrev S408 : Shape := ⟨1, ![408]⟩
abbrev S4x2048x1024 : Shape := ⟨3, ![4, 2048, 1024]⟩
abbrev S4x102x1 : Shape := ⟨3, ![4, 102, 1]⟩
abbrev S4x1946x1024 : Shape := ⟨3, ![4, 1946, 1024]⟩
abbrev S1x2048x1024 : Shape := ⟨3, ![1, 2048, 1024]⟩
abbrev S1x102x1 : Shape := ⟨3, ![1, 102, 1]⟩
abbrev S1x1946x1024 : Shape := ⟨3, ![1, 1946, 1024]⟩
abbrev S1 : Shape := ⟨1, ![1]⟩
abbrev S1x1x1024 : Shape := ⟨3, ![1, 1, 1024]⟩
abbrev S1x1024 : Shape := ⟨2, ![1, 1024]⟩
abbrev S1x1x1 : Shape := ⟨3, ![1, 1, 1]⟩
abbrev S1x1 : Shape := ⟨2, ![1, 1]⟩

abbrev nBuf : Space → Nat
  | .hbm => 3
  | .vmem => 6
  | .smem => 3
  | _ => 0

abbrev bufTy : (tb : Table) → Fin (tcTables nBuf tb) → BufTy
  | .hbm, ⟨0, _⟩ => ⟨S4x2048x1024, .f32⟩
  | .hbm, ⟨1, _⟩ => ⟨S4x102x1, .f32⟩
  | .hbm, ⟨2, _⟩ => ⟨S4x1946x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x102x1, .f32⟩
  | .local _ .vmem, ⟨3, _⟩ => ⟨S1x102x1, .f32⟩
  | .local _ .vmem, ⟨4, _⟩ => ⟨S1x1946x1024, .f32⟩
  | .local _ .vmem, ⟨5, _⟩ => ⟨S1x1946x1024, .f32⟩
  | .local _ .smem, ⟨0, _⟩ => ⟨S8192, .i32⟩
  | .local _ .smem, ⟨1, _⟩ => ⟨S8192, .i32⟩
  | .local _ .smem, ⟨2, _⟩ => ⟨S408, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

@[reducible] def k0_t1_loop : Scf.Loop 32 :=
  let c0_i32 : BitVec 32 := 0#32
  let c1844_i32 : BitVec 32 := 1844#32
  let v0 : BitVec 32 := Scalar.addi c0_i32 c1844_i32
  let c1_i32 : BitVec 32 := 1#32
  ⟨c0_i32, v0, c1_i32⟩
def k0_off1 (i : grid0.Coords) (k0_t1 : Fin k0_t1_loop.trips) : Fin 1 → Nat :=
  let arg0 : BitVec 32 := BitVec.ofNat 32 (i 0).val
  let c2048_i32 : BitVec 32 := 2048#32
  let v4 : BitVec 32 := Scalar.muli arg0 c2048_i32
  let c0_i32 : BitVec 32 := 0#32
  let c1_i32 : BitVec 32 := 1#32
  let arg7 : BitVec 32 := Scf.iv c0_i32 c1_i32 k0_t1
  let v5 : BitVec 32 := Scalar.addi v4 arg7
  let v6 : Index := Scalar.indexCast v5
  ![v6.toNat]
def k0_off2 (v7 : BitVec 32) : Fin 3 → Nat :=
  let c0 : Index := 0#32
  let v8 : Index := Scalar.indexCast v7
  let c0_12 : Index := 0#32
  ![0, v8.toNat, 0]

def k0_chk1 (v7 : BitVec 32) : Prop :=
  (∀ a, (k0_off2 v7) a + S1x1x1024.size a ≤ S1x2048x1024.size a)
theorem k0_off2_inb : ∀ (v7 : BitVec 32) (k0_hw1 : k0_chk1 v7), ∀ a, (k0_off2 v7) a + S1x1x1024.size a ≤ S1x2048x1024.size a := fun v7 k0_hw1 => k0_hw1

def k0_off3 (k0_t1 : Fin k0_t1_loop.trips) : Fin 3 → Nat :=
  let c0_13 : Index := 0#32
  let c0_i32 : BitVec 32 := 0#32
  let c1_i32 : BitVec 32 := 1#32
  let arg7 : BitVec 32 := Scf.iv c0_i32 c1_i32 k0_t1
  let v11 : Index := Scalar.indexCast arg7
  let c0_14 : Index := 0#32
  ![0, v11.toNat, 0]
@[reducible] def k0_t2_loop : Scf.Loop 32 :=
  let c0_i32_1 : BitVec 32 := 0#32
  let c102_i32 : BitVec 32 := 102#32
  let v1 : BitVec 32 := Scalar.addi c0_i32_1 c102_i32
  let c1_i32_2 : BitVec 32 := 1#32
  ⟨c0_i32_1, v1, c1_i32_2⟩
def k0_off4 (i : grid0.Coords) (k0_t2 : Fin k0_t2_loop.trips) : Fin 1 → Nat :=
  let arg0 : BitVec 32 := BitVec.ofNat 32 (i 0).val
  let c2048_i32 : BitVec 32 := 2048#32
  let v4 : BitVec 32 := Scalar.muli arg0 c2048_i32
  let c1024_i32 : BitVec 32 := 1024#32
  let v5 : BitVec 32 := Scalar.addi v4 c1024_i32
  let c0_i32_1 : BitVec 32 := 0#32
  let c1_i32_2 : BitVec 32 := 1#32
  let arg7 : BitVec 32 := Scf.iv c0_i32_1 c1_i32_2 k0_t2
  let v6 : BitVec 32 := Scalar.addi v5 arg7
  let v7 : Index := Scalar.indexCast v6
  ![v7.toNat]
def k0_off5 (v8 : BitVec 32) : Fin 3 → Nat :=
  let c0 : Index := 0#32
  let v9 : Index := Scalar.indexCast v8
  let c0_12 : Index := 0#32
  ![0, v9.toNat, 0]

def k0_chk2 (v8 : BitVec 32) : Prop :=
  (∀ a, (k0_off5 v8) a + S1x1x1024.size a ≤ S1x2048x1024.size a)
theorem k0_off5_inb : ∀ (v8 : BitVec 32) (k0_hw2 : k0_chk2 v8), ∀ a, (k0_off5 v8) a + S1x1x1024.size a ≤ S1x2048x1024.size a := fun v8 k0_hw2 => k0_hw2

def k0_off6 (k0_t2 : Fin k0_t2_loop.trips) : Fin 3 → Nat :=
  let c0_14 : Index := 0#32
  let c1844_i32_13 : BitVec 32 := 1844#32
  let c0_i32_1 : BitVec 32 := 0#32
  let c1_i32_2 : BitVec 32 := 1#32
  let arg7 : BitVec 32 := Scf.iv c0_i32_1 c1_i32_2 k0_t2
  let v12 : BitVec 32 := Scalar.addi c1844_i32_13 arg7
  let v13 : Index := Scalar.indexCast v12
  let c0_15 : Index := 0#32
  ![0, v13.toNat, 0]
@[reducible] def k0_t3_loop : Scf.Loop 32 :=
  let c0_i32_4 : BitVec 32 := 0#32
  let c102_i32_5 : BitVec 32 := 102#32
  let v2 : BitVec 32 := Scalar.addi c0_i32_4 c102_i32_5
  let c1_i32_6 : BitVec 32 := 1#32
  ⟨c0_i32_4, v2, c1_i32_6⟩
def k0_off7 (i : grid0.Coords) (k0_t3 : Fin k0_t3_loop.trips) : Fin 1 → Nat :=
  let arg0 : BitVec 32 := BitVec.ofNat 32 (i 0).val
  let c102_i32_12 : BitVec 32 := 102#32
  let v4 : BitVec 32 := Scalar.muli arg0 c102_i32_12
  let c0_i32_4 : BitVec 32 := 0#32
  let c1_i32_6 : BitVec 32 := 1#32
  let arg7 : BitVec 32 := Scf.iv c0_i32_4 c1_i32_6 k0_t3
  let v5 : BitVec 32 := Scalar.addi v4 arg7
  let v6 : Index := Scalar.indexCast v5
  ![v6.toNat]
def k0_off8 (i : grid0.Coords) (k0_t3 : Fin k0_t3_loop.trips) : Fin 1 → Nat :=
  let arg0 : BitVec 32 := BitVec.ofNat 32 (i 0).val
  let c2048_i32 : BitVec 32 := 2048#32
  let v8 : BitVec 32 := Scalar.muli arg0 c2048_i32
  let c0_i32_4 : BitVec 32 := 0#32
  let c1_i32_6 : BitVec 32 := 1#32
  let arg7 : BitVec 32 := Scf.iv c0_i32_4 c1_i32_6 k0_t3
  let v9 : BitVec 32 := Scalar.addi v8 arg7
  let v10 : Index := Scalar.indexCast v9
  ![v10.toNat]
def k0_off9 (v7 : BitVec 32) : Fin 3 → Nat :=
  let c0 : Index := 0#32
  let c1844_i32_13 : BitVec 32 := 1844#32
  let v12 : BitVec 32 := Scalar.addi c1844_i32_13 v7
  let v13 : Index := Scalar.indexCast v12
  let c0_14 : Index := 0#32
  ![0, v13.toNat, 0]

def k0_off10 (v11 : BitVec 32) : Fin 3 → Nat :=
  let c0_15 : Index := 0#32
  let v16 : Index := Scalar.indexCast v11
  let c0_16 : Index := 0#32
  ![0, v16.toNat, 0]

def k0_chk4 (v11 : BitVec 32) : Prop :=
  (∀ a, (k0_off10 v11) a + S1x1x1024.size a ≤ S1x2048x1024.size a)
theorem k0_off10_inb : ∀ (v11 : BitVec 32) (k0_hw4 : k0_chk4 v11), ∀ a, (k0_off10 v11) a + S1x1x1024.size a ≤ S1x2048x1024.size a := fun v11 k0_hw4 => k0_hw4

def k0_off11 (v7 : BitVec 32) : Fin 3 → Nat :=
  let c0_17 : Index := 0#32
  let c1844_i32_13 : BitVec 32 := 1844#32
  let v12 : BitVec 32 := Scalar.addi c1844_i32_13 v7
  let v20 : Index := Scalar.indexCast v12
  let c0_18 : Index := 0#32
  ![0, v20.toNat, 0]

def k0_chk3 (v7 : BitVec 32) : Prop :=
  (∀ a, (k0_off9 v7) a + S1x1x1024.size a ≤ S1x1946x1024.size a) ∧
  (∀ a, (k0_off11 v7) a + S1x1x1024.size a ≤ S1x1946x1024.size a)
theorem k0_off9_inb : ∀ (v7 : BitVec 32) (k0_hw3 : k0_chk3 v7), ∀ a, (k0_off9 v7) a + S1x1x1024.size a ≤ S1x1946x1024.size a := fun v7 k0_hw3 => k0_hw3.1
theorem k0_off11_inb : ∀ (v7 : BitVec 32) (k0_hw3 : k0_chk3 v7), ∀ a, (k0_off11 v7) a + S1x1x1024.size a ≤ S1x1946x1024.size a := fun v7 k0_hw3 => k0_hw3.2

@[reducible] def k0_t4_loop : Scf.Loop 32 :=
  let c0_i32_8 : BitVec 32 := 0#32
  let c102_i32_9 : BitVec 32 := 102#32
  let v3 : BitVec 32 := Scalar.addi c0_i32_8 c102_i32_9
  let c1_i32_10 : BitVec 32 := 1#32
  ⟨c0_i32_8, v3, c1_i32_10⟩
def k0_off12 (k0_t4 : Fin k0_t4_loop.trips) : Fin 3 → Nat :=
  let c0 : Index := 0#32
  let c0_i32_8 : BitVec 32 := 0#32
  let c1_i32_10 : BitVec 32 := 1#32
  let arg7 : BitVec 32 := Scf.iv c0_i32_8 c1_i32_10 k0_t4
  let v4 : Index := Scalar.indexCast arg7
  let c0_12 : Index := 0#32
  ![0, v4.toNat, 0]
def k0_off13 (k0_t4 : Fin k0_t4_loop.trips) : Fin 3 → Nat :=
  let c0_14 : Index := 0#32
  let c1844_i32_13 : BitVec 32 := 1844#32
  let c0_i32_8 : BitVec 32 := 0#32
  let c1_i32_10 : BitVec 32 := 1#32
  let arg7 : BitVec 32 := Scf.iv c0_i32_8 c1_i32_10 k0_t4
  let v7 : BitVec 32 := Scalar.addi c1844_i32_13 arg7
  let v8 : Index := Scalar.indexCast v7
  let c0_15 : Index := 0#32
  ![0, v8.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x102x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1946x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MergeReferenceIdeal.lean ====
abbrev S8192 : Shape := ⟨1, ![8192]⟩
abbrev S408 : Shape := ⟨1, ![408]⟩
abbrev S4x2048x1024 : Shape := ⟨3, ![4, 2048, 1024]⟩
abbrev S4x102x1 : Shape := ⟨3, ![4, 102, 1]⟩
abbrev S4x2048 : Shape := ⟨2, ![4, 2048]⟩
abbrev S4x1844 : Shape := ⟨2, ![4, 1844]⟩
abbrev S4x102 : Shape := ⟨2, ![4, 102]⟩
abbrev S4 : Shape := ⟨1, ![4]⟩
abbrev S4x1 : Shape := ⟨2, ![4, 1]⟩
abbrev S4x1844x1 : Shape := ⟨3, ![4, 1844, 1]⟩
abbrev S_ : Shape := ⟨0, ![]⟩
abbrev S1 : Shape := ⟨1, ![1]⟩
abbrev S1x1x1 : Shape := ⟨3, ![1, 1, 1]⟩
abbrev S4x1844x1024 : Shape := ⟨3, ![4, 1844, 1024]⟩
abbrev S4x102x1024 : Shape := ⟨3, ![4, 102, 1024]⟩
abbrev S4x102x2 : Shape := ⟨3, ![4, 102, 2]⟩
abbrev S4x1946x1024 : Shape := ⟨3, ![4, 1946, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S408, .i32⟩
  | .hbm, ⟨3, _⟩ => ⟨S4x2048x1024, .f32⟩
  | .hbm, ⟨4, _⟩ => ⟨S4x102x1, .f32⟩
  | .hbm, ⟨5, _⟩ => ⟨S4x2048, .i32⟩
  | .hbm, ⟨6, _⟩ => ⟨S4x1844, .i32⟩
  | .hbm, ⟨7, _⟩ => ⟨S4x2048, .i32⟩
  | .hbm, ⟨8, _⟩ => ⟨S4x102, .i32⟩
  | .hbm, ⟨9, _⟩ => ⟨S4x2048, .i32⟩
  | .hbm, ⟨10, _⟩ => ⟨S4x102, .i32⟩
  | .hbm, ⟨11, _⟩ => ⟨S4x102, .i32⟩
  | .hbm, ⟨12, _⟩ => ⟨S4, .i32⟩
  | .hbm, ⟨13, _⟩ => ⟨S4x1, .i32⟩
  | .hbm, ⟨14, _⟩ => ⟨S4x1844x1, .i32⟩
  | .hbm, ⟨15, _⟩ => ⟨S_, .i32⟩
  | .hbm, ⟨16, _⟩ => ⟨S4x1844x1, .i32⟩
  | .hbm, ⟨17, _⟩ => ⟨S4x1844x1, .i1⟩
  | .hbm, ⟨18, _⟩ => ⟨S_, .i32⟩
  | .hbm, ⟨19, _⟩ => ⟨S4x1844x1, .i32⟩
  | .hbm, ⟨20, _⟩ => ⟨S4x1844x1, .i32⟩
  | .hbm, ⟨21, _⟩ => ⟨S4x1844x1, .i32⟩
  | .hbm, ⟨22, _⟩ => ⟨S1, .i32⟩
  | .hbm, ⟨23, _⟩ => ⟨S_, .i32⟩
  | .hbm, ⟨24, _⟩ => ⟨S4x1844x1, .i32⟩
  | .hbm, ⟨25, _⟩ => ⟨S4x1844x1, .i1⟩
  | .hbm, ⟨26, _⟩ => ⟨S1x1x1, .i32⟩
  | .hbm, ⟨27, _⟩ => ⟨S4x1844x1, .i32⟩
  | .hbm, ⟨28, _⟩ => ⟨S4x1844x1, .i1⟩
  | .hbm, ⟨29, _⟩ => ⟨S4x1844x1, .i1⟩
  | .hbm, ⟨30, _⟩ => ⟨S_, .i1⟩
  | .hbm, ⟨31, _⟩ => ⟨S4x1844, .i1⟩
  | .hbm, ⟨32, _⟩ => ⟨S4x1844x1024, .f32⟩
  | .hbm, ⟨33, _⟩ => ⟨S4x1844x1024, .i1⟩
  | .hbm, ⟨34, _⟩ => ⟨S_, .f32⟩
  | .hbm, ⟨35, _⟩ => ⟨S4x1844x1024, .f32⟩
  | .hbm, ⟨36, _⟩ => ⟨S4x1844x1024, .f32⟩
  | .hbm, ⟨37, _⟩ => ⟨S4x102x1, .i32⟩
  | .hbm, ⟨38, _⟩ => ⟨S_, .i32⟩
  | .hbm, ⟨39, _⟩ => ⟨S4x102x1, .i32⟩
  | .hbm, ⟨40, _⟩ => ⟨S4x102x1, .i1⟩
  | .hbm, ⟨41, _⟩ => ⟨S_, .i32⟩
  | .hbm, ⟨42, _⟩ => ⟨S4x102x1, .i32⟩
  | .hbm, ⟨43, _⟩ => ⟨S4x102x1, .i32⟩
  | .hbm, ⟨44, _⟩ => ⟨S4x102x1, .i32⟩
  | .hbm, ⟨45, _⟩ => ⟨S1, .i32⟩
  | .hbm, ⟨46, _⟩ => ⟨S_, .i32⟩
  | .hbm, ⟨47, _⟩ => ⟨S4x102x1, .i32⟩
  | .hbm, ⟨48, _⟩ => ⟨S4x102x1, .i1⟩
  | .hbm, ⟨49, _⟩ => ⟨S1x1x1, .i32⟩
  | .hbm, ⟨50, _⟩ => ⟨S4x102x1, .i32⟩
  | .hbm, ⟨51, _⟩ => ⟨S4x102x1, .i1⟩
  | .hbm, ⟨52, _⟩ => ⟨S4x102x1, .i1⟩
  | .hbm, ⟨53, _⟩ => ⟨S_, .i1⟩
  | .hbm, ⟨54, _⟩ => ⟨S4x102, .i1⟩
  | .hbm, ⟨55, _⟩ => ⟨S4x102x1024, .f32⟩
  | .hbm, ⟨56, _⟩ => ⟨S4x102x1024, .i1⟩
  | .hbm, ⟨57, _⟩ => ⟨S_, .f32⟩
  | .hbm, ⟨58, _⟩ => ⟨S4x102x1024, .f32⟩
  | .hbm, ⟨59, _⟩ => ⟨S4x102x1024, .f32⟩
  | .hbm, ⟨60, _⟩ => ⟨S4x102x1, .i32⟩
  | .hbm, ⟨61, _⟩ => ⟨S_, .i32⟩
  | .hbm, ⟨62, _⟩ => ⟨S4x102x1, .i32⟩
  | .hbm, ⟨63, _⟩ => ⟨S4x102x1, .i1⟩
  | .hbm, ⟨64, _⟩ => ⟨S_, .i32⟩
  | .hbm, ⟨65, _⟩ => ⟨S4x102x1, .i32⟩
  | .hbm, ⟨66, _⟩ => ⟨S4x102x1, .i32⟩
  | .hbm, ⟨67, _⟩ => ⟨S4x102x1, .i32⟩
  | .hbm, ⟨68, _⟩ => ⟨S1, .i32⟩
  | .hbm, ⟨69, _⟩ => ⟨S_, .i32⟩
  | .hbm, ⟨70, _⟩ => ⟨S4x102x1, .i32⟩
  | .hbm, ⟨71, _⟩ => ⟨S4x102x1, .i1⟩
  | .hbm, ⟨72, _⟩ => ⟨S1x1x1, .i32⟩
  | .hbm, ⟨73, _⟩ => ⟨S4x102x1, .i32⟩
  | .hbm, ⟨74, _⟩ => ⟨S4x102x1, .i1⟩
  | .hbm, ⟨75, _⟩ => ⟨S4x102x1, .i1⟩
  | .hbm, ⟨76, _⟩ => ⟨S_, .i1⟩
  | .hbm, ⟨77, _⟩ => ⟨S4x102, .i1⟩
  | .hbm, ⟨78, _⟩ => ⟨S4x102x1024, .f32⟩
  | .hbm, ⟨79, _⟩ => ⟨S4x102x1024, .i1⟩
  | .hbm, ⟨80, _⟩ => ⟨S_, .f32⟩
  | .hbm, ⟨81, _⟩ => ⟨S4x102x1024, .f32⟩
  | .hbm, ⟨82, _⟩ => ⟨S4x102x1024, .f32⟩
  | .hbm, ⟨83, _⟩ => ⟨S_, .i32⟩
  | .hbm, ⟨84, _⟩ => ⟨S4x1, .i32⟩
  | .hbm, ⟨85, _⟩ => ⟨S4x1, .i1⟩
  | .hbm, ⟨86, _⟩ => ⟨S_, .i32⟩
  | .hbm, ⟨87, _⟩ => ⟨S4x1, .i32⟩
  | .hbm, ⟨88, _⟩ => ⟨S4x1, .i32⟩
  | .hbm, ⟨89, _⟩ => ⟨S4x1, .i32⟩
  | .hbm, ⟨90, _⟩ => ⟨S_, .i32⟩
  | .hbm, ⟨91, _⟩ => ⟨S4x102, .i32⟩
  | .hbm, ⟨92, _⟩ => ⟨S4x102, .i1⟩
  | .hbm, ⟨93, _⟩ => ⟨S_, .i32⟩
  | .hbm, ⟨94, _⟩ => ⟨S4x102, .i32⟩
  | .hbm, ⟨95, _⟩ => ⟨S4x102, .i32⟩
  | .hbm, ⟨96, _⟩ => ⟨S4x102, .i32⟩
  | .hbm, ⟨97, _⟩ => ⟨S4x102, .i32⟩
  | .hbm, ⟨98, _⟩ => ⟨S4x102x1, .i32⟩
  | .hbm, ⟨99, _⟩ => ⟨S4x102x1, .i32⟩
  | .hbm, ⟨100, _⟩ => ⟨S4x102x2, .i32⟩
  | .hbm, ⟨101, _⟩ => ⟨S4x102x1024, .f32⟩
  | .hbm, ⟨102, _⟩ => ⟨S4x102x1024, .f32⟩
  | .hbm, ⟨103, _⟩ => ⟨S4x102x1024, .f32⟩
  | .hbm, ⟨104, _⟩ => ⟨S4x1946x1024, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_c_2 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v10 : Ref sig .tc := ⟨.hbm, 36, rfl⟩
abbrev main_v11 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_c_2 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_c_3 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v12 : Ref sig .tc := ⟨.hbm, 59, rfl⟩
abbrev main_v13 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_c_2 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_c_3 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_cst : Ref sig .tc := ⟨.hbm, 80, rfl⟩
abbrev main_call2_v14 : Ref sig .tc := ⟨.hbm, 81, rfl⟩
abbrev main_v14 : Ref sig .tc := ⟨.hbm, 82, rfl⟩
abbrev main_c : Ref sig .tc := ⟨.hbm, 83, rfl⟩
abbrev main_v15 : Ref sig .tc := ⟨.hbm, 84, rfl⟩
abbrev main_v16 : Ref sig .tc := ⟨.hbm, 85, rfl⟩
abbrev main_c_0 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_c_1 : Ref sig .tc := ⟨.hbm, 90, rfl⟩
abbrev main_v20 : Ref sig .tc := ⟨.hbm, 91, rfl⟩
abbrev main_v21 : Ref sig .tc := ⟨.hbm, 92, rfl⟩
abbrev main_c_2 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩

abbrev nD : Nat := 1
abbrev τ : Topo := Topo.v7x

variable {F : FTy → Type} [FloatOps F]
-- ==== Proof.ColsumHost.lean ====
/- What the host code hands the column-sum kernel: the normalised rows, their negated standard deviations, and the
   diagonal of the scores. -/
module

public import proofs.«01_k».proof.Proof.Gen.KernelIdeal.Frame
public import Idealize.ShloMosaic.Lib.Claim

@[expose] public section

set_option maxRecDepth 16384

noncomputable section

namespace Cert.KernelIdeal.Colsum

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The length of each row. -/
def len (x : FVec F S4x2048x1024 .f32) : FVec F S4x2048x1 .f32 :=
  Host.sqrt (broadcastInDim S4x2048x1 ![0, 1] bcast_S4x2048_S4x2048x1_0_1
    (Host.reduceAdd (mulf x x) (constant S_ .f32 0x00000000#32) reducesTo_S4x2048x1024_S4x2048_d2 h_S_))

/-- Each row divided by its length, clipped from below. -/
def unit (x : FVec F S4x2048x1024 .f32) : FVec F S4x2048x1024 .f32 :=
  Host.divf x (broadcastInDim S4x2048x1024 ![0, 1, 2] bcast_S4x2048x1_S4x2048x1024_0_1_2
    (maximumf (broadcastInDim S4x2048x1 ![] bcast_S_S4x2048x1 (id (constant S_ .f32 0x2B8CBCCC#32))) (len x)))

/-- A row less its mean. -/
def centred (u : FVec F S4x2048x1024 .f32) : FVec F S4x2048x1024 .f32 :=
  subf u (broadcastInDim S4x2048x1024 ![0, 1, 2] bcast_S4x2048x1_S4x2048x1024_0_1_2
    (Host.divf
      (broadcastInDim S4x2048x1 ![0, 1] bcast_S4x2048_S4x2048x1_0_1
        (Host.reduceAdd u (constant S_ .f32 0x00000000#32) reducesTo_S4x2048x1024_S4x2048_d2 h_S_))
      (broadcastInDim S4x2048x1 ![] bcast_S_S4x2048x1 (constant S_ .f32 0x44800000#32))))

/-- The degrees of freedom of a row's variance. -/
def dof : FVec F S_ .f32 :=
  subf (constant S_ .f32 0x44800000#32) (sitofp .f32 (constantI S_ 32 1#32))

/-- Minus the standard deviation of each row. -/
def nstd (u : FVec F S4x2048x1024 .f32) : FVec F S4x2048x1 .f32 :=
  mulf (broadcastInDim S4x2048x1 ![] bcast_S_S4x2048x1 (constant S_ .f32 0xBF800000#32))
    (Host.sqrt (select
      (broadcastInDim S4x2048x1 ![] bcast_S_S4x2048x1 (cmpf .ogt (dof (F := F)) (constant S_ .f32 0x00000000#32)))
      (Host.divf
        (broadcastInDim S4x2048x1 ![0, 1] bcast_S4x2048_S4x2048x1_0_1
          (Host.reduceAdd (mulf (centred u) (centred u)) (constant S_ .f32 0x00000000#32) reducesTo_S4x2048x1024_S4x2048_d2 h_S_))
        (broadcastInDim S4x2048x1 ![] bcast_S_S4x2048x1 dof))
      (broadcastInDim S4x2048x1 ![] bcast_S_S4x2048x1 (id (constant S_ .f32 0x7FC00000#32)))))

/-- The diagonal of the scores, picked out by a mask and a sum. -/
def diag (u : FVec F S4x2048x1024 .f32) : FVec F S4x2048x1 .f32 :=
  broadcastInDim S4x2048x1 ![0, 1] bcast_S4x2048_S4x2048x1_0_1
    (Host.reduceAdd
      (select (cmpi .eq (iotaInDim S4x2048x2048 32 1) (iotaInDim S4x2048x2048 32 2))
        (Host.dotGeneral dot_S4x2048x1024_S4x2048x1024_S4x2048x2048_2_2_1_1_0_0 none u u)
        (broadcastInDim S4x2048x2048 ![] bcast_S_S4x2048x2048 (id (constant S_ .f32 0x00000000#32))))
      (constant S_ .f32 0x00000000#32) reducesTo_S4x2048x2048_S4x2048_d1 h_S_)

set_option maxHeartbeats 2000000 in
/-- The kernel's rows are the normalised ones. -/
theorem entry_unit (c : Dev nD) : V m c main_v3 = unit (m ((c : Thread nD τ).loc main_arg0)) := by
  simp only [V, hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> (unfold unit len; rfl)

set_option maxHeartbeats 2000000 in
/-- Its fallback values are minus the rows' standard deviations. -/
theorem entry_nstd (c : Dev nD) : V m c main_v6 = nstd (unit (m ((c : Thread nD τ).loc main_arg0))) := by
  simp only [V, hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> (unfold nstd centred dof unit len; rfl)

set_option maxHeartbeats 2000000 in
/-- Its diagonal values are the scores' diagonal. -/
theorem entry_diag (c : Dev nD) : V m c main_v13 = diag (unit (m ((c : Thread nD τ).loc main_arg0))) := by
  simp only [V, hostOps0, hostOps0_1, hostOps0_2, hostOps0_3, hostOps0_4, hostOps0_5, hostOps0_6, hostOps0_7,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> (unfold diag unit len; rfl)

end Cert.KernelIdeal.Colsum

end
-- ==== Proof.ColsumBlock.lean ====
/- What one grid step of the column-sum kernel adds to its accumulator. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Colsum

open Cert.KernelIdeal Cert.KernelIdeal.Gen Idealize.ShloMosaic Idealize.ShloMosaic.TcCoe Idealize.ShloMosaic.WordCmp Idealize.SL.Sem

/-- The cleared accumulator. -/
theorem clear_at (s : Fin 2048) : k0_pay2 (F := Ideal) (ix3 0 0 s) = 0 := by
  pointwise [k0_pay2]

/-- A sum over 128 rows, the rows taken by eights. -/
theorem sum_rows (g : Fin 128 → EReal) :
    ∑ r : Fin 128, g r = ∑ q : Fin 8, ∑ j : Fin 16, g ⟨j.val * 8 + q.val, by omega⟩ := by
  rw [Finset.sum_comm]
  exact Fin.sum_univ_tiles 16 8 rfl g

/-- Sixteen terms added from the left, one after the other, are their sum. -/
theorem chain (h : Fin 16 → EReal) :
    h 0 + h 1 + h 2 + h 3 + h 4 + h 5 + h 6 + h 7 + h 8 + h 9 + h 10 + h 11 + h 12 + h 13 + h 14 + h 15 = ∑ j, h j := by
  simp only [Fin.sum_univ_castSucc, Fin.sum_univ_zero, zero_add]
  rfl

/-- The terms of one residue class modulo eight, added from the left. -/
def lane (g : Fin 128 → EReal) (q : Fin 8) : EReal :=
  (fun h : Fin 16 → EReal => h 0 + h 1 + h 2 + h 3 + h 4 + h 5 + h 6 + h 7 + h 8 + h 9 + h 10 + h 11 + h 12 + h 13 + h 14 + h 15)
    fun j => g ⟨j.val * 8 + q.val, by omega⟩

/-- The eight residue classes folded in halves, then quarters, then eighths, are the sum of the 128 terms. -/
theorem fold_rows (g : Fin 128 → EReal) :
    lane g 0 + lane g 4 + (lane g 2 + lane g 6) + (lane g 1 + lane g 5 + (lane g 3 + lane g 7)) = ∑ r, g r := by
  have c : ∀ q : Fin 8, lane g q = ∑ j : Fin 16, g ⟨j.val * 8 + q.val, by omega⟩ :=
    fun q => chain fun j => g ⟨j.val * 8 + q.val, by omega⟩
  rw [sum_rows, Fin.sum_univ_eight]
  simp only [← c]
  ac_rfl

/-- The accumulator after a step, at a column: what it held plus the sum of the step's 128 selected rows. -/
theorem step_at (i : grid0.Coords) (v3 : Vec Ideal S1x128x1024 .f32) (v5 : Vec Ideal S1x2048x1024 .f32)
    (v8 v10 : Vec Ideal S1x128x1 .f32) (acc : Vec Ideal S1x1x2048 .f32) (s : Fin 2048) :
    k0_pay1 (F := Ideal) (k0_pay3 i v3 v5 v8 v10) (k0_pay4 i v3 v5 v8 v10) (k0_pay5 i v3 v5 v8 v10) acc (ix3 0 0 s)
      = acc (ix3 0 0 s) + ∑ r : Fin 128, k0_pay3 (F := Ideal) i v3 v5 v8 v10 (ix2 r s) := by
  pointwise [k0_pay1, k0_pay4, k0_pay5]
  generalize k0_pay3 (F := Ideal) i v3 v5 v8 v10 = T
  exact congrArg (acc (ix3 0 0 s) + ·) (fold_rows fun r => T (ix2 r s))

/-- A selected row, at a column: on the diagonal the given diagonal value less a half; elsewhere the score less a half
    where it is more than a half, and the row's fallback value where it is not. -/
theorem row_at (i : grid0.Coords) (v3 : Vec Ideal S1x128x1024 .f32) (v5 : Vec Ideal S1x2048x1024 .f32)
    (v8 v10 : Vec Ideal S1x128x1 .f32) (r : Fin 128) (s : Fin 2048) :
    k0_pay3 (F := Ideal) i v3 v5 v8 v10 (ix2 r s)
      = if s.val = (i 1).val * 128 + r.val then v10 (ix3 0 r 0) + Ideal.ofBits .f32 0xBF000000#32
        else if Ideal.ofBits .f32 0x3F000000#32 < ∑ k : Fin 1024, v3 (ix3 0 r k) * v5 (ix3 0 s k) then
          (∑ k : Fin 1024, v3 (ix3 0 r k) * v5 (ix3 0 s k)) + Ideal.ofBits .f32 0xBF000000#32
        else v8 (ix3 0 r 0) := by
  pointwise [k0_pay3]
  have h1 : (i 1).val < 16 := (i 1).isLt
  have h2 : IntOp.cmpi .eq (BitVec.ofNat 32 s.val)
      (IntOp.addi (BitVec.ofNat 32 r.val) (Scalar.muli (BitVec.ofNat 32 (i 1).val) 128#32))
      = if s.val = (i 1).val * 128 + r.val then 1#1 else 0#1 := by
    rw [show Scalar.muli (BitVec.ofNat 32 (i 1).val) 128#32 = BitVec.ofNat 32 ((i 1).val * 128) from
      (BitVec.ofNat_mul ..).symm,
      show IntOp.addi (BitVec.ofNat 32 r.val) (BitVec.ofNat 32 ((i 1).val * 128)) = BitVec.ofNat 32 (r.val + (i 1).val * 128) from
      (BitVec.ofNat_add ..).symm]
    rw [cmpi_eq_ofNat (by omega) (by omega)]
    by_cases h : s.val = (i 1).val * 128 + r.val
    · rw [if_pos h, decide_eq_true (by omega)]; rfl
    · rw [if_neg h, decide_eq_false (by omega)]; rfl
  rw [h2]
  split_ifs <;> rfl

end Cert.KernelIdeal.Colsum

end
-- ==== Proof.ColsumArray.lean ====
/- What the column-sum kernel's result array holds, as sums over the rows of the arrays it was handed. -/
module

public import proofs.«01_k».proof.Proof.ColsumBlock

@[expose] public section

set_option maxRecDepth 16384

noncomputable section

namespace Cert.KernelIdeal.Colsum

open Cert.KernelIdeal Cert.KernelIdeal.Gen Idealize.ShloMosaic Idealize.ShloMosaic.TcCoe Idealize.SL.Sem

variable (m : (ℓ : Loc nD τ sig) → Buf (Elt Ideal) ℓ)

/-- The score of two rows of one batch. -/
def score (u : FVec Ideal S4x2048x1024 .f32) (b : Fin 4) (t s : Fin 2048) : EReal :=
  ∑ k : Fin 1024, u (ix3 b t k) * u (ix3 b s k)

/-- What row `t` adds to column `s`. -/
def cell (u : FVec Ideal S4x2048x1024 .f32) (n d : FVec Ideal S4x2048x1 .f32) (b : Fin 4) (t s : Fin 2048) : EReal :=
  if s.val = t.val then d (ix3 b t 0) + Ideal.ofBits .f32 0xBF000000#32
  else if Ideal.ofBits .f32 0x3F000000#32 < score u b t s then score u b t s + Ideal.ofBits .f32 0xBF000000#32
  else n (ix3 b t 0)

/-- The blocks each grid step reads, and the step's place in its batch. -/
theorem idx : ∀ t : Fin cfg0.N, win0_0.index t = ![t.val / 16, t.val % 16, 0] ∧ win0_1.index t = ![t.val / 16, 0, 0]
    ∧ win0_2.index t = ![t.val / 16, t.val % 16, 0] ∧ win0_3.index t = ![t.val / 16, t.val % 16, 0]
    ∧ (grid0.coords t 1).val = t.val % 16 :=
  (by decide +kernel : ∀ t : Fin grid0.N, _)

/-- The batch of a grid step. -/
def batch (n : ℕ) : Fin 4 := ⟨n / 16 % 4, Nat.mod_lt _ (by decide)⟩

/-- The row of the array that is row `r` of a grid step's block. -/
def rowOf (n : ℕ) (r : Fin 128) : Fin 2048 := ⟨n % 16 * 128 + r.val, by have := Nat.mod_lt n (show 0 < 16 by decide); omega⟩

/-- The block of the tile of rows at point `t`. -/
theorem blk_tile (c : Dev nD) (t : Fin cfg0.N) (r : Fin 128) (k : Fin 1024) :
    iblk m c 0 t (ix3 0 r k) = V m c main_v3 (ix3 (batch t.val) (rowOf t.val r) k) := by
  have ht : t.val < 64 := lt_of_lt_of_eq t.isLt N_0
  unfold batch rowOf
  blk_ext [iblk, idx t]

/-- The block of all the rows of the sample at point `t`. -/
theorem blk_full (c : Dev nD) (t : Fin cfg0.N) (s : Fin 2048) (k : Fin 1024) :
    iblk m c 1 t (ix3 0 s k) = V m c main_v3 (ix3 (batch t.val) s k) := by
  have ht : t.val < 64 := lt_of_lt_of_eq t.isLt N_0
  unfold batch
  blk_ext [iblk, idx t]

/-- The block of the negated deviations at point `t`. -/
theorem blk_nstd (c : Dev nD) (t : Fin cfg0.N) (r : Fin 128) :
    iblk m c 2 t (ix3 0 r 0) = V m c main_v6 (ix3 (batch t.val) (rowOf t.val r) 0) := by
  have ht : t.val < 64 := lt_of_lt_of_eq t.isLt N_0
  unfold batch rowOf
  blk_ext [iblk, idx t]

/-- The block of the diagonal scores at point `t`. -/
theorem blk_diag (c : Dev nD) (t : Fin cfg0.N) (r : Fin 128) :
    iblk m c 3 t (ix3 0 r 0) = V m c main_v13 (ix3 (batch t.val) (rowOf t.val r) 0) := by
  have ht : t.val < 64 := lt_of_lt_of_eq t.isLt N_0
  unfold batch rowOf
  blk_ext [iblk, idx t]

/-- A grid step's selected row, at a column, is the cell of the array's row. -/
theorem row_cell (c : Dev nD) (t : Fin cfg0.N) (r : Fin 128) (s : Fin 2048) :
    k0_pay3 (F := Ideal) (grid0.coords t) (iblk m c 0 t) (iblk m c 1 t) (iblk m c 2 t) (iblk m c 3 t) (ix2 r s)
      = cell (V m c main_v3) (V m c main_v6) (V m c main_v13) (batch t.val) (rowOf t.val r) s := by
  refine (row_at _ _ _ _ _ r s).trans ?_
  have hs : (∑ k : Fin 1024, (show EReal from iblk m c 0 t (ix3 0 r k)) * (show EReal from iblk m c 1 t (ix3 0 s k)))
      = score (V m c main_v3) (batch t.val) (rowOf t.val r) s :=
    Finset.sum_congr rfl fun k _ => congrArg₂ _ (blk_tile m c t r k) (blk_full m c t s k)
  unfold cell
  rw [← hs, ← blk_nstd m c t r, ← blk_diag m c t r]
  rw [(idx t).2.2.2.2]
  rfl

/-- What a grid step adds to a column. -/
def part (c : Dev nD) (n : ℕ) (i : S1x1x2048.Idx) : EReal :=
  ∑ r : Fin 128, cell (V m c main_v3) (V m c main_v6) (V m c main_v13) (batch n) (rowOf n r) (i 2)

/-- The result array, at a column: the sum of the cells of all rows of the batch. -/
theorem array_at (c : Dev nD) (b : Fin 4) (s : Fin 2048) :
    Value.G4 m c (ix3 b 0 s)
      = ∑ t : Fin 2048, cell (V m c main_v3) (V m c main_v6) (V m c main_v13) b t s := by
  have hN : cfg0.N = 64 := N_0
  have hrun : Value.run4Of (ix3 b 0 s) = b.val := by
    show 1 * (b.val / 1 - 0) + 1 * (0 / 1 - 0) + 1 * (s.val / 2048 - 0) = b.val
    omega
  have hloc : Value.loc4Of (ix3 b 0 s) = (ix3 0 0 s : S1x1x2048.Idx) := by
    funext a
    apply Fin.ext
    match a with
    | ⟨0, _⟩ => exact Nat.mod_one _
    | ⟨1, _⟩ => rfl
    | ⟨2, _⟩ => exact Nat.mod_eq_of_lt s.isLt
  unfold Value.G4
  rw [dif_pos (by rw [hrun]; omega), hloc]
  have hcol : ∀ i : S1x1x2048.Idx, i = ix3 0 0 (i 2) := fun i => by
    refine (eq_ix3 i).trans ?_
    congr 1 <;> exact Subsingleton.elim (α := Fin 1) _ _
  have acc := Pipeline.accAt_add_apply (Value.reset4 m c) (Value.step4 m c) (fun _ => (0 : EReal)) (part m c)
    (16 * Value.run4Of (ix3 b 0 s)) 15
    (fun h i => by
      rw [hcol i]
      refine (step_at _ _ _ _ _ _ _).trans ?_
      exact congrArg₂ _ (clear_at (i 2)) (Finset.sum_congr rfl fun r _ => row_cell m c ⟨_, h⟩ r (i 2)))
    (fun n h acc i _ _ => by
      rw [hcol i]
      refine (step_at _ _ _ _ _ _ _).trans ?_
      exact congrArg _ (Finset.sum_congr rfl fun r _ => row_cell m c ⟨_, h⟩ r (i 2)))
    15 le_rfl (by rw [hrun]; omega) (ix3 0 0 s)
  refine acc.trans ?_
  rw [zero_add, hrun, Finset.sum_range]
  refine ((Fin.sum_univ_tiles 16 128 rfl _).trans ?_).symm
  refine Finset.sum_congr rfl fun k _ => Finset.sum_congr rfl fun r _ => ?_
  have hb : batch (16 * b.val + k.val) = b := Fin.ext (by simp only [batch]; omega)
  have hr : rowOf (16 * b.val + k.val) r = ⟨k.val * 128 + r.val, by omega⟩ := Fin.ext (by simp only [rowOf]; omega)
  rw [hb, hr]
  rfl

end Cert.KernelIdeal.Colsum

end
-- ==== Proof.ColsumMath.lean ====
/- The column sums of the margin scores: the reference reads the score everywhere, the kernel takes the diagonal from
   its own array; the two agree where each row has a length. -/
module

public import proofs.«01_k».proof.Proof.ColsumHost
public import proofs.«01_k».proof.Proof.ColsumArray
public import proofs.«01_k».proof.Proof.Gen.ReferenceIdeal.Run
public import proofs.«01_k».proof.Pre_rows_have_length
public import proofs.«01_k».proof.Proof.Gen.Pre_rows_have_length

@[expose] public section

set_option maxRecDepth 16384

noncomputable section

namespace Cert.KernelIdeal.Colsum

open Cert.KernelIdeal Cert.KernelIdeal.Gen Idealize.ShloMosaic Idealize.ShloMosaic.TcCoe Idealize.ShloMosaic.WordCmp Idealize.SL.Sem

/-- The reference's result from the normalised rows and the fallback values. -/
def ref (u : FVec Ideal S4x2048x1024 .f32) (n : FVec Ideal S4x2048x1 .f32) : FVec Ideal S4x1x2048 .f32 :=
  broadcastInDim S4x1x2048 ![0, 2] Cert.ReferenceIdeal.Gen.bcast_S4x2048_S4x1x2048_0_2
    (Host.reduceAdd
      (select
        (cmpf .ogt
          (Host.dotGeneral dot_S4x2048x1024_S4x2048x1024_S4x2048x2048_2_2_1_1_0_0 none u u)
          (broadcastInDim S4x2048x2048 ![] bcast_S_S4x2048x2048 (constant S_ .f32 0x3F000000#32)))
        (subf
          (Host.dotGeneral dot_S4x2048x1024_S4x2048x1024_S4x2048x2048_2_2_1_1_0_0 none u u)
          (broadcastInDim S4x2048x2048 ![] bcast_S_S4x2048x2048 (constant S_ .f32 0x3F000000#32)))
        (broadcastInDim S4x2048x2048 ![0, 1, 2] Cert.ReferenceIdeal.Gen.bcast_S4x2048x1_S4x2048x2048_0_1_2 n))
      (constant S_ .f32 0x00000000#32) reducesTo_S4x2048x2048_S4x2048_d1 h_S_)

/-- The reference's result, at a column. -/
theorem ref_at (u : FVec Ideal S4x2048x1024 .f32) (n : FVec Ideal S4x2048x1 .f32) (b : Fin 4) (s : Fin 2048) :
    ref u n (ix3 b 0 s) = ∑ t : Fin 2048,
      if Ideal.ofBits .f32 0x3F000000#32 < score u b t s then score u b t s - Ideal.ofBits .f32 0x3F000000#32
      else n (ix3 b t 0) := by
  pointwise [ref, score]

/-- The diagonal the host picked out is the diagonal of the scores. -/
theorem diag_at (u : FVec Ideal S4x2048x1024 .f32) (b : Fin 4) (t : Fin 2048) :
    diag u (ix3 b t 0) = score u b t t := by
  pointwise [diag, score]
  refine (Finset.sum_eq_single t (fun t' _ ht => ?_) (fun h => absurd (Finset.mem_univ t) h)).trans ?_
  · rw [cmpi_eq_ofNat (by omega) (by omega), decide_eq_false fun h => ht (Fin.ext h)]
    exact Ideal.ofBits_zero_f32
  · rw [cmpi_eq_ofNat (by omega) (by omega), decide_eq_true rfl]
    rfl

/-- The square of a normalised entry, and the length, read at an index. -/
theorem unit_at (x : FVec Ideal S4x2048x1024 .f32) (b : Fin 4) (t : Fin 2048) (k : Fin 1024) :
    unit x (ix3 b t k) = Ideal.div (x (ix3 b t k)) (max (Ideal.ofBits .f32 0x2B8CBCCC#32) (len x (ix3 b t 0))) := by
  pointwise [unit]
  rfl

/-- The length of one row, as the host code computes it. -/
theorem len_at (x : FVec Ideal S4x2048x1024 .f32) (b : Fin 4) (t : Fin 2048) :
    len x (ix3 b t 0) = Ideal.sqrt (∑ k : Fin 1024, x (ix3 b t k) * x (ix3 b t k)) := by
  pointwise [len]

/-- The pattern of one half. -/
theorem half : Ideal.ofBits .f32 0x3F000000#32 = (((1 : ℝ) / 2 : ℝ) : EReal) := by
  simp [Ideal.ofBits, Ideal.ieee, -EReal.coe_mul]; norm_num

/-- The pattern of minus one half. -/
theorem neg_half : Ideal.ofBits .f32 0xBF000000#32 = ((-((1 : ℝ) / 2) : ℝ) : EReal) := by
  simp [Ideal.ofBits, Ideal.ieee, -EReal.coe_mul, -EReal.coe_neg]; norm_num

/-- The pattern of the clip is a positive real. -/
theorem clip_pos : 0 < Ideal.ofBits .f32 0x2B8CBCCC#32 := by
  simp [Ideal.ofBits, Ideal.ieee, -EReal.coe_mul]

/-- The pattern of infinity. -/
theorem inf : Ideal.ofBits .f32 0x7F800000#32 = ⊤ := by
  simp [Ideal.ofBits, Ideal.ieee]

/-- The precondition, at a row. -/
theorem pre_at (x : FVec Ideal S4x2048x1024 .f32) (h : Cert.Pre_rows_have_length.fn (F := Ideal) x = fun _ => 1#1)
    (b : Fin 4) (t : Fin 2048) :
    Ideal.ofBits .f32 0x2B8CBCCC#32 ≤ len x (ix3 b t 0) ∧ len x (ix3 b t 0) < Ideal.ofBits .f32 0x7F800000#32 := by
  have := congrFun h (ix3 b t 0)
  pointwise [Cert.Pre_rows_have_length.fn, Cert.Pre_rows_have_length.fn_norm] at this
  pointwise [len]
  simp only [IntOp.andi] at this
  revert this
  by_cases h1 : Ideal.ofBits FTy.f32 0x2B8CBCCC#32 ≤ Ideal.sqrt (∑ k : Fin 1024, x (ix3 b t k) * x (ix3 b t k)) <;>
    by_cases h2 : Ideal.sqrt (∑ k : Fin 1024, x (ix3 b t k) * x (ix3 b t k)) < Ideal.ofBits FTy.f32 0x7F800000#32 <;>
    simp [h1, h2]

/-- A sum of reals, read as extended reals. -/
theorem coe_sum' {n : ℕ} (f : Fin n → ℝ) : ((∑ k, f k : ℝ) : EReal) = ∑ k, (f k : EReal) :=
  map_sum (⟨⟨fun r : ℝ => (r : EReal), EReal.coe_zero⟩, EReal.coe_add⟩ : ℝ →+ EReal) f Finset.univ

/-- A square is not negative. -/
theorem sq_nonneg' (y : EReal) : 0 ≤ y * y := by
  induction y with
  | bot => simp
  | top => simp
  | coe r => exact_mod_cast mul_self_nonneg r

/-- The normalised entries of a row that has a length: reals whose squares sum to one. -/
theorem score_diag (x : FVec Ideal S4x2048x1024 .f32) (b : Fin 4) (t : Fin 2048)
    (hlo : Ideal.ofBits .f32 0x2B8CBCCC#32 ≤ len x (ix3 b t 0)) (hhi : len x (ix3 b t 0) < ⊤) :
    score (unit x) b t t = 1 := by
  set y : Fin 1024 → EReal := fun k => x (ix3 b t k) with hy
  have hl := len_at x b t
  obtain ⟨q, hq⟩ : ∃ q : ℝ, ∑ k, y k * y k = (q : EReal) := by
    induction hQ : ∑ k, y k * y k with
    | bot => rw [show len x (ix3 b t 0) = ⊥ from hl.trans (by rw [hQ]; rfl)] at hlo
             exact absurd (clip_pos.trans_le hlo) (by simp)
    | top => rw [show len x (ix3 b t 0) = ⊤ from hl.trans (by rw [hQ]; rfl)] at hhi
             exact absurd hhi (lt_irrefl _)
    | coe r => exact ⟨r, rfl⟩
  have hreal : ∀ k, ∃ r : ℝ, y k = (r : EReal) := fun k => by
    have hle : y k * y k ≤ (q : EReal) := hq ▸ Finset.single_le_sum (f := fun k => y k * y k) (fun k _ => sq_nonneg' _) (Finset.mem_univ k)
    induction hk : y k with
    | bot => rw [hk] at hle; simp at hle
    | top => rw [hk] at hle; simp at hle
    | coe r => exact ⟨r, rfl⟩
  choose r hr using hreal
  have hqr : q = ∑ k, r k * r k := by
    have : ((∑ k, r k * r k : ℝ) : EReal) = (q : EReal) := by
      rw [← hq, coe_sum']
      exact Finset.sum_congr rfl fun k _ => by rw [hr k, EReal.coe_mul]
    exact_mod_cast this.symm
  have hq0 : 0 ≤ q := hqr ▸ Finset.sum_nonneg fun k _ => mul_self_nonneg _
  have hlq : len x (ix3 b t 0) = (Real.sqrt q : EReal) := by
    refine hl.trans ?_
    rw [show (∑ k, x (ix3 b t k) * x (ix3 b t k)) = (q : EReal) from hq]
    exact if_neg (not_lt.mpr hq0)
  have hpos : 0 < Real.sqrt q := by
    have := clip_pos.trans_le hlo
    rw [hlq] at this
    exact_mod_cast this
  have hu : ∀ k, unit x (ix3 b t k) = ((r k / Real.sqrt q : ℝ) : EReal) := fun k => by
    refine (unit_at x b t k).trans ?_
    rw [max_eq_right hlo, hlq, show x (ix3 b t k) = (r k : EReal) from hr k]
    rw [Ideal.div_coe hpos.ne', ← EReal.coe_mul]
    rw [mul_one_div]
  unfold score
  simp only [hu]
  rw [show (1 : EReal) = ((1 : ℝ) : EReal) from rfl]
  simp only [← EReal.coe_mul]
  rw [← coe_sum']
  congr 1
  have : ∀ k, r k / Real.sqrt q * (r k / Real.sqrt q) = r k * r k / q := fun k => by
    rw [div_mul_div_comm, Real.mul_self_sqrt hq0]
  simp only [this]
  rw [← Finset.sum_div, ← hqr]
  exact div_self (Real.sqrt_pos.mp hpos).ne'

/-- The kernel's sums are the reference's. -/
theorem sums_eq (x : FVec Ideal S4x2048x1024 .f32) (h : Cert.Pre_rows_have_length.fn (F := Ideal) x = fun _ => 1#1)
    (b : Fin 4) (s : Fin 2048) :
    ∑ t : Fin 2048, cell (unit x) (nstd (unit x)) (diag (unit x)) b t s = ref (unit x) (nstd (unit x)) (ix3 b 0 s) := by
  refine Eq.trans ?_ (ref_at (unit x) (nstd (unit x)) b s).symm
  refine Finset.sum_congr rfl fun t _ => ?_
  have hsub : ∀ e : EReal, e - Ideal.ofBits .f32 0x3F000000#32 = e + Ideal.ofBits .f32 0xBF000000#32 := fun e => by
    rw [half, neg_half, EReal.coe_neg, sub_eq_add_neg]
  unfold cell
  rw [hsub]
  by_cases hst : s.val = t.val
  · obtain rfl : s = t := Fin.ext hst
    obtain ⟨hlo, hhi⟩ := pre_at x h b s
    have h1 := score_diag x b s hlo (inf ▸ hhi)
    have hgt : Ideal.ofBits .f32 0x3F000000#32 < score (unit x) b s s := by
      rw [h1, half]
      exact_mod_cast (by norm_num : (1 : ℝ) / 2 < 1)
    rw [if_pos rfl, if_pos hgt]
    exact congrArg (· + Ideal.ofBits .f32 0xBF000000#32) (diag_at (unit x) b s)
  · rw [if_neg hst]

/-- The kernel's result array is the reference's result. -/
theorem array_eq (m : (ℓ : Loc nD τ sig) → Buf (Elt Ideal) ℓ) (c : Dev nD)
    (h : Cert.Pre_rows_have_length.fn (F := Ideal) (m ((c : Thread nD τ).loc main_arg0)) = fun _ => 1#1) :
    Value.G4 m c = ref (unit (m ((c : Thread nD τ).loc main_arg0))) (nstd (unit (m ((c : Thread nD τ).loc main_arg0)))) := by
  funext i
  have hi : i = ix3 (i 0) 0 (i 2) := by
    refine (eq_ix3 i).trans ?_
    congr 1
    exact Subsingleton.elim (α := Fin 1) _ _
  rw [hi]
  refine (array_at m c (i 0) (i 2)).trans ?_
  rw [entry_unit, entry_nstd, entry_diag]
  exact sums_eq _ h (i 0) (i 2)

/-- The reference's run leaves the same term of its own argument. -/
theorem ref_res (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v14 (F := Ideal) m c
      = ref (unit (m ((c.tc : Thread Cert.ReferenceIdeal.nD Cert.ReferenceIdeal.τ).loc Cert.ReferenceIdeal.main_arg0)))
          (nstd (unit (m ((c.tc : Thread Cert.ReferenceIdeal.nD Cert.ReferenceIdeal.τ).loc Cert.ReferenceIdeal.main_arg0)))) := by
  unfold Cert.ReferenceIdeal.Value.res_main_v14 ref nstd centred dof unit len
  rfl

end Cert.KernelIdeal.Colsum

end
-- ==== Proof.GatherTrip.lean ====
/- The gather kernel on one sample: a loop that copies, trip by trip, one row of each half of the pairs. -/
module

public import proofs.«01_k».proof.Proof.Gen.TailIdeal.Loops
public import proofs.«01_k».proof.Proof.Gen.TailIdeal.Launch
public import Idealize.ShloMosaic.Lib.WritesUnit
public import Idealize.ShloMosaic.Lib.WholeRead
public import Idealize.ShloMosaic.Lib.ValueLayout
public import Idealize.ShloMosaic.Lib.Pipeline.Frame
public import Idealize.ShloMosaic.Lib.Pipeline.FrameBody
public import Idealize.ShloMosaic.Lib.Exec

@[expose] public section

noncomputable section

namespace Cert.TailIdeal.Gather

open Cert.TailIdeal Cert.TailIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table of the two halves of the pairs. -/
abbrev abM : Memref sig .tc .smem S8192 .i32 := Memref.whole main_arg1
/-- Its contents. -/
abbrev TbBuf (c : Dev nD) : Type := Buf (Elt F) (abM.view.loc (c : Thread nD τ))
/-- The table held at its contents. -/
abbrev tbPt (c : Dev nD) (f : TbBuf (F := F) c) : sProp 𝕄 := abM.view.loc (c : Thread nD τ) ↦{fullShare.right} f

/-- A row of a sample, the row number held inside the sample. -/
def rowAt (X : Vec F S1x2048x1024 .f32) (n : ℕ) (j : Fin 1024) : F .f32 :=
  X (ix3 (0 : Fin 1) (⟨min n 2047, by omega⟩ : Fin 2048) j)

/-- A word of the table, as a number. -/
def word (t : S8192.Idx → BitVec 32) (n : ℕ) : ℕ := (t (ValueIdx.ix1 (⟨min n 8191, by omega⟩ : Fin 8192))).toNat

/-- A position below 2048 is inside the sample, -/
theorem chk1_of (w : BitVec 32) (h : w.toNat < 2048) : k0_chk1 w := by
  intro a
  match a with
  | ⟨0, _⟩ => exact Nat.le_refl 1
  | ⟨1, _⟩ => show w.toNat + 1 ≤ 2048; omega
  | ⟨2, _⟩ => exact Nat.le_refl 1024

/-- for the second half as for the first. -/
theorem chk2_of (w : BitVec 32) (h : w.toNat < 2048) : k0_chk2 w := chk1_of w h

/-- One row written: that row holds the payload, every other row what it held. -/
theorem read_row (v : View sig .tc .vmem S1x102x1024 .f32) (f : v.ty.Contents (Elt F)) {off : Fin 3 → ℕ} (o : ℕ)
    (heq : off = ![0, o, 0]) (inb : ∀ a, off a + S1x1x1024.size a ≤ S1x102x1024.size a)
    (w : S1x1x1024.Idx → F .f32) (r : Fin 102) (j : Fin 1024) :
    v.read (Elt F) (v.writes (Elt F) f [⟨Rect.unit (s := S1x102x1024) off S1x1x1024.size inb, w⟩]) (ix3 (0 : Fin 1) r j)
      = if r.val = o then w (ix3 (0 : Fin 1) (0 : Fin 1) j) else v.read (Elt F) f (ix3 (0 : Fin 1) r j) := by
  by_cases h : r.val = o
  · rw [if_pos h]
    refine View.read_writes_cons_unit_of_mem v f inb w [] _ (ix3 (0 : Fin 1) (0 : Fin 1) j) heq fun a => ?_
    match a with
    | ⟨0, _⟩ => rfl
    | ⟨1, _⟩ => exact h
    | ⟨2, _⟩ => exact (Nat.zero_add _).symm
  · rw [if_neg h]
    refine (View.read_writes_cons_unit_of_not_mem v f inb w [] _ heq (1 : Fin 3) ?_).trans rfl
    show r.val < o ∨ o + 1 ≤ r.val
    omega

/-- One row of the sample read. -/
theorem in_row (m : Memref sig .tc .vmem S1x2048x1024 .f32) (h : m.IsWhole) (X : Vec F S1x2048x1024 .f32) {off : Fin 3 → ℕ} (n : ℕ)
    (hn : n < 2048) (heq : off = ![0, n, 0]) (inb : ∀ a, off a + S1x1x1024.size a ≤ S1x2048x1024.size a) (j : Fin 1024) :
    View.readAt (Elt F) m.view (Rect.unit (s := S1x2048x1024) off S1x1x1024.size inb).toLoadRect (h.unread X) (ix3 (0 : Fin 1) (0 : Fin 1) j)
      = rowAt X n j := by
  subst heq
  refine (h.readAt_unread X _ _).trans (congrArg X (funext fun a => Fin.ext ?_))
  match a with
  | ⟨0, _⟩ => rfl
  | ⟨1, _⟩ => show n + 1 * 0 = min n 2047; omega
  | ⟨2, _⟩ => show 0 + 1 * j.val = j.val; omega

/-- A row is copied as it is, -/
theorem pay1_apply (v : Vec F S1x1x1024 .f32) (j : Fin 1024) :
    k0_pay1 v (ix3 (0 : Fin 1) (0 : Fin 1) j) = v (ix3 (0 : Fin 1) (0 : Fin 1) j) := by
  unfold k0_pay1
  rw [shapeCast_ab_1ab_apply, shapeCast_1ab_ab_apply]

/-- of the second half as of the first. -/
theorem pay2_apply (v : Vec F S1x1x1024 .f32) (j : Fin 1024) :
    k0_pay2 v (ix3 (0 : Fin 1) (0 : Fin 1) j) = v (ix3 (0 : Fin 1) (0 : Fin 1) j) := pay1_apply v j

section Trip

variable (c : Dev nD) (i : grid0.Coords) (tab : TbBuf (F := F) c)
  (arg2 : Memref sig .tc .vmem S1x2048x1024 .f32) (harg2 : arg2.IsWhole)
  (arg3 : Memref sig .tc .vmem S1x102x1024 .f32) (harg3 : arg3.IsWhole)
  (arg4 : Memref sig .tc .vmem S1x102x1024 .f32) (harg4 : arg4.IsWhole)
  (X : Vec F S1x2048x1024 .f32)

/-- A block of gathered rows, held at contents `f`. -/
abbrev oPt (arg : Memref sig .tc .vmem S1x102x1024 .f32) (f : Buf (Elt F) (arg.view.loc (c : Thread nD τ))) : sProp 𝕄 :=
  arg.view.loc (c : Thread nD τ) ↦[arg.view.set]{fullShare} f
/-- The sample's block, held at `X`. -/
abbrev xPt : sProp 𝕄 := arg2.view.loc (c : Thread nD τ) ↦[arg2.view.set]{fullShare} (harg2.unread X)
/-- What the kernel only reads: the table and the sample. -/
abbrev ins : sProp 𝕄 := iprop(tbPt c tab ∗ xPt c arg2 harg2 X)

/-- One row of a block is given a value, the other rows kept. -/
def RowSet (arg : Memref sig .tc .vmem S1x102x1024 .f32) (f f' : Buf (Elt F) (arg.view.loc (c : Thread nD τ))) (o : ℕ) (w : Fin 1024 → F .f32) : Prop :=
  ∀ (r : Fin 102) (j : Fin 1024), arg.view.read (Elt F) f' (ix3 (0 : Fin 1) r j)
    = if r.val = o then w j else arg.view.read (Elt F) f (ix3 (0 : Fin 1) r j)

/-- A word read from the table. -/
theorem ab_word {off : Fin 1 → ℕ} (n : ℕ) (hn : n < 8192) (heq : off = ![n]) (h1 : ∀ a, off a + S1.size a ≤ S8192.size a)
    (h2 : 0 < (Rect.unit (s := S8192) off S1.size h1).toLoadRect.shape.numel) :
    (View.readAt (Elt F) abM.view (Rect.unit (s := S8192) off S1.size h1).toLoadRect tab (Shape.Idx.first h2) : BitVec 32).toNat
      = word tab n := by
  subst heq
  refine congrArg (fun y => (tab y : BitVec 32).toNat) (funext fun a => Fin.ext ?_)
  match a with
  | ⟨0, _⟩ =>
    show n + 1 * (Shape.Idx.first h2 0).val = min n 8191
    have : (Shape.Idx.first h2 0).val < 1 := (Shape.Idx.first h2 0).isLt
    omega

/-- A trip of the loop is below the number of pairs, -/
theorem lt1 (k : Fin k0_t1_loop.trips) : k.val < 102 := Nat.lt_of_lt_of_le k.isLt k0_t1_abs.2.1
/-- and a grid point is a sample. -/
theorem bat (i : grid0.Coords) : (i 0).val < 4 := (i 0).isLt

/-- A trip of the loop copies one row of each half. -/
theorem trip (hab : ∀ j, (tab j).toNat < 2048) (k : Fin k0_t1_loop.trips)
    (f : Buf (Elt F) (arg3.view.loc (c : Thread nD τ))) (g : Buf (Elt F) (arg4.view.loc (c : Thread nD τ))) :
    iprop(ins c tab arg2 harg2 X ∗ oPt c arg3 f ∗ oPt c arg4 g) ⊢
      wp frame (wpE (defs₀ (F := F)) Variants.none (c : Thread nD τ) none) Set.univ
        (k0_t1_body (F := F) i abM (Memref.isWhole_whole _) arg2 harg2 arg3 harg3 arg4 harg4 k ())
        (fun _ => iprop(ins c tab arg2 harg2 X ∗ ∃ f' g', oPt c arg3 f' ∗ oPt c arg4 g' ∗
          ⌜RowSet c arg3 f f' k.val (rowAt X (word tab (2048 * (i 0).val + k.val)))
            ∧ RowSet c arg4 g g' k.val (rowAt X (word tab (2048 * (i 0).val + k.val + 1024)))⌝)) := by
  have hk := lt1 k
  have hb := bat i
  sl_unfold [k0_t1_body]
  iintro ⟨⟨HT, HX⟩, HO, HP⟩
  sl_exec (disch := first | exact chk1_of _ (hab _) | exact chk2_of _ (hab _))
  sl_step
  sl_unfold_run_names
  isplitl [HT HX]
  · sl_close
  iexists _, _
  isplitl [HO]
  · iexact HO
  isplitl [HP]
  · iexact HP
  ipureintro
  constructor
  · intro r j
    rw [read_row _ _ k.val (k0_off4_eq k)]
    by_cases hr : r.val = k.val
    · rw [if_pos hr, if_pos hr, pay1_apply]
      refine (in_row arg2 harg2 X _ (hab _) rfl _ j).trans ?_
      exact congrArg (fun n => rowAt X n j) (ab_word c tab _ (by omega) (k0_off1_eq i k) _ _)
    · rw [if_neg hr, if_neg hr]
  · intro r j
    rw [read_row _ _ k.val (k0_off6_eq k)]
    by_cases hr : r.val = k.val
    · rw [if_pos hr, if_pos hr, pay2_apply]
      refine (in_row arg2 harg2 X _ (hab _) rfl _ j).trans ?_
      exact congrArg (fun n => rowAt X n j) (ab_word c tab _ (by omega) (k0_off2_eq i k) _ _)
    · rw [if_neg hr, if_neg hr]

end Trip

end Cert.TailIdeal.Gather

end
-- ==== Proof.GatherKernel.lean ====
module

public import proofs.«01_k».proof.Proof.GatherTrip

@[expose] public section

noncomputable section

namespace Cert.TailIdeal.Gather

open Cert.TailIdeal Cert.TailIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rows of one half of the pairs: row `r` is the row of the sample that word `o + r` of the table names. -/
def halfBlk (tab : S8192.Idx → BitVec 32) (X : Vec F S1x2048x1024 .f32) (o : ℕ) : Vec F S1x102x1024 .f32 :=
  fun y => rowAt X (word tab (o + (y 1).val)) ⟨(y 2).val, (y 2).isLt⟩

section Loops

variable (c : Dev nD) (i : grid0.Coords) (tab : TbBuf (F := F) c)
  (arg2 : Memref sig .tc .vmem S1x2048x1024 .f32) (harg2 : arg2.IsWhole)
  (arg3 : Memref sig .tc .vmem S1x102x1024 .f32) (harg3 : arg3.IsWhole)
  (arg4 : Memref sig .tc .vmem S1x102x1024 .f32) (harg4 : arg4.IsWhole)
  (X : Vec F S1x2048x1024 .f32)

/-- The first `n` rows of a block are those of the half that starts at word `o`. -/
def Held (arg : Memref sig .tc .vmem S1x102x1024 .f32) (n o : ℕ) (f : Buf (Elt F) (arg.view.loc (c : Thread nD τ))) : Prop :=
  ∀ (r : Fin 102) (j : Fin 1024), r.val < n → arg.view.read (Elt F) f (ix3 (0 : Fin 1) r j) = rowAt X (word tab (o + r.val)) j

/-- The state between trips: what is only read is held, and the first `n` rows of both blocks are copied. -/
abbrev state (n : ℕ) : sProp 𝕄 :=
  iprop(ins c tab arg2 harg2 X ∗ ∃ f g, oPt c arg3 f ∗ oPt c arg4 g
    ∗ ⌜Held c tab X arg3 n (2048 * (i 0).val) f ∧ Held c tab X arg4 n (2048 * (i 0).val + 1024) g⌝)

/-- One more row copied. -/
theorem held_succ (arg : Memref sig .tc .vmem S1x102x1024 .f32) (k o : ℕ) (f f' : Buf (Elt F) (arg.view.loc (c : Thread nD τ)))
    (h : Held c tab X arg k o f) (hs : RowSet c arg f f' k (rowAt X (word tab (o + k)))) : Held c tab X arg (k + 1) o f' := by
  intro r j hr
  rw [hs r j]
  by_cases e : r.val = k
  · rw [if_pos e, e]
  · rw [if_neg e, h r j (by omega)]

/-- Every row held is the whole block held. -/
theorem held_out (arg : Memref sig .tc .vmem S1x102x1024 .f32) (o : ℕ) (f : Buf (Elt F) (arg.view.loc (c : Thread nD τ)))
    (h : Held c tab X arg 102 o f) : arg.view.read (Elt F) f = halfBlk tab X o := by
  funext y
  have e : y = ix3 (0 : Fin 1) (⟨(y 1).val, (y 1).isLt⟩ : Fin 102) (⟨(y 2).val, (y 2).isLt⟩ : Fin 1024) := by
    funext a
    refine Fin.ext ?_
    match a with
    | ⟨0, _⟩ => show (y 0).val = 0; have : (y 0).val < 1 := (y 0).isLt; omega
    | ⟨1, _⟩ => rfl
    | ⟨2, _⟩ => rfl
  exact (congrArg (arg.view.read (Elt F) f) e).trans (h _ _ (y 1).isLt)

/-- The loop makes 102 trips. -/
theorem trips1 : k0_t1_loop.trips = 102 := by decide +kernel

variable (hab : ∀ j, (tab j).toNat < 2048)

set_option warn.classDefReducibility false in
/-- The loop by its invariant: `k` rows of each block copied before trip `k`. -/
def loop1 : LoopInvTy_k0_t1 (F := F) Unit ℕ (UR sig nD τ) ℕ Variants.none c none Set.univ i abM (Memref.isWhole_whole _) arg2 harg2 arg3 harg3 arg4 harg4 where
  inv k _ := state c i tab arg2 harg2 arg3 arg4 X k
  step k acc := by
    iintro ⟨HI, ⟨%f, %g, HO, HP, %hf⟩⟩
    iapply (wp_wand_r Idealize.ShloMosaic.frame (wpE (defs₀ (F := F)) Variants.none (c : Thread nD τ) none) Set.univ)
    isplitl [HI HO HP]
    · iapply (trip c i tab arg2 harg2 arg3 harg3 arg4 harg4 X hab k f g)
      isplitl [HI]; · iexact HI
      isplitl [HO]; · iexact HO
      iexact HP
    · iintro %_ ⟨HI, ⟨%f', %g', HO, HP, %hs⟩⟩
      isplitl [HI]; · iexact HI
      iexists f', g'
      isplitl [HO]; · iexact HO
      isplitl [HP]; · iexact HP
      ipureintro
      refine ⟨held_succ c tab X arg3 k.val _ f f' hf.1 hs.1, held_succ c tab X arg4 k.val _ g g' hf.2 ?_⟩
      have e : 2048 * (i 0).val + 1024 + k.val = 2048 * (i 0).val + k.val + 1024 := by omega
      rw [e]
      exact hs.2

include hab in
/-- The loop run to its end. -/
theorem run1 {β : Type} (kk : Unit → Prog (TpuEff nD τ sig (Elt F) Λ₀ .tc) β) (Q : β → sProp 𝕄) :
    state c i tab arg2 harg2 arg3 arg4 X 0
      ⊢ iprop((∀ acc, state c i tab arg2 harg2 arg3 arg4 X 102
            -∗ wp frame (wpE (defs₀ (F := F)) Variants.none (c : Thread nD τ) none) Set.univ (kk acc) Q)
          -∗ wp frame (wpE (defs₀ (F := F)) Variants.none (c : Thread nD τ) none) Set.univ
            (Scf.Loop.for k0_t1_loop k0_t1_ok () (k0_t1_body i abM (Memref.isWhole_whole _) arg2 harg2 arg3 harg3 arg4 harg4) >>= kk) Q) := by
  have h := exec_loop (kk := kk) (Q := Q) _ _ _ _ _ _ _ _ _ (loop1 c i tab arg2 harg2 arg3 harg3 arg4 harg4 X hab)
  dsimp only [loop1] at h
  rw [show Scf.trips k0_t1_loop.lb k0_t1_loop.ub k0_t1_loop.st = _ from trips1] at h
  exact h

include hab in
/-- The kernel on one sample: what it reads as it was, the two blocks at the two halves' rows. -/
theorem kernel_run (K : PUnit → sProp 𝕄) :
    iprop(owns (c : Thread nD τ) arg2 fullShare X ∗ (∃ d, owns (c : Thread nD τ) arg3 fullShare d) ∗ (∃ d, owns (c : Thread nD τ) arg4 fullShare d)
        ∗ tbPt c tab
        ∗ (iprop(owns (c : Thread nD τ) arg2 fullShare X
            ∗ owns (c : Thread nD τ) arg3 fullShare (halfBlk tab X (2048 * (i 0).val))
            ∗ owns (c : Thread nD τ) arg4 fullShare (halfBlk tab X (2048 * (i 0).val + 1024))
            ∗ tbPt c tab) -∗ K ⟨⟩))
      ⊢ wp frame (wpE (defs₀ (F := F)) Variants.none (c : Thread nD τ) none) Set.univ
        (cc0__ab_gather_kernel i abM (Memref.isWhole_whole _) arg2 harg2 arg3 harg3 arg4 harg4) K := by
  simp only [cc0__ab_gather_kernel_eq_skeleton]; unfold cc0__ab_gather_kernel_skel
  unfold owns
  iintro ⟨⟨%f0, %hf0, H0⟩, ⟨%d1, %f1, -, H1⟩, ⟨%d2, %f2, -, H2⟩, HT, Hk⟩
  obtain rfl := harg2.eq_unread hf0
  iapply (run1 c i tab arg2 harg2 arg3 harg3 arg4 harg4 X hab) $$ [H0 H1 H2 HT]
  · isplitl [H0 HT]
    · sl_close
    iexists f1, f2
    isplitl [H1]; · iexact H1
    isplitl [H2]; · iexact H2
    ipureintro
    exact ⟨fun r j hr => absurd hr (Nat.not_lt_zero _), fun r j hr => absurd hr (Nat.not_lt_zero _)⟩
  iintro %_ ⟨⟨HT, H0⟩, ⟨%f, %g, HO, HP, %hf⟩⟩
  sl_step
  iapply Hk
  isplitl [H0]
  · iexists _; isplitr; · ipureintro; exact harg2.read_unread _
    iexact H0
  isplitl [HO]
  · iexists f; isplitr; · ipureintro; exact held_out c tab X arg3 _ f hf.1
    iexact HO
  isplitl [HP]
  · iexists g; isplitr; · ipureintro; exact held_out c tab X arg4 _ g hf.2
    iexact HP
  iexact HT

end Loops

end Cert.TailIdeal.Gather

end
-- ==== Proof.GatherFrame.lean ====
module

public import proofs.«01_k».proof.Proof.GatherKernel
public import Idealize.ShloMosaic.Lib.Pipeline.FrameSuffix
public import Idealize.ShloMosaic.Lib.Claim

@[expose] public section

set_option maxRecDepth 16384

noncomputable section

namespace Cert.TailIdeal.Gather

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- What a buffer holds when the call is entered. -/
abbrev ent (c : Dev nD) (b : Ref sig .tc) : Buf (Elt F) ((c : Thread nD τ).loc b) := V c (Proc.devRef .tc b)

/-- The table's contents. -/
def tbl : pre0.Contents (Elt F) := fun j => ent V (0 : Dev nD) (pre0.ref j)

/-- There is one device. -/
theorem ent_pre (c : Dev nD) (j : Fin 1) : ent V c (pre0.ref j) = tbl V j := by
  obtain rfl : c = 0 := Subsingleton.elim _ _
  rfl

/-- The table lies in its range. -/
def InRange : Prop := ∀ j, (show BitVec 32 from tbl V 0 j).toNat < 2048

/-- No block's place depends on the table. -/
theorem ok : ok0 (F := F) (tbl V) := trivial

/-- The table of the run, at contents that keep the windows inside their arrays. -/
abbrev adm : (pcfg0 (F := F)).Adm := ⟨tbl V, ok V⟩
/-- The pipeline at that table. -/
abbrev cfgM : Pipeline.Cfg sig Λ₀ := cfg0 (adm V)

/-- The table as the kernel is handed it. -/
theorem tables_eq (c : Dev nD) : (Pipeline.ΦT pre0 (tbl V) c : sProp 𝕄) = tbPt c (tbl V 0) := by
  unfold Pipeline.ΦT Pipeline.prefHeld
  rw [bigSep_univ_eq_bigSepL [(0 : Fin 1)] (by decide) (by decide)]
  rfl

/-- A step lends the kernel one half of the tables and keeps the other. -/
theorem tables_split (c : Dev nD) : (Pipeline.prefHeld pre0 c (fun _ => fullShare) (tbl V) : sProp 𝕄)
    ⊣⊢ iprop(Pipeline.prefHeld pre0 c (fun _ => fullShare.left) (tbl V) ∗ tbPt c (tbl V 0)) := by
  rw [← tables_eq]
  exact Pipeline.prefHeld_share pre0 c (PosShare.mem_left_op_right fullShare) (tbl V)

/-- A window's block at a point, of its array as the call finds it. -/
def iblk (c : Dev nD) (w : Fin (cfgM V).W) (t : Fin (cfgM V).N) : (((cfgM V).win w).xblock ((cfgM V).grid.coords t)).Idx → Elt F ((cfgM V).win w).elt :=
  (((cfgM V).win w).blk t).view.read (Elt F) (ent V c (Pipeline.arrRef spec0 w))

/-- The staging buffer of the sample at point `t`, -/
abbrev ms0 (t : Fin (cfgM V).N) : Memref sig .tc .vmem S1x2048x1024 .f32 := spec0_0.stage ((cfgM V).slots t 0)
/-- a whole buffer. -/
abbrev hs0 (t : Fin (cfgM V).N) : (ms0 V t).IsWhole := hstage0_0 (((cfgM V).slots t 0).cast nbuf0_0)
/-- The staging buffer of the first half's rows at point `t`, -/
abbrev ms1 (t : Fin (cfgM V).N) : Memref sig .tc .vmem S1x102x1024 .f32 := spec0_1.stage ((cfgM V).slots t 1)
/-- a whole buffer. -/
abbrev hs1 (t : Fin (cfgM V).N) : (ms1 V t).IsWhole := hstage0_1 (((cfgM V).slots t 1).cast nbuf0_1)
/-- The staging buffer of the second half's rows at point `t`, -/
abbrev ms2 (t : Fin (cfgM V).N) : Memref sig .tc .vmem S1x102x1024 .f32 := spec0_2.stage ((cfgM V).slots t 2)
/-- a whole buffer. -/
abbrev hs2 (t : Fin (cfgM V).N) : (ms2 V t).IsWhole := hstage0_2 (((cfgM V).slots t 2).cast nbuf0_2)

/-- What the kernel leaves in the buffer of the half that starts at word `o` of a sample's words. -/
def outAt (o : ℕ) (c : Dev nD) (t : Fin (cfgM V).N) : Vec F S1x102x1024 .f32 :=
  halfBlk (tbl V 0) (iblk V c 0 t) (2048 * ((grid0.coords t) 0).val + o)

/-- The run's data: arrays as the call finds them, the sample left in place, the two blocks at `outAt`. -/
def dats (c : Dev nD) : Dat τ (Elt F) Unit ℕ (UR sig nD τ) ℕ (cfgM V) c where
  A w := ent V c (Pipeline.arrRef spec0 w)
  after w t := match w with
    | ⟨0, _⟩ => iblk V c 0 t
    | ⟨1, _⟩ => outAt V 0 c t
    | ⟨2, _⟩ => outAt V 1024 c t
  Φ _ := iprop(Pipeline.ΦA spec0 c ∗ Pipeline.prefHeld pre0 c (fun _ => fullShare) (tbl V))
  q _ := fullShare
  owed _ := 0

/-- Each window's array starts at the contents of its reference. -/
theorem A_eq (c : Dev nD) (w : Fin (cfgM V).W) : (dats V c).A w = ent V c (Pipeline.arrRef spec0 w) := by
  dsimp only [dats]

/-- The sample's block is left as fetched; -/
theorem after0 (c : Dev nD) (t : Fin (cfgM V).N) : (dats V c).after 0 t = iblk V c 0 t := by dsimp only [dats]; try rfl
/-- the first result's block holds the first half's rows, -/
theorem after1 (c : Dev nD) (t : Fin (cfgM V).N) : (dats V c).after 1 t = outAt V 0 c t := by dsimp only [dats]; try rfl
/-- the second result's the second half's. -/
theorem after2 (c : Dev nD) (t : Fin (cfgM V).N) : (dats V c).after 2 t = outAt V 1024 c t := by dsimp only [dats]; try rfl

/-- The sample's buffer holds the sample at every point. -/
theorem before0 (c : Dev nD) (t : Fin (cfgM V).N) (d) : (dats V c).before 0 t d = iblk V c 0 t :=
  ((dats V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- What the kernel is called with at a point, -/
def bodyPre (c : Dev nD) (t : Fin (cfgM V).N) : sProp 𝕄 :=
  iprop((dats V c).Φ t.castSucc ∗ (dats V c).owesAt () t.castSucc
    ∗ (∃ d, owns (c : Thread nD τ) (ms0 V t) fullShare ((dats V c).before 0 t d))
    ∗ (∃ d, owns (c : Thread nD τ) (ms1 V t) fullShare ((dats V c).before 1 t d))
    ∗ (∃ d, owns (c : Thread nD τ) (ms2 V t) fullShare ((dats V c).before 2 t d)))

/-- and what it returns. -/
def bodyPost (c : Dev nD) (t : Fin (cfgM V).N) : sProp 𝕄 :=
  iprop((dats V c).Φ t.succ ∗ (dats V c).owesAt () t.succ
    ∗ owns (c : Thread nD τ) (ms0 V t) fullShare ((dats V c).after 0 t)
    ∗ owns (c : Thread nD τ) (ms1 V t) fullShare ((dats V c).after 1 t)
    ∗ owns (c : Thread nD τ) (ms2 V t) fullShare ((dats V c).after 2 t))

/-- The kernel as it is called at a point. -/
abbrev bodyAt (t : Fin (cfgM V).N) : Prog (TpuEff nD τ sig (Elt F) Λ₀ .tc) PUnit :=
  cc0__ab_gather_kernel (grid0.coords t) abM (Memref.isWhole_whole _) (ms0 V t) (hs0 V t) (ms1 V t) (hs1 V t) (ms2 V t) (hs2 V t)

variable (hR : InRange V)

include hR in
/-- The kernel at any point takes what it is called with to what it returns. -/
theorem sound_body (c : Dev nD) (t : Fin (cfgM V).N) :
    bodyPre V c t ⊢ wp frame (wpE (defs₀ (F := F)) Variants.none c none) Set.univ (bodyAt V t) (fun _ => bodyPost V c t) := by
  unfold bodyPre bodyPost bodyAt
  simp only [before0]
  rw [show (dats V c).Φ t.succ = (dats V c).Φ t.castSucc from rfl,
    show (dats V c).owesAt () t.succ = (dats V c).owesAt () t.castSucc from rfl,
    after0, after1, after2]
  rw [show (dats V c).Φ t.castSucc = iprop(Pipeline.ΦA spec0 c ∗ Pipeline.prefHeld pre0 c (fun _ => fullShare) (tbl V)) from rfl]
  unfold outAt
  iintro ⟨⟨HΦ, HT⟩, Ho, ⟨%d0, H0⟩, ⟨%d1, H1⟩, ⟨%d2, H2⟩⟩
  ihave HT' := (tables_split V c).1 $$ HT
  icases HT' with ⟨HL, HT⟩
  iapply (kernel_run c (grid0.coords t) (tbl V 0) (ms0 V t) (hs0 V t) (ms1 V t) (hs1 V t) (ms2 V t) (hs2 V t) (iblk V c 0 t) hR _)
  isplitl [H0]; · iexact H0
  isplitl [H1]; · iexists _; iexact H1
  isplitl [H2]; · iexists _; iexact H2
  isplitl [HT]; · iexact HT
  iintro ⟨H0, H1, H2, HT⟩
  isplitl [HΦ HL HT]
  · isplitl [HΦ]
    · iexact HΦ
    iapply (tables_split V c).2
    isplitl [HL]
    · iexact HL
    iexact HT
  isplitl [Ho]; · iexact Ho
  isplitl [H0]; · iexact H0
  isplitl [H1]; · iexact H1
  iexact H2

/-- One grid point calls the kernel at its blocks. -/
theorem row (t : Fin (cfgM V).N) :
    defs₀ (F := F) .tc (cfgM V).body ((cfgM V).bodyArgs t ((cfgM V).slots t)) = bodyAt V t := by
  unfold defs₀; rw [Defs.onTc_tc]

include hR in
/-- The kernel at every point, as the launch asks it. -/
theorem body_obligation (c : Dev nD) : BodyObligation (dats V c) (defs₀ (F := F)) Variants.none () Set.univ := fun t => by
  rw [bigSep_W0, bigSep_W0, row V]
  exact triple_restated (sound_body V hR c t) rfl .rfl fun _ => .rfl

end Cert.TailIdeal.Gather

end
-- ==== Proof.TailMergeTrip.lean ====
module

public import proofs.«01_k».proof.Proof.Gen.TailIdeal.Loops
public import proofs.«01_k».proof.Proof.Gen.TailIdeal.Launch
public import Idealize.ShloMosaic.Lib.WritesUnit
public import Idealize.ShloMosaic.Lib.WholeRead
public import Idealize.ShloMosaic.Lib.ValueLayout
public import Idealize.ShloMosaic.Lib.Pipeline.Frame
public import Idealize.ShloMosaic.Lib.Pipeline.FrameBody
public import Idealize.ShloMosaic.Lib.Exec

@[expose] public section

noncomputable section

namespace Cert.TailIdeal.Merge

open Cert.TailIdeal Cert.TailIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table of the kept rows, -/
abbrev ordM : Memref sig .tc .smem S8192 .i32 := Memref.whole main_arg0
/-- that of the two halves of the pairs, -/
abbrev abM : Memref sig .tc .smem S8192 .i32 := Memref.whole main_arg1
/-- and that of the destinations. -/
abbrev dstM : Memref sig .tc .smem S408 .i32 := Memref.whole main_v28

/-- The contents of a table. -/
abbrev TbBuf (c : Dev nD) {S : Shape} {e : EltTy} (M : Memref sig .tc .smem S e) : Type := Buf (Elt F) (M.view.loc (c : Thread nD τ))
/-- A table held at its contents. -/
abbrev tbPt (c : Dev nD) {S : Shape} {e : EltTy} (M : Memref sig .tc .smem S e) (f : TbBuf (F := F) c M) : sProp 𝕄 :=
  M.view.loc (c : Thread nD τ) ↦{fullShare.right} f

/-- A row of a one-sample array, the row number held inside the array. -/
def rowAt (X : Vec F S1x2048x1024 .f32) (n : ℕ) (j : Fin 1024) : F .f32 :=
  X (ix3 (0 : Fin 1) (⟨min n 2047, by omega⟩ : Fin 2048) j)

/-- A word of a table of 8192 words, as a number. -/
def word (t : S8192.Idx → BitVec 32) (n : ℕ) : ℕ := (t (ValueIdx.ix1 (⟨min n 8191, by omega⟩ : Fin 8192))).toNat

/-- A word of the table of 408 words, as a number. -/
def dword (t : S408.Idx → BitVec 32) (n : ℕ) : ℕ := (t (ValueIdx.ix1 (⟨min n 407, by omega⟩ : Fin 408))).toNat

section Facts

/-- A position below 2048 is inside the block of tokens, in the first loop, -/
theorem chk1_of (w : BitVec 32) (h : w.toNat < 2048) : k1_chk1 w := by
  intro a
  match a with
  | ⟨0, _⟩ => exact Nat.le_refl 1
  | ⟨1, _⟩ => show w.toNat + 1 ≤ 2048; omega
  | ⟨2, _⟩ => exact Nat.le_refl 1024

/-- in the second -/
theorem chk2_of (w : BitVec 32) (h : w.toNat < 2048) : k1_chk2 w := chk1_of w h

/-- and in the third. -/
theorem chk4_of (w : BitVec 32) (h : w.toNat < 2048) : k1_chk4 w := chk1_of w h

/-- A destination after the kept rows, as a number. -/
theorem add_toNat (w : BitVec 32) (h : w.toNat < 102) : (Scalar.addi 1844#32 w).toNat = 1844 + w.toNat := by
  show (1844#32 + w).toNat = _
  rw [BitVec.toNat_add]
  show (1844 + w.toNat) % 4294967296 = _
  omega

/-- Where the third loop reads the result's block -/
theorem off9_eq (w : BitVec 32) (h : w.toNat < 102) : k1_off9 w = ![0, 1844 + w.toNat, 0] := by
  show ![0, (Scalar.addi 1844#32 w).toNat, 0] = _
  rw [add_toNat w h]

/-- and where it writes it. -/
theorem off11_eq (w : BitVec 32) (h : w.toNat < 102) : k1_off11 w = ![0, 1844 + w.toNat, 0] := off9_eq w h

/-- That place is inside the block. -/
theorem chk9 (w : BitVec 32) (h : w.toNat < 102) : ∀ a, k1_off9 w a + S1x1x1024.size a ≤ S1x1946x1024.size a := by
  rw [off9_eq w h]
  intro a
  match a with
  | ⟨0, _⟩ => exact Nat.le_refl 1
  | ⟨1, _⟩ => show 1844 + w.toNat + 1 ≤ 1946; omega
  | ⟨2, _⟩ => exact Nat.le_refl 1024

/-- So the third loop's condition holds. -/
theorem chk3_of (w : BitVec 32) (h : w.toNat < 102) : k1_chk3 w := ⟨chk9 w h, chk9 w h⟩

/-- One row written: that row holds the payload, every other row what it held. -/
theorem read_row (v : View sig .tc .vmem S1x1946x1024 .f32) (f : v.ty.Contents (Elt F)) {off : Fin 3 → ℕ} (o : ℕ)
    (heq : off = ![0, o, 0]) (inb : ∀ a, off a + S1x1x1024.size a ≤ S1x1946x1024.size a)
    (w : S1x1x1024.Idx → F .f32) (r : Fin 1946) (j : Fin 1024) :
    v.read (Elt F) (v.writes (Elt F) f [⟨Rect.unit (s := S1x1946x1024) off S1x1x1024.size inb, w⟩]) (ix3 (0 : Fin 1) r j)
      = if r.val = o then w (ix3 (0 : Fin 1) (0 : Fin 1) j) else v.read (Elt F) f (ix3 (0 : Fin 1) r j) := by
  by_cases h : r.val = o
  · rw [if_pos h]
    refine View.read_writes_cons_unit_of_mem v f inb w [] _ (ix3 (0 : Fin 1) (0 : Fin 1) j) heq fun a => ?_
    match a with
    | ⟨0, _⟩ => rfl
    | ⟨1, _⟩ => exact h
    | ⟨2, _⟩ => exact (Nat.zero_add _).symm
  · rw [if_neg h]
    refine (View.read_writes_cons_unit_of_not_mem v f inb w [] _ heq (1 : Fin 3) ?_).trans rfl
    show r.val < o ∨ o + 1 ≤ r.val
    omega

/-- One row of the output read back. -/
theorem out_row (v : View sig .tc .vmem S1x1946x1024 .f32) (f : v.ty.Contents (Elt F)) {off : Fin 3 → ℕ} (r : Fin 1946)
    (heq : off = ![0, r.val, 0]) (inb : ∀ a, off a + S1x1x1024.size a ≤ S1x1946x1024.size a) (j : Fin 1024) :
    v.readAt (Elt F) (Rect.unit (s := S1x1946x1024) off S1x1x1024.size inb).toLoadRect f (ix3 (0 : Fin 1) (0 : Fin 1) j)
      = v.read (Elt F) f (ix3 (0 : Fin 1) r j) := by
  subst heq
  refine congrArg (v.read (Elt F) f) (funext fun a => Fin.ext ?_)
  match a with
  | ⟨0, _⟩ => rfl
  | ⟨1, _⟩ => exact Nat.add_zero _
  | ⟨2, _⟩ => show 0 + 1 * j.val = j.val; omega

/-- One row of the sample read. -/
theorem in_row (m : Memref sig .tc .vmem S1x2048x1024 .f32) (h : m.IsWhole) (X : Vec F S1x2048x1024 .f32) {off : Fin 3 → ℕ} (n : ℕ)
    (hn : n < 2048) (heq : off = ![0, n, 0]) (inb : ∀ a, off a + S1x1x1024.size a ≤ S1x2048x1024.size a) (j : Fin 1024) :
    View.readAt (Elt F) m.view (Rect.unit (s := S1x2048x1024) off S1x1x1024.size inb).toLoadRect (h.unread X) (ix3 (0 : Fin 1) (0 : Fin 1) j)
      = rowAt X n j := by
  subst heq
  refine (h.readAt_unread X _ _).trans (congrArg X (funext fun a => Fin.ext ?_))
  match a with
  | ⟨0, _⟩ => rfl
  | ⟨1, _⟩ => show n + 1 * 0 = min n 2047; omega
  | ⟨2, _⟩ => show 0 + 1 * j.val = j.val; omega

/-- One count read. -/
theorem cnt_read (m : Memref sig .tc .vmem S1x102x1 .f32) (h : m.IsWhole) (C : Vec F S1x102x1 .f32) {off : Fin 3 → ℕ} (n : Fin 102)
    (heq : off = ![0, n.val, 0]) (inb : ∀ a, off a + S1x1x1.size a ≤ S1x102x1.size a) (y : S1x1x1.Idx) :
    View.readAt (Elt F) m.view (Rect.unit (s := S1x102x1) off S1x1x1.size inb).toLoadRect (h.unread C) y
      = C (ix3 (0 : Fin 1) n (0 : Fin 1)) := by
  subst heq
  refine (h.readAt_unread C _ _).trans (congrArg C (funext fun a => Fin.ext ?_))
  match a with
  | ⟨0, _⟩ => show 0 + 1 * (y 0).val = 0; have : (y 0).val < 1 := (y 0).isLt; omega
  | ⟨1, _⟩ => show n.val + 1 * (y 1).val = n.val; have : (y 1).val < 1 := (y 1).isLt; omega
  | ⟨2, _⟩ => show 0 + 1 * (y 2).val = 0; have : (y 2).val < 1 := (y 2).isLt; omega

/-- The first loop copies a row, -/
theorem pay1_apply (v : Vec F S1x1x1024 .f32) (j : Fin 1024) :
    k1_pay1 v (ix3 (0 : Fin 1) (0 : Fin 1) j) = v (ix3 (0 : Fin 1) (0 : Fin 1) j) := by
  unfold k1_pay1
  rw [shapeCast_ab_1ab_apply, shapeCast_1ab_ab_apply]

/-- so does the second, -/
theorem pay2_apply (v : Vec F S1x1x1024 .f32) (j : Fin 1024) :
    k1_pay2 v (ix3 (0 : Fin 1) (0 : Fin 1) j) = v (ix3 (0 : Fin 1) (0 : Fin 1) j) := pay1_apply v j

/-- the third adds one row to another -/
theorem pay3_apply (u v : Vec F S1x1x1024 .f32) (j : Fin 1024) :
    k1_pay3 u v (ix3 (0 : Fin 1) (0 : Fin 1) j)
      = FloatOps.addf (u (ix3 (0 : Fin 1) (0 : Fin 1) j)) (v (ix3 (0 : Fin 1) (0 : Fin 1) j)) := by
  unfold k1_pay3
  rw [shapeCast_ab_1ab_apply]
  show FloatOps.addf (shapeCast S1x1024 u _ (ix2 (0 : Fin 1) j)) (shapeCast S1x1024 v _ (ix2 (0 : Fin 1) j)) = _
  rw [shapeCast_1ab_ab_apply, shapeCast_1ab_ab_apply]

/-- and the fourth divides a row by a number. -/
theorem pay4_apply (u : Vec F S1x1x1 .f32) (v : Vec F S1x1x1024 .f32) (q : F .f32) (hu : ∀ y, u y = q) (j : Fin 1024) :
    k1_pay4 u v (ix3 (0 : Fin 1) (0 : Fin 1) j) = FloatOps.divf (v (ix3 (0 : Fin 1) (0 : Fin 1) j)) q := by
  unfold k1_pay4
  rw [shapeCast_ab_1ab_apply]
  show FloatOps.divf (shapeCast S1x1024 v _ (ix2 (0 : Fin 1) j)) (u _) = _
  rw [shapeCast_1ab_ab_apply, hu]

end Facts

end Cert.TailIdeal.Merge

end
-- ==== Proof.TailMergeBody.lean ====
module

public import proofs.«01_k».proof.Proof.TailMergeTrip

@[expose] public section

noncomputable section

namespace Cert.TailIdeal.Merge

open Cert.TailIdeal Cert.TailIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (c : Dev nD) (i : grid1.Coords) (tord : TbBuf (F := F) c ordM) (tab : TbBuf (F := F) c abM) (tdst : TbBuf (F := F) c dstM)
  (arg4 : Memref sig .tc .vmem S1x2048x1024 .f32) (harg4 : arg4.IsWhole) (arg5 : Memref sig .tc .vmem S1x102x1 .f32) (harg5 : arg5.IsWhole)
  (arg6 : Memref sig .tc .vmem S1x1946x1024 .f32) (harg6 : arg6.IsWhole)
  (X : Vec F S1x2048x1024 .f32) (cnt : Vec F S1x102x1 .f32)

/-- The output block, held at contents `f`. -/
abbrev oPt (f : Buf (Elt F) (arg6.view.loc (c : Thread nD τ))) : sProp 𝕄 := arg6.view.loc (c : Thread nD τ) ↦[arg6.view.set]{fullShare} f
/-- The sample's block, held at `X`. -/
abbrev xPt : sProp 𝕄 := arg4.view.loc (c : Thread nD τ) ↦[arg4.view.set]{fullShare} (harg4.unread X)
/-- The counts' block, held at `cnt`. -/
abbrev cPt : sProp 𝕄 := arg5.view.loc (c : Thread nD τ) ↦[arg5.view.set]{fullShare} (harg5.unread cnt)
/-- What the kernel only reads: the three tables, the sample and the counts. -/
abbrev ins : sProp 𝕄 := iprop(tbPt c ordM tord ∗ tbPt c abM tab ∗ tbPt c dstM tdst ∗ xPt c arg4 harg4 X ∗ cPt c arg5 harg5 cnt)

/-- One row of the output is given a value, the other rows kept. -/
def RowSet (f f' : Buf (Elt F) (arg6.view.loc (c : Thread nD τ))) (o : ℕ) (w : Fin 1024 → F .f32) : Prop :=
  ∀ (r : Fin 1946) (j : Fin 1024), arg6.view.read (Elt F) f' (ix3 (0 : Fin 1) r j)
    = if r.val = o then w j else arg6.view.read (Elt F) f (ix3 (0 : Fin 1) r j)

/-- A word read from the first table. -/
theorem ord_word {off : Fin 1 → ℕ} (n : ℕ) (hn : n < 8192) (heq : off = ![n]) (h1 : ∀ a, off a + S1.size a ≤ S8192.size a)
    (h2 : 0 < (Rect.unit (s := S8192) off S1.size h1).toLoadRect.shape.numel) :
    (View.readAt (Elt F) ordM.view (Rect.unit (s := S8192) off S1.size h1).toLoadRect tord (Shape.Idx.first h2) : BitVec 32).toNat
      = word tord n := by
  subst heq
  refine congrArg (fun y => (tord y : BitVec 32).toNat) (funext fun a => Fin.ext ?_)
  match a with
  | ⟨0, _⟩ =>
    show n + 1 * (Shape.Idx.first h2 0).val = min n 8191
    have : (Shape.Idx.first h2 0).val < 1 := (Shape.Idx.first h2 0).isLt
    omega

/-- A word read from the second table. -/
theorem ab_word {off : Fin 1 → ℕ} (n : ℕ) (hn : n < 8192) (heq : off = ![n]) (h1 : ∀ a, off a + S1.size a ≤ S8192.size a)
    (h2 : 0 < (Rect.unit (s := S8192) off S1.size h1).toLoadRect.shape.numel) :
    (View.readAt (Elt F) abM.view (Rect.unit (s := S8192) off S1.size h1).toLoadRect tab (Shape.Idx.first h2) : BitVec 32).toNat
      = word tab n := by
  subst heq
  refine congrArg (fun y => (tab y : BitVec 32).toNat) (funext fun a => Fin.ext ?_)
  match a with
  | ⟨0, _⟩ =>
    show n + 1 * (Shape.Idx.first h2 0).val = min n 8191
    have : (Shape.Idx.first h2 0).val < 1 := (Shape.Idx.first h2 0).isLt
    omega

/-- A word read from the third table. -/
theorem dst_word {off : Fin 1 → ℕ} (n : ℕ) (hn : n < 408) (heq : off = ![n]) (h1 : ∀ a, off a + S1.size a ≤ S408.size a)
    (h2 : 0 < (Rect.unit (s := S408) off S1.size h1).toLoadRect.shape.numel) :
    (View.readAt (Elt F) dstM.view (Rect.unit (s := S408) off S1.size h1).toLoadRect tdst (Shape.Idx.first h2) : BitVec 32).toNat
      = dword tdst n := by
  subst heq
  refine congrArg (fun y => (tdst y : BitVec 32).toNat) (funext fun a => Fin.ext ?_)
  match a with
  | ⟨0, _⟩ =>
    show n + 1 * (Shape.Idx.first h2 0).val = min n 407
    have : (Shape.Idx.first h2 0).val < 1 := (Shape.Idx.first h2 0).isLt
    omega

/-- The offsets of a merged row, by the number of the row. -/
theorem row_eq {n m : ℕ} (h : n = m) : (![0, 1844 + n, 0] : Fin 3 → ℕ) = ![0, 1844 + m, 0] := by rw [h]

/-- A trip of the first loop is below the number of kept rows, -/
theorem lt1 (k : Fin k1_t1_loop.trips) : k.val < 1844 := Nat.lt_of_lt_of_le k.isLt k1_t1_abs.2.1
/-- one of the second below the number of destinations, -/
theorem lt2 (k : Fin k1_t2_loop.trips) : k.val < 102 := Nat.lt_of_lt_of_le k.isLt k1_t2_abs.2.1
/-- one of the third below the number of sources, -/
theorem lt3 (k : Fin k1_t3_loop.trips) : k.val < 102 := Nat.lt_of_lt_of_le k.isLt k1_t3_abs.2.1
/-- one of the fourth below the number of destinations. -/
theorem lt4 (k : Fin k1_t4_loop.trips) : k.val < 102 := Nat.lt_of_lt_of_le k.isLt k1_t4_abs.2.1
/-- A grid point is a sample. -/
theorem bat (i : grid1.Coords) : (i 0).val < 4 := (i 0).isLt

/-- A trip of the first loop copies one unmerged row. -/
theorem trip1 (hord : ∀ j, (tord j).toNat < 2048) (k : Fin k1_t1_loop.trips) (f : Buf (Elt F) (arg6.view.loc (c : Thread nD τ))) :
    iprop(ins c tord tab tdst arg4 harg4 arg5 harg5 X cnt ∗ oPt c arg6 f) ⊢
      wp frame (wpE (defs₀ (F := F)) Variants.none (c : Thread nD τ) none) Set.univ
        (k1_t1_body (F := F) i ordM (Memref.isWhole_whole _) abM (Memref.isWhole_whole _) dstM (Memref.isWhole_whole _) arg4 harg4 arg5 harg5 arg6 harg6 k ())
        (fun _ => iprop(ins c tord tab tdst arg4 harg4 arg5 harg5 X cnt ∗ ∃ f', oPt c arg6 f' ∗
          ⌜RowSet c arg6 f f' k.val (rowAt X (word tord (2048 * (i 0).val + k.val)))⌝)) := by
  have hk := lt1 k
  have hb := bat i
  sl_unfold [k1_t1_body]
  iintro ⟨⟨HT, HA, HD, HX, HC⟩, HO⟩
  sl_exec (disch := exact chk1_of _ (hord _))
  sl_step
  sl_unfold_run_names
  isplitl [HT HA HD HX HC]
  · sl_close
  iexists _
  isplitl [HO]
  · iexact HO
  ipureintro
  intro r j
  rw [read_row _ _ k.val (k1_off3_eq k)]
  by_cases hr : r.val = k.val
  · rw [if_pos hr, if_pos hr, pay1_apply]
    refine (in_row arg4 harg4 X _ (hord _) rfl _ j).trans ?_
    exact congrArg (fun n => rowAt X n j) (ord_word c tord _ (by omega) (k1_off1_eq i k) _ _)
  · rw [if_neg hr, if_neg hr]

/-- A trip of the second loop copies one row of the partners' half. -/
theorem trip2 (hab : ∀ j, (tab j).toNat < 2048) (k : Fin k1_t2_loop.trips) (f : Buf (Elt F) (arg6.view.loc (c : Thread nD τ))) :
    iprop(ins c tord tab tdst arg4 harg4 arg5 harg5 X cnt ∗ oPt c arg6 f) ⊢
      wp frame (wpE (defs₀ (F := F)) Variants.none (c : Thread nD τ) none) Set.univ
        (k1_t2_body (F := F) i ordM (Memref.isWhole_whole _) abM (Memref.isWhole_whole _) dstM (Memref.isWhole_whole _) arg4 harg4 arg5 harg5 arg6 harg6 k ())
        (fun _ => iprop(ins c tord tab tdst arg4 harg4 arg5 harg5 X cnt ∗ ∃ f', oPt c arg6 f' ∗
          ⌜RowSet c arg6 f f' (k.val + 1844) (rowAt X (word tab (2048 * (i 0).val + k.val + 1024)))⌝)) := by
  have hk := lt2 k
  have hb := bat i
  sl_unfold [k1_t2_body]
  iintro ⟨⟨HT, HA, HD, HX, HC⟩, HO⟩
  sl_exec (disch := exact chk2_of _ (hab _))
  sl_step
  sl_unfold_run_names
  isplitl [HT HA HD HX HC]
  · sl_close
  iexists _
  isplitl [HO]
  · iexact HO
  ipureintro
  intro r j
  rw [read_row _ _ (k.val + 1844) (k1_off6_eq k)]
  by_cases hr : r.val = k.val + 1844
  · rw [if_pos hr, if_pos hr, pay2_apply]
    refine (in_row arg4 harg4 X _ (hab _) rfl _ j).trans ?_
    exact congrArg (fun n => rowAt X n j) (ab_word c tab _ (by omega) (k1_off4_eq i k) _ _)
  · rw [if_neg hr, if_neg hr]

/-- A trip of the third loop adds one row to the partner's row. -/
theorem trip3 (hab : ∀ j, (tab j).toNat < 2048) (hdst : ∀ j, (tdst j).toNat < 102) (k : Fin k1_t3_loop.trips) (f : Buf (Elt F) (arg6.view.loc (c : Thread nD τ))) :
    iprop(ins c tord tab tdst arg4 harg4 arg5 harg5 X cnt ∗ oPt c arg6 f) ⊢
      wp frame (wpE (defs₀ (F := F)) Variants.none (c : Thread nD τ) none) Set.univ
        (k1_t3_body (F := F) i ordM (Memref.isWhole_whole _) abM (Memref.isWhole_whole _) dstM (Memref.isWhole_whole _) arg4 harg4 arg5 harg5 arg6 harg6 k ())
        (fun _ => iprop(ins c tord tab tdst arg4 harg4 arg5 harg5 X cnt ∗ ∃ f', oPt c arg6 f' ∗
          ⌜∀ (r : Fin 1946) (j : Fin 1024), arg6.view.read (Elt F) f' (ix3 (0 : Fin 1) r j)
            = if r.val = 1844 + dword tdst (102 * (i 0).val + k.val) then
                FloatOps.addf (arg6.view.read (Elt F) f (ix3 (0 : Fin 1) r j)) (rowAt X (word tab (2048 * (i 0).val + k.val)) j)
              else arg6.view.read (Elt F) f (ix3 (0 : Fin 1) r j)⌝)) := by
  have hk := lt3 k
  have hb := bat i
  sl_unfold [k1_t3_body]
  iintro ⟨⟨HT, HA, HD, HX, HC⟩, HO⟩
  sl_exec (disch := first | exact chk3_of _ (hdst _) | exact chk4_of _ (hab _))
  sl_step
  sl_unfold_run_names
  isplitl [HT HA HD HX HC]
  · sl_close
  iexists _
  isplitl [HO]
  · iexact HO
  ipureintro
  intro r j
  refine (read_row _ _ (1844 + dword tdst (102 * (i 0).val + k.val))
    ((off11_eq _ (hdst _)).trans (row_eq (dst_word c tdst _ (by omega) (k1_off7_eq i k) _ _))) _ _ r j).trans ?_
  by_cases hr : r.val = 1844 + dword tdst (102 * (i 0).val + k.val)
  · rw [if_pos hr, if_pos hr, pay3_apply]
    refine congrArg₂ FloatOps.addf (out_row _ f r ((off9_eq _ (hdst _)).trans
        ((row_eq (dst_word c tdst _ (by omega) (k1_off7_eq i k) _ _)).trans (by rw [hr]))) _ j)
      ((in_row arg4 harg4 X _ (hab _) rfl _ j).trans <| congrArg (fun n => rowAt X n j) (ab_word c tab _ (by omega) (k1_off8_eq i k) _ _))
  · rw [if_neg hr, if_neg hr]

/-- A trip of the fourth loop divides one row by its count. -/
theorem trip4 (k : Fin k1_t4_loop.trips) (f : Buf (Elt F) (arg6.view.loc (c : Thread nD τ))) :
    iprop(ins c tord tab tdst arg4 harg4 arg5 harg5 X cnt ∗ oPt c arg6 f) ⊢
      wp frame (wpE (defs₀ (F := F)) Variants.none (c : Thread nD τ) none) Set.univ
        (k1_t4_body (F := F) i ordM (Memref.isWhole_whole _) abM (Memref.isWhole_whole _) dstM (Memref.isWhole_whole _) arg4 harg4 arg5 harg5 arg6 harg6 k ())
        (fun _ => iprop(ins c tord tab tdst arg4 harg4 arg5 harg5 X cnt ∗ ∃ f', oPt c arg6 f' ∗
          ⌜∀ (r : Fin 1946) (j : Fin 1024), arg6.view.read (Elt F) f' (ix3 (0 : Fin 1) r j)
            = if r.val = k.val + 1844 then
                FloatOps.divf (arg6.view.read (Elt F) f (ix3 (0 : Fin 1) r j)) (cnt (ix3 (0 : Fin 1) (⟨k.val, lt4 k⟩ : Fin 102) (0 : Fin 1)))
              else arg6.view.read (Elt F) f (ix3 (0 : Fin 1) r j)⌝)) := by
  have hk := lt4 k
  sl_unfold [k1_t4_body]
  iintro ⟨⟨HT, HA, HD, HX, HC⟩, HO⟩
  sl_exec
  sl_step
  sl_unfold_run_names
  isplitl [HT HA HD HX HC]
  · sl_close
  iexists _
  isplitl [HO]
  · iexact HO
  ipureintro
  intro r j
  rw [read_row _ _ (k.val + 1844) (k1_off13_eq k)]
  by_cases hr : r.val = k.val + 1844
  · rw [if_pos hr, if_pos hr, pay4_apply _ _ _ (cnt_read arg5 harg5 cnt ⟨k.val, lt4 k⟩ (k1_off12_eq k) _)]
    exact congrArg (fun a => FloatOps.divf a _) (out_row _ f r ((k1_off13_eq k).trans (by rw [hr])) _ j)
  · rw [if_neg hr, if_neg hr]

end Trip

end Cert.TailIdeal.Merge

end
-- ==== Proof.TailMergeKernel.lean ====
module

public import proofs.«01_k».proof.Proof.TailMergeBody

@[expose] public section

noncomputable section

namespace Cert.TailIdeal.Merge

open Cert.TailIdeal Cert.TailIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the rows hold -/

section Rows

variable (b : ℕ) (tord tab : S8192.Idx → BitVec 32) (tdst : S408.Idx → BitVec 32) (X : Vec F S1x2048x1024 .f32) (cnt : Vec F S1x102x1 .f32)

/-- Unmerged row `n`: the row of the sample the order names. -/
def kept (n : ℕ) (j : Fin 1024) : F .f32 := rowAt X (word tord (2048 * b + n)) j

/-- Partner row `i` after the first `k` merged rows are added to their partners. -/
def merged : ℕ → ℕ → Fin 1024 → F .f32
  | 0, i, j => rowAt X (word tab (2048 * b + i + 1024)) j
  | k + 1, i, j =>
    if i = dword tdst (102 * b + k) then FloatOps.addf (merged k i j) (rowAt X (word tab (2048 * b + k)) j) else merged k i j

/-- The rows while the third loop has made `k` trips (the second loop's end is `k = 0`). -/
def summed (k n : ℕ) (j : Fin 1024) : F .f32 := if n < 1844 then kept b tord X n j else merged b tab tdst X k (n - 1844) j

/-- The rows while the fourth loop has made `k` trips. -/
def divided (k n : ℕ) (j : Fin 1024) : F .f32 :=
  if n < 1844 then kept b tord X n j
  else if n - 1844 < k then
    FloatOps.divf (merged b tab tdst X 102 (n - 1844) j) (cnt (ix3 (0 : Fin 1) (⟨min (n - 1844) 101, by omega⟩ : Fin 102) (0 : Fin 1)))
  else merged b tab tdst X 102 (n - 1844) j

/-- The block the kernel leaves. -/
def outBlk : Vec F S1x1946x1024 .f32 := fun y => divided b tord tab tdst X cnt 102 (y 1).val ⟨(y 2).val, (y 2).isLt⟩

end Rows

section Loops

variable (c : Dev nD) (i : grid1.Coords) (tord : TbBuf (F := F) c ordM) (tab : TbBuf (F := F) c abM) (tdst : TbBuf (F := F) c dstM)
  (arg4 : Memref sig .tc .vmem S1x2048x1024 .f32) (harg4 : arg4.IsWhole) (arg5 : Memref sig .tc .vmem S1x102x1 .f32) (harg5 : arg5.IsWhole)
  (arg6 : Memref sig .tc .vmem S1x1946x1024 .f32) (harg6 : arg6.IsWhole)
  (X : Vec F S1x2048x1024 .f32) (cnt : Vec F S1x102x1 .f32)

/-- The first `n` rows of the output hold `D`. -/
def Held (n : ℕ) (D : ℕ → Fin 1024 → F .f32) (f : Buf (Elt F) (arg6.view.loc (c : Thread nD τ))) : Prop :=
  ∀ (r : Fin 1946) (j : Fin 1024), r.val < n → arg6.view.read (Elt F) f (ix3 (0 : Fin 1) r j) = D r.val j

/-- The state between trips: the inputs held, and the first `n` rows of the output at `D`. -/
abbrev state (n : ℕ) (D : ℕ → Fin 1024 → F .f32) : sProp 𝕄 :=
  iprop(ins c tord tab tdst arg4 harg4 arg5 harg5 X cnt ∗ ∃ f, oPt c arg6 f ∗ ⌜Held c arg6 n D f⌝)

/-- A trip of the first loop extends the copied rows by one. -/
theorem held1 (k : ℕ) (f f' : Buf (Elt F) (arg6.view.loc (c : Thread nD τ)))
    (h : Held c arg6 k (summed (i 0).val tord tab tdst X 0) f) (hk : k < 1844)
    (hs : RowSet c arg6 f f' k (rowAt X (word tord (2048 * (i 0).val + k)))) :
    Held c arg6 (k + 1) (summed (i 0).val tord tab tdst X 0) f' := by
  intro r j hr
  rw [hs r j]
  by_cases e : r.val = k
  · rw [if_pos e, e]
    unfold summed
    rw [if_pos hk]
    rfl
  · rw [if_neg e, h r j (by omega)]

/-- A trip of the second loop extends them by one partner row. -/
theorem held2 (k : ℕ) (f f' : Buf (Elt F) (arg6.view.loc (c : Thread nD τ)))
    (h : Held c arg6 (1844 + k) (summed (i 0).val tord tab tdst X 0) f)
    (hs : RowSet c arg6 f f' (k + 1844) (rowAt X (word tab (2048 * (i 0).val + k + 1024)))) :
    Held c arg6 (1844 + (k + 1)) (summed (i 0).val tord tab tdst X 0) f' := by
  intro r j hr
  rw [hs r j]
  by_cases e : r.val = k + 1844
  · rw [if_pos e, e]
    unfold summed
    rw [if_neg (by omega), Nat.add_sub_cancel]
    rfl
  · rw [if_neg e, h r j (by omega)]

/-- A trip of the third loop adds one merged row to its partner's. -/
theorem held3 (k : ℕ) (f f' : Buf (Elt F) (arg6.view.loc (c : Thread nD τ)))
    (h : Held c arg6 1946 (summed (i 0).val tord tab tdst X k) f)
    (hs : ∀ (r : Fin 1946) (j : Fin 1024), arg6.view.read (Elt F) f' (ix3 (0 : Fin 1) r j)
            = if r.val = 1844 + dword tdst (102 * (i 0).val + k) then
                FloatOps.addf (arg6.view.read (Elt F) f (ix3 (0 : Fin 1) r j)) (rowAt X (word tab (2048 * (i 0).val + k)) j)
              else arg6.view.read (Elt F) f (ix3 (0 : Fin 1) r j)) :
    Held c arg6 1946 (summed (i 0).val tord tab tdst X (k + 1)) f' := by
  intro r j hr
  rw [hs r j, h r j hr]
  unfold summed
  by_cases hn : r.val < 1844
  · rw [if_pos hn, if_pos hn, if_neg (by omega)]
  · rw [if_neg hn, if_neg hn]
    show _ = if r.val - 1844 = dword tdst (102 * (i 0).val + k) then _ else _
    by_cases e : r.val = 1844 + dword tdst (102 * (i 0).val + k)
    · rw [if_pos e, if_pos (by omega)]
    · rw [if_neg e, if_neg (by omega)]

/-- Before the fourth loop no row is divided yet. -/
theorem divided_zero : divided (i 0).val tord tab tdst X cnt 0 = summed (i 0).val tord tab tdst X 102 := by
  funext n j
  unfold divided summed
  rw [if_neg (Nat.not_lt_zero (n - 1844))]

/-- A trip of the fourth loop divides one more row. -/
theorem held4 (k : ℕ) (hk : k < 102) (f f' : Buf (Elt F) (arg6.view.loc (c : Thread nD τ)))
    (h : Held c arg6 1946 (divided (i 0).val tord tab tdst X cnt k) f)
    (hs : ∀ (r : Fin 1946) (j : Fin 1024), arg6.view.read (Elt F) f' (ix3 (0 : Fin 1) r j)
            = if r.val = k + 1844 then
                FloatOps.divf (arg6.view.read (Elt F) f (ix3 (0 : Fin 1) r j)) (cnt (ix3 (0 : Fin 1) (⟨k, hk⟩ : Fin 102) (0 : Fin 1)))
              else arg6.view.read (Elt F) f (ix3 (0 : Fin 1) r j)) :
    Held c arg6 1946 (divided (i 0).val tord tab tdst X cnt (k + 1)) f' := by
  intro r j hr
  rw [hs r j, h r j hr]
  unfold divided
  by_cases hn : r.val < 1844
  · rw [if_pos hn, if_pos hn, if_neg (by omega)]
  · rw [if_neg hn, if_neg hn]
    by_cases e : r.val = k + 1844
    · have hm : (⟨k, hk⟩ : Fin 102) = ⟨min (r.val - 1844) 101, by omega⟩ := Fin.ext (by show k = min (r.val - 1844) 101; omega)
      rw [if_pos e, if_neg (by omega), if_pos (by omega), hm]
    · rw [if_neg e]
      by_cases hl : r.val - 1844 < k
      · rw [if_pos hl, if_pos (by omega)]
      · rw [if_neg hl, if_neg (by omega)]

/-- Every row held is the whole block held. -/
theorem held_out (f : Buf (Elt F) (arg6.view.loc (c : Thread nD τ)))
    (h : Held c arg6 1946 (divided (i 0).val tord tab tdst X cnt 102) f) :
    arg6.view.read (Elt F) f = outBlk (i 0).val tord tab tdst X cnt := by
  funext y
  have e : y = ix3 (0 : Fin 1) (⟨(y 1).val, (y 1).isLt⟩ : Fin 1946) (⟨(y 2).val, (y 2).isLt⟩ : Fin 1024) := by
    funext a
    refine Fin.ext ?_
    match a with
    | ⟨0, _⟩ => show (y 0).val = 0; have : (y 0).val < 1 := (y 0).isLt; omega
    | ⟨1, _⟩ => rfl
    | ⟨2, _⟩ => rfl
  exact (congrArg (arg6.view.read (Elt F) f) e).trans (h _ _ (y 1).isLt)

/-- The first loop makes 1844 trips, -/
theorem trips1 : k1_t1_loop.trips = 1844 := by decide +kernel
/-- the second 102, -/
theorem trips2 : k1_t2_loop.trips = 102 := by decide +kernel
/-- the third 102, -/
theorem trips3 : k1_t3_loop.trips = 102 := by decide +kernel
/-- and the fourth 102. -/
theorem trips4 : k1_t4_loop.trips = 102 := by decide +kernel

variable (hord : ∀ j, (tord j).toNat < 2048) (hab : ∀ j, (tab j).toNat < 2048) (hdst : ∀ j, (tdst j).toNat < 102)

set_option warn.classDefReducibility false in
/-- The first loop by its invariant: `k` rows copied before trip `k`. -/
def loop1 : LoopInvTy_k1_t1 (F := F) Unit ℕ (UR sig nD τ) ℕ Variants.none c none Set.univ i ordM (Memref.isWhole_whole _) abM (Memref.isWhole_whole _) dstM (Memref.isWhole_whole _) arg4 harg4 arg5 harg5 arg6 harg6 where
  inv k _ := state c tord tab tdst arg4 harg4 arg5 harg5 arg6 X cnt k (summed (i 0).val tord tab tdst X 0)
  step k acc := by
    iintro ⟨HI, ⟨%f, HO, %hf⟩⟩
    iapply (wp_wand_r Idealize.ShloMosaic.frame (wpE (defs₀ (F := F)) Variants.none (c : Thread nD τ) none) Set.univ)
    isplitl [HI HO]
    · iapply (trip1 c i tord tab tdst arg4 harg4 arg5 harg5 arg6 harg6 X cnt hord k f)
      isplitl [HI]; · iexact HI
      iexact HO
    · iintro %_ ⟨HI, ⟨%f', HO, %hs⟩⟩
      isplitl [HI]; · iexact HI
      iexists f'
      isplitl [HO]; · iexact HO
      ipureintro
      exact held1 c i tord tab tdst arg6 X k.val f f' hf (lt1 k) hs

set_option warn.classDefReducibility false in
/-- The second loop by its invariant: `k` partner rows copied before trip `k`. -/
def loop2 : LoopInvTy_k1_t2 (F := F) Unit ℕ (UR sig nD τ) ℕ Variants.none c none Set.univ i ordM (Memref.isWhole_whole _) abM (Memref.isWhole_whole _) dstM (Memref.isWhole_whole _) arg4 harg4 arg5 harg5 arg6 harg6 where
  inv k _ := state c tord tab tdst arg4 harg4 arg5 harg5 arg6 X cnt (1844 + k) (summed (i 0).val tord tab tdst X 0)
  step k acc := by
    iintro ⟨HI, ⟨%f, HO, %hf⟩⟩
    iapply (wp_wand_r Idealize.ShloMosaic.frame (wpE (defs₀ (F := F)) Variants.none (c : Thread nD τ) none) Set.univ)
    isplitl [HI HO]
    · iapply (trip2 c i tord tab tdst arg4 harg4 arg5 harg5 arg6 harg6 X cnt hab k f)
      isplitl [HI]; · iexact HI
      iexact HO
    · iintro %_ ⟨HI, ⟨%f', HO, %hs⟩⟩
      isplitl [HI]; · iexact HI
      iexists f'
      isplitl [HO]; · iexact HO
      ipureintro
      exact held2 c i tord tab tdst arg6 X k.val f f' hf hs

set_option warn.classDefReducibility false in
/-- The third loop by its invariant: `k` merged rows added before trip `k`. -/
def loop3 : LoopInvTy_k1_t3 (F := F) Unit ℕ (UR sig nD τ) ℕ Variants.none c none Set.univ i ordM (Memref.isWhole_whole _) abM (Memref.isWhole_whole _) dstM (Memref.isWhole_whole _) arg4 harg4 arg5 harg5 arg6 harg6 where
  inv k _ := state c tord tab tdst arg4 harg4 arg5 harg5 arg6 X cnt 1946 (summed (i 0).val tord tab tdst X k)
  step k acc := by
    iintro ⟨HI, ⟨%f, HO, %hf⟩⟩
    iapply (wp_wand_r Idealize.ShloMosaic.frame (wpE (defs₀ (F := F)) Variants.none (c : Thread nD τ) none) Set.univ)
    isplitl [HI HO]
    · iapply (trip3 c i tord tab tdst arg4 harg4 arg5 harg5 arg6 harg6 X cnt hab hdst k f)
      isplitl [HI]; · iexact HI
      iexact HO
    · iintro %_ ⟨HI, ⟨%f', HO, %hs⟩⟩
      isplitl [HI]; · iexact HI
      iexists f'
      isplitl [HO]; · iexact HO
      ipureintro
      exact held3 c i tord tab tdst arg6 X k.val f f' hf hs

set_option warn.classDefReducibility false in
/-- The fourth loop by its invariant: `k` rows divided before trip `k`. -/
def loop4 : LoopInvTy_k1_t4 (F := F) Unit ℕ (UR sig nD τ) ℕ Variants.none c none Set.univ i ordM (Memref.isWhole_whole _) abM (Memref.isWhole_whole _) dstM (Memref.isWhole_whole _) arg4 harg4 arg5 harg5 arg6 harg6 where
  inv k _ := state c tord tab tdst arg4 harg4 arg5 harg5 arg6 X cnt 1946 (divided (i 0).val tord tab tdst X cnt k)
  step k acc := by
    iintro ⟨HI, ⟨%f, HO, %hf⟩⟩
    iapply (wp_wand_r Idealize.ShloMosaic.frame (wpE (defs₀ (F := F)) Variants.none (c : Thread nD τ) none) Set.univ)
    isplitl [HI HO]
    · iapply (trip4 c i tord tab tdst arg4 harg4 arg5 harg5 arg6 harg6 X cnt k f)
      isplitl [HI]; · iexact HI
      iexact HO
    · iintro %_ ⟨HI, ⟨%f', HO, %hs⟩⟩
      isplitl [HI]; · iexact HI
      iexists f'
      isplitl [HO]; · iexact HO
      ipureintro
      exact held4 c i tord tab tdst arg6 X cnt k.val (lt4 k) f f' hf hs

include hord in
/-- The first loop run to its end. -/
theorem run1 {β : Type} (kk : Unit → Prog (TpuEff nD τ sig (Elt F) Λ₀ .tc) β) (Q : β → sProp 𝕄) :
    state c tord tab tdst arg4 harg4 arg5 harg5 arg6 X cnt 0 (summed (i 0).val tord tab tdst X 0)
      ⊢ iprop((∀ acc, state c tord tab tdst arg4 harg4 arg5 harg5 arg6 X cnt 1844 (summed (i 0).val tord tab tdst X 0)
            -∗ wp frame (wpE (defs₀ (F := F)) Variants.none (c : Thread nD τ) none) Set.univ (kk acc) Q)
          -∗ wp frame (wpE (defs₀ (F := F)) Variants.none (c : Thread nD τ) none) Set.univ
            (Scf.Loop.for k1_t1_loop k1_t1_ok () (k1_t1_body i ordM (Memref.isWhole_whole _) abM (Memref.isWhole_whole _) dstM (Memref.isWhole_whole _) arg4 harg4 arg5 harg5 arg6 harg6) >>= kk) Q) := by
  have h := exec_loop (kk := kk) (Q := Q) _ _ _ _ _ _ _ _ _ (loop1 c i tord tab tdst arg4 harg4 arg5 harg5 arg6 harg6 X cnt hord)
  dsimp only [loop1] at h
  rw [show Scf.trips k1_t1_loop.lb k1_t1_loop.ub k1_t1_loop.st = _ from trips1] at h
  exact h

include hab in
/-- The second loop run to its end. -/
theorem run2 {β : Type} (kk : Unit → Prog (TpuEff nD τ sig (Elt F) Λ₀ .tc) β) (Q : β → sProp 𝕄) :
    state c tord tab tdst arg4 harg4 arg5 harg5 arg6 X cnt 1844 (summed (i 0).val tord tab tdst X 0)
      ⊢ iprop((∀ acc, state c tord tab tdst arg4 harg4 arg5 harg5 arg6 X cnt 1946 (summed (i 0).val tord tab tdst X 0)
            -∗ wp frame (wpE (defs₀ (F := F)) Variants.none (c : Thread nD τ) none) Set.univ (kk acc) Q)
          -∗ wp frame (wpE (defs₀ (F := F)) Variants.none (c : Thread nD τ) none) Set.univ
            (Scf.Loop.for k1_t2_loop k1_t2_ok () (k1_t2_body i ordM (Memref.isWhole_whole _) abM (Memref.isWhole_whole _) dstM (Memref.isWhole_whole _) arg4 harg4 arg5 harg5 arg6 harg6) >>= kk) Q) := by
  have h := exec_loop (kk := kk) (Q := Q) _ _ _ _ _ _ _ _ _ (loop2 c i tord tab tdst arg4 harg4 arg5 harg5 arg6 harg6 X cnt hab)
  dsimp only [loop2] at h
  rw [show Scf.trips k1_t2_loop.lb k1_t2_loop.ub k1_t2_loop.st = _ from trips2] at h
  exact h

include hab hdst in
/-- The third loop run to its end. -/
theorem run3 {β : Type} (kk : Unit → Prog (TpuEff nD τ sig (Elt F) Λ₀ .tc) β) (Q : β → sProp 𝕄) :
    state c tord tab tdst arg4 harg4 arg5 harg5 arg6 X cnt 1946 (summed (i 0).val tord tab tdst X 0)
      ⊢ iprop((∀ acc, state c tord tab tdst arg4 harg4 arg5 harg5 arg6 X cnt 1946 (summed (i 0).val tord tab tdst X 102)
            -∗ wp frame (wpE (defs₀ (F := F)) Variants.none (c : Thread nD τ) none) Set.univ (kk acc) Q)
          -∗ wp frame (wpE (defs₀ (F := F)) Variants.none (c : Thread nD τ) none) Set.univ
            (Scf.Loop.for k1_t3_loop k1_t3_ok () (k1_t3_body i ordM (Memref.isWhole_whole _) abM (Memref.isWhole_whole _) dstM (Memref.isWhole_whole _) arg4 harg4 arg5 harg5 arg6 harg6) >>= kk) Q) := by
  have h := exec_loop (kk := kk) (Q := Q) _ _ _ _ _ _ _ _ _ (loop3 c i tord tab tdst arg4 harg4 arg5 harg5 arg6 harg6 X cnt hab hdst)
  dsimp only [loop3] at h
  rw [show Scf.trips k1_t3_loop.lb k1_t3_loop.ub k1_t3_loop.st = _ from trips3] at h
  exact h

/-- The fourth loop run to its end. -/
theorem run4 {β : Type} (kk : Unit → Prog (TpuEff nD τ sig (Elt F) Λ₀ .tc) β) (Q : β → sProp 𝕄) :
    state c tord tab tdst arg4 harg4 arg5 harg5 arg6 X cnt 1946 (divided (i 0).val tord tab tdst X cnt 0)
      ⊢ iprop((∀ acc, state c tord tab tdst arg4 harg4 arg5 harg5 arg6 X cnt 1946 (divided (i 0).val tord tab tdst X cnt 102)
            -∗ wp frame (wpE (defs₀ (F := F)) Variants.none (c : Thread nD τ) none) Set.univ (kk acc) Q)
          -∗ wp frame (wpE (defs₀ (F := F)) Variants.none (c : Thread nD τ) none) Set.univ
            (Scf.Loop.for k1_t4_loop k1_t4_ok () (k1_t4_body i ordM (Memref.isWhole_whole _) abM (Memref.isWhole_whole _) dstM (Memref.isWhole_whole _) arg4 harg4 arg5 harg5 arg6 harg6) >>= kk) Q) := by
  have h := exec_loop (kk := kk) (Q := Q) _ _ _ _ _ _ _ _ _ (loop4 c i tord tab tdst arg4 harg4 arg5 harg5 arg6 harg6 X cnt )
  dsimp only [loop4] at h
  rw [show Scf.trips k1_t4_loop.lb k1_t4_loop.ub k1_t4_loop.st = _ from trips4] at h
  exact h

include hord hab hdst in
/-- The kernel on one sample: the inputs as they were, the output block at `outBlk`. -/
theorem kernel_run (K : PUnit → sProp 𝕄) :
    iprop(owns (c : Thread nD τ) arg4 fullShare X ∗ owns (c : Thread nD τ) arg5 fullShare cnt ∗ (∃ d, owns (c : Thread nD τ) arg6 fullShare d)
        ∗ (tbPt c ordM tord ∗ tbPt c abM tab ∗ tbPt c dstM tdst)
        ∗ (iprop(owns (c : Thread nD τ) arg4 fullShare X ∗ owns (c : Thread nD τ) arg5 fullShare cnt
            ∗ owns (c : Thread nD τ) arg6 fullShare (outBlk (i 0).val tord tab tdst X cnt)
            ∗ (tbPt c ordM tord ∗ tbPt c abM tab ∗ tbPt c dstM tdst)) -∗ K ⟨⟩))
      ⊢ wp frame (wpE (defs₀ (F := F)) Variants.none (c : Thread nD τ) none) Set.univ
        (cc1__merge_kernel i ordM (Memref.isWhole_whole _) abM (Memref.isWhole_whole _) dstM (Memref.isWhole_whole _) arg4 harg4 arg5 harg5 arg6 harg6) K := by
  simp only [cc1__merge_kernel_eq_skeleton]; unfold cc1__merge_kernel_skel
  unfold owns
  iintro ⟨⟨%f0, %hf0, H0⟩, ⟨%f1, %hf1, H1⟩, ⟨%d2, %f2, -, H2⟩, ⟨HT, HA, HD⟩, Hk⟩
  obtain rfl := harg4.eq_unread hf0
  obtain rfl := harg5.eq_unread hf1
  iapply (run1 c i tord tab tdst arg4 harg4 arg5 harg5 arg6 harg6 X cnt hord) $$ [H0 H1 H2 HT HA HD]
  · isplitl [H0 H1 HT HA HD]
    · sl_close
    iexists f2
    isplitl [H2]; · iexact H2
    ipureintro
    intro r j hr
    exact absurd hr (Nat.not_lt_zero _)
  iintro %_ HS
  iapply (run2 c i tord tab tdst arg4 harg4 arg5 harg5 arg6 harg6 X cnt hab) $$ [HS]
  · iexact HS
  iintro %_ HS
  iapply (run3 c i tord tab tdst arg4 harg4 arg5 harg5 arg6 harg6 X cnt hab hdst) $$ [HS]
  · iexact HS
  iintro %_ HS
  rw [← divided_zero c i tord tab tdst X cnt]
  iapply (run4 c i tord tab tdst arg4 harg4 arg5 harg5 arg6 harg6 X cnt) $$ [HS]
  · iexact HS
  iintro %_ ⟨⟨HT, HA, HD, H0, H1⟩, ⟨%f, HO, %hf⟩⟩
  sl_step
  iapply Hk
  isplitl [H0]
  · iexists _; isplitr; · ipureintro; exact harg4.read_unread _
    iexact H0
  isplitl [H1]
  · iexists _; isplitr; · ipureintro; exact harg5.read_unread _
    iexact H1
  isplitl [HO]
  · iexists f; isplitr; · ipureintro; exact held_out c i tord tab tdst arg6 X cnt f hf
    iexact HO
  sl_close

end Loops

end Cert.TailIdeal.Merge

end
-- ==== Proof.TailMergeFrame.lean ====
module

public import proofs.«01_k».proof.Proof.TailMergeKernel
public import Idealize.ShloMosaic.Lib.Claim

@[expose] public section

set_option maxRecDepth 16384

noncomputable section

namespace Cert.TailIdeal.Merge

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- What a buffer holds when the call is entered. -/
abbrev ent (c : Dev nD) (b : Ref sig .tc) : Buf (Elt F) ((c : Thread nD τ).loc b) := V c (Proc.devRef .tc b)

/-- The tables' contents. -/
def tbl : pre1.Contents (Elt F) := fun j => ent V (0 : Dev nD) (pre1.ref j)

/-- There is one device. -/
theorem ent_pre (c : Dev nD) (j : Fin 3) : ent V c (pre1.ref j) = tbl V j := by
  obtain rfl : c = 0 := Subsingleton.elim _ _
  rfl

/-- The tables lie in their ranges. -/
structure InRange : Prop where
  /-- the order's words are row numbers -/
  ord : ∀ j, (show BitVec 32 from tbl V 0 j).toNat < 2048
  /-- the partition's words are row numbers -/
  ab : ∀ j, (show BitVec 32 from tbl V 1 j).toNat < 2048
  /-- the partners' words are numbers of merged rows -/
  dst : ∀ j, (show BitVec 32 from tbl V 2 j).toNat < 102

/-- No block's place depends on a table. -/
theorem ok : ok1 (F := F) (tbl V) := trivial

/-- The tables of the run, at contents that keep the windows inside their arrays. -/
abbrev adm : (pcfg1 (F := F)).Adm := ⟨tbl V, ok V⟩
/-- The pipeline at those tables. -/
abbrev cfgM : Pipeline.Cfg sig Λ₀ := cfg1 (adm V)

/-- The tables as the kernel is handed them. -/
theorem tables_eq (c : Dev nD) : (Pipeline.ΦT pre1 (tbl V) c : sProp 𝕄)
    = iprop(tbPt c ordM (tbl V 0) ∗ tbPt c abM (tbl V 1) ∗ tbPt c dstM (tbl V 2)) := by
  unfold Pipeline.ΦT Pipeline.prefHeld
  rw [bigSep_univ_eq_bigSepL [(0 : Fin 3), (1 : Fin 3), (2 : Fin 3)] (by decide) (by decide)]
  rfl

/-- A step lends the kernel one half of the tables and keeps the other. -/
theorem tables_split (c : Dev nD) : (Pipeline.prefHeld pre1 c (fun _ => fullShare) (tbl V) : sProp 𝕄)
    ⊣⊢ iprop(Pipeline.prefHeld pre1 c (fun _ => fullShare.left) (tbl V) ∗ (tbPt c ordM (tbl V 0) ∗ tbPt c abM (tbl V 1) ∗ tbPt c dstM (tbl V 2))) := by
  rw [← tables_eq]
  exact Pipeline.prefHeld_share pre1 c (PosShare.mem_left_op_right fullShare) (tbl V)

/-- A window's block at a point, of its array as launched. -/
def iblk (c : Dev nD) (w : Fin (cfgM V).W) (t : Fin (cfgM V).N) : (((cfgM V).win w).xblock ((cfgM V).grid.coords t)).Idx → Elt F ((cfgM V).win w).elt :=
  (((cfgM V).win w).blk t).view.read (Elt F) (ent V c (Pipeline.arrRef spec1 w))

/-- Each window's current buffer at a point, and its wholeness. -/
abbrev ms0 (t : Fin (cfgM V).N) : Memref sig .tc .vmem S1x2048x1024 .f32 := spec1_0.stage ((cfgM V).slots t 0)
/-- It is a whole buffer. -/
abbrev hs0 (t : Fin (cfgM V).N) : (ms0 V t).IsWhole := hstage1_0 (((cfgM V).slots t 0).cast nbuf1_0)
/-- The staging buffer of the counts at point `t`, -/
abbrev ms1 (t : Fin (cfgM V).N) : Memref sig .tc .vmem S1x102x1 .f32 := spec1_1.stage ((cfgM V).slots t 1)
/-- a whole buffer. -/
abbrev hs1 (t : Fin (cfgM V).N) : (ms1 V t).IsWhole := hstage1_1 (((cfgM V).slots t 1).cast nbuf1_1)
/-- The staging buffer of the result at point `t`, -/
abbrev ms2 (t : Fin (cfgM V).N) : Memref sig .tc .vmem S1x1946x1024 .f32 := spec1_2.stage ((cfgM V).slots t 2)
/-- a whole buffer. -/
abbrev hs2 (t : Fin (cfgM V).N) : (ms2 V t).IsWhole := hstage1_2 (((cfgM V).slots t 2).cast nbuf1_2)

/-- What the kernel leaves in the output's buffer at a point. -/
def outAt (c : Dev nD) (t : Fin (cfgM V).N) : Vec F S1x1946x1024 .f32 :=
  outBlk ((grid1.coords t) 0).val (tbl V 0) (tbl V 1) (tbl V 2) (iblk V c 0 t) (iblk V c 1 t)

/-- The run's data: arrays as launched, inputs left in place, the output's block at `outAt`. -/
def dats (c : Dev nD) : Dat τ (Elt F) Unit ℕ (UR sig nD τ) ℕ (cfgM V) c where
  A w := ent V c (Pipeline.arrRef spec1 w)
  after w t := match w with
    | ⟨0, _⟩ => iblk V c 0 t
    | ⟨1, _⟩ => iblk V c 1 t
    | ⟨2, _⟩ => outAt V c t
  Φ _ := iprop(Pipeline.ΦA spec1 c ∗ Pipeline.prefHeld pre1 c (fun _ => fullShare) (tbl V))
  q _ := fullShare
  owed _ := 0

/-- Each window's array starts at the contents of its reference. -/
theorem A_eq (c : Dev nD) (w : Fin (cfgM V).W) : (dats V c).A w = ent V c (Pipeline.arrRef spec1 w) := by
  dsimp only [dats]

/-- The tokens' block is left as fetched, -/
theorem after0 (c : Dev nD) (t : Fin (cfgM V).N) : (dats V c).after 0 t = iblk V c 0 t := by dsimp only [dats]; try rfl
/-- and so is that of the counts; -/
theorem after1 (c : Dev nD) (t : Fin (cfgM V).N) : (dats V c).after 1 t = iblk V c 1 t := by dsimp only [dats]; try rfl
/-- the result's block holds what the four loops leave. -/
theorem after2 (c : Dev nD) (t : Fin (cfgM V).N) : (dats V c).after 2 t = outAt V c t := by dsimp only [dats]; try rfl

/-- The sample's buffer holds the sample at every point. -/
theorem before0 (c : Dev nD) (t : Fin (cfgM V).N) (d) : (dats V c).before 0 t d = iblk V c 0 t :=
  ((dats V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- The counts' buffer holds the sample's counts at every point. -/
theorem before1 (c : Dev nD) (t : Fin (cfgM V).N) (d) : (dats V c).before 1 t d = iblk V c 1 t :=
  ((dats V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- What the kernel is called with at a point, -/
def bodyPre (c : Dev nD) (t : Fin (cfgM V).N) : sProp 𝕄 :=
  iprop((dats V c).Φ t.castSucc ∗ (dats V c).owesAt () t.castSucc
    ∗ (∃ d, owns (c : Thread nD τ) (ms0 V t) fullShare ((dats V c).before 0 t d))
    ∗ (∃ d, owns (c : Thread nD τ) (ms1 V t) fullShare ((dats V c).before 1 t d))
    ∗ (∃ d, owns (c : Thread nD τ) (ms2 V t) fullShare ((dats V c).before 2 t d)))

/-- and what it returns. -/
def bodyPost (c : Dev nD) (t : Fin (cfgM V).N) : sProp 𝕄 :=
  iprop((dats V c).Φ t.succ ∗ (dats V c).owesAt () t.succ
    ∗ owns (c : Thread nD τ) (ms0 V t) fullShare ((dats V c).after 0 t)
    ∗ owns (c : Thread nD τ) (ms1 V t) fullShare ((dats V c).after 1 t)
    ∗ owns (c : Thread nD τ) (ms2 V t) fullShare ((dats V c).after 2 t))

/-- The kernel as it is called at a point. -/
abbrev bodyAt (t : Fin (cfgM V).N) : Prog (TpuEff nD τ sig (Elt F) Λ₀ .tc) PUnit :=
  cc1__merge_kernel (grid1.coords t) ordM (Memref.isWhole_whole _) abM (Memref.isWhole_whole _) dstM (Memref.isWhole_whole _)
    (ms0 V t) (hs0 V t) (ms1 V t) (hs1 V t) (ms2 V t) (hs2 V t)

variable (hR : InRange V)

include hR in
/-- The kernel at any point takes what it is called with to what it returns. -/
theorem sound_body (c : Dev nD) (t : Fin (cfgM V).N) :
    bodyPre V c t ⊢ wp frame (wpE (defs₀ (F := F)) Variants.none c none) Set.univ (bodyAt V t) (fun _ => bodyPost V c t) := by
  unfold bodyPre bodyPost bodyAt
  simp only [before0, before1]
  rw [show (dats V c).Φ t.succ = (dats V c).Φ t.castSucc from rfl,
    show (dats V c).owesAt () t.succ = (dats V c).owesAt () t.castSucc from rfl,
    after0, after1, after2]
  rw [show (dats V c).Φ t.castSucc = iprop(Pipeline.ΦA spec1 c ∗ Pipeline.prefHeld pre1 c (fun _ => fullShare) (tbl V)) from rfl]
  unfold outAt
  iintro ⟨⟨HΦ, HT⟩, Ho, ⟨%d0, H0⟩, ⟨%d1, H1⟩, ⟨%d2, H2⟩⟩
  ihave HT' := (tables_split V c).1 $$ HT
  icases HT' with ⟨HL, HT⟩
  iapply (kernel_run c (grid1.coords t) (tbl V 0) (tbl V 1) (tbl V 2) (ms0 V t) (hs0 V t) (ms1 V t) (hs1 V t) (ms2 V t) (hs2 V t)
    (iblk V c 0 t) (iblk V c 1 t) hR.ord hR.ab hR.dst _)
  isplitl [H0]; · iexact H0
  isplitl [H1]; · iexact H1
  isplitl [H2]; · iexists _; iexact H2
  isplitl [HT]; · iexact HT
  iintro ⟨H0, H1, H2, HT⟩
  isplitl [HΦ HL HT]
  · isplitl [HΦ]
    · iexact HΦ
    iapply (tables_split V c).2
    isplitl [HL]
    · iexact HL
    iexact HT
  isplitl [Ho]; · iexact Ho
  isplitl [H0]; · iexact H0
  isplitl [H1]; · iexact H1
  iexact H2

/-- One grid point: from the fetched blocks, the body leaves what `dats` says. -/
theorem row (t : Fin (cfgM V).N) :
    defs₀ (F := F) .tc (cfgM V).body ((cfgM V).bodyArgs t ((cfgM V).slots t)) = bodyAt V t := by
  unfold defs₀; rw [Defs.onTc_tc]

include hR in
/-- The kernel at every point, as the launch asks it. -/
theorem body_obligation (c : Dev nD) : BodyObligation (dats V c) (defs₀ (F := F)) Variants.none () Set.univ := fun t => by
  rw [bigSep_W1, bigSep_W1, row V]
  exact triple_restated (sound_body V hR c t) rfl .rfl fun _ => .rfl

end Cert.TailIdeal.Merge

end
-- ==== Proof.TailRun.lean ====
/- The tail as one program: host lines, the call that gathers, host lines, the call that merges. Every run ends, the
   arguments unchanged, with the merged array at what the second call leaves. -/
module

public import proofs.«01_k».proof.Proof.GatherFrame
public import proofs.«01_k».proof.Proof.TailMergeFrame
public import proofs.«01_k».proof.Proof.Gen.TailIdeal.Regions
public import Idealize.ShloMosaic.Lib.Pipeline.RegionArraysT
public import Idealize.ShloMosaic.Lib.Pipeline.FrameSuffix

@[expose] public section

set_option maxRecDepth 16384

noncomputable section

namespace Cert.TailIdeal.Whole

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two calls leave -/

/-- The buffers after the first call. -/
def mid (c : Dev nD) : Valuation τ sig (Elt F) :=
  Pipeline.withArrays spec0 c (V4 m c) fun w => (Gather.dats (V4 m) c).arrAt w (Gather.cfgM (V4 m)).N

/-- An array of the first call holds what its run's data say. -/
theorem mid_arr (c : Dev nD) (w : Fin 3) : mid m c (Proc.devRef .tc (Pipeline.arrRef spec0 w)) = (Gather.dats (V4 m) c).arrAt w (Gather.cfgM (V4 m)).N :=
  Pipeline.withArrays_arr spec0 (launch0 (F := F)).win.arr_inj c (V4 m c) (fun w => (Gather.dats (V4 m) c).arrAt w (Gather.cfgM (V4 m)).N) w

/-- What the first call leaves, at a reference. -/
def gatherOuts : Outs (F := F) := fun _ r c => mid m c (Proc.devRef .tc r)

/-- The buffers after the second call. -/
def last (c : Dev nD) : Valuation τ sig (Elt F) :=
  Pipeline.withArrays spec1 c (V8 m (gatherOuts m) c) fun w =>
    (Merge.dats (V8 m (gatherOuts m)) c).arrAt w (Merge.cfgM (V8 m (gatherOuts m))).N

/-- An array of the second call holds what its run's data say. -/
theorem last_arr (c : Dev nD) (w : Fin 3) : last m c (Proc.devRef .tc (Pipeline.arrRef spec1 w))
    = (Merge.dats (V8 m (gatherOuts m)) c).arrAt w (Merge.cfgM (V8 m (gatherOuts m))).N :=
  Pipeline.withArrays_arr spec1 (launch1 (F := F)).win.arr_inj c (V8 m (gatherOuts m) c)
    (fun w => (Merge.dats (V8 m (gatherOuts m)) c).arrAt w (Merge.cfgM (V8 m (gatherOuts m))).N) w

/-- What each call leaves, at a reference. -/
def outs : Outs (F := F) := fun J r c => match J with
  | 5 => mid m c (Proc.devRef .tc r)
  | _ => last m c (Proc.devRef .tc r)

/-- The buffers between the calls depend on the first alone. -/
theorem V8_outs : V8 m (outs m) = V8 m (gatherOuts m) := rfl

/-- The buffers at the second call's entry. -/
abbrev W8 : Dev nD → Valuation τ sig (Elt F) := V8 m (outs m)

/-! ## The data of the two calls -/

/-- The tables of the two calls. -/
abbrev adms : (p : Fin 2) → (pcfgs (F := F) p).Adm := fun
  | 0 => Gather.adm (V4 m)
  | 1 => Merge.adm (W8 m)

/-- The two runs' data. -/
abbrev pdats : (p : Fin 2) → (c : Dev nD) → Dat τ (Elt F) Unit ℕ (UR sig nD τ) ℕ (Pipeline.pin (pcfgs (F := F)) (adms m) p) c := fun
  | 0 => Gather.dats (V4 m)
  | 1 => Merge.dats (W8 m)

/-- Every wait has the one index, on a core's own thread. -/
abbrev L : GSem nD τ sig → Finset Unit := fun g => if g.1.2 = .tc then {()} else ∅
/-- All at one level. -/
abbrev lv : GSem nD τ sig → Unit → ℕ := fun _ _ => 0
/-- A core owes nothing. -/
abbrev due : Dev nD → CellTallies nD τ sig Unit := fun _ => 0
/-- A core keeps its generator register. -/
abbrev keeps (c : Dev nD) : sProp 𝕄 := iprop(∃ r, prngReg c r)
/-- What rides beside the buffers through the whole program. -/
abbrev rides (c : Dev nD) : sProp 𝕄 := iprop(keeps c ∗ ∃ W, owes (c : Thread nD τ) (due c) W)

/-- At the end of the program only the dues matter. -/
theorem owes_of_rides (c : Dev nD) : (rides c : sProp 𝕄) ⊢ iprop(∃ W, owes (c : Thread nD τ) (0 : CellTallies nD τ sig Unit) W) := by
  iintro ⟨-, H⟩
  iexact H

/-- The levels fit the waits of both calls. -/
theorem cut (p : Fin 2) : Pipeline.LevelCut (pcfgs (F := F)) (adms m) () L lv p due fun _ => 0 where
  hι _ _ _ := by simp [L]
  hιb _ _ _ := le_rfl
  hD _ _ _ h := absurd h (lt_irrefl 0)

variable (hG : Gather.InRange (V4 m)) (hM : Merge.InRange (W8 m))

/-- The first call as a step of the program. -/
def region0 : RegionSeg (pcfgs (F := F)) (adms m) (pdats m) () defs₀ Variants.none L lv 0 :=
  RegionSeg.ofHeldT (pcfgs (F := F)) (adms m) (pdats m) () defs₀ Variants.none L lv 0 due keeps keeps launch0
    (hbody := fun c => (Gather.body_obligation (V4 m) hG c).loose)
    (howed := fun _ _ => rfl) (hrec := fun _ => rfl) (hshare := fun c => (Gather.dats (V4 m) c).share_full fun _ => rfl)
    (hin := fun c => .rfl) (hout := fun c => .rfl)
    (b := fun _ => 0) (hcut := cut m 0)
    (R := fun c => StableHlo.held (c : Thread nD τ) ((Pipeline.ucRefs τ sig \ Pipeline.arrRefs spec0) \ Pipeline.tblRefs pre0) (V4 m c))
    (W := V4 m) (W' := mid m)
    (hW := fun _ _ => rfl) (hT := fun c k => (Gather.ent_pre (V4 m) c k).symm)
    (hW' := fun c w => (mid_arr m c w).symm)
    (hT' := fun c k => (Gather.ent_pre (V4 m) c k).symm.trans
      (Pipeline.withArrays_of_ne spec0 c (V4 m c) _ (pre0.ref k) fun w e => (launch0 (F := F)).pre.disj k w e.symm).symm)

/-- The second call as a step of the program. -/
def region1 : RegionSeg (pcfgs (F := F)) (adms m) (pdats m) () defs₀ Variants.none L lv 1 :=
  RegionSeg.ofHeldT (pcfgs (F := F)) (adms m) (pdats m) () defs₀ Variants.none L lv 1 due keeps keeps launch1
    (hbody := fun c => (Merge.body_obligation (W8 m) hM c).loose)
    (howed := fun _ _ => rfl) (hrec := fun _ => rfl) (hshare := fun c => (Merge.dats (W8 m) c).share_full fun _ => rfl)
    (hin := fun c => .rfl) (hout := fun c => .rfl)
    (b := fun _ => 0) (hcut := cut m 1)
    (R := fun c => StableHlo.held (c : Thread nD τ) ((Pipeline.ucRefs τ sig \ Pipeline.arrRefs spec1) \ Pipeline.tblRefs pre1) (W8 m c))
    (W := W8 m) (W' := last m)
    (hW := fun _ _ => rfl) (hT := fun c k => (Merge.ent_pre (W8 m) c k).symm)
    (hW' := fun c w => (last_arr m c w).symm)
    (hT' := fun c k => (Merge.ent_pre (W8 m) c k).symm.trans
      (Pipeline.withArrays_of_ne spec1 c (W8 m c) _ (pre1.ref k) fun w e => (launch1 (F := F)).pre.disj k w e.symm).symm)

/-! ## The buffers around the calls -/

/-- A buffer that is no array of the first call stays as it was. -/
theorem mid_of_ne (c : Dev nD) (r : Ref sig .tc) (h : ∀ w, Pipeline.arrRef spec0 w ≠ r) : mid m c (Proc.devRef .tc r) = V4 m c (Proc.devRef .tc r) :=
  Pipeline.withArrays_of_ne spec0 c (V4 m c) _ r h

/-- A buffer that is no array of the second call stays as it was. -/
theorem last_of_ne (c : Dev nD) (r : Ref sig .tc) (h : ∀ w, Pipeline.arrRef spec1 w ≠ r) : last m c (Proc.devRef .tc r) = W8 m c (Proc.devRef .tc r) :=
  Pipeline.withArrays_of_ne spec1 c (V8 m (gatherOuts m) c) _ r h

/-- The buffers after the first call, as the next line finds them. -/
theorem mid_eq (c : Dev nD) (r : Ref sig .tc) : mid m c (Proc.devRef .tc r) = V5 m (outs m) c (Proc.devRef .tc r) := by
  by_cases h1 : r = main_v4_1
  · subst h1
    exact (Function.update_self (f := Function.update (V4 m c) (Proc.devRef .tc main_v4_0) (outs m 5 main_v4_0 c)) _ _).symm
  by_cases h0 : r = main_v4_0
  · subst h0
    exact ((Function.update_of_ne (StableHlo.devRef_ne_of_ne (by decide)) _ _).trans (Function.update_self (f := V4 m c) _ _)).symm
  rw [V5_of m (outs m) c r (by simp [h0, h1])]
  by_cases hx : r = main_v3
  · subst hx
    exact (mid_arr m c 0).trans (((Gather.dats (V4 m) c).arrAt_in 0 rfl _).trans (Gather.A_eq (V4 m) c 0))
  · refine mid_of_ne m c r fun w => ?_
    match w with
    | ⟨0, _⟩ => exact fun e => hx e.symm
    | ⟨1, _⟩ => exact fun e => h0 e.symm
    | ⟨2, _⟩ => exact fun e => h1 e.symm

/-- The buffers after the second call, as the program leaves them. -/
theorem last_eq (c : Dev nD) (r : Ref sig .tc) : last m c (Proc.devRef .tc r) = V9 m (outs m) c (Proc.devRef .tc r) := by
  by_cases h1 : r = main_v30
  · subst h1
    exact (Function.update_self (f := V8 m (outs m) c) _ _).symm
  rw [V9_of m (outs m) c r (by simp [h1])]
  by_cases hx : r = main_arg2
  · subst hx
    exact (last_arr m c 0).trans (((Merge.dats (W8 m) c).arrAt_in 0 rfl _).trans (Merge.A_eq (W8 m) c 0))
  by_cases hn : r = main_v29
  · subst hn
    exact (last_arr m c 1).trans (((Merge.dats (W8 m) c).arrAt_in 1 rfl _).trans (Merge.A_eq (W8 m) c 1))
  · refine last_of_ne m c r fun w => ?_
    match w with
    | ⟨0, _⟩ => exact fun e => hx e.symm
    | ⟨1, _⟩ => exact fun e => hn e.symm
    | ⟨2, _⟩ => exact fun e => h1 e.symm

/-- All buffers held are the arrays, the tables and the rest of the first call, -/
theorem held_split0 (c : Dev nD) (V : Valuation τ sig (Elt F)) : (StableHlo.held (c : Thread nD τ) (Pipeline.ucRefs τ sig) V : sProp 𝕄)
    = iprop(StableHlo.held (c : Thread nD τ) (Pipeline.arrRefs spec0) V ∗ StableHlo.held (c : Thread nD τ) (Pipeline.tblRefs pre0) V
      ∗ StableHlo.held (c : Thread nD τ) ((Pipeline.ucRefs τ sig \ Pipeline.arrRefs spec0) \ Pipeline.tblRefs pre0) V) := by
  rw [StableHlo.held_sub_split (c := (c : Thread nD τ)) (Pipeline.arrRefs_sub_ucRefs spec0 (launch0 (F := F)).win.arr_unscoped) V,
    StableHlo.held_sub_split (c := (c : Thread nD τ)) (Pipeline.tblRefs_sub_ucRefs_sdiff spec0 pre0 (launch0 (F := F)).pre.unscoped (launch0 (F := F)).pre.disj) V]

/-- and those of the second. -/
theorem held_split1 (c : Dev nD) (V : Valuation τ sig (Elt F)) : (StableHlo.held (c : Thread nD τ) (Pipeline.ucRefs τ sig) V : sProp 𝕄)
    = iprop(StableHlo.held (c : Thread nD τ) (Pipeline.arrRefs spec1) V ∗ StableHlo.held (c : Thread nD τ) (Pipeline.tblRefs pre1) V
      ∗ StableHlo.held (c : Thread nD τ) ((Pipeline.ucRefs τ sig \ Pipeline.arrRefs spec1) \ Pipeline.tblRefs pre1) V) := by
  rw [StableHlo.held_sub_split (c := (c : Thread nD τ)) (Pipeline.arrRefs_sub_ucRefs spec1 (launch1 (F := F)).win.arr_unscoped) V,
    StableHlo.held_sub_split (c := (c : Thread nD τ)) (Pipeline.tblRefs_sub_ucRefs_sdiff spec1 pre1 (launch1 (F := F)).pre.unscoped (launch1 (F := F)).pre.disj) V]

/-- A buffer outside a call's arrays is no array of it. -/
theorem not_arr {gr W : ℕ} (win : Fin W → Pipeline.WinSpec sig gr) (pre : Pipeline.Prefetch sig) (r : Ref sig .tc)
    (h : Proc.devRef .tc r ∈ (Pipeline.ucRefs τ sig \ Pipeline.arrRefs win) \ Pipeline.tblRefs pre) (w : Fin W) : Pipeline.arrRef win w ≠ r := fun e =>
  (Finset.mem_sdiff.mp (Finset.mem_sdiff.mp h).1).2 (Finset.mem_map.mpr ⟨r, Finset.mem_image.mpr ⟨w, Finset.mem_univ _, e⟩, rfl⟩)

/-- The unscoped buffers are the core's. -/
theorem of_uc (b : DevRef τ sig) (h : b ∈ Pipeline.ucRefs τ sig) : ∃ r : Ref sig .tc, b = Proc.devRef .tc r := by
  obtain ⟨r, -, e⟩ := Finset.mem_map.mp (Finset.mem_filter.mp h).1
  exact ⟨r, e.symm⟩

/-- What the first call does not touch is held as before. -/
theorem rest0 (c : Dev nD) : (StableHlo.held (c : Thread nD τ) ((Pipeline.ucRefs τ sig \ Pipeline.arrRefs spec0) \ Pipeline.tblRefs pre0) (V4 m c) : sProp 𝕄)
    = StableHlo.held (c : Thread nD τ) ((Pipeline.ucRefs τ sig \ Pipeline.arrRefs spec0) \ Pipeline.tblRefs pre0) (mid m c) :=
  StableHlo.held_congr (c := (c : Thread nD τ)) fun b hb => by
    obtain ⟨r, rfl⟩ := of_uc b (Finset.mem_sdiff.mp (Finset.mem_sdiff.mp hb).1).1
    exact (mid_of_ne m c r (not_arr spec0 pre0 r hb)).symm

/-- What the second call does not touch is held as before. -/
theorem rest1 (c : Dev nD) : (StableHlo.held (c : Thread nD τ) ((Pipeline.ucRefs τ sig \ Pipeline.arrRefs spec1) \ Pipeline.tblRefs pre1) (W8 m c) : sProp 𝕄)
    = StableHlo.held (c : Thread nD τ) ((Pipeline.ucRefs τ sig \ Pipeline.arrRefs spec1) \ Pipeline.tblRefs pre1) (last m c) :=
  StableHlo.held_congr (c := (c : Thread nD τ)) fun b hb => by
    obtain ⟨r, rfl⟩ := of_uc b (Finset.mem_sdiff.mp (Finset.mem_sdiff.mp hb).1).1
    exact (last_of_ne m c r (not_arr spec1 pre1 r hb)).symm

/-- All buffers held as the first call leaves them are held as the next line finds them, -/
theorem held_mid (c : Dev nD) : (StableHlo.held (c : Thread nD τ) (Pipeline.ucRefs τ sig) (mid m c) : sProp 𝕄)
    = StableHlo.held (c : Thread nD τ) (Pipeline.ucRefs τ sig) (V5 m (outs m) c) :=
  StableHlo.held_congr (c := (c : Thread nD τ)) fun b hb => by
    obtain ⟨r, rfl⟩ := of_uc b hb
    exact mid_eq m c r

/-- and likewise after the second. -/
theorem held_last (c : Dev nD) : (StableHlo.held (c : Thread nD τ) (Pipeline.ucRefs τ sig) (last m c) : sProp 𝕄)
    = StableHlo.held (c : Thread nD τ) (Pipeline.ucRefs τ sig) (V9 m (outs m) c) :=
  StableHlo.held_congr (c := (c : Thread nD τ)) fun b hb => by
    obtain ⟨r, rfl⟩ := of_uc b hb
    exact last_eq m c r

/-- The first call is entered from the buffers before it, -/
theorem enter0 (c : Dev nD) : iprop(StableHlo.held (c : Thread nD τ) (Pipeline.ucRefs τ sig) (V4 m c) ∗ rides c) ⊢ (region0 m hG).pre c := by
  rw [held_split0]
  show _ ⊢ iprop(StableHlo.held (c : Thread nD τ) (Pipeline.arrRefs spec0) (V4 m c) ∗ StableHlo.held (c : Thread nD τ) (Pipeline.tblRefs pre0) (V4 m c)
    ∗ keeps c ∗ StableHlo.held (c : Thread nD τ) ((Pipeline.ucRefs τ sig \ Pipeline.arrRefs spec0) \ Pipeline.tblRefs pre0) (V4 m c) ∗ ∃ W, owes (c : Thread nD τ) (due c) W)
  iintro ⟨⟨HA, HT, HR⟩, HK, HO⟩
  isplitl [HA]; · iexact HA
  isplitl [HT]; · iexact HT
  isplitl [HK]; · iexact HK
  isplitl [HR]; · iexact HR
  iexact HO

/-- and leaves those after it. -/
theorem leave0 (c : Dev nD) : (region0 m hG).post c ⊢ iprop(StableHlo.held (c : Thread nD τ) (Pipeline.ucRefs τ sig) (V5 m (outs m) c) ∗ rides c) := by
  rw [← held_mid, held_split0]
  show iprop(StableHlo.held (c : Thread nD τ) (Pipeline.arrRefs spec0) (mid m c) ∗ StableHlo.held (c : Thread nD τ) (Pipeline.tblRefs pre0) (mid m c)
    ∗ keeps c ∗ StableHlo.held (c : Thread nD τ) ((Pipeline.ucRefs τ sig \ Pipeline.arrRefs spec0) \ Pipeline.tblRefs pre0) (V4 m c) ∗ ∃ W, owes (c : Thread nD τ) (due c) W) ⊢ _
  rw [rest0]
  iintro ⟨HA, HT, HK, HR, HO⟩
  isplitl [HA HT HR]
  · isplitl [HA]; · iexact HA
    isplitl [HT]; · iexact HT
    iexact HR
  isplitl [HK]; · iexact HK
  iexact HO

/-- The second call is entered from the buffers before it, -/
theorem enter1 (c : Dev nD) : iprop(StableHlo.held (c : Thread nD τ) (Pipeline.ucRefs τ sig) (V8 m (outs m) c) ∗ rides c) ⊢ (region1 m hM).pre c := by
  rw [held_split1]
  show _ ⊢ iprop(StableHlo.held (c : Thread nD τ) (Pipeline.arrRefs spec1) (W8 m c) ∗ StableHlo.held (c : Thread nD τ) (Pipeline.tblRefs pre1) (W8 m c)
    ∗ keeps c ∗ StableHlo.held (c : Thread nD τ) ((Pipeline.ucRefs τ sig \ Pipeline.arrRefs spec1) \ Pipeline.tblRefs pre1) (W8 m c) ∗ ∃ W, owes (c : Thread nD τ) (due c) W)
  iintro ⟨⟨HA, HT, HR⟩, HK, HO⟩
  isplitl [HA]; · iexact HA
  isplitl [HT]; · iexact HT
  isplitl [HK]; · iexact HK
  isplitl [HR]; · iexact HR
  iexact HO

/-- and leaves those after it. -/
theorem leave1 (c : Dev nD) : (region1 m hM).post c ⊢ iprop(StableHlo.held (c : Thread nD τ) (Pipeline.ucRefs τ sig) (V9 m (outs m) c) ∗ rides c) := by
  rw [← held_last, held_split1]
  show iprop(StableHlo.held (c : Thread nD τ) (Pipeline.arrRefs spec1) (last m c) ∗ StableHlo.held (c : Thread nD τ) (Pipeline.tblRefs pre1) (last m c)
    ∗ keeps c ∗ StableHlo.held (c : Thread nD τ) ((Pipeline.ucRefs τ sig \ Pipeline.arrRefs spec1) \ Pipeline.tblRefs pre1) (W8 m c) ∗ ∃ W, owes (c : Thread nD τ) (due c) W) ⊢ _
  rw [rest1]
  iintro ⟨HA, HT, HK, HR, HO⟩
  isplitl [HA HT HR]
  · isplitl [HA]; · iexact HA
    isplitl [HT]; · iexact HT
    iexact HR
  isplitl [HK]; · iexact HK
  iexact HO

/-! ## The run -/

/-- The program's steps. -/
abbrev steps : Dev nD → List (Seg (pcfgs (F := F)) (adms m) (pdats m) () defs₀ Variants.none L lv) :=
  segs m (outs m) Variants.none L lv (fun _ => rides) () (adms m) (pdats m) (region0 m hG) (region1 m hM)

set_option backward.isDefEq.respectTransparency.types false in
include hG hM in
/-- Every run ends, every buffer at what the last step leaves, every semaphore at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = V9 m (outs m) c b) ∧ r.2.sem = fun _ => 0) := by
  refine Pipeline.θ_run_regions_kit_dev_sems (pcfgs (F := F)) (adms m) (pdats m) () (cellOf_inj (adms m)) emb₁ defs₀ Variants.none L lv m ρ main
    (steps m hG hM) (fun c Q => ?_) (fun c => ?_) due (fun g hg => if_neg hg) (fun _ => iprop(emp))
    (initOf (Pipeline.cells (Pipeline.pin (pcfgs (F := F)) (adms m)) (cellOf_inj (adms m))) (Pipeline.launchToks (Pipeline.pin (pcfgs (F := F)) (adms m)) (cellOf_inj (adms m))))
    ?_ (T₀ := fun c => iprop(StableHlo.held (c : Thread nD τ) (Pipeline.ucRefs τ sig) (V0 m c) ∗ rides c))
    (Tₙ := fun c => StableHlo.held (c : Thread nD τ) (Pipeline.ucRefs τ sig) (V9 m (outs m) c))
    (hch := fun c => ⟨.rfl, .rfl, .rfl, .rfl, enter0 m hG c, leave0 m hG c, .rfl, .rfl, enter1 m hM c,
      (leave1 m hM c).trans (Idealize.SL.BI.sep_mono (BI.Entails.refl _) (owes_of_rides c))⟩)
    (hinit := Pipeline.initEach L lv fun c => ?_)
    (QY := fun c s => ∀ b ∈ Pipeline.ucRefs τ sig, s.mem ((c : Thread nD τ).1, b) = V9 m (outs m) c b)
    (hfin := fun c s' => ?_) (hQ := fun _ h hz => ⟨h, funext fun g => hz g (.inr (regions_no_unscoped g.2))⟩)
  · -- the program is its steps in order
    rewrite [main_chain c, Seg.run_eq_chain,
      show (steps m hG hM c).map Seg.prog = [StableHlo.seq hostOps0, StableHlo.seq hostOps0_1, StableHlo.seq hostOps0_2, StableHlo.seq hostOps0_3,
        Prog.lift (.customCall (Pipeline.entry 0) ()), StableHlo.seq hostOps1, StableHlo.seq hostOps1_1, StableHlo.seq hostOps1_2,
        Prog.lift (.customCall (Pipeline.entry 1) ())] from rfl]
    dsimp (config := { failIfUnchanged := false }) only
    exact .rfl
  · -- each call runs once
    simp only [segs, Seg.pipes_host, Seg.pipes_region, Seg.pipes_nil]
    decide
  · -- the calls' staging tokens
    iintro Hu; imodintro
    isplitl [Hu]
    · iapply (show (ownU _ : sProp 𝕄) ⊢ BI.own (emb₁ (initOf (Pipeline.cells (Pipeline.pin (pcfgs (F := F)) (adms m)) (cellOf_inj (adms m)))
        (Pipeline.launchToks (Pipeline.pin (pcfgs (F := F)) (adms m)) (cellOf_inj (adms m))))) from .rfl)
      iexact Hu
    iapply (show (BI.emp : sProp 𝕄) ⊢ bigSep Finset.univ (fun _ : Dev nD => (BI.emp : sProp 𝕄)) from by rw [BI.bigSep_emp_const])
    iempintro
  · -- a core starts with its buffers, its register and no dues
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]
    · iexists _; iexact Hp
    iexists _; iexact HO
  · -- and its buffers are read at the end
    unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    imodintro; iexact Hr

/-- The core's unscoped buffers are among those read. -/
theorem uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

include hG hM in
/-- Every run ends, the arguments unchanged, the merged array at what the second call leaves, every semaphore at zero. -/
theorem run_ends : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v30) = (Merge.dats (W8 m) c).arrAt 2 (Merge.cfgM (W8 m)).N)
      ∧ r.2.sem = fun _ => 0) :=
  (θ_run defs _ _).mono (fun _ h => ⟨fun c => ⟨⟨
      (h.1 c _ (uc main_arg0 (by decide))).trans (V9_main_arg0 m (outs m) c),
      (h.1 c _ (uc main_arg1 (by decide))).trans (V9_main_arg1 m (outs m) c),
      (h.1 c _ (uc main_arg2 (by decide))).trans (V9_main_arg2 m (outs m) c)⟩,
      (h.1 c _ (uc main_v30 (by decide))).trans ((last_eq m c main_v30).symm.trans (last_arr m c 2))⟩, h.2⟩) (run_all m ρ hG hM)

end Cert.TailIdeal.Whole

end
-- ==== Proof.GatherArray.lean ====
/- What the two arrays of gathered rows hold: row by row, what their sample's grid step left. -/
module

public import proofs.«01_k».proof.Proof.GatherFrame
public import Idealize.ShloMosaic.Lib.Pipeline.Value

@[expose] public section

set_option maxRecDepth 16384

noncomputable section

namespace Cert.TailIdeal.Gather

open Cert.TailIdeal Cert.TailIdeal.Gen
open Idealize.ShloMosaic Idealize.ShloMosaic.TcCoe Idealize.ShloMosaic.ValueIdx Idealize.SL.Sem

variable {F : FTy → Type} [FloatOps F]

variable (V : Dev nD → Valuation τ sig (Elt F))

/-- Each grid step's blocks are its sample's. -/
theorem idx : ∀ t : Fin grid0.N, cc0_transform_0 (grid0.coords t) = ![t.val, 0, 0] ∧ cc0_transform_1 (grid0.coords t) = ![t.val, 0, 0]
    ∧ cc0_transform_2 (grid0.coords t) = ![t.val, 0, 0] ∧ (grid0.coords t 0).val = t.val := by decide +kernel

/-- One sample of the tokens, as a block. -/
def sample (x : FVec F S4x2048x1024 .f32) (b : Fin 4) : Vec F S1x2048x1024 .f32 := fun y => x (ix3 b (y 1) (y 2))

/-- An array of gathered rows: of each sample the rows that its words from word `o` on name. -/
def gathered (tab : S8192.Idx → BitVec 32) (x : FVec F S4x2048x1024 .f32) (o : ℕ) : FVec F S4x102x1024 .f32 := fun i =>
  rowAt (sample x (i 0)) (word tab (2048 * (i 0).val + o + (i 1).val)) (i 2)

/-- A grid step reads its sample. -/
theorem iblk0 (c : Dev nD) (t : Fin (cfgM V).N) (b : Fin 4) (hb : b.val = t.val) : iblk V c 0 t = sample (ent V c main_v3) b := by
  refine funext fun (y : S1x2048x1024.Idx) => ?_
  have h0 : (y 0).val < 1 := (y 0).isLt
  refine congrArg (ent V c main_v3) (funext fun a => Fin.ext ?_)
  match a with
  | ⟨0, _⟩ => show cc0_transform_0 (grid0.coords t) 0 * 1 + 1 * (y 0).val = b.val; rw [(idx t).1]; show t.val * 1 + 1 * (y 0).val = b.val; omega
  | ⟨1, _⟩ => show cc0_transform_0 (grid0.coords t) 1 * 2048 + 1 * (y 1).val = (y 1).val; rw [(idx t).1]; show 0 * 2048 + 1 * (y 1).val = (y 1).val; omega
  | ⟨2, _⟩ => show cc0_transform_0 (grid0.coords t) 2 * 1024 + 1 * (y 2).val = (y 2).val; rw [(idx t).1]; show 0 * 1024 + 1 * (y 2).val = (y 2).val; omega

/-- What a grid step leaves of a half is its sample's rows of the gathered array. -/
theorem outAt_apply (o : ℕ) (c : Dev nD) (t : Fin (cfgM V).N) (b : Fin 4) (hb : b.val = t.val) (y : S1x102x1024.Idx) :
    outAt V o c t y = gathered (tbl V 0) (ent V c main_v3) o (ix3 b (y 1) (y 2)) := by
  unfold outAt halfBlk gathered
  rw [iblk0 V c t b hb, (idx t).2.2.2, ← hb]
  rfl

/-- Where an element of a grid step's first block lies in its array, -/
theorem emb1 (t : Fin (cfgM V).N) (b : Fin 4) (hb : b.val = t.val) (y : S1x102x1024.Idx) :
    (((cfgM V).win 1).blk t).view.emb y = (ix3 b (y 1) (y 2) : S4x102x1024.Idx) := by
  have h0 : (y 0).val < 1 := (y 0).isLt
  refine funext fun a => Fin.ext ?_
  match a with
  | ⟨0, _⟩ => show cc0_transform_1 (grid0.coords t) 0 * 1 + 1 * (y 0).val = b.val; rw [(idx t).2.1]; show t.val * 1 + 1 * (y 0).val = b.val; omega
  | ⟨1, _⟩ => show cc0_transform_1 (grid0.coords t) 1 * 102 + 1 * (y 1).val = (y 1).val; rw [(idx t).2.1]; show 0 * 102 + 1 * (y 1).val = (y 1).val; omega
  | ⟨2, _⟩ => show cc0_transform_1 (grid0.coords t) 2 * 1024 + 1 * (y 2).val = (y 2).val; rw [(idx t).2.1]; show 0 * 1024 + 1 * (y 2).val = (y 2).val; omega

/-- and one of its second block. -/
theorem emb2 (t : Fin (cfgM V).N) (b : Fin 4) (hb : b.val = t.val) (y : S1x102x1024.Idx) :
    (((cfgM V).win 2).blk t).view.emb y = (ix3 b (y 1) (y 2) : S4x102x1024.Idx) := by
  have h0 : (y 0).val < 1 := (y 0).isLt
  refine funext fun a => Fin.ext ?_
  match a with
  | ⟨0, _⟩ => show cc0_transform_2 (grid0.coords t) 0 * 1 + 1 * (y 0).val = b.val; rw [(idx t).2.2.1]; show t.val * 1 + 1 * (y 0).val = b.val; omega
  | ⟨1, _⟩ => show cc0_transform_2 (grid0.coords t) 1 * 102 + 1 * (y 1).val = (y 1).val; rw [(idx t).2.2.1]; show 0 * 102 + 1 * (y 1).val = (y 1).val; omega
  | ⟨2, _⟩ => show cc0_transform_2 (grid0.coords t) 2 * 1024 + 1 * (y 2).val = (y 2).val; rw [(idx t).2.2.1]; show 0 * 1024 + 1 * (y 2).val = (y 2).val; omega

/-- What a grid step writes back to the first array is its block of it, -/
theorem flushed1 (c : Dev nD) (t : Fin (cfgM V).N) :
    (dats V c).flushed 1 t = (((cfgM V).win 1).blk t).view.read (Elt F) (gathered (tbl V 0) (ent V c main_v3) 0) := by
  show ((cfgM V).win 1).cut (grid0.coords t) ((dats V c).after 1 t) = _
  rw [after1]
  refine funext fun (y : S1x102x1024.Idx) => ?_
  refine Eq.trans ?_ (congrArg (gathered (tbl V 0) (ent V c main_v3) 0) (emb1 V t ⟨t.val, lt_of_lt_of_eq t.isLt N_0⟩ rfl y).symm)
  exact outAt_apply V 0 c t ⟨t.val, lt_of_lt_of_eq t.isLt N_0⟩ rfl y

/-- and to the second its block of that. -/
theorem flushed2 (c : Dev nD) (t : Fin (cfgM V).N) :
    (dats V c).flushed 2 t = (((cfgM V).win 2).blk t).view.read (Elt F) (gathered (tbl V 0) (ent V c main_v3) 1024) := by
  show ((cfgM V).win 2).cut (grid0.coords t) ((dats V c).after 2 t) = _
  rw [after2]
  refine funext fun (y : S1x102x1024.Idx) => ?_
  refine Eq.trans ?_ (congrArg (gathered (tbl V 0) (ent V c main_v3) 1024) (emb2 V t ⟨t.val, lt_of_lt_of_eq t.isLt N_0⟩ rfl y).symm)
  exact outAt_apply V 1024 c t ⟨t.val, lt_of_lt_of_eq t.isLt N_0⟩ rfl y

/-- Every grid step writes its first block back, -/
theorem flush1 (t : Fin (cfgM V).N) : ((cfgM V).win 1).flush t = true :=
  Pipeline.Window.flushOf_reads cc0_transform_1 reads0_1 hreads0_1 0 (by decide) (by decide)
    (Pipeline.Window.sep_of_coord cc0_transform_1 0 0 (fun _ => rfl) (by decide)) (P := 1) (m := 0) (by decide) rfl t |>.mpr (Nat.mod_one _)

/-- and its second. -/
theorem flush2 (t : Fin (cfgM V).N) : ((cfgM V).win 2).flush t = true :=
  Pipeline.Window.flushOf_reads cc0_transform_2 reads0_2 hreads0_2 0 (by decide) (by decide)
    (Pipeline.Window.sep_of_coord cc0_transform_2 0 0 (fun _ => rfl) (by decide)) (P := 1) (m := 0) (by decide) rfl t |>.mpr (Nat.mod_one _)

/-- A sample's rows lie in its grid step's first block, -/
theorem mem1 (t : Fin (cfgM V).N) (b : Fin 4) (hb : b.val = t.val) (y : S1x102x1024.Idx) (i : S4x102x1024.Idx)
    (hi : (ix3 b (y 1) (y 2) : S4x102x1024.Idx) = i) : i ∈ (((cfgM V).win 1).blk t).view.set :=
  Eq.subst (motive := fun z : S4x102x1024.Idx => z ∈ (((cfgM V).win 1).blk t).view.set) ((emb1 V t b hb y).trans hi)
    ((((cfgM V).win 1).blk t).view.emb_mem_set y)

/-- and in its second. -/
theorem mem2 (t : Fin (cfgM V).N) (b : Fin 4) (hb : b.val = t.val) (y : S1x102x1024.Idx) (i : S4x102x1024.Idx)
    (hi : (ix3 b (y 1) (y 2) : S4x102x1024.Idx) = i) : i ∈ (((cfgM V).win 2).blk t).view.set :=
  Eq.subst (motive := fun z : S4x102x1024.Idx => z ∈ (((cfgM V).win 2).blk t).view.set) ((emb2 V t b hb y).trans hi)
    ((((cfgM V).win 2).blk t).view.emb_mem_set y)

/-- The first array after the run, -/
theorem array1 (c : Dev nD) : (dats V c).arrAt 1 (cfgM V).N = gathered (tbl V 0) (ent V c main_v3) 0 :=
  (dats V c).arrAt_eq_of_cover 1 _ (fun t _ => flushed1 V c t) fun (i : S4x102x1024.Idx) =>
    have h0 : (i 0).val < 4 := (i 0).isLt
    ⟨⟨(i 0).val, lt_of_lt_of_eq h0 N_0.symm⟩, flush1 V _, mem1 V _ (i 0) rfl (ix3 0 (i 1) (i 2)) i (eq_ix3 i).symm⟩

/-- and the second. -/
theorem array2 (c : Dev nD) : (dats V c).arrAt 2 (cfgM V).N = gathered (tbl V 0) (ent V c main_v3) 1024 :=
  (dats V c).arrAt_eq_of_cover 2 _ (fun t _ => flushed2 V c t) fun (i : S4x102x1024.Idx) =>
    have h0 : (i 0).val < 4 := (i 0).isLt
    ⟨⟨(i 0).val, lt_of_lt_of_eq h0 N_0.symm⟩, flush2 V _, mem2 V _ (i 0) rfl (ix3 0 (i 1) (i 2)) i (eq_ix3 i).symm⟩

end Cert.TailIdeal.Gather

end
-- ==== Proof.TailRows.lean ====
/- What the reference computes, element by element: rows taken along an axis, rows added at an index. -/
module

public import proofs.«01_k».proof.TailReferenceIdeal
public import proofs.«01_k».proof.Proof.Gen.TailReferenceIdeal
public import Idealize.ShloMosaic.Lib.ReduceAll
public import Idealize.ShloMosaic.Lib.Pointwise

@[expose] public section

set_option maxRecDepth 16384

noncomputable section

namespace Cert.TailReferenceIdeal.Tail

open Cert.TailReferenceIdeal
open Idealize.ShloMosaic Idealize.ShloMosaic.TcCoe

/-! ## Rows taken along an axis -/

section Take

variable {F : FTy → Type} [FloatOps F] {K : ℕ}
  (wf : GatherDims.WF ⟨3, ![4, 2048, 1024]⟩ ⟨3, ![4, K, 1]⟩ ⟨3, ![4, K, 1024]⟩ [2] [1] [0] [1] [0] 2 ![1, 1, 1024])
  (hs : S_.BroadcastsInDim ⟨3, ![4, K, 1]⟩ ![]) (h1 : S1.BroadcastsInDim S1x1x1 ![2]) (h111 : S1x1x1.BroadcastsInDim ⟨3, ![4, K, 1]⟩ ![0, 1, 2])
  (hr : (⟨3, ![4, K, 1]⟩ : Shape).ReducesTo [2] ⟨2, ![4, K]⟩) (hp : 0 < S_.numel)
  (hb : (⟨2, ![4, K]⟩ : Shape).BroadcastsInDim ⟨3, ![4, K, 1024]⟩ ![0, 1]) (hn : S_.BroadcastsInDim ⟨3, ![4, K, 1024]⟩ ![])

/-- The gather of whole rows, `K` of each sample. -/
abbrev rowsDims : GatherDims ⟨3, ![4, 2048, 1024]⟩ ⟨3, ![4, K, 1]⟩ ⟨3, ![4, K, 1024]⟩ where
  offsetDims := [2]
  collapsedSliceDims := [1]
  operandBatchingDims := [0]
  startIndicesBatchingDims := [0]
  startIndexMap := [1]
  indexVectorDim := 2
  sliceSizes := ![1, 1, 1024]
  wf := wf

/-- It reads the row its index names. -/
theorem gather_at {α : Type} (x : S4x2048x1024.Idx → α) (i : IVec ⟨3, ![4, K, 1]⟩ 32) (b : Fin 4) (n : Fin K) (j : Fin 1024) :
    Host.gather (rowsDims wf) x i (ix3 b n j) = x (ix3 b ⟨min (i (ix3 b n 0)).toInt.toNat 2047, by omega⟩ j) := by
  unfold Host.gather
  congr 1
  funext a
  refine Fin.ext ?_
  show (rowsDims wf).start (ix3 b n j) i a + (rowsDims wf).batchCoord (ix3 b n j) a + (rowsDims wf).offCoord (ix3 b n j) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims wf).startIndexMap from List.mem_singleton.mpr rfl)]
    have hsi : (rowsDims wf).siIdx (ix3 b n j) ⟨List.idxOf (1 : Fin 3) (rowsDims wf).startIndexMap,
        List.idxOf_lt_length_iff.2 (List.mem_singleton.mpr rfl)⟩ = ix3 b n 0 := by
      funext d; refine Fin.ext ?_
      match d with
      | ⟨0, _⟩ => rfl
      | ⟨1, _⟩ => rfl
      | ⟨2, _⟩ => rfl
    rw [hsi]
    rfl
  · rw [GatherDims.batchCoord_eq_zero _ _ _ (show (2 : Fin 3) ∉ ([0] : List (Fin 3)) by decide)]
    unfold GatherDims.start
    rw [dif_neg (show (2 : Fin 3) ∉ ([1] : List (Fin 3)) by decide)]
    simp only [Nat.zero_add, Nat.add_zero]
    unfold GatherDims.offCoord
    rw [dif_pos ((GatherDims.mem_sKept _ _).2 ⟨(show (2 : Fin 3) ∉ ([1] : List (Fin 3)) by decide), (show (2 : Fin 3) ∉ ([0] : List (Fin 3)) by decide)⟩)]
    rfl

/-- An index counted from the end when it is negative. -/
abbrev wrapped (i : IVec ⟨3, ![4, K, 1]⟩ 32) : IVec ⟨3, ![4, K, 1]⟩ 32 :=
  select (cmpi .slt i (broadcastInDim _ ![] hs (constantI S_ 32 0#32))) (addi i (broadcastInDim _ ![] hs (constantI S_ 32 2048#32))) i

/-- Rows taken along the second axis, with a fill for an index out of range. -/
def rowsTaken (x : FVec F S4x2048x1024 .f32) (i : IVec ⟨3, ![4, K, 1]⟩ 32) : FVec F ⟨3, ![4, K, 1024]⟩ .f32 :=
  select (broadcastInDim _ ![0, 1] hb (Host.reduce IntOp.andi
      (andi (cmpi .sge (wrapped hs i) (broadcastInDim _ ![] hs (constantI S_ 32 0#32)))
        (cmpi .sle (wrapped hs i) (broadcastInDim _ ![0, 1, 2] h111 (broadcastInDim S1x1x1 ![2] h1 (constantI S1 32 2047#32)))))
      (constantI S_ 1 1#1) hr hp))
    (Host.gather (rowsDims wf) x (wrapped hs i)) (broadcastInDim _ ![] hn (constant S_ .f32 0x7FC00000#32))

/-- With every index in range, it reads the row its index names. -/
theorem rowsTaken_at (x : FVec F S4x2048x1024 .f32) (i : IVec ⟨3, ![4, K, 1]⟩ 32) (hi : ∀ y, (i y).toNat < 2048)
    (b : Fin 4) (n : Fin K) (j : Fin 1024) :
    rowsTaken wf hs h1 h111 hr hp hb hn x i (ix3 b n j) = x (ix3 b ⟨(i (ix3 b n 0)).toNat, hi _⟩ j) := by
  have ti : ∀ y, (i y).toInt = (i y).toNat := fun y => by
    have := hi y
    rw [BitVec.toInt_eq_toNat_cond]; split <;> omega
  have hw : wrapped hs i = i := funext fun y => by
    show (if IntOp.cmpi .slt (i y) 0#32 = 1#1 then _ else i y) = i y
    rw [if_neg]
    intro h
    have := IntOp.cmpi_slt.1 h
    rw [ti, BitVec.toInt_zero] at this
    omega
  have hmask : ∀ z, Host.reduce IntOp.andi
      (andi (cmpi .sge (wrapped hs i) (broadcastInDim _ ![] hs (constantI S_ 32 0#32)))
        (cmpi .sle (wrapped hs i) (broadcastInDim _ ![0, 1, 2] h111 (broadcastInDim S1x1x1 ![2] h1 (constantI S1 32 2047#32)))))
      (constantI S_ 1 1#1) hr hp z = 1#1 := fun z => Host.reduce_andi_one _ _ _ _ _ rfl fun y => by
    rw [hw]
    refine IntOp.andi_eq_one.2 ⟨IntOp.cmpi_sge.2 ?_, IntOp.cmpi_sle.2 ?_⟩
    · show (0#32).toInt ≤ (i y).toInt
      rw [ti, BitVec.toInt_zero]; omega
    · show (i y).toInt ≤ (2047#32).toInt
      have := hi y
      rw [ti, show (2047#32).toInt = 2047 from rfl]; omega
  unfold rowsTaken
  refine (if_pos (hmask _)).trans ?_
  rw [gather_at, hw]
  congr 2
  refine Fin.ext ?_
  show min (i (ix3 b n 0)).toInt.toNat 2047 = (i (ix3 b n 0)).toNat
  have := hi (ix3 b n 0)
  rw [ti]; omega

end Take

end Cert.TailReferenceIdeal.Tail

end
-- ==== Proof.TailScatter.lean ====
/- Rows added at an index, element by element. -/
module

public import proofs.«01_k».proof.Proof.Gen.TailReferenceIdeal
public import Idealize.ShloMosaic.Lib.Pointwise

@[expose] public section

set_option maxRecDepth 16384

noncomputable section

namespace Cert.TailReferenceIdeal.Tail

open Cert.TailReferenceIdeal Cert.TailReferenceIdeal.Gen
open Idealize.ShloMosaic Idealize.ShloMosaic.TcCoe

/-- The dimension numbers of the addition at an index. -/
abbrev addDims := scatter_S4x102x1024_S4x102x2_S4x102x1024_2_01_01_2

variable (idx : IVec S4x102x2 32)

/-- The scatter's start on the sample's axis is the index's first component, -/
theorem start0 (y : S4x102x1024.Idx) : addDims.start y idx 0 = (idx (ix3 (y 0) (y 1) 0)).toInt := by
  unfold ScatterDims.start
  rw [dif_pos (by decide)]
  congr 2
  funext b; refine Fin.ext ?_
  match b with
  | ⟨0, _⟩ => rfl
  | ⟨1, _⟩ => rfl
  | ⟨2, _⟩ => rfl

/-- on the rows' axis its second, -/
theorem start1 (y : S4x102x1024.Idx) : addDims.start y idx 1 = (idx (ix3 (y 0) (y 1) 1)).toInt := by
  unfold ScatterDims.start
  rw [dif_pos (by decide)]
  congr 2
  funext b; refine Fin.ext ?_
  match b with
  | ⟨0, _⟩ => rfl
  | ⟨1, _⟩ => rfl
  | ⟨2, _⟩ => rfl

/-- and zero along the row. -/
theorem start2 (y : S4x102x1024.Idx) : addDims.start y idx 2 = 0 := by
  unfold ScatterDims.start
  rw [dif_neg (by decide)]

/-- The window runs along the row only. -/
theorem window0 (y : S4x102x1024.Idx) : addDims.window y 0 = 0 := by
  unfold ScatterDims.window
  rw [dif_neg (by decide)]
/-- No window offset along the tokens, -/
theorem window1 (y : S4x102x1024.Idx) : addDims.window y 1 = 0 := by
  unfold ScatterDims.window
  rw [dif_neg (by decide)]
/-- and along the channels that of the update. -/
theorem window2 (y : S4x102x1024.Idx) : addDims.window y 2 = (y 2).val := by
  unfold ScatterDims.window
  rw [dif_pos (by decide)]
  rfl

/-- With indices in range, an update lands in its own sample, at the row its index names, in its own column. -/
theorem lands (h0 : ∀ b k, (idx (ix3 b k 0)).toInt = (b.val : ℤ)) (h1 : ∀ b k, (idx (ix3 b k 1)).toNat < 102) (y : S4x102x1024.Idx) :
    addDims.resultIdx? y idx = some (ix3 (y 0) ⟨(idx (ix3 (y 0) (y 1) 1)).toNat, h1 _ _⟩ (y 2)) := by
  have t1 : (idx (ix3 (y 0) (y 1) 1)).toInt = ((idx (ix3 (y 0) (y 1) 1)).toNat : ℤ) := by
    have := h1 (y 0) (y 1)
    rw [BitVec.toInt_eq_toNat_cond]; split <;> omega
  have e : ∀ a, addDims.start y idx a + addDims.window y a = ((ix3 (y 0) ⟨(idx (ix3 (y 0) (y 1) 1)).toNat, h1 _ _⟩ (y 2) : S4x102x1024.Idx) a : ℤ) := fun a => by
    match a with
    | ⟨0, _⟩ => refine (congrArg₂ (fun (p : ℤ) (q : ℕ) => p + q) (start0 idx y) (window0 y)).trans ?_; exact (congrArg (fun p : ℤ => p + ((0 : ℕ) : ℤ)) (h0 (y 0) (y 1))).trans (Int.add_zero _)
    | ⟨1, _⟩ => refine (congrArg₂ (fun (p : ℤ) (q : ℕ) => p + q) (start1 idx y) (window1 y)).trans ?_; rw [t1]; exact Int.add_zero _
    | ⟨2, _⟩ => refine (congrArg₂ (fun (p : ℤ) (q : ℕ) => p + q) (start2 idx y) (window2 y)).trans ?_; exact Int.zero_add _
  unfold ScatterDims.resultIdx?
  rw [dif_pos fun a => by
    rw [e]
    exact ⟨Int.natCast_nonneg _, Int.ofNat_lt.2 (Fin.isLt _)⟩]
  refine congrArg some (funext fun a => Fin.ext ?_)
  show (addDims.start y idx a + addDims.window y a).toNat = _
  rw [e]
  rfl

/-- The addition, at an element: the operand's, and every update of the sample whose index names the row. -/
theorem scatter_at (x u : FVec Ideal S4x102x1024 .f32) (h0 : ∀ b k, (idx (ix3 b k 0)).toInt = (b.val : ℤ))
    (h1 : ∀ b k, (idx (ix3 b k 1)).toNat < 102) (b : Fin 4) (i : Fin 102) (j : Fin 1024) :
    Host.scatterAdd addDims x idx u (ix3 b i j)
      = (show EReal from x (ix3 b i j)) + ∑ k : Fin 102, if (idx (ix3 b k 1)).toNat = i.val then (show EReal from u (ix3 b k j)) else 0 := by
  show (show EReal from x (ix3 b i j)) + ∑ y ∈ Finset.univ.filter (fun y => addDims.resultIdx? y idx = some (ix3 b i j)), (show EReal from u y) = _
  congr 1
  rw [← Finset.sum_filter]
  refine Finset.sum_nbij' (fun y : S4x102x1024.Idx => (y 1 : Fin 102)) (fun k => (ix3 b k j : S4x102x1024.Idx)) ?_ ?_ ?_ ?_ ?_
  · intro y hy
    have hy := Option.some.inj ((lands idx h0 h1 y).symm.trans (Finset.mem_filter.1 hy).2)
    have e0 : y 0 = b := congrFun hy 0
    have e1 := congrArg Fin.val (congrFun hy 1)
    rw [← e0]
    exact Finset.mem_filter.2 ⟨Finset.mem_univ _, e1⟩
  · intro k hk
    have hk := (Finset.mem_filter.1 hk).2
    refine Finset.mem_filter.2 ⟨Finset.mem_univ _, (lands idx h0 h1 _).trans (congrArg some ?_)⟩
    funext a
    match a with
    | ⟨0, _⟩ => rfl
    | ⟨1, _⟩ => exact Fin.ext hk
    | ⟨2, _⟩ => rfl
  · intro y hy
    have hy := Option.some.inj ((lands idx h0 h1 y).symm.trans (Finset.mem_filter.1 hy).2)
    have e0 : y 0 = b := congrFun hy 0
    have e2 : y 2 = j := congrFun hy 2
    rw [← e0, ← e2]
    exact (eq_ix3 y).symm
  · intro k hk
    rfl
  · intro y hy
    have hy := Option.some.inj ((lands idx h0 h1 y).symm.trans (Finset.mem_filter.1 hy).2)
    have e0 : y 0 = b := congrFun hy 0
    have e2 : y 2 = j := congrFun hy 2
    rw [← e0, ← e2]
    exact congrArg u (eq_ix3 y)

end Cert.TailReferenceIdeal.Tail

end
-- ==== Proof.TailTerm.lean ====
/- The reference as one named term: its steps by name, and their composition. -/
module

public import proofs.«01_k».proof.Proof.TailRows
public import proofs.«01_k».proof.Proof.TailScatter

@[expose] public section

set_option maxRecDepth 16384

noncomputable section

namespace Cert.TailReferenceIdeal.Tail

open Cert.TailReferenceIdeal Cert.TailReferenceIdeal.Gen
open Idealize.ShloMosaic Idealize.ShloMosaic.TcCoe

variable {F : FTy → Type} [FloatOps F]

/-- A column of row numbers, from one row of them per sample: those of the kept rows, -/
def asKept (o : IVec S4x1844 32) : IVec S4x1844x1 32 := broadcastInDim S4x1844x1 ![0, 1] bcast_S4x1844_S4x1844x1_0_1 o

/-- and those of some merged rows or partners. -/
def asSome (a : IVec S4x102 32) : IVec S4x102x1 32 := broadcastInDim S4x102x1 ![0, 1] bcast_S4x102_S4x102x1_0_1 a

/-- The numbers of the rows that are kept, -/
def order (o : IVec S8192 32) : IVec S4x1844 32 :=
  extractStridedSlice S4x1844 ![0, 0] (shapeCast S4x2048 o shapeCasts_S8192_S4x2048) slices_S4x2048_S4x1844_0_0

/-- of the rows that are merged away, -/
def first (a : IVec S8192 32) : IVec S4x102 32 :=
  extractStridedSlice S4x102 ![0, 0] (shapeCast S4x2048 a shapeCasts_S8192_S4x2048) slices_S4x2048_S4x102_0_0

/-- and of their partners. -/
def second (a : IVec S8192 32) : IVec S4x102 32 :=
  extractStridedSlice S4x102 ![0, 1024] (shapeCast S4x2048 a shapeCasts_S8192_S4x2048) slices_S4x2048_S4x102_0_1024

/-- The tokens divided by their norms, the norms bounded from below. -/
def normed (x : FVec F S4x2048x1024 .f32) : FVec F S4x2048x1024 .f32 :=
  Host.divf x (broadcastInDim S4x2048x1024 ![0, 1, 2] bcast_S4x2048x1_S4x2048x1024_0_1_2
    (maximumf (broadcastInDim S4x2048x1 ![] bcast_S_S4x2048x1 (constant S_ .f32 0x2B8CBCCC#32))
      (Host.sqrt (broadcastInDim S4x2048x1 ![0, 1] bcast_S4x2048_S4x2048x1_0_1
        (Host.reduceAdd (mulf x x) (constant S_ .f32 0x00000000#32) reducesTo_S4x2048x1024_S4x2048_d2 h_S_)))))

/-- The kept rows, -/
def keptRows (o : IVec S4x1844 32) (x : FVec F S4x2048x1024 .f32) : FVec F S4x1844x1024 .f32 :=
  rowsTaken gather_S4x2048x1024_S4x1844x1_S4x1844x1024_2_1_0_0_1_2_111024_wf bcast_S_S4x1844x1 bcast_S1_S1x1x1_2 bcast_S1x1x1_S4x1844x1_0_1_2
    reducesTo_S4x1844x1_S4x1844_d2 h_S_ bcast_S4x1844_S4x1844x1024_0_1 bcast_S_S4x1844x1024 x (asKept o)

/-- and some merged rows or partners. -/
def someRows (i : IVec S4x102 32) (x : FVec F S4x2048x1024 .f32) : FVec F S4x102x1024 .f32 :=
  rowsTaken gather_S4x2048x1024_S4x102x1_S4x102x1024_2_1_0_0_1_2_111024_wf bcast_S_S4x102x1 bcast_S1_S1x1x1_2 bcast_S1x1x1_S4x102x1_0_1_2
    reducesTo_S4x102x1_S4x102_d2 h_S_ bcast_S4x102_S4x102x1024_0_1 bcast_S_S4x102x1024 x (asSome i)

/-- Every product of a merged row and a partner. -/
def products (u v : FVec F S4x102x1024 .f32) : FVec F S4x102x102 .f32 :=
  Host.dotGeneral dot_S4x102x1024_S4x102x1024_S4x102x102_2_2_1_1_0_0 none u v

/-- The partner with the greatest product, of each merged row. -/
def best (s : FVec F S4x102x102 .f32) : IVec S4x102 32 := fun j =>
  (Host.argReduce reducer_argmax_f32_i32 s (iotaInDim S4x102x102 32 2) (constant S_ .f32 0xFF800000#32) (constantI S_ 32 0#32)
    reducesTo_S4x102x102_S4x102_d2 h_S_ j).2

/-- The samples' numbers, in a column. -/
def samples : IVec S4x1 32 := broadcastInDim S4x1 ![0] bcast_S4_S4x1_0 (iotaInDim S4 32 0)

/-- The sample's number, for each merged row, -/
def inSample : IVec S4x102x1 32 :=
  asSome (broadcastInDim S4x102 ![0, 1] bcast_S4x1_S4x102_0_1
    (select (cmpi .slt samples (broadcastInDim S4x1 ![] bcast_S_S4x1 (constantI S_ 32 0#32)))
      (addi samples (broadcastInDim S4x1 ![] bcast_S_S4x1 (constantI S_ 32 4#32))) samples))

/-- the partner's number, for each merged row, -/
def toPartner (d : IVec S4x102 32) : IVec S4x102x1 32 :=
  asSome (select (cmpi .slt d (broadcastInDim S4x102 ![] bcast_S_S4x102 (constantI S_ 32 0#32)))
    (addi d (broadcastInDim S4x102 ![] bcast_S_S4x102 (constantI S_ 32 102#32))) d)

/-- two columns side by side, -/
def joined (p q : IVec S4x102x1 32) : IVec S4x102x2 32 :=
  concatenate S4x102x2 2 [⟨S4x102x1, p⟩, ⟨S4x102x1, q⟩] concatenates_S4x102x1_S4x102x1_S4x102x2_d2

/-- and so both numbers, for each merged row. -/
def pairs (d : IVec S4x102 32) : IVec S4x102x2 32 := joined inSample (toPartner d)

/-- A one for each merged row. -/
def ones : FVec F S4x102 .f32 := broadcastInDim S4x102 ![] bcast_S_S4x102 (constant S_ .f32 0x3F800000#32)

/-- How many rows each partner ends up with, itself counted. -/
def counts (d : IVec S4x102 32) : FVec F S4x102 .f32 :=
  Host.scatterAdd scatter_S4x102_S4x102x2_S4x102_n_01_01_2 ones (pairs d) ones

/-- The counts, in a column. -/
def countsColumn (n : FVec F S4x102 .f32) : FVec F S4x102x1 .f32 := broadcastInDim S4x102x1 ![0, 1] bcast_S4x102_S4x102x1_0_1 n

/-- Two arrays of rows, the second behind the first. -/
def stacked (u : FVec F S4x1844x1024 .f32) (v : FVec F S4x102x1024 .f32) : FVec F S4x1946x1024 .f32 :=
  concatenate S4x1946x1024 1 [⟨S4x1844x1024, u⟩, ⟨S4x102x1024, v⟩] concatenates_S4x1844x1024_S4x102x1024_S4x1946x1024_d1

/-- The rows averaged into their partners. -/
def averaged (u v : FVec F S4x102x1024 .f32) (p : IVec S4x102x2 32) (n : FVec F S4x102x1 .f32) : FVec F S4x102x1024 .f32 :=
  Host.divf (Host.scatterAdd addDims v p u) (broadcastInDim S4x102x1024 ![0, 1, 2] bcast_S4x102x1_S4x102x1024_0_1_2 n)

/-- The merge: the kept rows, and behind them the partners with the rows that name them averaged in. -/
def merge (o a : IVec S8192 32) (d : IVec S4x102 32) (x : FVec F S4x2048x1024 .f32) (n : FVec F S4x102x1 .f32) : FVec F S4x1946x1024 .f32 :=
  stacked (keptRows (order o) x) (averaged (someRows (first a) x) (someRows (second a) x) (pairs d) n)

/-- The partner each merged row goes to. -/
def partners (a : IVec S8192 32) (x : FVec F S4x2048x1024 .f32) : IVec S4x102 32 :=
  best (products (someRows (first a) (normed x)) (someRows (second a) (normed x)))

/-- The reference's result. -/
def result (o a : IVec S8192 32) (x : FVec F S4x2048x1024 .f32) : FVec F S4x1946x1024 .f32 :=
  merge o a (partners a x) x (countsColumn (counts (F := F) (partners a x)))

end Cert.TailReferenceIdeal.Tail

end
-- ==== Proof.TailHost.lean ====
/- What the host lines of the program hand to its two calls: the normed tokens, the partners and their counts. -/
module

public import proofs.«01_k».proof.Proof.TailRun
public import proofs.«01_k».proof.Proof.GatherArray
public import proofs.«01_k».proof.Proof.TailTerm

@[expose] public section

set_option maxRecDepth 16384

noncomputable section

namespace Cert.TailIdeal.Whole

open Cert.TailIdeal Cert.TailIdeal.Gen
open Idealize.ShloMosaic Idealize.ShloMosaic.TcCoe Idealize.ShloMosaic.StableHlo Idealize.SL.Sem
open Facts
open Cert.TailReferenceIdeal.Tail (normed best counts countsColumn)

variable {F : FTy → Type} [FloatOps F]

/-- The rounded products of the rows of two arrays. -/
def rounded (a b : FVec F S4x102x1024 .f32) : FVec F S4x102x102 .f32 :=
  Host.dotGeneral dot_S4x102x1024_S4x102x1024_S4x102x102_2_2_1_1_0_0 none (truncf .bf16 a bitsLt_bf16_f32) (truncf .bf16 b bitsLt_bf16_f32)

section Lines

variable (V : Valuation τ sig (Elt F))

/-- The lines before the first call norm the tokens: -/
theorem lines_norm : after hostOps0_3 (after hostOps0_2 (after hostOps0_1 (after hostOps0 V))) main_v3 = normed (V main_arg2) := by
  simp only [hostOps0, hostOps0_1, hostOps0_2, hostOps0_3, TRef.binary, TRef.nullary, TRef.ternary, TRef.unary, TRef.toBuf, TRef.ofBuf, cast_eq]
  after_results_simp <;> rfl

/-- the first lines after it multiply the rows, -/
theorem lines_products : after hostOps1 V main_v7 = rounded (V main_v4_0) (V main_v4_1) := by
  simp only [hostOps1]
  after_results_simp <;> rfl

/-- the next find the greatest product of each row, -/
theorem lines_best : after hostOps1_1 V main_v8 = best (F := F) (V main_v7) := by
  simp only [hostOps1_1, TRef.binary, TRef.nullary, TRef.ternary, TRef.quaternary, TRef.unary, TRef.toBuf, TRef.ofBuf, cast_eq]
  after_results_simp <;> rfl

set_option maxHeartbeats 4000000 in
/-- and the last lay the partners out in one row -/
theorem lines_flat : after hostOps1_2 V main_v28 = shapeCast S408 (V main_v8) shapeCasts_S4x102_S408 := by
  simp only [hostOps1_2, TRef.binary, TRef.nullary, TRef.ternary, TRef.unary, TRef.toBuf, TRef.ofBuf, cast_eq]
  after_results_simp <;> rfl

set_option maxHeartbeats 4000000 in
/-- and count them. -/
theorem lines_counts : after hostOps1_2 V main_v29 = countsColumn (F := F) (counts (V main_v8)) := by
  simp only [hostOps1_2, TRef.binary, TRef.nullary, TRef.ternary, TRef.unary, TRef.toBuf, TRef.ofBuf, cast_eq]
  after_results_simp <;> rfl

end Lines

variable (m : (ℓ : Loc nD τ sig) → Buf (Elt F) ℓ) (c : Dev nD)

/-- The first call is handed the normed tokens, -/
theorem V4_normed : V4 m c main_v3 = normed (m ((c.tc : Thread nD τ).loc main_arg2)) := lines_norm _

/-- the order's table, -/
theorem V4_order : V4 m c main_arg0 = m ((c.tc : Thread nD τ).loc main_arg0) := by
  rw [V4_of _ _ _ (by decide), V3_of _ _ _ (by decide), V2_of _ _ _ (by decide), V1_of _ _ _ (by decide)]

/-- the partition's table, -/
theorem V4_part : V4 m c main_arg1 = m ((c.tc : Thread nD τ).loc main_arg1) := by
  rw [V4_of _ _ _ (by decide), V3_of _ _ _ (by decide), V2_of _ _ _ (by decide), V1_of _ _ _ (by decide)]

/-- and the tokens. -/
theorem V4_tokens : V4 m c main_arg2 = m ((c.tc : Thread nD τ).loc main_arg2) := by
  rw [V4_of _ _ _ (by decide), V3_of _ _ _ (by decide), V2_of _ _ _ (by decide), V1_of _ _ _ (by decide)]

/-- A buffer that nothing between the two calls writes reaches the second as it reached the first. -/
theorem W8_of (r : Ref sig .tc) (h5 : r ∉ ([main_v4_0, main_v4_1] : List (Ref sig .tc))) (h6 : r ∉ hostOps1_W) (h7 : r ∉ hostOps1_1_W) (h8 : r ∉ hostOps1_2_W) :
    W8 m c r = V4 m c r := by
  rw [W8, V8_of _ _ _ _ h8, V7_of _ _ _ _ h7, V6_of _ _ _ _ h6, V5_of _ _ _ _ h5]

/-- The second call is handed the order's table, -/
theorem W8_order : W8 m c main_arg0 = m ((c.tc : Thread nD τ).loc main_arg0) :=
  (W8_of m c _ (by decide) (by decide) (by decide) (by decide)).trans (V4_order m c)

/-- the partition's table, -/
theorem W8_part : W8 m c main_arg1 = m ((c.tc : Thread nD τ).loc main_arg1) :=
  (W8_of m c _ (by decide) (by decide) (by decide) (by decide)).trans (V4_part m c)

/-- the tokens, -/
theorem W8_tokens : W8 m c main_arg2 = m ((c.tc : Thread nD τ).loc main_arg2) :=
  (W8_of m c _ (by decide) (by decide) (by decide) (by decide)).trans (V4_tokens m c)

/-- The partner the program finds for each merged row. -/
def found : IVec S4x102 32 := best (F := F) (rounded
  (Gather.gathered (m ((c.tc : Thread nD τ).loc main_arg1)) (normed (m ((c.tc : Thread nD τ).loc main_arg2))) 0)
  (Gather.gathered (m ((c.tc : Thread nD τ).loc main_arg1)) (normed (m ((c.tc : Thread nD τ).loc main_arg2))) 1024))

/-- The rows the first call leaves first, -/
theorem V5_first : V5 m (outs m) c main_v4_0
    = Gather.gathered (m ((c.tc : Thread nD τ).loc main_arg1)) (normed (m ((c.tc : Thread nD τ).loc main_arg2))) 0 := by
  obtain rfl : c = 0 := Subsingleton.elim _ _
  refine (mid_eq m 0 main_v4_0).symm.trans ((mid_arr m 0 1).trans ((Gather.array1 (V4 m) 0).trans ?_))
  exact congrArg₂ (fun t x => Gather.gathered t x 0) (V4_part m 0) (V4_normed m 0)

/-- and those it leaves second. -/
theorem V5_second : V5 m (outs m) c main_v4_1
    = Gather.gathered (m ((c.tc : Thread nD τ).loc main_arg1)) (normed (m ((c.tc : Thread nD τ).loc main_arg2))) 1024 := by
  obtain rfl : c = 0 := Subsingleton.elim _ _
  refine (mid_eq m 0 main_v4_1).symm.trans ((mid_arr m 0 2).trans ((Gather.array2 (V4 m) 0).trans ?_))
  exact congrArg₂ (fun t x => Gather.gathered t x 1024) (V4_part m 0) (V4_normed m 0)

/-- The partners as the host finds them. -/
theorem V7_found : V7 m (outs m) c main_v8 = found m c := by
  refine (lines_best _).trans (congrArg best ?_)
  refine (lines_products _).trans ?_
  rw [V5_first, V5_second]

/-- The second call is handed the partners, laid out in one row, -/
theorem W8_found : W8 m c main_v28 = shapeCast S408 (found m c) shapeCasts_S4x102_S408 :=
  (lines_flat _).trans (congrArg (fun d => shapeCast S408 d shapeCasts_S4x102_S408) (V7_found m c))

/-- and their counts. -/
theorem W8_counts : W8 m c main_v29 = countsColumn (F := F) (counts (found m c)) :=
  (lines_counts _).trans (congrArg (fun d => countsColumn (F := F) (counts d)) (V7_found m c))

end Cert.TailIdeal.Whole

end
-- ==== Proof.TailBest.lean ====
/- The index of the greatest product of a row is the number of a partner, over any floats. -/
module

public import proofs.«01_k».proof.Proof.TailTerm

@[expose] public section

set_option maxRecDepth 16384

noncomputable section

namespace Cert.TailReferenceIdeal.Tail

open Cert.TailReferenceIdeal Cert.TailReferenceIdeal.Gen
open Idealize.ShloMosaic Idealize.ShloMosaic.TcCoe

variable {F : FTy → Type} [FloatOps F]

/-- The comparison keeps one of the two indices it is given. -/
theorem reducer_keeps (P : BitVec 32 → Prop) (a b : F .f32 × BitVec 32) (ha : P a.2) (hb : P b.2) : P (reducer_argmax_f32_i32 a b).2 := by
  unfold reducer_argmax_f32_i32 Scalar.select
  dsimp only
  split <;> assumption

/-- So does a run of comparisons. -/
theorem fold_keeps (P : BitVec 32 → Prop) : ∀ (l : List (F .f32 × BitVec 32)) (a : F .f32 × BitVec 32), P a.2 → (∀ p ∈ l, P p.2) →
    P (l.foldl reducer_argmax_f32_i32 a).2
  | [], _, ha, _ => ha
  | p :: l, a, ha, h => fold_keeps P l _ (reducer_keeps P a p ha (h p List.mem_cons_self)) fun q hq => h q (List.mem_cons_of_mem _ hq)

/-- A column's number is below the number of columns. -/
theorem column_lt (i : S4x102x102.Idx) : (iotaInDim S4x102x102 32 2 i).toNat < 102 := by
  show (BitVec.ofNat 32 (i 2).val).toNat < 102
  have : (i 2).val < 102 := (i 2).isLt
  rw [BitVec.toNat_ofNat]
  omega

/-- The partner found is one of the partners. -/
theorem best_lt (s : FVec F S4x102x102 .f32) (j : S4x102.Idx) : (best s j).toNat < 102 := by
  have hfib : ∀ p ∈ Host.argReduceFiber s (iotaInDim S4x102x102 32 2) reducesTo_S4x102x102_S4x102_d2 j, p.2.toNat < 102 := fun p hp => by
    obtain ⟨n, -, rfl⟩ := List.mem_map.mp hp
    exact column_lt _
  unfold best
  by_cases h : 2 ≤ (Host.argReduceNaNs s (iotaInDim S4x102x102 32 2) reducesTo_S4x102x102_S4x102_d2 j).length
  · exact hfib _ ((Host.mem_argReduceNaNs_iff _ _ _ _ _).mp (Host.argReduce_mem_nans _ _ _ _ _ _ h_S_ _ h)).1
  · rw [Host.argReduce_apply_eq_reduce2 _ _ _ _ _ _ h_S_ _ (by omega), Host.reduce2_eq_foldl_fiber]
    exact fold_keeps (fun w => w.toNat < 102) _ _ (by show (0#32).toNat < 102; decide) hfib

end Cert.TailReferenceIdeal.Tail

end
-- ==== Proof.TailPre.lean ====
/- The precondition, read back: every word of the two tables is a row number; and so both calls find their tables in
   range, the partners the host found among them. -/
module

public import proofs.«01_k».proof.Proof.TailHost
public import proofs.«01_k».proof.Proof.TailBest
public import proofs.«01_k».proof.Proof.Gen.Pre_in_range
public import Idealize.ShloMosaic.Lib.ReduceAll

@[expose] public section

set_option maxRecDepth 16384

noncomputable section

namespace Cert.TailIdeal.Whole

open Cert.TailIdeal Cert.TailIdeal.Gen
open Idealize.ShloMosaic Idealize.ShloMosaic.TcCoe
open Cert.TailReferenceIdeal.Tail (best best_lt)

variable {F : FTy → Type} [FloatOps F]

/-- A word that is at least 0 and below `n`, both read signed, is below `n`. -/
theorem word_lt (w : BitVec 32) (n : ℕ) (hn : n < 2 ^ 31)
    (h : IntOp.andi (IntOp.cmpi .sge w 0#32) (IntOp.cmpi .slt w (BitVec.ofNat 32 n)) = 1#1) : w.toNat < n := by
  obtain ⟨h0, h1⟩ := IntOp.andi_eq_one.1 h
  have h0 := IntOp.cmpi_sge.1 h0
  have h1 := IntOp.cmpi_slt.1 h1
  have e : (BitVec.ofNat 32 n).toInt = n := by
    rw [BitVec.toInt_eq_toNat_cond, BitVec.toNat_ofNat]; omega
  rw [e] at h1
  rw [BitVec.toInt_zero] at h0
  have := w.isLt
  rw [BitVec.toInt_eq_toNat_cond] at h0 h1
  split at h0 <;> omega

/-- The scalar shape has one index. -/
instance : Subsingleton Cert.Pre_in_range.S_.Idx := ⟨fun a b => funext fun i => i.elim0⟩

/-- The precondition says that every word of the two tables is a row number. -/
theorem rows_of_pre (o a : IVec S8192 32) (x : FVec F S4x2048x1024 .f32) (h : Cert.Pre_in_range.fn (F := F) o a x = fun _ => 1#1) :
    (∀ j, (o j).toNat < 2048) ∧ ∀ j, (a j).toNat < 2048 := by
  have h := congrFun h ValueIdx.ix0
  unfold Cert.Pre_in_range.fn at h
  obtain ⟨h1, h2⟩ := IntOp.andi_eq_one.1 h
  exact ⟨fun j => word_lt _ 2048 (by decide) (Host.reduce_andi_all _ _ _ _ _ h1 j),
    fun j => word_lt _ 2048 (by decide) (Host.reduce_andi_all _ _ _ _ _ h2 j)⟩

variable (m : (ℓ : Loc nD τ sig) → Buf (Elt F) ℓ)

/-- The two tables of a memory, in range. -/
structure InRange : Prop where
  /-- the order's words are row numbers -/
  ord : ∀ j, (show BitVec 32 from m (((0 : Dev nD) : Thread nD τ).loc main_arg0) j).toNat < 2048
  /-- and so are the partition's -/
  ab : ∀ j, (show BitVec 32 from m (((0 : Dev nD) : Thread nD τ).loc main_arg1) j).toNat < 2048

/-- A memory that meets the precondition has its tables in range. -/
theorem inRange (h : Cert.Pre_in_range.fn (F := F) (m (((0 : Dev nD) : Thread nD τ).loc main_arg0)) (m (((0 : Dev nD) : Thread nD τ).loc main_arg1))
    (m (((0 : Dev nD) : Thread nD τ).loc main_arg2)) = fun _ => 1#1) : InRange m :=
  have hr := rows_of_pre _ _ _ h
  ⟨hr.1, hr.2⟩

/-- The first call's table as it finds it. -/
theorem gather_tbl : Gather.tbl (V4 m) 0 = m (((0 : Dev nD) : Thread nD τ).loc main_arg1) := V4_part m 0
/-- The second call's tables: the order, -/
theorem merge_tbl0 : Merge.tbl (W8 m) 0 = m (((0 : Dev nD) : Thread nD τ).loc main_arg0) := W8_order m 0
/-- the partition, -/
theorem merge_tbl1 : Merge.tbl (W8 m) 1 = m (((0 : Dev nD) : Thread nD τ).loc main_arg1) := W8_part m 0
/-- and the partners found. -/
theorem merge_tbl2 : Merge.tbl (W8 m) 2 = shapeCast S408 (found m 0) shapeCasts_S4x102_S408 := W8_found m 0

variable {m} (h : InRange m)

include h in
/-- The first call's table is in range, -/
theorem gather_inRange : Gather.InRange (V4 m) := by
  unfold Gather.InRange
  rw [gather_tbl]
  exact h.ab

include h in
/-- and so are the second's. -/
theorem merge_inRange : Merge.InRange (W8 m) where
  ord := by rw [merge_tbl0]; exact h.ord
  ab := by rw [merge_tbl1]; exact h.ab
  dst := by
    rw [merge_tbl2]
    exact fun j => best_lt _ _

end Cert.TailIdeal.Whole

end
-- ==== Proof.TailValue.lean ====
/- What the merge of the reference holds at an element. -/
module

public import proofs.«01_k».proof.Proof.TailTerm

@[expose] public section

set_option maxRecDepth 16384

noncomputable section

namespace Cert.TailReferenceIdeal.Tail

open Cert.TailReferenceIdeal Cert.TailReferenceIdeal.Gen
open Idealize.ShloMosaic Idealize.ShloMosaic.TcCoe

/-- The index of a kept row is read off the order's table. -/
theorem order_at (o : IVec S8192 32) (b : Fin 4) (k : Fin 1844) : asKept (order o) (ix3 b k 0) = o (ix1 ⟨b.val * 2048 + k.val, by omega⟩) := by
  pointwise [asKept, order]

/-- The index of a merged row is read off the partition's table. -/
theorem first_at (a : IVec S8192 32) (b : Fin 4) (k : Fin 102) : first a (ix2 b k) = a (ix1 ⟨b.val * 2048 + k.val, by omega⟩) := by
  pointwise [first]

/-- The index of a partner is read off the partition's table, half a sample further on. -/
theorem second_at (a : IVec S8192 32) (b : Fin 4) (k : Fin 102) : second a (ix2 b k) = a (ix1 ⟨b.val * 2048 + (1024 + k.val), by omega⟩) := by
  pointwise [second]

/-- Some rows taken: each is the row of the sample that its number names. -/
theorem someRows_at {F : FTy → Type} [FloatOps F] (w : IVec S4x102 32) (hw : ∀ y, (w y).toNat < 2048) (x : FVec F S4x2048x1024 .f32)
    (b : Fin 4) (k : Fin 102) (j : Fin 1024) : someRows w x (ix3 b k j) = x (ix3 b ⟨(w (ix2 b k)).toNat, hw _⟩ j) := by
  unfold someRows
  have hi : ∀ y, (asSome w y).toNat < 2048 := fun y => hw _
  have e : asSome w (ix3 b k 0) = w (ix2 b k) := by pointwise [asSome]
  refine (rowsTaken_at _ _ _ _ _ _ _ _ x (asSome w) hi b k j).trans ?_
  congr 2
  exact Fin.ext (congrArg BitVec.toNat e)

/-- The first component of an index of the addition is the sample's number. -/
theorem pairs_fst (d : IVec S4x102 32) (b : Fin 4) (k : Fin 102) : (pairs d (ix3 b k 0)).toInt = (b.val : ℤ) := by
  pointwise [pairs, joined, inSample, toPartner, asSome, samples]
  revert b
  decide

/-- The second is the partner's number, read off the partners' table. -/
theorem pairs_snd (d : IVec S4x102 32) (hd : ∀ j, (d j).toNat < 102) (b : Fin 4) (k : Fin 102) :
    pairs d (ix3 b k 1) = d (ix2 b k) := by
  pointwise [pairs, joined, inSample, toPartner, asSome, samples]
  refine if_neg fun h => ?_
  have h := IntOp.cmpi_slt.1 h
  have := hd (ix2 b k)
  rw [BitVec.toInt_zero, BitVec.toInt_eq_toNat_cond] at h
  split at h <;> omega

variable (o a : IVec S8192 32) (d : IVec S4x102 32) (x : FVec Ideal S4x2048x1024 .f32) (n : FVec Ideal S4x102x1 .f32)
  (ho : ∀ j, (o j).toNat < 2048) (ha : ∀ j, (a j).toNat < 2048) (hd : ∀ j, (d j).toNat < 102)

/-- A kept row of the result is the row of the sample that the order names. -/
theorem merge_kept (b : Fin 4) (r : Fin 1946) (hr : r.val < 1844) (j : Fin 1024) :
    merge o a d x n (ix3 b r j) = x (ix3 b ⟨(o (ix1 ⟨b.val * 2048 + r.val, by omega⟩)).toNat, ho _⟩ j) := by
  unfold merge stacked
  refine (concatenate_pair_apply_left (t := S4x1946x1024) (s₁ := S4x1844x1024) (s₂ := S4x102x1024) 1 _ _ _ _ rfl (ix3 b ⟨r.val, hr⟩ j) fun q => ?_).trans ?_
  · match q with
    | ⟨0, _⟩ => rfl
    | ⟨1, _⟩ => rfl
    | ⟨2, _⟩ => rfl
  unfold keptRows
  have hi : ∀ y, (asKept (order o) y).toNat < 2048 := fun y => ho _
  refine (rowsTaken_at _ _ _ _ _ _ _ _ x (asKept (order o)) hi b ⟨r.val, hr⟩ j).trans ?_
  congr 2
  exact Fin.ext (congrArg BitVec.toNat (order_at o b ⟨r.val, hr⟩))

include hd in
/-- A merged row of the result: the partner with every row that names it added, over the partner's count. -/
theorem merge_merged (b : Fin 4) (i : Fin 102) (j : Fin 1024) :
    merge o a d x n (ix3 b ⟨1844 + i.val, by omega⟩ j)
      = Ideal.div (x (ix3 b ⟨(a (ix1 ⟨b.val * 2048 + (1024 + i.val), by omega⟩)).toNat, ha _⟩ j)
          + ∑ k : Fin 102, if (d (ix2 b k)).toNat = i.val
              then x (ix3 b ⟨(a (ix1 ⟨b.val * 2048 + k.val, by omega⟩)).toNat, ha _⟩ j) else 0)
        (n (ix3 b i 0)) := by
  unfold merge stacked
  refine (concatenate_pair_apply_right (t := S4x1946x1024) (s₁ := S4x1844x1024) (s₂ := S4x102x1024) 1 _ _ _ _ rfl rfl (ix3 b i j) (fun q hq => ?_) ?_).trans ?_
  · match q with
    | ⟨0, _⟩ => rfl
    | ⟨1, _⟩ => exact absurd rfl hq
    | ⟨2, _⟩ => rfl
  · exact Nat.add_comm i.val 1844
  have h1 : ∀ b k, (pairs d (ix3 b k 1)).toNat < 102 := fun b k => by rw [pairs_snd d hd]; exact hd _
  have hs : ∀ y, (second a y).toNat < 2048 := fun y => ha _
  have hf : ∀ y, (first a y).toNat < 2048 := fun y => ha _
  show Ideal.div (Host.scatterAdd (F := Ideal) (φ := .f32) addDims (someRows (second a) x) (pairs d) (someRows (first a) x) (ix3 b i j)) (broadcastInDim S4x102x1024 ![0, 1, 2] bcast_S4x102x1_S4x102x1024_0_1_2 n (ix3 b i j)) = _
  refine congrArg₂ Ideal.div ((scatter_at (pairs d) _ _ (pairs_fst d) h1 b i j).trans (congrArg₂ _ ?_ (Finset.sum_congr rfl fun k _ => ?_))) ?_
  · refine (someRows_at (second a) hs x b i j).trans ?_
    congr 2
    exact Fin.ext (congrArg BitVec.toNat (second_at a b i))
  · rw [pairs_snd d hd]
    refine if_congr Iff.rfl ?_ rfl
    refine (someRows_at (first a) hf x b k j).trans ?_
    congr 2
    exact Fin.ext (congrArg BitVec.toNat (first_at a b k))
  · pointwise []

end Cert.TailReferenceIdeal.Tail

end
-- ==== Proof.TailMergeArray.lean ====
/- What the merge's result array holds: row by row, what its sample's grid step left. -/
module

public import proofs.«01_k».proof.Proof.TailMergeFrame
public import Idealize.ShloMosaic.Lib.Pipeline.Value

@[expose] public section

set_option maxRecDepth 16384

noncomputable section

namespace Cert.TailIdeal.Merge

open Cert.TailIdeal Cert.TailIdeal.Gen
open Idealize.ShloMosaic Idealize.ShloMosaic.TcCoe Idealize.ShloMosaic.ValueIdx Idealize.SL.Sem

variable {F : FTy → Type} [FloatOps F]

variable (V : Dev nD → Valuation τ sig (Elt F))

/-- Each grid step's blocks are its sample's. -/
theorem idx : ∀ t : Fin grid1.N, cc1_transform_0 (grid1.coords t) = ![t.val, 0, 0] ∧ cc1_transform_1 (grid1.coords t) = ![t.val, 0, 0]
    ∧ cc1_transform_2 (grid1.coords t) = ![t.val, 0, 0] ∧ (grid1.coords t 0).val = t.val := by decide +kernel

/-- The sample, and its counts. -/
def sample (x : FVec F S4x2048x1024 .f32) (b : Fin 4) : Vec F S1x2048x1024 .f32 := fun y => x (ix3 b (y 1) (y 2))
/-- The counts of one sample, as a block. -/
def counts (n : FVec F S4x102x1 .f32) (b : Fin 4) : Vec F S1x102x1 .f32 := fun y => n (ix3 b (y 1) (y 2))

/-- The result array. -/
def G (c : Dev nD) : S4x1946x1024.Idx → Elt F .f32 := fun i =>
  divided (i 0).val (tbl V 0) (tbl V 1) (tbl V 2) (sample (ent V c main_arg2) (i 0)) (counts (ent V c main_v29) (i 0)) 102 (i 1).val (i 2)

/-- A grid step reads its sample. -/
theorem iblk0 (c : Dev nD) (t : Fin (cfgM V).N) (b : Fin 4) (hb : b.val = t.val) : iblk V c 0 t = sample (ent V c main_arg2) b := by
  refine funext fun (y : S1x2048x1024.Idx) => ?_
  have h0 : (y 0).val < 1 := (y 0).isLt
  refine congrArg (ent V c main_arg2) (funext fun a => Fin.ext ?_)
  match a with
  | ⟨0, _⟩ => show cc1_transform_0 (grid1.coords t) 0 * 1 + 1 * (y 0).val = b.val; rw [(idx t).1]; show t.val * 1 + 1 * (y 0).val = b.val; omega
  | ⟨1, _⟩ => show cc1_transform_0 (grid1.coords t) 1 * 2048 + 1 * (y 1).val = (y 1).val; rw [(idx t).1]; show 0 * 2048 + 1 * (y 1).val = (y 1).val; omega
  | ⟨2, _⟩ => show cc1_transform_0 (grid1.coords t) 2 * 1024 + 1 * (y 2).val = (y 2).val; rw [(idx t).1]; show 0 * 1024 + 1 * (y 2).val = (y 2).val; omega

/-- A grid step reads its sample's counts. -/
theorem iblk1 (c : Dev nD) (t : Fin (cfgM V).N) (b : Fin 4) (hb : b.val = t.val) : iblk V c 1 t = counts (ent V c main_v29) b := by
  refine funext fun (y : S1x102x1.Idx) => ?_
  have h0 : (y 0).val < 1 := (y 0).isLt
  refine congrArg (ent V c main_v29) (funext fun a => Fin.ext ?_)
  match a with
  | ⟨0, _⟩ => show cc1_transform_1 (grid1.coords t) 0 * 1 + 1 * (y 0).val = b.val; rw [(idx t).2.1]; show t.val * 1 + 1 * (y 0).val = b.val; omega
  | ⟨1, _⟩ => show cc1_transform_1 (grid1.coords t) 1 * 102 + 1 * (y 1).val = (y 1).val; rw [(idx t).2.1]; show 0 * 102 + 1 * (y 1).val = (y 1).val; omega
  | ⟨2, _⟩ => show cc1_transform_1 (grid1.coords t) 2 * 1 + 1 * (y 2).val = (y 2).val; rw [(idx t).2.1]; show 0 * 1 + 1 * (y 2).val = (y 2).val; omega

/-- Where an element of a grid step's block lies in the array. -/
theorem emb_out (t : Fin (cfgM V).N) (b : Fin 4) (hb : b.val = t.val) (y : S1x1946x1024.Idx) :
    (((cfgM V).win 2).blk t).view.emb y = (ix3 b (y 1) (y 2) : S4x1946x1024.Idx) := by
  have h0 : (y 0).val < 1 := (y 0).isLt
  refine funext fun a => Fin.ext ?_
  match a with
  | ⟨0, _⟩ => show cc1_transform_2 (grid1.coords t) 0 * 1 + 1 * (y 0).val = b.val; rw [(idx t).2.2.1]; show t.val * 1 + 1 * (y 0).val = b.val; omega
  | ⟨1, _⟩ => show cc1_transform_2 (grid1.coords t) 1 * 1946 + 1 * (y 1).val = (y 1).val; rw [(idx t).2.2.1]; show 0 * 1946 + 1 * (y 1).val = (y 1).val; omega
  | ⟨2, _⟩ => show cc1_transform_2 (grid1.coords t) 2 * 1024 + 1 * (y 2).val = (y 2).val; rw [(idx t).2.2.1]; show 0 * 1024 + 1 * (y 2).val = (y 2).val; omega

/-- What a grid step writes back is its block of the result array. -/
theorem flushed (c : Dev nD) (t : Fin (cfgM V).N) : (dats V c).flushed 2 t = (((cfgM V).win 2).blk t).view.read (Elt F) (G V c) := by
  show ((cfgM V).win 2).cut (grid1.coords t) ((dats V c).after 2 t) = _
  rw [after2]
  have hN : t.val < 4 := lt_of_lt_of_eq t.isLt N_1
  have hb : (⟨t.val, hN⟩ : Fin 4).val = t.val := rfl
  refine funext fun (y : S1x1946x1024.Idx) => ?_
  refine Eq.trans ?_ (congrArg (G V c) (emb_out V t ⟨t.val, hN⟩ hb y).symm)
  show outAt V c t _ = _
  unfold outAt outBlk G
  rw [iblk0 V c t _ hb, iblk1 V c t _ hb, (idx t).2.2.2]
  rfl

/-- Every grid step writes its block back. -/
theorem flush_out (t : Fin (cfgM V).N) : ((cfgM V).win 2).flush t = true :=
  Pipeline.Window.flushOf_reads cc1_transform_2 reads1_2 hreads1_2 0 (by decide) (by decide)
    (Pipeline.Window.sep_of_coord cc1_transform_2 0 0 (fun _ => rfl) (by decide)) (P := 1) (m := 0) (by decide) rfl t |>.mpr (Nat.mod_one _)

/-- A sample's rows lie in its grid step's block. -/
theorem mem_out (t : Fin (cfgM V).N) (b : Fin 4) (hb : b.val = t.val) (y : S1x1946x1024.Idx) (i : S4x1946x1024.Idx)
    (hi : (ix3 b (y 1) (y 2) : S4x1946x1024.Idx) = i) : i ∈ (((cfgM V).win 2).blk t).view.set :=
  Eq.subst (motive := fun z : S4x1946x1024.Idx => z ∈ (((cfgM V).win 2).blk t).view.set) ((emb_out V t b hb y).trans hi)
    ((((cfgM V).win 2).blk t).view.emb_mem_set y)

/-- The result array after the run. -/
theorem array_eq (c : Dev nD) : (dats V c).arrAt 2 (cfgM V).N = G V c :=
  (dats V c).arrAt_eq_of_cover 2 _ (fun t _ => flushed V c t) fun (i : S4x1946x1024.Idx) =>
    have h0 : (i 0).val < 4 := (i 0).isLt
    ⟨⟨(i 0).val, lt_of_lt_of_eq h0 N_1.symm⟩, flush_out V _, mem_out V _ (i 0) rfl (ix3 0 (i 1) (i 2)) i (eq_ix3 i).symm⟩

end Cert.TailIdeal.Merge

end
-- ==== Proof.TailMath.lean ====
/- The program's result is the reference's, over the extended reals. -/
module

public import proofs.«01_k».proof.Proof.TailPre
public import proofs.«01_k».proof.Proof.TailValue
public import proofs.«01_k».proof.Proof.TailMergeArray

@[expose] public section

set_option maxRecDepth 16384

noncomputable section

namespace Cert.TailIdeal.Gather

open Cert.TailIdeal Cert.TailIdeal.Gen
open Idealize.ShloMosaic Idealize.ShloMosaic.TcCoe
open Cert.TailReferenceIdeal.Tail (first second someRows someRows_at first_at second_at)

variable (a : IVec S8192 32) (x : FVec Ideal S4x2048x1024 .f32) (ha : ∀ j, (a j).toNat < 2048)

/-- A row of a sample, when the number is a row's. -/
theorem rowAt_eq (b : Fin 4) (n : ℕ) (hn : n < 2048) (j : Fin 1024) : rowAt (sample x b) n j = x (ValueIdx.ix3 b ⟨n, hn⟩ j) :=
  congrArg x (congrArg (fun k => ValueIdx.ix3 b k j) (Fin.ext (Nat.min_eq_left (by omega))))

/-- A word of the table, when the place is one of the table's. -/
theorem word_eq (n : ℕ) (k : Fin 8192) (hk : k.val = n) : word a n = (a (ValueIdx.ix1 k)).toNat := by
  subst hk
  exact congrArg (fun k => (a (ValueIdx.ix1 k)).toNat) (Fin.ext (Nat.min_eq_left (by omega)))

/-- One element of an array of gathered rows. -/
theorem gathered_at (o : ℕ) (b : Fin 4) (r : Fin 102) (j : Fin 1024) (k : Fin 8192) (hk : k.val = 2048 * b.val + o + r.val) :
    gathered a x o (ValueIdx.ix3 b r j) = x (ValueIdx.ix3 b ⟨(a (ValueIdx.ix1 k)).toNat, ha _⟩ j) := by
  show rowAt (sample x b) (word a (2048 * b.val + o + r.val)) j = _
  rw [word_eq a _ k hk]
  exact rowAt_eq x b _ _ j

include ha in
/-- The rows the table's first half names are the rows the reference takes first, -/
theorem gathered_first : gathered a x 0 = someRows (first a) x := by
  funext i
  rw [ValueIdx.eq_ix3 i]
  have h0 : (i 0).val < 4 := (i 0).isLt
  have h1 : (i 1).val < 102 := (i 1).isLt
  have hf : ∀ y, (first a y).toNat < 2048 := fun y => ha _
  refine (gathered_at a x ha 0 (i 0) (i 1) (i 2) ⟨(i 0).val * 2048 + (i 1).val, by omega⟩
    (by show (i 0).val * 2048 + (i 1).val = 2048 * (i 0).val + 0 + (i 1).val; omega)).trans ?_
  refine Eq.trans ?_ (someRows_at (first a) hf x (i 0) (i 1) (i 2)).symm
  exact congrArg x (congrArg (fun k => ValueIdx.ix3 (i 0) k (i 2)) (Fin.ext (congrArg BitVec.toNat (first_at a (i 0) (i 1)).symm)))

include ha in
/-- and those its second half names are the rows it takes second. -/
theorem gathered_second : gathered a x 1024 = someRows (second a) x := by
  funext i
  rw [ValueIdx.eq_ix3 i]
  have h0 : (i 0).val < 4 := (i 0).isLt
  have h1 : (i 1).val < 102 := (i 1).isLt
  have hf : ∀ y, (second a y).toNat < 2048 := fun y => ha _
  refine (gathered_at a x ha 1024 (i 0) (i 1) (i 2) ⟨(i 0).val * 2048 + (1024 + (i 1).val), by omega⟩
    (by show (i 0).val * 2048 + (1024 + (i 1).val) = 2048 * (i 0).val + 1024 + (i 1).val; omega)).trans ?_
  refine Eq.trans ?_ (someRows_at (second a) hf x (i 0) (i 1) (i 2)).symm
  exact congrArg x (congrArg (fun k => ValueIdx.ix3 (i 0) k (i 2)) (Fin.ext (congrArg BitVec.toNat (second_at a (i 0) (i 1)).symm)))

end Cert.TailIdeal.Gather

namespace Cert.TailIdeal.Merge

open Cert.TailIdeal Cert.TailIdeal.Gen
open Idealize.ShloMosaic Idealize.ShloMosaic.TcCoe
open Cert.TailReferenceIdeal.Tail (merge merge_kept merge_merged)

variable (o a : IVec S8192 32) (d : IVec S4x102 32) (x : FVec Ideal S4x2048x1024 .f32) (n : FVec Ideal S4x102x1 .f32)

/-- A row of a sample, at a row number in range. -/
theorem rowAt_sample (b : Fin 4) (w : BitVec 32) (hw : w.toNat < 2048) (j : Fin 1024) :
    rowAt (sample x b) w.toNat j = x (ValueIdx.ix3 b ⟨w.toNat, hw⟩ j) :=
  congrArg x (congrArg (fun k => ValueIdx.ix3 b k j) (Fin.ext (Nat.min_eq_left (by omega))))

/-- A word of a table of the samples' rows, at an index in range. -/
theorem word_at (t : IVec S8192 32) (p q : ℕ) (hq : q < 8192) (e : p = q) : word t p = (t (ValueIdx.ix1 ⟨q, hq⟩)).toNat := by
  subst e
  exact congrArg (fun k => (t (ValueIdx.ix1 k)).toNat) (Fin.ext (Nat.min_eq_left (by omega)))

/-- The partners in one row: the samples' follow one another. -/
theorem flat_at (b : Fin 4) (k : Fin 102) (q : Fin 408) (e : q.val = b.val * 102 + k.val) :
    shapeCast S408 d shapeCasts_S4x102_S408 (ValueIdx.ix1 q) = d (ValueIdx.ix2 b k) := by
  obtain ⟨q, hq⟩ := q
  obtain rfl : q = b.val * 102 + k.val := e
  pointwise []
  exact congrArg₂ (fun u v => d (ValueIdx.ix2 u v)) (Fin.ext (by show (b.val * 102 + k.val) / 102 = b.val; omega))
    (Fin.ext (by show (b.val * 102 + k.val) % 102 = k.val; omega))

/-- A word of the partners' table. -/
theorem dword_at (b : Fin 4) (k : Fin 102) (p : ℕ) (e : p = b.val * 102 + k.val) :
    dword (shapeCast S408 d shapeCasts_S4x102_S408) p = (d (ValueIdx.ix2 b k)).toNat := by
  show (shapeCast S408 d shapeCasts_S4x102_S408 (ValueIdx.ix1 ⟨min p 407, _⟩)).toNat = _
  rw [flat_at d b k _ (by show min p 407 = _; omega)]

/-- After `k` merged rows a partner holds itself plus those of them that name it. -/
theorem merged_eq (t : IVec S408 32) (X : Vec Ideal S1x2048x1024 .f32) (b i : ℕ) (j : Fin 1024) : ∀ k, merged (F := Ideal) b a t X k i j
    = (show EReal from rowAt X (word a (2048 * b + i + 1024)) j)
      + ∑ q ∈ Finset.range k, if dword t (102 * b + q) = i then (show EReal from rowAt X (word a (2048 * b + q)) j) else 0
  | 0 => by rw [Finset.sum_range_zero, add_zero]; rfl
  | k + 1 => by
    rw [Finset.sum_range_succ, ← add_assoc, ← merged_eq t X b i j k]
    show (if i = dword t (102 * b + k) then _ else _) = _
    by_cases h : i = dword t (102 * b + k)
    · rw [if_pos h, if_pos h.symm]; rfl
    · rw [if_neg h, if_neg (Ne.symm h)]; exact (add_zero _).symm

variable (ho : ∀ j, (o j).toNat < 2048) (ha : ∀ j, (a j).toNat < 2048) (hd : ∀ j, (d j).toNat < 102)

include ho ha hd in
/-- The row the kernel leaves is the reference's. -/
theorem row_eq_ref (b : Fin 4) (r : Fin 1946) (j : Fin 1024) :
    divided b.val o a (shapeCast S408 d shapeCasts_S4x102_S408) (sample x b) (counts n b) 102 r.val j
      = merge o a d x n (ValueIdx.ix3 b r j) := by
  unfold divided
  by_cases hr : r.val < 1844
  · rw [if_pos hr]
    refine Eq.trans ?_ (merge_kept o a d x n ho b r hr j).symm
    unfold kept
    rw [word_at o _ (b.val * 2048 + r.val) (by omega) (by omega)]
    exact rowAt_sample x b _ (ho _) j
  · obtain ⟨i, hi⟩ : ∃ i : Fin 102, r.val = 1844 + i.val := ⟨⟨r.val - 1844, by omega⟩, by show r.val = 1844 + (r.val - 1844); omega⟩
    obtain rfl : r = ⟨1844 + i.val, Nat.add_lt_add_left i.isLt 1844⟩ := Fin.ext hi
    rw [if_neg hr, if_pos (by show 1844 + i.val - 1844 < 102; omega)]
    refine Eq.trans ?_ (merge_merged o a d x n ha hd b i j).symm
    have e : (⟨1844 + i.val, by omega⟩ : Fin 1946).val - 1844 = i.val := by show 1844 + i.val - 1844 = i.val; omega
    refine congrArg₂ Ideal.div ?_ ?_
    · rw [e, merged_eq, Finset.sum_range]
      refine congrArg₂ _ ?_ (Finset.sum_congr rfl fun k _ => ?_)
      · rw [word_at a _ (b.val * 2048 + (1024 + i.val)) (by omega) (by omega)]
        exact rowAt_sample x b _ (ha _) j
      · rw [dword_at d b k _ (by omega), word_at a _ (b.val * 2048 + k.val) (by omega) (by omega)]
        exact if_congr Iff.rfl (rowAt_sample x b _ (ha _) j) rfl
    · refine congrArg n (congrArg (fun k => ValueIdx.ix3 b k 0) (Fin.ext ?_))
      show min (1844 + i.val - 1844) 101 = i.val
      omega

end Cert.TailIdeal.Merge

namespace Cert.TailIdeal.Whole

open Cert.TailIdeal Cert.TailIdeal.Gen
open Idealize.ShloMosaic Idealize.ShloMosaic.TcCoe
open Cert.TailReferenceIdeal.Tail (normed best best_lt products someRows first second partners merge result)

/-- Over the extended reals the host's narrowing of the rows before the products changes nothing. -/
theorem rounded_eq (u v : FVec Ideal S4x102x1024 .f32) : rounded u v = products u v := rfl

variable {m : (ℓ : Loc nD τ sig) → Buf (Elt Ideal) ℓ} (h : InRange m)

include h in
/-- The partners the program finds are those the reference finds. -/
theorem found_eq : found m 0 = partners (F := Ideal) (m (((0 : Dev nD) : Thread nD τ).loc main_arg1)) (m (((0 : Dev nD) : Thread nD τ).loc main_arg2)) := by
  unfold found partners
  rw [rounded_eq]
  exact congrArg best (congrArg₂ products (Gather.gathered_first _ _ h.ab) (Gather.gathered_second _ _ h.ab))

include h in
/-- The merged array the program leaves is the reference's result. -/
theorem tail_eq : Merge.G (W8 m) 0 = result (F := Ideal) (m (((0 : Dev nD) : Thread nD τ).loc main_arg0))
    (m (((0 : Dev nD) : Thread nD τ).loc main_arg1)) (m (((0 : Dev nD) : Thread nD τ).loc main_arg2)) := by
  funext i
  unfold result
  rw [← found_eq h]
  have e := Merge.row_eq_ref (m (((0 : Dev nD) : Thread nD τ).loc main_arg0)) (m (((0 : Dev nD) : Thread nD τ).loc main_arg1)) (found m 0)
    (m (((0 : Dev nD) : Thread nD τ).loc main_arg2)) (Cert.TailReferenceIdeal.Tail.countsColumn (F := Ideal) (Cert.TailReferenceIdeal.Tail.counts (found m 0)))
    h.ord h.ab (fun j => best_lt _ j) (i 0) (i 1) (i 2)
  unfold Merge.G
  rw [merge_tbl0, merge_tbl1, merge_tbl2, show Merge.ent (W8 m) 0 main_arg2 = _ from W8_tokens m 0,
    show Merge.ent (W8 m) 0 main_v29 = _ from W8_counts m 0]
  refine e.trans (congrArg _ ?_)
  exact (ValueIdx.eq_ix3 i).symm

end Cert.TailIdeal.Whole

end
-- ==== Proof.TailBits.lean ====
/- The program over the machine's floats. The program printed for that reading and the one printed for the ideal reading
   are one text: no rule rewrote an operation. So what holds of the second over any floats holds of the first. -/
module

public import proofs.«01_k».proof.Defs
public import proofs.«01_k».proof.Proof.Gen.Tail
public import proofs.«01_k».proof.Proof.TailPre
public import Idealize.ShloMosaic.Lib.Pipeline.Regions

@[expose] public section

noncomputable section

namespace Cert.TailIdeal.Whole

open Idealize.ShloMosaic Idealize.SL.Sem
open Cert.TailIdeal

/-- From tables in range the program ends, its arguments unchanged and no semaphore raised; over floats `F`. -/
def Ends (F : FTy → Type) [FloatOps F] [Cert.TailIdeal.Facts] [Cert.Pre_in_range.Facts] : Prop :=
  ∀ (m : (l : Loc nD τ sig) → Buf (Elt F) l) (g : Dev nD → PrngReg),
    (∀ c : Dev nD, (Cert.Pre_in_range.fn (F := F) (m ((c.tc : Thread nD τ).loc main_arg0)) (m ((c.tc : Thread nD τ).loc main_arg1))
      (m ((c.tc : Thread nD τ).loc main_arg2))) = (fun _ => 1#1)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- It does, over any floats. -/
theorem ends (F : FTy → Type) [FloatOps F] : Ends F := fun m ρ h =>
  have hr := inRange m (h 0)
  (θ_run defs _ _).mono (fun _ h => ⟨fun c => (h.1 c).1, h.2⟩) (run_ends (F := F) m ρ (gather_inRange hr) (merge_inRange hr))

/-- The claim of the program printed for the machine's floats is that of the other, taken over those floats. -/
theorem same_program : Cert.quiescent_Tail = Ends Bits := by chain_rfl

end Cert.TailIdeal.Whole

end
-- ==== Proof.TailRefRun.lean ====
/- The reference's run: its operations as a list, in five stretches, and what each stretch leaves. -/
module

public import proofs.«01_k».proof.Proof.TailTerm
public import Idealize.ShloMosaic.Lib.StableHlo.Run

@[expose] public section

set_option maxRecDepth 16384

noncomputable section

namespace Cert.TailReferenceIdeal.Tail

open Cert.TailReferenceIdeal Cert.TailReferenceIdeal.Gen
open Idealize.ShloMosaic Idealize.ShloMosaic.TcCoe Idealize.ShloMosaic.StableHlo Idealize.SL.Sem

variable {F : FTy → Type} [FloatOps F]

/-! ## The operations -/

/-- The buffers that one taking of `K` rows per sample names. -/
structure Slots (K : ℕ) where
  zero : TRef sig ⟨S_, .i32⟩
  zeros : TRef sig ⟨⟨3, ![4, K, 1]⟩, .i32⟩
  negative : TRef sig ⟨⟨3, ![4, K, 1]⟩, .i1⟩
  length : TRef sig ⟨S_, .i32⟩
  lengths : TRef sig ⟨⟨3, ![4, K, 1]⟩, .i32⟩
  moved : TRef sig ⟨⟨3, ![4, K, 1]⟩, .i32⟩
  index : TRef sig ⟨⟨3, ![4, K, 1]⟩, .i32⟩
  last : TRef sig ⟨S1, .i32⟩
  low : TRef sig ⟨S_, .i32⟩
  lows : TRef sig ⟨⟨3, ![4, K, 1]⟩, .i32⟩
  above : TRef sig ⟨⟨3, ![4, K, 1]⟩, .i1⟩
  last3 : TRef sig ⟨S1x1x1, .i32⟩
  lasts : TRef sig ⟨⟨3, ![4, K, 1]⟩, .i32⟩
  below : TRef sig ⟨⟨3, ![4, K, 1]⟩, .i1⟩
  within : TRef sig ⟨⟨3, ![4, K, 1]⟩, .i1⟩
  true1 : TRef sig ⟨S_, .i1⟩
  inside : TRef sig ⟨⟨2, ![4, K]⟩, .i1⟩
  rows : TRef sig ⟨⟨3, ![4, K, 1024]⟩, .f32⟩
  mask : TRef sig ⟨⟨3, ![4, K, 1024]⟩, .i1⟩
  fill : TRef sig ⟨S_, .f32⟩
  fills : TRef sig ⟨⟨3, ![4, K, 1024]⟩, .f32⟩
  out : TRef sig ⟨⟨3, ![4, K, 1024]⟩, .f32⟩

/-- The operations of one taking of rows. -/
abbrev takeOps {K : ℕ}
    (wf : GatherDims.WF ⟨3, ![4, 2048, 1024]⟩ ⟨3, ![4, K, 1]⟩ ⟨3, ![4, K, 1024]⟩ [2] [1] [0] [1] [0] 2 ![1, 1, 1024])
    (hs : S_.BroadcastsInDim ⟨3, ![4, K, 1]⟩ ![]) (h1 : S1.BroadcastsInDim S1x1x1 ![2]) (h111 : S1x1x1.BroadcastsInDim ⟨3, ![4, K, 1]⟩ ![0, 1, 2])
    (hr : (⟨3, ![4, K, 1]⟩ : Shape).ReducesTo [2] ⟨2, ![4, K]⟩) (hp : 0 < S_.numel)
    (hb : (⟨2, ![4, K]⟩ : Shape).BroadcastsInDim ⟨3, ![4, K, 1024]⟩ ![0, 1]) (hn : S_.BroadcastsInDim ⟨3, ![4, K, 1024]⟩ ![])
    (x : TRef sig ⟨S4x2048x1024, .f32⟩) (i : TRef sig ⟨⟨3, ![4, K, 1]⟩, .i32⟩) (φ : Slots K) : List (HloOp τ sig (Elt F)) :=
  [ TRef.nullary φ.zero (constantI S_ 32 0#32),
    TRef.unary φ.zero φ.zeros (broadcastInDim _ ![] hs),
    TRef.binary i φ.zeros φ.negative (cmpi .slt),
    TRef.nullary φ.length (constantI S_ 32 2048#32),
    TRef.unary φ.length φ.lengths (broadcastInDim _ ![] hs),
    TRef.binary i φ.lengths φ.moved addi,
    TRef.ternary φ.negative φ.moved i φ.index select,
    TRef.nullary φ.last (constantI S1 32 2047#32),
    TRef.nullary φ.low (constantI S_ 32 0#32),
    TRef.unary φ.low φ.lows (broadcastInDim _ ![] hs),
    TRef.binary φ.index φ.lows φ.above (cmpi .sge),
    TRef.unary φ.last φ.last3 (broadcastInDim S1x1x1 ![2] h1),
    TRef.unary φ.last3 φ.lasts (broadcastInDim _ ![0, 1, 2] h111),
    TRef.binary φ.index φ.lasts φ.below (cmpi .sle),
    TRef.binary φ.above φ.below φ.within andi,
    TRef.nullary φ.true1 (constantI S_ 1 1#1),
    TRef.binary φ.within φ.true1 φ.inside (fun x v => Host.reduce IntOp.andi x v hr hp),
    TRef.binary x φ.index φ.rows (fun x i => Host.gather (rowsDims wf) x i),
    TRef.unary φ.inside φ.mask (broadcastInDim _ ![0, 1] hb),
    TRef.nullary φ.fill (constant S_ .f32 0x7FC00000#32),
    TRef.unary φ.fill φ.fills (broadcastInDim _ ![] hn),
    TRef.ternary φ.mask φ.rows φ.fills φ.out select ]

/-- Rows taken by the numbers of some merged rows or partners: the operations, -/
abbrev someOps (x : TRef sig ⟨S4x2048x1024, .f32⟩) (i : TRef sig ⟨S4x102x1, .i32⟩) (φ : Slots 102) : List (HloOp τ sig (Elt F)) :=
  takeOps gather_S4x2048x1024_S4x102x1_S4x102x1024_2_1_0_0_1_2_111024_wf bcast_S_S4x102x1 bcast_S1_S1x1x1_2 bcast_S1x1x1_S4x102x1_0_1_2
    reducesTo_S4x102x1_S4x102_d2 h_S_ bcast_S4x102_S4x102x1024_0_1 bcast_S_S4x102x1024 x i φ

/-- and by the numbers of the kept rows. -/
abbrev keptOps (x : TRef sig ⟨S4x2048x1024, .f32⟩) (i : TRef sig ⟨S4x1844x1, .i32⟩) (φ : Slots 1844) : List (HloOp τ sig (Elt F)) :=
  takeOps gather_S4x2048x1024_S4x1844x1_S4x1844x1024_2_1_0_0_1_2_111024_wf bcast_S_S4x1844x1 bcast_S1_S1x1x1_2 bcast_S1x1x1_S4x1844x1_0_1_2
    reducesTo_S4x1844x1_S4x1844_d2 h_S_ bcast_S4x1844_S4x1844x1024_0_1 bcast_S_S4x1844x1024 x i φ

/-- The buffers of a call that takes rows of the normed tokens, -/
abbrev ofNormed (φ : fn_take_along_axis.Bufs) : Slots 102 :=
  ⟨φ.c, φ.v0, φ.v1, φ.c_0, φ.v2, φ.v3, φ.v4, φ.c_1, φ.c_2, φ.v5, φ.v6, φ.v7, φ.v8, φ.v9, φ.v10, φ.c_3, φ.v11, φ.v12, φ.v13, φ.cst, φ.v14, φ.v15⟩
/-- of one that takes the kept rows, -/
abbrev ofKept (φ : fn_take_along_axis_0.Bufs) : Slots 1844 :=
  ⟨φ.c, φ.v0, φ.v1, φ.c_0, φ.v2, φ.v3, φ.v4, φ.c_1, φ.c_2, φ.v5, φ.v6, φ.v7, φ.v8, φ.v9, φ.v10, φ.c_3, φ.v11, φ.v12, φ.v13, φ.cst, φ.v14, φ.v15⟩
/-- and of one that takes the rows of a merge. -/
abbrev ofMerged (φ : fn_take_along_axis_1.Bufs) : Slots 102 :=
  ⟨φ.c, φ.v0, φ.v1, φ.c_0, φ.v2, φ.v3, φ.v4, φ.c_1, φ.c_2, φ.v5, φ.v6, φ.v7, φ.v8, φ.v9, φ.v10, φ.c_3, φ.v11, φ.v12, φ.v13, φ.cst, φ.v14, φ.v15⟩

/-- The first stretch: the numbers of the rows, and the normed tokens. -/
abbrev opsNorm : List (HloOp τ sig (Elt F)) :=
  [ reshape main_arg0 main_v0 (rfl : (.i32 : EltTy) = .i32) shapeCasts_S8192_S4x2048,
    TRef.unary (.of main_v0 : TRef sig ⟨S4x2048, .i32⟩) (.of main_v1 : TRef sig ⟨S4x1844, .i32⟩) (extractStridedSlice S4x1844 ![0, 0] · slices_S4x2048_S4x1844_0_0),
    reshape main_arg1 main_v2 (rfl : (.i32 : EltTy) = .i32) shapeCasts_S8192_S4x2048,
    TRef.unary (.of main_v2 : TRef sig ⟨S4x2048, .i32⟩) (.of main_v3 : TRef sig ⟨S4x102, .i32⟩) (extractStridedSlice S4x102 ![0, 0] · slices_S4x2048_S4x102_0_0),
    reshape main_arg1 main_v4 (rfl : (.i32 : EltTy) = .i32) shapeCasts_S8192_S4x2048,
    TRef.unary (.of main_v4 : TRef sig ⟨S4x2048, .i32⟩) (.of main_v5 : TRef sig ⟨S4x102, .i32⟩) (extractStridedSlice S4x102 ![0, 1024] · slices_S4x2048_S4x102_0_1024),
    TRef.binary (.of main_arg2) (.of main_arg2) main_call0.v0 mulf,
    TRef.nullary main_call0.cst (constant S_ .f32 0x00000000#32),
    TRef.binary main_call0.v0 main_call0.cst main_call0.v1 (fun x v => Host.reduceAdd x v reducesTo_S4x2048x1024_S4x2048_d2 h_S_),
    TRef.unary main_call0.v1 main_call0.v2 (broadcastInDim S4x2048x1 ![0, 1] bcast_S4x2048_S4x2048x1_0_1),
    TRef.unary main_call0.v2 main_call0.v3 Host.sqrt,
    TRef.nullary (.of main_cst) (constant S_ .f32 0x2B8CBCCC#32),
    TRef.unary (.of main_cst) main_call1.v0 id,
    TRef.unary main_call1.v0 main_call1.v1 (broadcastInDim S4x2048x1 ![] bcast_S_S4x2048x1),
    TRef.binary main_call1.v1 (.of main_v6) main_call1.v2 maximumf,
    TRef.unary (.of main_v7 : TRef sig ⟨S4x2048x1, .f32⟩) (.of main_v8 : TRef sig ⟨S4x2048x1024, .f32⟩) (broadcastInDim S4x2048x1024 ![0, 1, 2] bcast_S4x2048x1_S4x2048x1024_0_1_2),
    TRef.binary (.of main_arg2 : TRef sig ⟨S4x2048x1024, .f32⟩) (.of main_v8) (.of main_v9) Host.divf ]

/-- The second: the products of the rows, and each merged row's partner. -/
abbrev opsBest : List (HloOp τ sig (Elt F)) :=
  TRef.unary (.of main_v3 : TRef sig ⟨S4x102, .i32⟩) (.of main_v10 : TRef sig ⟨S4x102x1, .i32⟩) asSome
  :: someOps (.of main_v9) (.of main_v10) (ofNormed main_call2)
  ++ TRef.unary (.of main_v5 : TRef sig ⟨S4x102, .i32⟩) (.of main_v12 : TRef sig ⟨S4x102x1, .i32⟩) asSome
  :: someOps (.of main_v9) (.of main_v12) (ofNormed main_call3)
  ++ [ TRef.binary (.of main_v11) (.of main_v13) (.of main_v14) products,
    TRef.nullary main_call4.v0 (iotaInDim S4x102x102 32 2),
    TRef.nullary main_call4.cst (constant S_ .f32 0xFF800000#32),
    TRef.nullary main_call4.c (constantI S_ 32 0#32),
    TRef.quaternary (.of main_v14) main_call4.v0 main_call4.cst main_call4.c main_call4.v1_0
      (fun x y u v j => (Host.argReduce reducer_argmax_f32_i32 x y u v reducesTo_S4x102x102_S4x102_d2 h_S_ j).1),
    TRef.quaternary (.of main_v14) main_call4.v0 main_call4.cst main_call4.c main_call4.v1_1
      (fun x y u v j => (Host.argReduce reducer_argmax_f32_i32 x y u v reducesTo_S4x102x102_S4x102_d2 h_S_ j).2) ]

/-- The third: the kept rows, the merged rows and the partners. -/
abbrev opsRows : List (HloOp τ sig (Elt F)) :=
  TRef.nullary (.of main_v16) (iotaInDim S4 32 0)
  :: TRef.unary (.of main_v16 : TRef sig ⟨S4, .i32⟩) (.of main_v17 : TRef sig ⟨S4x1, .i32⟩) (broadcastInDim S4x1 ![0] bcast_S4_S4x1_0)
  :: TRef.unary (.of main_v1 : TRef sig ⟨S4x1844, .i32⟩) (.of main_v18 : TRef sig ⟨S4x1844x1, .i32⟩) asKept
  :: keptOps (.of main_arg2) (.of main_v18) (ofKept main_call5)
  ++ TRef.unary (.of main_v3 : TRef sig ⟨S4x102, .i32⟩) (.of main_v20 : TRef sig ⟨S4x102x1, .i32⟩) asSome
  :: someOps (.of main_arg2) (.of main_v20) (ofMerged main_call6)
  ++ TRef.unary (.of main_v5 : TRef sig ⟨S4x102, .i32⟩) (.of main_v22 : TRef sig ⟨S4x102x1, .i32⟩) asSome
  :: someOps (.of main_arg2) (.of main_v22) (ofMerged main_call7)

/-- The buffers that one pairing of the sample's number and the partner's number names. -/
structure PairSlots where
  zero : TRef sig ⟨S_, .i32⟩
  zeros : TRef sig ⟨S4x1, .i32⟩
  negative : TRef sig ⟨S4x1, .i1⟩
  four : TRef sig ⟨S_, .i32⟩
  fours : TRef sig ⟨S4x1, .i32⟩
  moved : TRef sig ⟨S4x1, .i32⟩
  sample : TRef sig ⟨S4x1, .i32⟩
  zero' : TRef sig ⟨S_, .i32⟩
  zeros' : TRef sig ⟨S4x102, .i32⟩
  negative' : TRef sig ⟨S4x102, .i1⟩
  many : TRef sig ⟨S_, .i32⟩
  manys : TRef sig ⟨S4x102, .i32⟩
  moved' : TRef sig ⟨S4x102, .i32⟩
  partner : TRef sig ⟨S4x102, .i32⟩
  samples : TRef sig ⟨S4x102, .i32⟩
  left : TRef sig ⟨S4x102x1, .i32⟩
  right : TRef sig ⟨S4x102x1, .i32⟩
  out : TRef sig ⟨S4x102x2, .i32⟩

/-- The operations of one pairing. -/
abbrev pairOps (φ : PairSlots) : List (HloOp τ sig (Elt F)) :=
  [ TRef.nullary φ.zero (constantI S_ 32 0#32),
    TRef.unary φ.zero φ.zeros (broadcastInDim S4x1 ![] bcast_S_S4x1),
    TRef.binary (.of main_v17) φ.zeros φ.negative (cmpi .slt),
    TRef.nullary φ.four (constantI S_ 32 4#32),
    TRef.unary φ.four φ.fours (broadcastInDim S4x1 ![] bcast_S_S4x1),
    TRef.binary (.of main_v17) φ.fours φ.moved addi,
    TRef.ternary φ.negative φ.moved (.of main_v17) φ.sample select,
    TRef.nullary φ.zero' (constantI S_ 32 0#32),
    TRef.unary φ.zero' φ.zeros' (broadcastInDim S4x102 ![] bcast_S_S4x102),
    TRef.binary (.of main_v15) φ.zeros' φ.negative' (cmpi .slt),
    TRef.nullary φ.many (constantI S_ 32 102#32),
    TRef.unary φ.many φ.manys (broadcastInDim S4x102 ![] bcast_S_S4x102),
    TRef.binary (.of main_v15) φ.manys φ.moved' addi,
    TRef.ternary φ.negative' φ.moved' (.of main_v15) φ.partner select,
    TRef.unary φ.sample φ.samples (broadcastInDim S4x102 ![0, 1] bcast_S4x1_S4x102_0_1),
    TRef.unary φ.samples φ.left asSome,
    TRef.unary φ.partner φ.right asSome,
    TRef.binary φ.left φ.right φ.out joined ]

/-- The buffers of the pairing that counts, -/
abbrev countSlots : PairSlots :=
  ⟨.of main_c, .of main_v25, .of main_v26, .of main_c_1, .of main_v27, .of main_v28, .of main_v29, .of main_c_2, .of main_v30, .of main_v31,
    .of main_c_3, .of main_v32, .of main_v33, .of main_v34, .of main_v35, .of main_v36, .of main_v37, .of main_v38⟩
/-- and of the pairing that adds rows. -/
abbrev addSlots : PairSlots :=
  ⟨.of main_c_5, .of main_v41, .of main_v42, .of main_c_6, .of main_v43, .of main_v44, .of main_v45, .of main_c_7, .of main_v46, .of main_v47,
    .of main_c_8, .of main_v48, .of main_v49, .of main_v50, .of main_v51, .of main_v52, .of main_v53, .of main_v54⟩

/-- The fourth stretch: the counts. -/
abbrev opsCount : List (HloOp τ sig (Elt F)) :=
  TRef.nullary (.of main_cst_0) (constant S_ .f32 0x3F800000#32)
  :: TRef.unary (.of main_cst_0) (.of main_v24) (broadcastInDim S4x102 ![] bcast_S_S4x102)
  :: pairOps countSlots
  ++ [ TRef.nullary (.of main_cst_4) (constant S_ .f32 0x3F800000#32),
    TRef.unary (.of main_cst_4) (.of main_v39) (broadcastInDim S4x102 ![] bcast_S_S4x102),
    TRef.ternary (.of main_v24 : TRef sig ⟨S4x102, .f32⟩) (.of main_v38 : TRef sig ⟨S4x102x2, .i32⟩) (.of main_v39 : TRef sig ⟨S4x102, .f32⟩) (.of main_v40 : TRef sig ⟨S4x102, .f32⟩)
      (fun x i u => Host.scatterAdd scatter_S4x102_S4x102x2_S4x102_n_01_01_2 x i u) ]

/-- The fifth: the rows averaged into their partners, behind the kept rows. -/
abbrev opsMerge : List (HloOp τ sig (Elt F)) :=
  pairOps addSlots
  ++ [ TRef.ternary (.of main_v23 : TRef sig ⟨S4x102x1024, .f32⟩) (.of main_v54 : TRef sig ⟨S4x102x2, .i32⟩) (.of main_v21 : TRef sig ⟨S4x102x1024, .f32⟩) (.of main_v55 : TRef sig ⟨S4x102x1024, .f32⟩)
      (fun x i u => Host.scatterAdd addDims x i u),
    TRef.unary (.of main_v40) (.of main_v56) countsColumn,
    TRef.unary (.of main_v56 : TRef sig ⟨S4x102x1, .f32⟩) (.of main_v57 : TRef sig ⟨S4x102x1024, .f32⟩) (broadcastInDim S4x102x1024 ![0, 1, 2] bcast_S4x102x1_S4x102x1024_0_1_2),
    TRef.binary (.of main_v55 : TRef sig ⟨S4x102x1024, .f32⟩) (.of main_v57) (.of main_v58) Host.divf,
    TRef.binary (.of main_v19) (.of main_v58) (.of main_v59) stacked ]

/-- All the operations. -/
abbrev ops : List (HloOp τ sig (Elt F)) := opsNorm ++ opsBest ++ opsRows ++ opsCount ++ opsMerge

set_option maxHeartbeats 4000000 in
/-- The reference is these operations in order. -/
theorem main_eq (c : Dev nD) : main (F := F) c = seq ops := rfl

end Cert.TailReferenceIdeal.Tail

end
-- ==== Proof.TailRefRead.lean ====
/- What the reference's run leaves: the named term of its arguments. -/
module

public import proofs.«01_k».proof.Proof.TailRefRun

@[expose] public section

set_option maxRecDepth 16384

noncomputable section

namespace Cert.TailReferenceIdeal.Tail

open Cert.TailReferenceIdeal Cert.TailReferenceIdeal.Gen
open Idealize.ShloMosaic Idealize.ShloMosaic.TcCoe Idealize.ShloMosaic.StableHlo Idealize.SL.Sem

variable {F : FTy → Type} [FloatOps F]

/-- Operations in two stretches leave what the second leaves on what the first leaves. -/
theorem after_two (l k : List (HloOp τ sig (Elt F))) (V : Valuation τ sig (Elt F)) : after (l ++ k) V = after k (after l V) := by
  induction l generalizing V with
  | nil => rfl
  | cons op l ih => exact ih _

variable (V : Valuation τ sig (Elt F))

set_option maxHeartbeats 4000000 in
/-- The first stretch leaves the numbers of the kept rows, -/
theorem norm_order : after opsNorm V main_v1 = order (V main_arg0) := by
  simp only [opsNorm, TRef.binary, TRef.nullary, TRef.ternary, TRef.unary, TRef.toBuf, TRef.ofBuf, cast_eq]
  after_results_simp <;> rfl

set_option maxHeartbeats 4000000 in
/-- of the merged rows, -/
theorem norm_first : after opsNorm V main_v3 = first (V main_arg1) := by
  simp only [opsNorm, TRef.binary, TRef.nullary, TRef.ternary, TRef.unary, TRef.toBuf, TRef.ofBuf, cast_eq]
  after_results_simp <;> rfl

set_option maxHeartbeats 4000000 in
/-- of the partners, -/
theorem norm_second : after opsNorm V main_v5 = second (V main_arg1) := by
  simp only [opsNorm, TRef.binary, TRef.nullary, TRef.ternary, TRef.unary, TRef.toBuf, TRef.ofBuf, cast_eq]
  after_results_simp <;> rfl

set_option maxHeartbeats 4000000 in
/-- and the normed tokens. -/
theorem norm_normed : after opsNorm V main_v9 = normed (V main_arg2) := by
  simp only [opsNorm, TRef.binary, TRef.nullary, TRef.ternary, TRef.unary, TRef.toBuf, TRef.ofBuf, cast_eq]
  after_results_simp <;> rfl

set_option maxHeartbeats 4000000 in
/-- The second leaves the partners of the merged rows. -/
theorem best_partners : after opsBest V main_v15 = best (products (someRows (V main_v3) (V main_v9)) (someRows (V main_v5) (V main_v9))) := by
  simp only [opsBest, List.cons_append, List.nil_append, TRef.binary, TRef.nullary, TRef.ternary, TRef.quaternary, TRef.unary, TRef.toBuf, TRef.ofBuf, cast_eq]
  after_results_simp <;> rfl

set_option maxHeartbeats 4000000 in
/-- The third leaves the samples' numbers, -/
theorem rows_samples : after opsRows V main_v17 = samples := by
  simp only [opsRows, List.cons_append, List.nil_append, TRef.binary, TRef.nullary, TRef.ternary, TRef.unary, TRef.toBuf, TRef.ofBuf, cast_eq]
  after_results_simp <;> rfl

set_option maxHeartbeats 4000000 in
/-- the kept rows, -/
theorem rows_kept : after opsRows V main_v19 = keptRows (V main_v1) (V main_arg2) := by
  simp only [opsRows, List.cons_append, List.nil_append, TRef.binary, TRef.nullary, TRef.ternary, TRef.unary, TRef.toBuf, TRef.ofBuf, cast_eq]
  after_results_simp <;> rfl

set_option maxHeartbeats 4000000 in
/-- the merged rows, -/
theorem rows_first : after opsRows V main_v21 = someRows (V main_v3) (V main_arg2) := by
  simp only [opsRows, List.cons_append, List.nil_append, TRef.binary, TRef.nullary, TRef.ternary, TRef.unary, TRef.toBuf, TRef.ofBuf, cast_eq]
  after_results_simp <;> rfl

set_option maxHeartbeats 4000000 in
/-- and the partners. -/
theorem rows_second : after opsRows V main_v23 = someRows (V main_v5) (V main_arg2) := by
  simp only [opsRows, List.cons_append, List.nil_append, TRef.binary, TRef.nullary, TRef.ternary, TRef.unary, TRef.toBuf, TRef.ofBuf, cast_eq]
  after_results_simp <;> rfl

set_option maxHeartbeats 4000000 in
/-- The fourth leaves the counts. -/
theorem count_counts (h : V main_v17 = samples) : after opsCount V main_v40 = counts (F := F) (V main_v15) := by
  simp only [opsCount, List.cons_append, List.nil_append, TRef.binary, TRef.nullary, TRef.ternary, TRef.unary, TRef.toBuf, TRef.ofBuf, cast_eq]
  after_results_simp
  rw [h]
  rfl

set_option maxHeartbeats 4000000 in
/-- The fifth leaves the result. -/
theorem merge_result (h : V main_v17 = samples) : after opsMerge V main_v59
    = stacked (V main_v19) (averaged (V main_v21) (V main_v23) (pairs (V main_v15)) (countsColumn (V main_v40))) := by
  simp only [opsMerge, List.cons_append, List.nil_append, TRef.binary, TRef.nullary, TRef.ternary, TRef.unary, TRef.toBuf, TRef.ofBuf, cast_eq]
  after_results_simp
  rw [h]
  rfl

/-! ## What each stretch leaves as it was -/

/-- What a taking of rows writes, in order. -/
abbrev Slots.written {K : ℕ} (φ : Slots K) : List (Ref sig .tc) :=
  [φ.zero.ref, φ.zeros.ref, φ.negative.ref, φ.length.ref, φ.lengths.ref, φ.moved.ref, φ.index.ref, φ.last.ref, φ.low.ref, φ.lows.ref, φ.above.ref,
    φ.last3.ref, φ.lasts.ref, φ.below.ref, φ.within.ref, φ.true1.ref, φ.inside.ref, φ.rows.ref, φ.mask.ref, φ.fill.ref, φ.fills.ref, φ.out.ref]

/-- What a pairing writes, in order. -/
abbrev PairSlots.written (φ : PairSlots) : List (Ref sig .tc) :=
  [φ.zero.ref, φ.zeros.ref, φ.negative.ref, φ.four.ref, φ.fours.ref, φ.moved.ref, φ.sample.ref, φ.zero'.ref, φ.zeros'.ref, φ.negative'.ref,
    φ.many.ref, φ.manys.ref, φ.moved'.ref, φ.partner.ref, φ.samples.ref, φ.left.ref, φ.right.ref, φ.out.ref]

/-- What the first stretch writes, -/
abbrev normWritten : List (Ref sig .tc) :=
  [main_v0, main_v1, main_v2, main_v3, main_v4, main_v5, main_call0_v0, main_call0_cst, main_call0_v1, main_call0_v2, main_v6, main_cst,
    main_call1_v0, main_call1_v1, main_v7, main_v8, main_v9]
/-- the second, -/
abbrev bestWritten : List (Ref sig .tc) :=
  main_v10 :: (ofNormed main_call2).written ++ main_v12 :: (ofNormed main_call3).written
    ++ [main_v14, main_call4_v0, main_call4_cst, main_call4_c, main_call4_v1_0, main_v15]
/-- the third, -/
abbrev rowsWritten : List (Ref sig .tc) :=
  main_v16 :: main_v17 :: main_v18 :: (ofKept main_call5).written ++ main_v20 :: (ofMerged main_call6).written ++ main_v22 :: (ofMerged main_call7).written
/-- the fourth, -/
abbrev countWritten : List (Ref sig .tc) := main_cst_0 :: main_v24 :: countSlots.written ++ [main_cst_4, main_v39, main_v40]
/-- and the fifth. -/
abbrev mergeWritten : List (Ref sig .tc) := addSlots.written ++ [main_v55, main_v56, main_v57, main_v58, main_v59]

variable {r : Ref sig .tc}

/-- The first stretch leaves every other buffer as it was, -/
theorem norm_keeps (h : r ∉ normWritten) : after opsNorm V r = V r :=
  after_of_writes_sub opsNorm V (forall_writes_sub_of_map rfl) h
/-- the second too, -/
theorem best_keeps (h : r ∉ bestWritten) : after opsBest V r = V r :=
  after_of_writes_sub opsBest V (forall_writes_sub_of_map rfl) h
/-- the third, -/
theorem rows_keeps (h : r ∉ rowsWritten) : after opsRows V r = V r :=
  after_of_writes_sub opsRows V (forall_writes_sub_of_map rfl) h
/-- the fourth, -/
theorem count_keeps (h : r ∉ countWritten) : after opsCount V r = V r :=
  after_of_writes_sub opsCount V (forall_writes_sub_of_map rfl) h
/-- and the fifth. -/
theorem merge_keeps (h : r ∉ mergeWritten) : after opsMerge V r = V r :=
  after_of_writes_sub opsMerge V (forall_writes_sub_of_map rfl) h

/-! ## The whole -/

/-- All the operations, stretch by stretch. -/
theorem after_ops : after ops V = after opsMerge (after opsCount (after opsRows (after opsBest (after opsNorm V)))) :=
  (after_two (opsNorm ++ opsBest ++ opsRows ++ opsCount) opsMerge V).trans (congrArg (after opsMerge)
    ((after_two (opsNorm ++ opsBest ++ opsRows) opsCount V).trans (congrArg (after opsCount)
      ((after_two (opsNorm ++ opsBest) opsRows V).trans (congrArg (after opsRows) (after_two opsNorm opsBest V))))))

/-- All the operations together leave the reference's result, -/
theorem ops_result : after ops V main_v59 = result (V main_arg0) (V main_arg1) (V main_arg2) := by
  rw [after_ops]
  have hs : after opsCount (after opsRows (after opsBest (after opsNorm V))) main_v17 = samples :=
    (count_keeps _ (by decide)).trans (rows_samples _)
  have hp : after opsRows (after opsBest (after opsNorm V)) main_v15 = partners (V main_arg1) (V main_arg2) := by
    rw [rows_keeps _ (by decide), best_partners, norm_first, norm_second, norm_normed]; rfl
  rw [merge_result _ hs, count_counts _ (rows_samples _), count_keeps _ (by decide : main_v19 ∉ countWritten), count_keeps _ (by decide : main_v21 ∉ countWritten),
    count_keeps _ (by decide : main_v23 ∉ countWritten), count_keeps _ (by decide : main_v15 ∉ countWritten), hp, rows_kept, rows_first, rows_second,
    best_keeps _ (by decide : main_v1 ∉ bestWritten), best_keeps _ (by decide : main_v3 ∉ bestWritten), best_keeps _ (by decide : main_v5 ∉ bestWritten),
    best_keeps _ (by decide : main_arg2 ∉ bestWritten), norm_order, norm_first, norm_second, norm_keeps _ (by decide : main_arg2 ∉ normWritten)]
  rfl

/-- and every other buffer that no stretch writes as it was. -/
theorem ops_keeps (h1 : r ∉ normWritten) (h2 : r ∉ bestWritten) (h3 : r ∉ rowsWritten) (h4 : r ∉ countWritten) (h5 : r ∉ mergeWritten) :
    after ops V r = V r := by
  rw [after_ops, merge_keeps _ h5, count_keeps _ h4, rows_keeps _ h3, best_keeps _ h2, norm_keeps _ h1]

/-- The program scopes no buffer -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every operation works on the TensorCore's own buffers. -/
theorem ops_sub : (ops : List (HloOp τ sig (Elt F))).Forall fun op => op.bufs ⊆ tcRefs τ sig := by
  simp only [ops, opsNorm, opsBest, opsRows, opsCount, opsMerge, List.cons_append, List.nil_append, TRef.binary, TRef.nullary, TRef.ternary,
    TRef.quaternary, TRef.unary, List.Forall, reshape_bufs_sub, unary_bufs_sub, nullary_bufs_sub, binary_bufs_sub, ternary_bufs_sub, quaternary_bufs_sub, and_self]

/-- No operation writes a fresh buffer. -/
theorem ops_fresh : ∀ op ∈ (ops : List (HloOp τ sig (Elt F))), op.fresh = ∅ :=
  List.forall_iff_forall_mem.mp (forall_fresh_of_map rfl)

set_option maxHeartbeats 4000000 in
/-- The reference ends, its result the named term of its arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v59).trans (ops_result _),
      (h c main_arg0).trans (ops_keeps _ (by decide) (by decide) (by decide) (by decide) (by decide)),
      (h c main_arg1).trans (ops_keeps _ (by decide) (by decide) (by decide) (by decide) (by decide)),
      (h c main_arg2).trans (ops_keeps _ (by decide) (by decide) (by decide) (by decide) (by decide))⟩)
    (run_seq scopedRefs_eq scopedSems_eq defs main (fun _ => ops) main_eq (fun _ => ops_sub) m ρ (fun _ => ops_fresh))

end Cert.TailReferenceIdeal.Tail

end
-- ==== Proof.SelectTile.lean ====
/- What one grid step of the selection writes, as three sums over tiles of 128 rows. -/
module

public import proofs.«01_k».proof.Proof.Gen.SelectIdeal.Value

@[expose] public section

set_option maxRecDepth 16384

noncomputable section

namespace Cert.SelectIdeal.Select

open Cert.SelectIdeal Cert.SelectIdeal.Gen Idealize.ShloMosaic Idealize.ShloMosaic.TcCoe Idealize.SL.Sem

variable {F : FTy → Type} [FloatOps F]

/-- The lanes' own numbers. -/
def lanes : IVec S1x2048 32 := iota .tc S1x2048 32 [1] iota_S1x2048_d1_w32

/-- The rows' own numbers in the tile that begins at row `o`. -/
def places (o : BitVec 32) : IVec S128x1 32 := addi (iota .tc S128x1 32 [0] iota_S128x1_d0_w32) (broadcast S128x1 o)

/-- A lane vector, once per row of a tile. -/
abbrev across {α : Type} (v : S1x2048.Idx → α) : S128x2048.Idx → α := broadcastTo S128x2048 v broadcasts_S1x2048_S128x2048

/-- A row vector of a tile, once per lane. -/
abbrev down {α : Type} (v : S128x1.Idx → α) : S128x2048.Idx → α := broadcastTo S128x2048 v broadcasts_S128x1_S128x2048

/-- The lanes' keys. -/
def laneKeys (x : Vec F S1x1x2048 .f32) : FVec F S1x2048 .f32 := shapeCast S1x2048 x shapeCasts_S1x1x2048_S1x2048

/-- The keys of a tile's rows. -/
def rowKeys (r : Vec F S1x128x1 .f32) : FVec F S128x1 .f32 := shapeCast S128x1 r shapeCasts_S1x128x1_S128x1

/-- Where a tile's row goes before a lane: its key is larger, or the same and its number smaller. -/
def rowFirst (x : Vec F S1x1x2048 .f32) (r : Vec F S1x128x1 .f32) (o : BitVec 32) : IVec S128x2048 32 :=
  extui 32 (ori (cmpf .ogt (down (rowKeys r)) (across (laneKeys x)))
    (andi (cmpf .oeq (down (rowKeys r)) (across (laneKeys x))) (cmpi .slt (down (places o)) (across lanes)))) natLt_1_32

/-- Where a lane goes before a tile's row. -/
def laneFirst (x : Vec F S1x1x2048 .f32) (r : Vec F S1x128x1 .f32) (o : BitVec 32) : IVec S128x2048 32 :=
  extui 32 (ori (cmpf .ogt (across (laneKeys x)) (down (rowKeys r)))
    (andi (cmpf .oeq (across (laneKeys x)) (down (rowKeys r))) (cmpi .slt (across lanes) (down (places o))))) natLt_1_32

/-- A tile's terms added to the eight partial sums, eight rows at a time. -/
def fold8 (acc : IVec S8x2048 32) (c : IVec S128x2048 32) : IVec S8x2048 32 :=
  addi (addi (addi (addi (addi (addi (addi (addi (addi (addi (addi (addi (addi (addi (addi (addi acc
    (extractStridedSlice S8x2048 ![0, 0] c slices_S128x2048_o0_0_S8x2048))
    (extractStridedSlice S8x2048 ![8, 0] c slices_S128x2048_o8_0_S8x2048))
    (extractStridedSlice S8x2048 ![16, 0] c slices_S128x2048_o16_0_S8x2048))
    (extractStridedSlice S8x2048 ![24, 0] c slices_S128x2048_o24_0_S8x2048))
    (extractStridedSlice S8x2048 ![32, 0] c slices_S128x2048_o32_0_S8x2048))
    (extractStridedSlice S8x2048 ![40, 0] c slices_S128x2048_o40_0_S8x2048))
    (extractStridedSlice S8x2048 ![48, 0] c slices_S128x2048_o48_0_S8x2048))
    (extractStridedSlice S8x2048 ![56, 0] c slices_S128x2048_o56_0_S8x2048))
    (extractStridedSlice S8x2048 ![64, 0] c slices_S128x2048_o64_0_S8x2048))
    (extractStridedSlice S8x2048 ![72, 0] c slices_S128x2048_o72_0_S8x2048))
    (extractStridedSlice S8x2048 ![80, 0] c slices_S128x2048_o80_0_S8x2048))
    (extractStridedSlice S8x2048 ![88, 0] c slices_S128x2048_o88_0_S8x2048))
    (extractStridedSlice S8x2048 ![96, 0] c slices_S128x2048_o96_0_S8x2048))
    (extractStridedSlice S8x2048 ![104, 0] c slices_S128x2048_o104_0_S8x2048))
    (extractStridedSlice S8x2048 ![112, 0] c slices_S128x2048_o112_0_S8x2048))
    (extractStridedSlice S8x2048 ![120, 0] c slices_S128x2048_o120_0_S8x2048)

/-- The sixteen tiles, each folded in turn: `f q` are the terms of tile `q`. -/
def folded (f : ℕ → IVec S128x2048 32) : IVec S8x2048 32 :=
  fold8 (fold8 (fold8 (fold8 (fold8 (fold8 (fold8 (fold8 (fold8 (fold8 (fold8 (fold8 (fold8 (fold8 (fold8 (fold8
    (broadcast S8x2048 0#32) (f 0)) (f 1)) (f 2)) (f 3)) (f 4)) (f 5)) (f 6)) (f 7)) (f 8)) (f 9)) (f 10)) (f 11)) (f 12))
    (f 13)) (f 14)) (f 15)

/-- The eight partial sums added up. -/
def total (acc : IVec S8x2048 32) : IVec S1x2048 32 :=
  shapeCast S1x2048 (multiReductionI .add [0] S2048 acc 0#32 reduces_S8x2048_S2048 rfl) shapeCasts_S2048_S1x2048

/-- A tile's rows, counted along the lanes. -/
def along (c : IVec S128x2048 32) : IVec S128x1 32 :=
  shapeCast S128x1 (multiReductionI .add [1] S128 c 0#32 reduces_S128x2048_S128 rfl) shapeCasts_S128_S128x1

/-- Whether a lane is selected: fewer than 204 rows go before it. -/
def laneSel (rank : IVec S1x2048 32) : IVec S1x2048 1 := cmpi .slt rank (broadcast S1x2048 204#32)

/-- How many lanes go before a row. -/
def rowRank (x : Vec F S1x1x2048 .f32) (r : Vec F S1x128x1 .f32) (o : BitVec 32) : IVec S128x1 32 := along (laneFirst x r o)

/-- Whether a row is selected. -/
def rowSel (x : Vec F S1x1x2048 .f32) (r : Vec F S1x128x1 .f32) (o : BitVec 32) : IVec S128x1 1 :=
  cmpi .slt (rowRank x r o) (broadcast S128x1 204#32)

/-- How many rows before a row are not selected. -/
def keptRank (sel : IVec S1x2048 1) (o : BitVec 32) : IVec S128x1 32 :=
  subi (places o) (along (extui 32 (andi (across (shapeCast S1x2048 sel shapeCasts_S1x2048_S1x2048))
    (cmpi .slt (across lanes) (down (places o)))) natLt_1_32))

/-- A tile's terms of the table of kept rows: a kept row's number, in the lane of its place among the kept. -/
def ordTerm (x : Vec F S1x1x2048 .f32) (sel : IVec S1x2048 1) (r : Vec F S1x128x1 .f32) (o : BitVec 32) : IVec S128x2048 32 :=
  muli (extui 32 (andi (down (xori (rowSel x r o) (constantI S128x1 1 1#1)))
    (cmpi .eq (down (keptRank sel o)) (across lanes))) natLt_1_32) (down (places o))

/-- Where a row of even place goes: lane `k` of the first half takes place `2 k`. -/
def firstTerm (x : Vec F S1x1x2048 .f32) (r : Vec F S1x128x1 .f32) (o : BitVec 32) : IVec S128x2048 32 :=
  extui 32 (andi (andi (down (rowSel x r o))
      (cmpi .eq (down (rowRank x r o)) (across (muli (broadcast S1x2048 2#32) lanes))))
    (across (cmpi .slt lanes (broadcast S1x2048 1024#32)))) natLt_1_32

/-- Where a row of odd place goes: lane `1024 + k` takes place `2 k + 1`. -/
def secondTerm (x : Vec F S1x1x2048 .f32) (r : Vec F S1x128x1 .f32) (o : BitVec 32) : IVec S128x2048 32 :=
  extui 32 (andi (andi (down (rowSel x r o))
      (cmpi .eq (down (rowRank x r o))
        (across (addi (muli (broadcast S1x2048 2#32) (subi lanes (broadcast S1x2048 1024#32))) (broadcast S1x2048 1#32)))))
    (across (cmpi .sge lanes (broadcast S1x2048 1024#32)))) natLt_1_32

/-- A tile's terms of the table of selected rows. -/
def abTerm (x : Vec F S1x1x2048 .f32) (r : Vec F S1x128x1 .f32) (o : BitVec 32) : IVec S128x2048 32 :=
  muli (addi (firstTerm x r o) (secondTerm x r o)) (down (places o))

/-- The sixteen tiles of the column of keys. -/
def tile (x1 : Vec F S1x2048x1 .f32) : ℕ → Vec F S1x128x1 .f32
  | 0 => View.ld x1 r0_1
  | 1 => View.ld x1 r0_2
  | 2 => View.ld x1 r0_3
  | 3 => View.ld x1 r0_4
  | 4 => View.ld x1 r0_5
  | 5 => View.ld x1 r0_6
  | 6 => View.ld x1 r0_7
  | 7 => View.ld x1 r0_8
  | 8 => View.ld x1 r0_9
  | 9 => View.ld x1 r0_10
  | 10 => View.ld x1 r0_11
  | 11 => View.ld x1 r0_12
  | 12 => View.ld x1 r0_13
  | 13 => View.ld x1 r0_14
  | 14 => View.ld x1 r0_15
  | _ => View.ld x1 r0_16

/-- The first row of a tile. -/
def start : ℕ → BitVec 32
  | 0 => 0#32
  | 1 => 128#32
  | 2 => 256#32
  | 3 => 384#32
  | 4 => 512#32
  | 5 => 640#32
  | 6 => 768#32
  | 7 => 896#32
  | 8 => 1024#32
  | 9 => 1152#32
  | 10 => 1280#32
  | 11 => 1408#32
  | 12 => 1536#32
  | 13 => 1664#32
  | 14 => 1792#32
  | _ => 1920#32

/-- Which lanes are selected. -/
def selected (x0 : Vec F S1x1x2048 .f32) (x1 : Vec F S1x2048x1 .f32) : IVec S1x2048 1 :=
  laneSel (total (folded fun q => rowFirst (View.ld x0 r0_0) (tile x1 q) (start q)))

/-- The table of kept rows of one sample. -/
def ordRow (x0 : Vec F S1x1x2048 .f32) (x1 : Vec F S1x2048x1 .f32) : IVec S1x2048 32 :=
  total (folded fun q => ordTerm (View.ld x0 r0_0) (selected x0 x1) (tile x1 q) (start q))

/-- The table of selected rows of one sample. -/
def abRow (x0 : Vec F S1x1x2048 .f32) (x1 : Vec F S1x2048x1 .f32) : IVec S1x2048 32 :=
  total (folded fun q => abTerm (View.ld x0 r0_0) (tile x1 q) (start q))

/-- What a grid step writes to the first result, -/
theorem out2 (x0 : Vec F S1x1x2048 .f32) (x1 : Vec F S1x2048x1 .f32) :
    out0_2 x0 x1 = View.canon [⟨r0_0, shapeCast S1x1x2048 (ordRow x0 x1) shapeCasts_S1x2048_S1x1x2048⟩] := rfl

/-- and to the second. -/
theorem out3 (x0 : Vec F S1x1x2048 .f32) (x1 : Vec F S1x2048x1 .f32) :
    out0_3 x0 x1 = View.canon [⟨r0_0, shapeCast S1x1x2048 (abRow x0 x1) shapeCasts_S1x2048_S1x1x2048⟩] := rfl

end Cert.SelectIdeal.Select
-- ==== Proof.SelectOrder.lean ====
/- Ranks under a strict total order, and what a stable sort of positions leaves where. -/
module

public import Idealize.ShloMosaic.Lib.SortPrefix
public import Mathlib.Data.EReal.Basic

@[expose] public section

noncomputable section

namespace Cert.Select.Order

open Idealize.ShloMosaic

variable {n : ℕ}

/-- How many positions go before `t`. -/
def rank (B : Fin n → Fin n → Bool) (t : Fin n) : ℕ := (Finset.univ.filter fun s => B s t = true).card

/-- In the sort, an earlier position goes before a later one. -/
theorem before_iff {B : Fin n → Fin n → Bool} (hB : StrictTotalBefore B) (i j : Fin n) :
    B (sortedFrom B j) (sortedFrom B i) = true ↔ j < i := by
  have inv := sortedFrom_noInversion B B hB.asymm (fun _ _ h => h) hB.negTrans
  constructor
  · intro h
    by_contra hji
    rcases (not_lt.mp hji).lt_or_eq with hlt | rfl
    · rw [inv i j hlt] at h; exact absurd h (by decide)
    · rw [hB.irrefl] at h; exact absurd h (by decide)
  · intro h
    rcases hB.total _ _ fun e => h.ne (sortedFrom_injective B e) with h' | h'
    · exact h'
    · rw [inv j i h] at h'; exact absurd h' (by decide)

/-- The position that the sort puts at place `i` has rank `i`. -/
theorem rank_sortedFrom {B : Fin n → Fin n → Bool} (hB : StrictTotalBefore B) (i : Fin n) : rank B (sortedFrom B i) = i.val := by
  have e : (Finset.univ.filter fun s => B s (sortedFrom B i) = true)
      = (Finset.Iio i).map ⟨sortedFrom B, sortedFrom_injective B⟩ := by
    ext s
    obtain ⟨j, rfl⟩ := sortedFrom_surjective B s
    simp only [Finset.mem_filter, Finset.mem_univ, true_and, Finset.mem_map, Finset.mem_Iio, Function.Embedding.coeFn_mk]
    rw [before_iff hB]
    exact ⟨fun h => ⟨j, h, rfl⟩, fun ⟨k, h, hk⟩ => sortedFrom_injective B hk ▸ h⟩
  rw [rank, e, Finset.card_map, Fin.card_Iio]

/-- A position has rank `i` exactly when the sort puts it at place `i`. -/
theorem rank_eq_iff {B : Fin n → Fin n → Bool} (hB : StrictTotalBefore B) (t i : Fin n) : rank B t = i.val ↔ t = sortedFrom B i := by
  constructor
  · obtain ⟨j, rfl⟩ := sortedFrom_surjective B t
    rw [rank_sortedFrom hB]
    exact fun h => congrArg _ (Fin.ext h)
  · rintro rfl
    exact rank_sortedFrom hB i

/-- A rank is less than the number of positions. -/
theorem rank_lt {B : Fin n → Fin n → Bool} (hB : StrictTotalBefore B) (t : Fin n) : rank B t < n := by
  obtain ⟨j, rfl⟩ := sortedFrom_surjective B t
  rw [rank_sortedFrom hB]
  exact j.isLt

/-- `m` positions have a rank less than `m`. -/
theorem card_rank_lt {B : Fin n → Fin n → Bool} (hB : StrictTotalBefore B) (m : ℕ) (hm : m ≤ n) :
    (Finset.univ.filter fun t => decide (rank B t < m) = true).card = m := by
  have e : (Finset.univ.filter fun t => decide (rank B t < m) = true)
      = (Finset.univ.filter fun i : Fin n => i.val < m).map ⟨sortedFrom B, sortedFrom_injective B⟩ := by
    ext s
    obtain ⟨j, rfl⟩ := sortedFrom_surjective B s
    simp only [Finset.mem_filter, Finset.mem_univ, true_and, Finset.mem_map, Function.Embedding.coeFn_mk, decide_eq_true_eq]
    rw [rank_sortedFrom hB]
    exact ⟨fun h => ⟨j, h, rfl⟩, fun ⟨k, h, hk⟩ => sortedFrom_injective B hk ▸ h⟩
  rw [e, Finset.card_map, Fin.card_filter_val_lt, min_eq_right hm]

/-- A stable sort asks only whether a later position goes before an earlier one. -/
theorem stableSort_later (R B : Fin n → Fin n → Bool) (h : ∀ a b, a < b → R b a = B b a) (l : List (Fin n))
    (hl : l.Pairwise (· < ·)) : stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

/-- So two relations that agree there sort alike. -/
theorem sortedFrom_later (R B : Fin n → Fin n → Bool) (h : ∀ a b, a < b → R b a = B b a) : sortedFrom R = sortedFrom B := by
  funext k
  have e : sortPositions n R = sortPositions n B := stableSort_later R B h _ (List.pairwise_lt_finRange n)
  unfold sortedFrom
  rw [List.get_of_eq e]
  rfl

/-- Larger keys first, and of equal keys the smaller position. -/
def keyFirst (c : Fin n → EReal) (a b : Fin n) : Bool := decide (c b < c a) || (decide (c a = c b) && decide (a < b))

/-- That is a strict total order. -/
theorem keyFirst_total (c : Fin n → EReal) : StrictTotalBefore (keyFirst c) :=
  StrictTotalBefore.of_key_then_position (fun x y : EReal => decide (y < x)) c (fun a => by simp)
    (fun a b d h h' => by simp only [decide_eq_true_eq] at h h' ⊢; exact h'.trans h)
    (fun a b => by
      simp only [decide_eq_true_eq]
      rcases lt_trichotomy a b with h | h | h
      · exact Or.inr (Or.inr h)
      · exact Or.inr (Or.inl h)
      · exact Or.inl h)

/-- A sort by the key alone is the sort by key and position. -/
theorem sortedFrom_key (c : Fin n → EReal) : sortedFrom (fun a b => decide (c b < c a)) = sortedFrom (keyFirst c) :=
  sortedFrom_later _ _ fun a b h => by simp [keyFirst, h.not_gt]

/-- Positions outside `S` first, and otherwise the smaller position. -/
def outFirst (S : Fin n → Bool) (a b : Fin n) : Bool := (!S a && S b) || (decide (S a = S b) && decide (a < b))

/-- That is a strict total order. -/
theorem outFirst_total (S : Fin n → Bool) : StrictTotalBefore (outFirst S) :=
  StrictTotalBefore.of_key_then_position (fun x y : Bool => !x && y) S (by decide) (by decide) (by decide)

/-- A sort by membership alone is that sort. -/
theorem sortedFrom_out (S : Fin n → Bool) : sortedFrom (fun a b => !S a && S b) = sortedFrom (outFirst S) :=
  sortedFrom_later _ _ fun a b h => by simp [outFirst, h.not_gt]

/-- How many positions before `t` lie in `S`. -/
def within (S : Fin n → Bool) (t : Fin n) : ℕ := (Finset.univ.filter fun s => (S s && decide (s < t)) = true).card

/-- A position outside `S` has as many before it as there are earlier positions outside `S`. -/
theorem rank_out (S : Fin n → Bool) (t : Fin n) (ht : S t = false) : rank (outFirst S) t + within S t = t.val := by
  have e : (Finset.univ.filter fun s => outFirst S s t = true) = (Finset.Iio t).filter fun s => ¬ S s = true := by
    ext s
    simp only [Finset.mem_filter, Finset.mem_univ, true_and, Finset.mem_Iio, outFirst, ht]
    cases S s <;> simp
  have e' : (Finset.univ.filter fun s => (S s && decide (s < t)) = true) = (Finset.Iio t).filter fun s => S s = true := by
    ext s
    simp only [Finset.mem_filter, Finset.mem_univ, true_and, Finset.mem_Iio]
    cases S s <;> simp
  rw [rank, within, e, e', add_comm, Finset.card_filter_add_card_filter_not, Fin.card_Iio]

/-- At most `t` positions lie before `t`. -/
theorem within_le (S : Fin n → Bool) (t : Fin n) : within S t ≤ t.val := by
  refine (Finset.card_le_card fun s hs => ?_ : _ ≤ (Finset.Iio t).card).trans (Fin.card_Iio t).le
  simp only [Finset.mem_filter, Finset.mem_univ, true_and, Bool.and_eq_true, decide_eq_true_eq] at hs
  exact Finset.mem_Iio.mpr hs.2

/-- A position outside `S` has a rank less than the number of such positions, -/
theorem rank_out_lt (S : Fin n → Bool) (t : Fin n) (ht : S t = false) :
    rank (outFirst S) t < (Finset.univ.filter fun s => ¬ S s = true).card := by
  refine Finset.card_lt_card ⟨fun s hs => ?_, fun h => ?_⟩
  · simp only [Finset.mem_filter, Finset.mem_univ, true_and, outFirst, ht] at hs ⊢
    revert hs
    cases S s <;> simp
  · have := h (by simp [ht] : t ∈ Finset.univ.filter fun s => ¬ S s = true)
    simp only [Finset.mem_filter, Finset.mem_univ, true_and] at this
    rw [(outFirst_total S).irrefl] at this
    exact absurd this (by decide)

/-- and a position in `S` no smaller rank. -/
theorem le_rank_in (S : Fin n → Bool) (t : Fin n) (ht : S t = true) :
    (Finset.univ.filter fun s => ¬ S s = true).card ≤ rank (outFirst S) t := by
  refine Finset.card_le_card fun s hs => ?_
  simp only [Finset.mem_filter, Finset.mem_univ, true_and, outFirst, ht] at hs ⊢
  revert hs
  cases S s <;> simp

/-- Where `m` positions lie in `S`, `n - m` do not. -/
theorem card_out (S : Fin n → Bool) (m : ℕ) (h : (Finset.univ.filter fun s => S s = true).card = m) :
    (Finset.univ.filter fun s => ¬ S s = true).card = n - m := by
  have := Finset.card_filter_add_card_filter_not (s := (Finset.univ : Finset (Fin n))) fun s => S s = true
  rw [h, Finset.card_univ, Fintype.card_fin] at this
  omega

/-! ## The two tables -/

/-- The selected positions: those of rank less than 204. -/
abbrev sel (c : Fin 2048 → EReal) (t : Fin 2048) : Bool := decide (rank (keyFirst c) t < 204)

/-- Which of the selected positions, in order, an entry of the second table names: the first half the even ones, the second
    half the odd ones. -/
def place (k : Fin 2048) : Fin 2048 :=
  if h : k.val < 1024 then ⟨2 * k.val, by omega⟩ else ⟨2 * (k.val - 1024) + 1, by omega⟩

/-- The first table: the positions not selected, in order, and then zeros. -/
def kept (c : Fin 2048 → EReal) (k : Fin 2048) : BitVec 32 :=
  if k.val < 1844 then BitVec.ofNat 32 (sortedFrom (outFirst (sel c)) k).val else 0#32

/-- The second table: the selected positions by turns in the two halves, and zeros after each. -/
def picked (c : Fin 2048 → EReal) (k : Fin 2048) : BitVec 32 :=
  if (place k).val < 204 then BitVec.ofNat 32 (sortedFrom (keyFirst c) (place k)).val else 0#32

/-- 1844 positions are not selected. -/
theorem card_kept (c : Fin 2048 → EReal) : (Finset.univ.filter fun s => ¬ sel c s = true).card = 1844 :=
  card_out (sel c) 204 (card_rank_lt (keyFirst_total c) 204 (by omega))

/-- A position is not selected and has `k` such positions before it exactly when the sort puts it at one of the first
    1844 places, place `k`. -/
theorem kept_iff (c : Fin 2048 → EReal) (t k : Fin 2048) :
    (sel c t = false ∧ t.val - within (sel c) t = k.val) ↔ (k.val < 1844 ∧ t = sortedFrom (outFirst (sel c)) k) := by
  rw [← rank_eq_iff (outFirst_total (sel c))]
  constructor
  · rintro ⟨hs, hk⟩
    have h1 := rank_out (sel c) t hs
    have h2 := rank_out_lt (sel c) t hs
    rw [card_kept] at h2
    omega
  · rintro ⟨hk, ht⟩
    have hs : sel c t = false := by
      by_contra h
      have h3 := le_rank_in (sel c) t (by simpa using h)
      rw [card_kept] at h3
      omega
    have h1 := rank_out (sel c) t hs
    exact ⟨hs, by omega⟩

/-- A position is selected and has rank `i` exactly when the sort puts it at one of the first 204 places, place `i`. -/
theorem picked_iff (c : Fin 2048 → EReal) (t i : Fin 2048) :
    (sel c t = true ∧ rank (keyFirst c) t = i.val) ↔ (i.val < 204 ∧ t = sortedFrom (keyFirst c) i) := by
  rw [← rank_eq_iff (keyFirst_total c), decide_eq_true_eq]
  omega

end Cert.Select.Order
-- ==== Proof.SelectCount.lean ====
/- The selection's tiles read at an entry: ranks as counts, and the two tables as sums over the rows. -/
module

public import proofs.«01_k».proof.Proof.SelectTile
public import proofs.«01_k».proof.Proof.SelectOrder
public import Idealize.ShloMosaic.Lib.IndicatorCount
public import Idealize.ShloMosaic.Lib.WordSum
public import Idealize.ShloMosaic.Lib.Pointwise
public import Idealize.ShloMosaic.Lib.Pipeline.ValueKit

@[expose] public section

set_option maxRecDepth 16384

noncomputable section

namespace Cert.SelectIdeal.Select

open Cert.SelectIdeal Cert.SelectIdeal.Gen Cert.Select.Order Idealize.ShloMosaic Idealize.ShloMosaic.TcCoe Idealize.ShloMosaic.WordCmp Idealize.SL.Sem

/-! ## Words -/

/-- A condition as a word: one where it holds, zero elsewhere. -/
def one (b : Bool) : BitVec 32 := BitVec.setWidth 32 (BitVec.ofBool b)

/-- Both of two conditions. -/
theorem andi_bits (a b : Bool) : IntOp.andi (BitVec.ofBool a) (BitVec.ofBool b) = BitVec.ofBool (a && b) := by
  cases a <;> cases b <;> rfl

/-- One of two conditions. -/
theorem ori_bits (a b : Bool) : IntOp.ori (BitVec.ofBool a) (BitVec.ofBool b) = BitVec.ofBool (a || b) := by
  cases a <;> cases b <;> rfl

/-- A condition turned round. -/
theorem xori_bits (a : Bool) : IntOp.xori (BitVec.ofBool a) 1#1 = BitVec.ofBool (!a) := by
  cases a <;> rfl

/-- A condition that holds where it is one. -/
theorem bit_iff (b : Bool) : BitVec.ofBool b = 1#1 ↔ b = true := by cases b <;> decide

/-- The sum of two words of numbers. -/
theorem addi_nat (a b : ℕ) : IntOp.addi (BitVec.ofNat 32 a) (BitVec.ofNat 32 b) = BitVec.ofNat 32 (a + b) :=
  (BitVec.ofNat_add a b).symm

/-- The product of two words of numbers. -/
theorem muli_nat (a b : ℕ) : IntOp.muli (BitVec.ofNat 32 a) (BitVec.ofNat 32 b) = BitVec.ofNat 32 (a * b) :=
  (BitVec.ofNat_mul a b).symm

/-- The difference of two words of numbers, the second no larger. -/
theorem subi_nat (a b : ℕ) (h : b ≤ a) : IntOp.subi (BitVec.ofNat 32 a) (BitVec.ofNat 32 b) = BitVec.ofNat 32 (a - b) := by
  obtain ⟨d, rfl⟩ := Nat.exists_eq_add_of_le h
  show BitVec.ofNat 32 (b + d) - BitVec.ofNat 32 b = _
  rw [BitVec.ofNat_add, add_sub_cancel_left, Nat.add_sub_cancel_left]

/-- A running sum of words is their sum. -/
theorem fold_sum {ι : Type} (S : Finset ι) (f : ι → BitVec 32) : S.fold IntOp.addi (0#32) f = ∑ i ∈ S, f i := by
  classical
  induction S using Finset.induction_on with
  | empty => rfl
  | insert a S ha ih => rw [Finset.fold_insert ha, Finset.sum_insert ha, ih]; rfl

/-- The sum of conditions counts where they hold. -/
theorem sum_one {ι : Type} [Fintype ι] (p : ι → Bool) : ∑ i, one (p i) = BitVec.ofNat 32 (Finset.univ.filter fun i => p i = true).card := by
  rw [← fold_sum]
  refine (IndicatorCount.fold_addi_setWidth_eq_card (fun i => BitVec.ofBool (p i)) Finset.univ).trans ?_
  simp only [bit_iff]

/-! ## Sums over tiles -/

/-- Row `i` of tile `q`. -/
def row (q : ℕ) (hq : q < 16) (i : Fin 128) : Fin 2048 := ⟨128 * q + i.val, by omega⟩

/-- A tile's terms added, at an entry. -/
theorem fold8_at (acc : IVec S8x2048 32) (c : IVec S128x2048 32) (i : Fin 8) (k : Fin 2048) :
    fold8 acc c (ix2 i k) = acc (ix2 i k) + ∑ j : Fin 16, c (ix2 ⟨j.val * 8 + i.val, by omega⟩ k) := by
  pointwise [fold8]
  simp only [Fin.sum_univ_castSucc, Fin.sum_univ_zero, zero_add, ← add_assoc]
  refine congrArg₂ IntOp.addi ?_ rfl
  repeat (first | exact congrArg (fun t : Fin 128 => IntOp.addi (acc (ix2 i k)) (c (ix2 t k))) (Fin.ext (by show i.val = 0 * 8 + i.val; omega)) | refine congrArg₂ IntOp.addi ?_ rfl)

/-- The sixteen tiles' terms added, at an entry. -/
theorem folded_at (f : ℕ → IVec S128x2048 32) (i : Fin 8) (k : Fin 2048) :
    folded f (ix2 i k) = ∑ q : Fin 16, ∑ j : Fin 16, f q.val (ix2 ⟨j.val * 8 + i.val, by omega⟩ k) := by
  unfold folded
  simp only [fold8_at]
  rw [show broadcast S8x2048 (0#32) (ix2 i k) = 0#32 from rfl, show (0#32 : BitVec 32) = 0 from rfl, zero_add]
  simp only [Fin.sum_univ_castSucc (n := 15), Fin.sum_univ_castSucc (n := 14), Fin.sum_univ_castSucc (n := 13),
    Fin.sum_univ_castSucc (n := 12), Fin.sum_univ_castSucc (n := 11), Fin.sum_univ_castSucc (n := 10),
    Fin.sum_univ_castSucc (n := 9), Fin.sum_univ_castSucc (n := 8), Fin.sum_univ_castSucc (n := 7),
    Fin.sum_univ_castSucc (n := 6), Fin.sum_univ_castSucc (n := 5), Fin.sum_univ_castSucc (n := 4),
    Fin.sum_univ_castSucc (n := 3), Fin.sum_univ_castSucc (n := 2), Fin.sum_univ_castSucc (n := 1),
    Fin.sum_univ_castSucc (n := 0), Fin.sum_univ_zero, zero_add]
  rfl

/-- The eight partial sums added, at a lane. -/
theorem total_at (acc : IVec S8x2048 32) (k : Fin 2048) : total acc (ix2 0 k) = ∑ i : Fin 8, acc (ix2 i k) := by
  rw [← fold_sum]
  pointwise [total]

/-- A tile's rows counted along the lanes. -/
theorem along_at (c : IVec S128x2048 32) (i : Fin 128) : along c (ix2 i 0) = ∑ k : Fin 2048, c (ix2 i k) := by
  rw [← fold_sum]
  pointwise [along]

/-- All terms of a lane added: the sum over the 2048 rows. -/
theorem total_folded (f : ℕ → IVec S128x2048 32) (G : Fin 2048 → BitVec 32) (k : Fin 2048)
    (h : ∀ (q : ℕ) (hq : q < 16) (i : Fin 128), f q (ix2 i k) = G (row q hq i)) : total (folded f) (ix2 0 k) = ∑ t, G t := by
  rw [total_at, Fin.sum_univ_tiles 16 128 rfl G]
  simp only [folded_at]
  rw [Finset.sum_comm]
  refine Finset.sum_congr rfl fun q _ => ?_
  rw [Fin.sum_univ_tiles 16 8 rfl, Finset.sum_comm]
  refine Finset.sum_congr rfl fun j _ => Finset.sum_congr rfl fun i _ => ?_
  rw [h q.val q.isLt]
  exact congrArg G (Fin.ext (by show 128 * q.val + _ = q.val * 128 + _; omega))

/-! ## Ranks -/

/-- The first row of tile `q` is row `128 q`. -/
theorem start_eq (q : ℕ) (hq : q < 16) : start q = BitVec.ofNat 32 (128 * q) := by
  interval_cases q <;> rfl

/-- A tile read out of the column. -/
theorem ld_at (x1 : Vec Ideal S1x2048x1 .f32) (n : ℕ) (hn : n + 128 ≤ 2048)
    (h : ∀ a, (![0, n, 0] : Fin 3 → ℕ) a + S1x128x1.size a ≤ S1x2048x1.size a) (i : Fin 128) :
    View.ld x1 (Rect.unit (s := S1x2048x1) ![0, n, 0] S1x128x1.size h) (ix3 0 i 0) = x1 (ix3 0 ⟨n + i.val, by omega⟩ 0) := by
  refine congrArg x1 (funext fun a => Fin.ext ?_)
  match a with
  | ⟨0, _⟩ => rfl
  | ⟨1, _⟩ => show n + 1 * i.val = n + i.val; omega
  | ⟨2, _⟩ => rfl

/-- A tile's rows are the column's. -/
theorem tile_at (x1 : Vec Ideal S1x2048x1 .f32) (q : ℕ) (hq : q < 16) (i : Fin 128) :
    tile x1 q (ix3 0 i 0) = x1 (ix3 0 (row q hq i) 0) := by
  interval_cases q <;> exact ld_at x1 _ (by omega) _ i

/-- The row of keys read whole. -/
theorem keys_at (x0 : Vec Ideal S1x1x2048 .f32) (k : Fin 2048) : View.ld x0 r0_0 (ix3 0 0 k) = x0 (ix3 0 0 k) := by
  refine congrArg x0 (funext fun a => Fin.ext ?_)
  match a with
  | ⟨0, _⟩ => rfl
  | ⟨1, _⟩ => rfl
  | ⟨2, _⟩ => show 0 + 1 * k.val = k.val; omega

/-- A row's own number. -/
theorem places_at (q : ℕ) (hq : q < 16) (i : Fin 128) : places (start q) (ix2 i 0) = BitVec.ofNat 32 (row q hq i).val := by
  rw [start_eq q hq]
  pointwise [places]
  rw [addi_nat]
  exact congrArg _ (add_comm _ _)

/-- A lane's own number. -/
theorem lanes_at (k : Fin 2048) : lanes (ix2 0 k) = BitVec.ofNat 32 k.val := by
  pointwise [lanes]

section
variable (c : Fin 2048 → EReal) (x : Vec Ideal S1x1x2048 .f32) (r : ℕ → Vec Ideal S1x128x1 .f32)
  (hx : ∀ k : Fin 2048, x (ix3 0 0 k) = c k) (hr : ∀ (q : ℕ) (hq : q < 16) (i : Fin 128), r q (ix3 0 i 0) = c (row q hq i))
include hx hr

/-- Where a row goes before a lane. -/
theorem rowFirst_at (q : ℕ) (hq : q < 16) (i : Fin 128) (k : Fin 2048) :
    rowFirst (F := Ideal) x (r q) (start q) (ix2 i k) = one (keyFirst c (row q hq i) k) := by
  have hk := k.isLt
  have hi := (row q hq i).isLt
  pointwise [rowFirst, rowKeys, laneKeys]
  rw [places_at q hq, lanes_at, cmpi_slt_ofNat (by omega) (by omega), hx, hr q hq, andi_bits, ori_bits]
  rfl

/-- Where a lane goes before a row. -/
theorem laneFirst_at (q : ℕ) (hq : q < 16) (i : Fin 128) (k : Fin 2048) :
    laneFirst (F := Ideal) x (r q) (start q) (ix2 i k) = one (keyFirst c k (row q hq i)) := by
  have hk := k.isLt
  have hi := (row q hq i).isLt
  pointwise [laneFirst, rowKeys, laneKeys]
  rw [places_at q hq, lanes_at, cmpi_slt_ofNat (by omega) (by omega), hx, hr q hq, andi_bits, ori_bits]
  rfl

/-- A row's rank. -/
theorem rowRank_at (q : ℕ) (hq : q < 16) (i : Fin 128) :
    rowRank (F := Ideal) x (r q) (start q) (ix2 i 0) = BitVec.ofNat 32 (rank (keyFirst c) (row q hq i)) := by
  rw [rowRank, along_at]
  simp only [laneFirst_at c x r hx hr q hq]
  exact sum_one fun k => keyFirst c k (row q hq i)

/-- Whether a row is selected. -/
theorem rowSel_at (q : ℕ) (hq : q < 16) (i : Fin 128) :
    rowSel (F := Ideal) x (r q) (start q) (ix2 i 0) = BitVec.ofBool (sel c (row q hq i)) := by
  have h := rank_lt (keyFirst_total c) (row q hq i)
  pointwise [rowSel]
  rw [rowRank_at c x r hx hr q hq]
  exact cmpi_slt_ofNat (by omega) (by omega)

/-- Whether a lane is selected. -/
theorem laneSel_at (k : Fin 2048) :
    laneSel (total (folded fun q => rowFirst (F := Ideal) x (r q) (start q))) (ix2 0 k) = BitVec.ofBool (sel c k) := by
  have h := rank_lt (keyFirst_total c) k
  pointwise [laneSel]
  rw [total_folded _ (fun t => one (keyFirst c t k)) k fun q hq i => rowFirst_at c x r hx hr q hq i k, sum_one]
  exact cmpi_slt_ofNat (show rank (keyFirst c) k < _ by omega) (by omega)

omit hx hr in
/-- A row's place among the rows that are not selected. -/
theorem keptRank_at (s : IVec S1x2048 1) (S : Fin 2048 → Bool) (hs : ∀ k : Fin 2048, s (ix2 0 k) = BitVec.ofBool (S k))
    (q : ℕ) (hq : q < 16) (i : Fin 128) :
    keptRank s (start q) (ix2 i 0) = BitVec.ofNat 32 ((row q hq i).val - within S (row q hq i)) := by
  have hi := (row q hq i).isLt
  have e : ∀ k : Fin 2048, (extui 32 (andi (across (shapeCast S1x2048 s shapeCasts_S1x2048_S1x2048))
      (cmpi .slt (across lanes) (down (places (start q))))) natLt_1_32 : IVec S128x2048 32) (ix2 i k)
      = one (S k && decide (k < row q hq i)) := fun k => by
    have hk := k.isLt
    pointwise []
    rw [places_at q hq, lanes_at, cmpi_slt_ofNat (by omega) (by omega), hs, andi_bits]
    rfl
  show IntOp.subi (places (start q) (ix2 i 0)) (along _ (ix2 i 0)) = _
  rw [places_at q hq, along_at]
  simp only [e]
  rw [sum_one]
  exact subi_nat _ _ (within_le S _)

/-- A term of the table of kept rows. -/
theorem ordTerm_at (s : IVec S1x2048 1) (hs : ∀ k : Fin 2048, s (ix2 0 k) = BitVec.ofBool (sel c k))
    (q : ℕ) (hq : q < 16) (i : Fin 128) (k : Fin 2048) :
    ordTerm (F := Ideal) x s (r q) (start q) (ix2 i k)
      = one (!sel c (row q hq i) && decide ((row q hq i).val - within (sel c) (row q hq i) = k.val)) * BitVec.ofNat 32 (row q hq i).val := by
  have hk := k.isLt
  have hi := (row q hq i).isLt
  pointwise [ordTerm]
  rw [keptRank_at s (sel c) hs q hq, rowSel_at c x r hx hr q hq, places_at q hq, lanes_at, cmpi_eq_ofNat (by omega) (by omega), xori_bits, andi_bits]
  rfl

/-- A term of the table of selected rows. -/
theorem abTerm_at (q : ℕ) (hq : q < 16) (i : Fin 128) (k : Fin 2048) :
    abTerm (F := Ideal) x (r q) (start q) (ix2 i k)
      = (one (sel c (row q hq i) && decide (rank (keyFirst c) (row q hq i) = 2 * k.val) && decide (k.val < 1024))
        + one (sel c (row q hq i) && decide (rank (keyFirst c) (row q hq i) = 2 * (k.val - 1024) + 1) && decide (1024 ≤ k.val)))
        * BitVec.ofNat 32 (row q hq i).val := by
  have hk := k.isLt
  have hi := (row q hq i).isLt
  have h := rank_lt (keyFirst_total c) (row q hq i)
  pointwise [abTerm, firstTerm, secondTerm]
  rw [rowRank_at c x r hx hr q hq, rowSel_at c x r hx hr q hq, places_at q hq, lanes_at]
  have e1 : IntOp.cmpi .slt (BitVec.ofNat 32 k.val) 1024#32 = BitVec.ofBool (decide (k.val < 1024)) := cmpi_slt_ofNat (by omega) (by omega)
  have e2 : IntOp.cmpi .sge (BitVec.ofNat 32 k.val) 1024#32 = BitVec.ofBool (decide (1024 ≤ k.val)) := cmpi_sge_ofNat (by omega) (by omega)
  have e3 : IntOp.muli (2#32) (BitVec.ofNat 32 k.val) = BitVec.ofNat 32 (2 * k.val) := muli_nat 2 k.val
  rw [e1, e2, e3, cmpi_eq_ofNat (by omega) (by omega), andi_bits, andi_bits]
  refine congrArg (fun z => IntOp.muli (IntOp.addi _ z) _) ?_
  by_cases hk' : 1024 ≤ k.val
  · have e4 : IntOp.subi (BitVec.ofNat 32 k.val) 1024#32 = BitVec.ofNat 32 (k.val - 1024) := subi_nat _ _ hk'
    have e5 : IntOp.muli (2#32) (BitVec.ofNat 32 (k.val - 1024)) = BitVec.ofNat 32 (2 * (k.val - 1024)) := muli_nat 2 _
    have e6 : IntOp.addi (BitVec.ofNat 32 (2 * (k.val - 1024))) 1#32 = BitVec.ofNat 32 (2 * (k.val - 1024) + 1) := addi_nat _ 1
    rw [e4, e5, e6, cmpi_eq_ofNat (by omega) (by omega), andi_bits, andi_bits]
    rfl
  · have e4 : ∀ z : BitVec 1, IntOp.andi z (BitVec.ofBool false) = BitVec.ofBool false := by decide
    rw [decide_eq_false hk', e4, Bool.and_false]
    rfl

end

end Cert.SelectIdeal.Select
-- ==== Proof.SelectTable.lean ====
/- What a grid step of the selection writes: the two tables of its sample. -/
module

public import proofs.«01_k».proof.Proof.SelectCount

@[expose] public section

set_option maxRecDepth 16384

noncomputable section

namespace Cert.SelectIdeal.Select

open Cert.SelectIdeal Cert.SelectIdeal.Gen Cert.Select.Order Idealize.ShloMosaic Idealize.ShloMosaic.TcCoe Idealize.SL.Sem

/-- A number where a condition holds, and zero elsewhere. -/
theorem one_mul_nat (b : Bool) (w : BitVec 32) : one b * w = if b then w else 0#32 := by
  cases b
  · exact BitVec.zero_mul
  · exact one_mul w

/-- The sum of numbers under a condition that holds of at most one: that number where there is one. -/
theorem sum_single (p : Fin 2048 → Bool) (b : Prop) [Decidable b] (t₀ : Fin 2048) (h : ∀ t, p t = true ↔ (b ∧ t = t₀)) :
    ∑ t : Fin 2048, one (p t) * BitVec.ofNat 32 t.val = if b then BitVec.ofNat 32 t₀.val else 0#32 := by
  simp only [one_mul_nat]
  by_cases hb : b
  · rw [if_pos hb]
    refine (Finset.sum_eq_single t₀ (fun t _ ht => ?_) fun h => absurd (Finset.mem_univ _) h).trans ?_
    · exact if_neg fun e => ht ((h t).mp e).2
    · exact if_pos ((h t₀).mpr ⟨hb, rfl⟩)
  · rw [if_neg hb]
    exact Finset.sum_eq_zero fun t _ => if_neg fun e => hb ((h t).mp e).1

/-- The even and the odd conditions together: the row's rank is the entry's place. -/
theorem both (s : Bool) (n : ℕ) (k : Fin 2048) :
    one (s && decide (n = 2 * k.val) && decide (k.val < 1024)) + one (s && decide (n = 2 * (k.val - 1024) + 1) && decide (1024 ≤ k.val))
      = one (s && decide (n = (place k).val)) := by
  unfold place
  by_cases hk : k.val < 1024
  · rw [dif_pos hk, decide_eq_true hk, decide_eq_false (not_le.mpr hk), Bool.and_true, Bool.and_false]
    exact add_zero _
  · rw [dif_neg hk, decide_eq_false hk, decide_eq_true (not_lt.mp hk), Bool.and_true, Bool.and_false]
    exact zero_add _

section
variable (c : Fin 2048 → EReal) (x0 : Vec Ideal S1x1x2048 .f32) (x1 : Vec Ideal S1x2048x1 .f32)
  (h0 : ∀ k : Fin 2048, x0 (ix3 0 0 k) = c k) (h1 : ∀ t : Fin 2048, x1 (ix3 0 t 0) = c t)
include h0 h1

/-- The tiles hold the keys. -/
theorem tile_keys (q : ℕ) (hq : q < 16) (i : Fin 128) : tile x1 q (ix3 0 i 0) = c (row q hq i) := (tile_at x1 q hq i).trans (h1 _)

/-- Which lanes are selected. -/
theorem selected_at (k : Fin 2048) : selected x0 x1 (ix2 0 k) = BitVec.ofBool (sel c k) :=
  laneSel_at c _ (tile x1) (fun k => (keys_at x0 k).trans (h0 k)) (tile_keys c x0 x1 h0 h1) k

/-- The table of kept rows, -/
theorem ordRow_at (k : Fin 2048) : ordRow x0 x1 (ix2 0 k) = kept c k := by
  refine (total_folded _ (fun t => one (!sel c t && decide (t.val - within (sel c) t = k.val)) * BitVec.ofNat 32 t.val) k fun q hq i =>
    ordTerm_at c _ (tile x1) (fun k => (keys_at x0 k).trans (h0 k)) (tile_keys c x0 x1 h0 h1) _ (selected_at c x0 x1 h0 h1) q hq i k).trans ?_
  refine sum_single _ (k.val < 1844) _ fun t => ?_
  rw [← kept_iff, Bool.and_eq_true, Bool.not_eq_true', decide_eq_true_eq]

/-- and the table of selected rows. -/
theorem abRow_at (k : Fin 2048) : abRow x0 x1 (ix2 0 k) = picked c k := by
  refine (total_folded _ (fun t => one (sel c t && decide (rank (keyFirst c) t = (place k).val)) * BitVec.ofNat 32 t.val) k fun q hq i =>
    (abTerm_at c _ (tile x1) (fun k => (keys_at x0 k).trans (h0 k)) (tile_keys c x0 x1 h0 h1) q hq i k).trans
      (congrArg (· * _) (both _ _ k))).trans ?_
  refine sum_single _ ((place k).val < 204) _ fun t => ?_
  rw [← picked_iff, Bool.and_eq_true, decide_eq_true_eq (p := rank (keyFirst c) t = (place k).val)]

/-- What the step leaves of the first result, -/
theorem out2_at (k : Fin 2048) : out0_2 x0 x1 (ix3 0 0 k) = kept c k := by
  rw [out2, ← ordRow_at c x0 x1 h0 h1 k]
  refine (congrFun (View.canon_unit_zero (by decide) _ _) _).trans ?_
  pointwise []

/-- and of the second. -/
theorem out3_at (k : Fin 2048) : out0_3 x0 x1 (ix3 0 0 k) = picked c k := by
  rw [out3, ← abRow_at c x0 x1 h0 h1 k]
  refine (congrFun (View.canon_unit_zero (by decide) _ _) _).trans ?_
  pointwise []

end

end Cert.SelectIdeal.Select
-- ==== Proof.SelectArray.lean ====
/- What the two result arrays of the selection hold: sample by sample, the two tables of its column means. -/
module

public import proofs.«01_k».proof.Proof.SelectTable

@[expose] public section

set_option maxRecDepth 16384

noncomputable section

namespace Cert.SelectIdeal.Select

open Cert.SelectIdeal Cert.SelectIdeal.Gen Cert.Select.Order Idealize.ShloMosaic Idealize.ShloMosaic.TcCoe Idealize.SL.Sem

variable (m : (ℓ : Loc nD τ sig) → Buf (Elt Ideal) ℓ)

/-- The column means: the sums by the reciprocal of the number of rows. -/
def mean (a : FVec Ideal S4x1x2048 .f32) : FVec Ideal S4x2048 .f32 :=
  mulf (shapeCast S4x2048 a shapeCasts_S4x1x2048_S4x2048) (broadcastInDim S4x2048 ![] bcast_S_S4x2048 (constant S_ .f32 0x3A000000#32))

/-- The kernel gets the means as a row per sample, -/
theorem entry_row (c : Dev nD) : V m c main_v3
    = broadcastInDim S4x1x2048 ![0, 2] bcast_S4x2048_S4x1x2048_0_2 (mean (m ((c : Thread nD τ).loc main_arg0))) := by
  simp only [V, hostOps0, List.flatten_cons, List.flatten_nil, List.append_nil, List.cons_append, List.nil_append]
  after_results_simp <;> (unfold mean; rfl)

/-- and as a column per sample. -/
theorem entry_col (c : Dev nD) : V m c main_v4
    = broadcastInDim S4x2048x1 ![0, 1] bcast_S4x2048_S4x2048x1_0_1 (mean (m ((c : Thread nD τ).loc main_arg0))) := by
  simp only [V, hostOps0, List.flatten_cons, List.flatten_nil, List.append_nil, List.cons_append, List.nil_append]
  after_results_simp <;> (unfold mean; rfl)

/-- The keys of a sample: its column means. -/
def key (a : FVec Ideal S4x1x2048 .f32) (b : Fin 4) (k : Fin 2048) : EReal := mean a (ix2 b k)

/-- Each grid step's blocks are its sample's. -/
theorem idx : ∀ t : Fin cfg0.N, win0_0.index t = ![t.val, 0, 0] ∧ win0_1.index t = ![t.val, 0, 0]
    ∧ win0_2.index t = ![t.val, 0, 0] ∧ win0_3.index t = ![t.val, 0, 0] :=
  (by decide +kernel : ∀ t : Fin grid0.N, _)

/-- The sample of a grid step. -/
def sample (t : Fin cfg0.N) : Fin 4 := ⟨t.val, lt_of_lt_of_eq t.isLt N_0⟩

/-- A grid step's row of keys, -/
theorem blk_row (c : Dev nD) (t : Fin cfg0.N) (k : Fin 2048) :
    iblk m c 0 t (ix3 0 0 k) = key (m ((c : Thread nD τ).loc main_arg0)) (sample t) k := by
  have h : iblk m c 0 t (ix3 0 0 k) = V m c main_v3 (ix3 (sample t) 0 k) := by
    unfold sample
    blk_ext [iblk, idx t]
  rw [h, entry_row]
  pointwise [key]

/-- and its column of keys. -/
theorem blk_col (c : Dev nD) (t : Fin cfg0.N) (k : Fin 2048) :
    iblk m c 1 t (ix3 0 k 0) = key (m ((c : Thread nD τ).loc main_arg0)) (sample t) k := by
  have h : iblk m c 1 t (ix3 0 k 0) = V m c main_v4 (ix3 (sample t) k 0) := by
    unfold sample
    blk_ext [iblk, idx t]
  rw [h, entry_col]
  pointwise [key]

/-- The first result: of each sample the positions not selected. -/
def ordArr (a : FVec Ideal S4x1x2048 .f32) : IVec S4x1x2048 32 := fun i => kept (key a (i 0)) (i 2)

/-- The second: of each sample the selected positions by turns. -/
def abArr (a : FVec Ideal S4x1x2048 .f32) : IVec S4x1x2048 32 := fun i => picked (key a (i 0)) (i 2)

/-- Where an element of a grid step's block of the first result lies in its array, -/
theorem emb2 (t : Fin cfg0.N) (y : S1x1x2048.Idx) : ((cfg0.win 2).blk t).view.emb y = (ix3 (sample t) 0 (y 2) : S4x1x2048.Idx) := by
  have h0 : (y 0).val < 1 := (y 0).isLt
  have h1 : (y 1).val < 1 := (y 1).isLt
  refine funext fun a => Fin.ext ?_
  match a with
  | ⟨0, _⟩ => show win0_2.index t 0 * 1 + 1 * (y 0).val = t.val; rw [(idx t).2.2.1]; show t.val * 1 + 1 * (y 0).val = t.val; omega
  | ⟨1, _⟩ => show win0_2.index t 1 * 1 + 1 * (y 1).val = 0; rw [(idx t).2.2.1]; show 0 * 1 + 1 * (y 1).val = 0; omega
  | ⟨2, _⟩ => show win0_2.index t 2 * 2048 + 1 * (y 2).val = (y 2).val; rw [(idx t).2.2.1]; show 0 * 2048 + 1 * (y 2).val = (y 2).val; omega

/-- and of its block of the second. -/
theorem emb3 (t : Fin cfg0.N) (y : S1x1x2048.Idx) : ((cfg0.win 3).blk t).view.emb y = (ix3 (sample t) 0 (y 2) : S4x1x2048.Idx) := by
  have h0 : (y 0).val < 1 := (y 0).isLt
  have h1 : (y 1).val < 1 := (y 1).isLt
  refine funext fun a => Fin.ext ?_
  match a with
  | ⟨0, _⟩ => show win0_3.index t 0 * 1 + 1 * (y 0).val = t.val; rw [(idx t).2.2.2]; show t.val * 1 + 1 * (y 0).val = t.val; omega
  | ⟨1, _⟩ => show win0_3.index t 1 * 1 + 1 * (y 1).val = 0; rw [(idx t).2.2.2]; show 0 * 1 + 1 * (y 1).val = 0; omega
  | ⟨2, _⟩ => show win0_3.index t 2 * 2048 + 1 * (y 2).val = (y 2).val; rw [(idx t).2.2.2]; show 0 * 2048 + 1 * (y 2).val = (y 2).val; omega

/-- A block of one row is read along that row. -/
theorem one_row (y : S1x1x2048.Idx) : y = ix3 0 0 (y 2) := by
  refine (eq_ix3 y).trans ?_
  congr 1 <;> exact Subsingleton.elim (α := Fin 1) _ _

/-- What a grid step writes back to the first result is its block of it, -/
theorem flushed2 (c : Dev nD) (t : Fin cfg0.N) :
    (dats m 0 c).flushed 2 t = ((cfg0.win 2).blk t).view.read (Elt Ideal) (ordArr (m ((c : Thread nD τ).loc main_arg0))) := by
  rw [Value.flushed2]
  refine funext fun (y : S1x1x2048.Idx) => ?_
  refine Eq.trans ?_ (congrArg (ordArr (m ((c : Thread nD τ).loc main_arg0))) (emb2 t y).symm)
  show out0_2 (iblk m c 0 t) (iblk m c 1 t) y = _
  rw [one_row y]
  exact out2_at (key (m ((c : Thread nD τ).loc main_arg0)) (sample t)) _ _ (blk_row m c t) (blk_col m c t) (y 2)

/-- and to the second its block of that. -/
theorem flushed3 (c : Dev nD) (t : Fin cfg0.N) :
    (dats m 0 c).flushed 3 t = ((cfg0.win 3).blk t).view.read (Elt Ideal) (abArr (m ((c : Thread nD τ).loc main_arg0))) := by
  rw [Value.flushed3]
  refine funext fun (y : S1x1x2048.Idx) => ?_
  refine Eq.trans ?_ (congrArg (abArr (m ((c : Thread nD τ).loc main_arg0))) (emb3 t y).symm)
  show out0_3 (iblk m c 0 t) (iblk m c 1 t) y = _
  rw [one_row y]
  exact out3_at (key (m ((c : Thread nD τ).loc main_arg0)) (sample t)) _ _ (blk_row m c t) (blk_col m c t) (y 2)

/-- Every grid step writes its block of the first result back, -/
theorem flush2 : ∀ t : Fin cfg0.N, (cfg0.win 2).flush t = true := flush0_2

/-- and of the second. -/
theorem flush3 : ∀ t : Fin cfg0.N, (cfg0.win 3).flush t = true := flush0_3

/-- An element of the first result is in its sample's block, -/
theorem mem2 (t : Fin cfg0.N) (i : S4x1x2048.Idx) (hi : (ix3 (sample t) 0 (i 2) : S4x1x2048.Idx) = i) : i ∈ ((cfg0.win 2).blk t).view.set :=
  Eq.subst (motive := fun z : S4x1x2048.Idx => z ∈ ((cfg0.win 2).blk t).view.set) ((emb2 t (ix3 0 0 (i 2))).trans hi)
    (((cfg0.win 2).blk t).view.emb_mem_set _)

/-- and of the second likewise. -/
theorem mem3 (t : Fin cfg0.N) (i : S4x1x2048.Idx) (hi : (ix3 (sample t) 0 (i 2) : S4x1x2048.Idx) = i) : i ∈ ((cfg0.win 3).blk t).view.set :=
  Eq.subst (motive := fun z : S4x1x2048.Idx => z ∈ ((cfg0.win 3).blk t).view.set) ((emb3 t (ix3 0 0 (i 2))).trans hi)
    (((cfg0.win 3).blk t).view.emb_mem_set _)

/-- An element of a result is named by its sample and its place. -/
theorem named (i : S4x1x2048.Idx) : (ix3 (i 0) 0 (i 2) : S4x1x2048.Idx) = i :=
  ((eq_ix3 i).trans (congrArg (fun z : Fin 1 => (ix3 (i 0) z (i 2) : S4x1x2048.Idx)) (Subsingleton.elim (α := Fin 1) _ 0))).symm

/-- The first array after the run, -/
theorem array2 (c : Dev nD) : (dats m 0 c).arrAt 2 cfg0.N = ordArr (m ((c : Thread nD τ).loc main_arg0)) :=
  (dats m 0 c).arrAt_eq_of_cover 2 _ (fun t _ => flushed2 m c t) fun (i : S4x1x2048.Idx) =>
    have h0 : (i 0).val < 4 := (i 0).isLt
    ⟨⟨(i 0).val, lt_of_lt_of_eq h0 N_0.symm⟩, flush2 _, mem2 _ i (named i)⟩

/-- and the second. -/
theorem array3 (c : Dev nD) : (dats m 0 c).arrAt 3 cfg0.N = abArr (m ((c : Thread nD τ).loc main_arg0)) :=
  (dats m 0 c).arrAt_eq_of_cover 3 _ (fun t _ => flushed3 m c t) fun (i : S4x1x2048.Idx) =>
    have h0 : (i 0).val < 4 := (i 0).isLt
    ⟨⟨(i 0).val, lt_of_lt_of_eq h0 N_0.symm⟩, flush3 _, mem3 _ i (named i)⟩

end Cert.SelectIdeal.Select
-- ==== Proof.SelectRefRead.lean ====
/- The reference of the selection, step by step: the sort of the column means, the mask of the rows kept, the sort of the
   mask, and the two tables. -/
module

public import proofs.«01_k».proof.Proof.Gen.SelectReferenceIdeal.Run
public import proofs.«01_k».proof.Proof.SelectOrder
public import Idealize.ShloMosaic.Lib.Pointwise
public import Idealize.ShloMosaic.Lib.KernelVsHost
public import Idealize.ShloMosaic.Lib.Routing.OpsOrder

@[expose] public section

set_option maxRecDepth 16384

noncomputable section

namespace Cert.SelectReferenceIdeal.Select

open Cert.SelectReferenceIdeal Cert.SelectReferenceIdeal.Gen Cert.Select.Order
open Idealize.ShloMosaic Idealize.ShloMosaic.TcCoe Idealize.ShloMosaic.WordCmp Idealize.SL.Sem

/-- The column means. -/
def mean (a : FVec Ideal S4x1x2048 .f32) : FVec Ideal S4x2048 .f32 :=
  Host.divf (shapeCast S4x2048 a shapeCasts_S4x1x2048_S4x2048) (broadcastInDim S4x2048 ![] bcast_S_S4x2048 (constant S_ .f32 0x45000000#32))

/-- The positions in the order of their means, the largest first. -/
def order (a : FVec Ideal S4x1x2048 .f32) : IVec S4x2048 32 :=
  (Host.sort2 S4x2048 1 comparator_f32_i32_d1 (Host.negf (mean a)) (iotaInDim S4x2048 32 1)).2

/-- The first 204 of them. -/
def first (a : FVec Ideal S4x1x2048 .f32) : IVec S4x204 32 :=
  extractStridedSlice S4x204 ![0, 0] (order a) slices_S4x2048_S4x204_0_0

/-- The pairs of a sample and one of its positions. -/
def pairs (w : IVec S4x204 32) : IVec S4x204x2 32 :=
  concatenate S4x204x2 2 [⟨S4x204x1, (broadcastInDim S4x204x1 ![0, 1] bcast_S4x204_S4x204x1_0_1 (broadcastInDim S4x204 ![0, 1] bcast_S4x1_S4x204_0_1 (select (cmpi .slt (broadcastInDim S4x1 ![0] bcast_S4_S4x1_0 (iotaInDim S4 32 0)) (broadcastInDim S4x1 ![] bcast_S_S4x1 (constantI S_ 32 0#32))) (addi (broadcastInDim S4x1 ![0] bcast_S4_S4x1_0 (iotaInDim S4 32 0)) (broadcastInDim S4x1 ![] bcast_S_S4x1 (constantI S_ 32 4#32))) (broadcastInDim S4x1 ![0] bcast_S4_S4x1_0 (iotaInDim S4 32 0)))))⟩,
    ⟨S4x204x1, (broadcastInDim S4x204x1 ![0, 1] bcast_S4x204_S4x204x1_0_1 (select (cmpi .slt w (broadcastInDim S4x204 ![] bcast_S_S4x204 (constantI S_ 32 0#32))) (addi w (broadcastInDim S4x204 ![] bcast_S_S4x204 (constantI S_ 32 2048#32))) w))⟩] concatenates_S4x204x1_S4x204x1_S4x204x2_d2

/-- One everywhere but at the pairs, where it is zero. -/
def mask (p : IVec S4x204x2 32) : IVec S4x2048 1 :=
  Host.scatter scatter_S4x2048_S4x204x2_S4x204_n_01_01_2 (fun _ b => b) (broadcastInDim S4x2048 ![] bcast_S_S4x2048 (constantI S_ 1 1#1)) p
    (broadcastInDim S4x204 ![] bcast_S_S4x204 (constantI S_ 1 0#1))

/-- The positions by their mask, those where it is one first. -/
def maskOrder (k : IVec S4x2048 1) : IVec S4x2048 32 :=
  (Host.sort2 S4x2048 1 comparator_i32_i32_d1 (id (select k (broadcastInDim S4x2048 ![] bcast_S_S4x2048 (constantI S_ 32 0#32)) (broadcastInDim S4x2048 ![] bcast_S_S4x2048 (constantI S_ 32 1#32)))) (iotaInDim S4x2048 32 1)).2

/-- The first table, -/
def ordRef (a : FVec Ideal S4x1x2048 .f32) : IVec S4x1x2048 32 :=
  broadcastInDim S4x1x2048 ![0, 2] bcast_S4x2048_S4x1x2048_0_2 (pad S4x2048 ![0, 0] ![0, 204] ![0, 0]
    (extractStridedSlice S4x1844 ![0, 0] (maskOrder (mask (pairs (first a)))) slices_S4x2048_S4x1844_0_0) (id (constantI S_ 32 0#32)) pads_S4x1844_S4x2048_000_02040 h_S_)

/-- and the second. -/
def abRef (a : FVec Ideal S4x1x2048 .f32) : IVec S4x1x2048 32 :=
  broadcastInDim S4x1x2048 ![0, 2] bcast_S4x2048_S4x1x2048_0_2 (concatenate S4x2048 1
    [⟨S4x1024, (pad S4x1024 ![0, 0] ![0, 922] ![0, 0] (Host.slice S4x102 ![0, 0] ![1, 2] (first a) slicesBy_S4x204_S4x102_0s1_0s2) (id (constantI S_ 32 0#32)) pads_S4x102_S4x1024_000_09220 h_S_)⟩,
     ⟨S4x1024, (pad S4x1024 ![0, 0] ![0, 922] ![0, 0] (Host.slice S4x102 ![0, 1] ![1, 2] (first a) slicesBy_S4x204_S4x102_0s1_1s2) (id (constantI S_ 32 0#32)) pads_S4x102_S4x1024_000_09220 h_S_)⟩] concatenates_S4x1024_S4x1024_S4x2048_d1)

/-- The reference runs, and leaves the two tables. -/
theorem run_tables (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = ordRef (m ((c.tc : Thread nD τ).loc main_arg0))
      ∧ r.2.mem ((c.tc : Thread nD τ).loc main_v36) = abRef (m ((c.tc : Thread nD τ).loc main_arg0))
      ∧ r.2.mem ((c.tc : Thread nD τ).loc main_arg0) = m ((c.tc : Thread nD τ).loc main_arg0) :=
  (θ_run defs _ _).mono (fun r h c => h c) (Cert.SelectReferenceIdeal.Value.run (F := Ideal) m ρ)

/-- A position among a sample's. -/
theorem along_at (b : Fin 4) (k p : Fin 2048) : Shape.Idx.along (s := S4x2048) (ix2 b k) (1 : Fin 2) p = ix2 b p := by
  refine funext fun a => ?_
  match a with
  | ⟨0, _⟩ => rfl
  | ⟨1, _⟩ => rfl

/-- A sort of two arrays along an axis, its second array. -/
theorem sort_second {s : Shape} {α β : Type} (a : Fin s.rank) (cmp : α × β → α × β → BitVec 1) (x : s.Idx → α) (y : s.Idx → β) (j : s.Idx) :
    (Host.sort2 s a.val cmp x y).2 j
      = y (j.along a (sortedFrom (fun k k' => cmp (x (j.along a k), y (j.along a k)) (x (j.along a k'), y (j.along a k')) == 1#1) (j a))) := by
  unfold Host.sort2
  rw [dif_pos a.isLt]

/-- The positions along a sample's row are themselves. -/
theorem position (b : Fin 4) (p : Fin 2048) : iotaInDim S4x2048 32 1 (ix2 b p) = BitVec.ofNat 32 p.val := rfl

/-- A sort of positions, read at one. -/
theorem sort_at {α : Type} (cmp : α × BitVec 32 → α × BitVec 32 → BitVec 1) (x : S4x2048.Idx → α) (b : Fin 4) (k : Fin 2048) :
    (Host.sort2 S4x2048 1 cmp x (iotaInDim S4x2048 32 1)).2 (ix2 b k)
      = BitVec.ofNat 32 (sortedFrom (fun p q => cmp (x (ix2 b p), BitVec.ofNat 32 p.val) (x (ix2 b q), BitVec.ofNat 32 q.val) == 1#1) k).val := by
  have e : (fun p q : Fin 2048 => cmp (x (Shape.Idx.along (s := S4x2048) (ix2 b k) (1 : Fin 2) p), iotaInDim S4x2048 32 1 (Shape.Idx.along (s := S4x2048) (ix2 b k) (1 : Fin 2) p))
        (x (Shape.Idx.along (s := S4x2048) (ix2 b k) (1 : Fin 2) q), iotaInDim S4x2048 32 1 (Shape.Idx.along (s := S4x2048) (ix2 b k) (1 : Fin 2) q)) == 1#1)
      = fun p q => cmp (x (ix2 b p), BitVec.ofNat 32 p.val) (x (ix2 b q), BitVec.ofNat 32 q.val) == 1#1 := by
    funext p q
    rw [along_at b k p, along_at b k q, position, position]
  refine (sort_second (s := S4x2048) (1 : Fin 2) cmp x _ (ix2 b k)).trans ?_
  refine (congrArg (iotaInDim S4x2048 32 1) (along_at b k _)).trans ((position b _).trans ?_)
  exact congrArg (fun f : Fin 2048 → Fin 2048 → Bool => BitVec.ofNat 32 (sortedFrom f k).val) e

/-- One mean goes before another where it is larger. -/
theorem before_at (x y : EReal) (i j : BitVec 32) :
    comparator_f32_i32_d1 (F := Ideal) (-x, i) (-y, j) = BitVec.ofBool (decide (y < x)) := by
  have h0 : Ideal.ofBits .f32 0#32 = 0 := Ideal.ofBits_zero_f32
  have e : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32)) (FloatOps.ofBits (F := Ideal) .f32 0x00000000#32) z) = z := fun z => by
    rw [Ideal.cmpf_def, Ideal.cmpf_def]
    have hz : FloatOps.ofBits (F := Ideal) .f32 0x00000000#32 = (0 : EReal) := h0
    rw [hz]
    by_cases h : z = 0
    · subst h; simp [Ideal.cmp, Scalar.select]
    · simp [Ideal.cmp, Scalar.select, h]
  unfold comparator_f32_i32_d1
  refine (congrArg₂ (fun p q : EReal => FloatOps.cmpfTotal (F := Ideal) (φ := .f32) .lt p q) (e (-x)) (e (-y))).trans ?_
  rw [Ideal.cmpfTotal_def]
  show BitVec.ofBool (decide (-x < -y)) = _
  congr 2
  exact propext EReal.neg_lt_neg_iff

/-- The keys of a sample: its column means. -/
def key (a : FVec Ideal S4x1x2048 .f32) (b : Fin 4) (k : Fin 2048) : EReal := mean a (ix2 b k)

/-- The positions in the order of their means, read at a place. -/
theorem order_at (a : FVec Ideal S4x1x2048 .f32) (b : Fin 4) (k : Fin 2048) :
    order a (ix2 b k) = BitVec.ofNat 32 (sortedFrom (keyFirst (key a b)) k).val := by
  rw [← sortedFrom_key]
  refine (sort_at _ _ b k).trans ?_
  have e : (fun p q : Fin 2048 => comparator_f32_i32_d1 (F := Ideal) (Host.negf (mean a) (ix2 b p), BitVec.ofNat 32 p.val) (Host.negf (mean a) (ix2 b q), BitVec.ofNat 32 q.val) == 1#1)
      = fun p q => decide (key a b q < key a b p) := by
    funext p q
    refine (congrArg (· == 1#1) (before_at (key a b p) (key a b q) _ _)).trans ?_
    cases decide (key a b q < key a b p) <;> rfl
  rw [e]

/-- The first 204, read at a place. -/
theorem first_at (a : FVec Ideal S4x1x2048 .f32) (b : Fin 4) (i : Fin 204) :
    first a (ix2 b i) = BitVec.ofNat 32 (sortedFrom (keyFirst (key a b)) ⟨i.val, by omega⟩).val := by
  rw [← order_at]
  pointwise [first]

end Cert.SelectReferenceIdeal.Select
-- ==== Proof.SelectScatter.lean ====
/- A mask of ones with zeros written at an index, element by element. -/
module

public import proofs.«01_k».proof.Proof.Gen.SelectReferenceIdeal
public import Idealize.ShloMosaic.Lib.Pointwise
public import Idealize.ShloMosaic.Lib.Routing.OpsOrder

@[expose] public section

set_option maxRecDepth 16384

noncomputable section

namespace Cert.SelectReferenceIdeal.Select

open Cert.SelectReferenceIdeal Cert.SelectReferenceIdeal.Gen
open Idealize.ShloMosaic Idealize.ShloMosaic.TcCoe

/-- The dimension numbers of the writing at an index. -/
abbrev setDims := scatter_S4x2048_S4x204x2_S4x204_n_01_01_2

variable (idx : IVec S4x204x2 32)

/-- The start on the sample's axis is the index's first component, -/
theorem start0 (y : S4x204.Idx) : setDims.start y idx 0 = (idx (ix3 (y 0) (y 1) 0)).toInt := by
  unfold ScatterDims.start
  rw [dif_pos (by decide)]
  congr 2
  funext b; refine Fin.ext ?_
  match b with
  | ⟨0, _⟩ => rfl
  | ⟨1, _⟩ => rfl
  | ⟨2, _⟩ => rfl

/-- and on the positions' axis its second. -/
theorem start1 (y : S4x204.Idx) : setDims.start y idx 1 = (idx (ix3 (y 0) (y 1) 1)).toInt := by
  unfold ScatterDims.start
  rw [dif_pos (by decide)]
  congr 2
  funext b; refine Fin.ext ?_
  match b with
  | ⟨0, _⟩ => rfl
  | ⟨1, _⟩ => rfl
  | ⟨2, _⟩ => rfl

/-- An update is one element: no offset along the samples, -/
theorem window0 (y : S4x204.Idx) : setDims.window y 0 = 0 := by
  unfold ScatterDims.window
  rw [dif_neg (by decide)]

/-- and none along the positions. -/
theorem window1 (y : S4x204.Idx) : setDims.window y 1 = 0 := by
  unfold ScatterDims.window
  rw [dif_neg (by decide)]

/-- With indices in range, an update lands in its own sample, at the position its index names. -/
theorem lands (h0 : ∀ b k, (idx (ix3 b k 0)).toInt = (b.val : ℤ)) (h1 : ∀ b k, (idx (ix3 b k 1)).toNat < 2048) (y : S4x204.Idx) :
    setDims.resultIdx? y idx = some (ix2 (y 0) ⟨(idx (ix3 (y 0) (y 1) 1)).toNat, h1 _ _⟩) := by
  have t1 : (idx (ix3 (y 0) (y 1) 1)).toInt = ((idx (ix3 (y 0) (y 1) 1)).toNat : ℤ) := by
    have := h1 (y 0) (y 1)
    rw [BitVec.toInt_eq_toNat_cond]; split <;> omega
  have e : ∀ a, setDims.start y idx a + setDims.window y a = ((ix2 (y 0) ⟨(idx (ix3 (y 0) (y 1) 1)).toNat, h1 _ _⟩ : S4x2048.Idx) a : ℤ) := fun a => by
    match a with
    | ⟨0, _⟩ => refine (congrArg₂ (fun (p : ℤ) (q : ℕ) => p + q) (start0 idx y) (window0 y)).trans ?_; exact (congrArg (fun p : ℤ => p + ((0 : ℕ) : ℤ)) (h0 (y 0) (y 1))).trans (Int.add_zero _)
    | ⟨1, _⟩ => refine (congrArg₂ (fun (p : ℤ) (q : ℕ) => p + q) (start1 idx y) (window1 y)).trans ?_; rw [t1]; exact Int.add_zero _
  unfold ScatterDims.resultIdx?
  rw [dif_pos fun a => by
    rw [e]
    exact ⟨Int.natCast_nonneg _, Int.ofNat_lt.2 (Fin.isLt _)⟩]
  refine congrArg some (funext fun a => Fin.ext ?_)
  show (setDims.start y idx a + setDims.window y a).toNat = _
  rw [e]
  rfl

/-- Zeros written over a bit where a condition holds: the bit is left only where it never holds. -/
theorem fold_zero {ι : Type} (l : List ι) (P : ι → Prop) [DecidablePred P] (a : BitVec 1) :
    ((∃ n ∈ l, P n) → l.foldl (fun r n => if P n then (fun _ b => b) r 0#1 else r) a = 0#1)
      ∧ ((¬ ∃ n ∈ l, P n) → l.foldl (fun r n => if P n then (fun _ b => b) r 0#1 else r) a = a) := by
  induction l generalizing a with
  | nil => simp
  | cons n l ih =>
    rw [List.foldl_cons]
    by_cases h' : ∃ n ∈ l, P n
    · exact ⟨fun _ => (ih _).1 h', fun h => absurd (h'.imp fun m hm => ⟨List.mem_cons_of_mem _ hm.1, hm.2⟩) h⟩
    · rw [(ih _).2 h']
      by_cases h : P n
      · exact ⟨fun _ => if_pos h, fun hn => absurd ⟨n, List.mem_cons_self, h⟩ hn⟩
      · refine ⟨fun ⟨m, hm, hp⟩ => ?_, fun _ => if_neg h⟩
        rcases List.mem_cons.1 hm with rfl | hm
        · exact absurd hp h
        · exact absurd ⟨m, hm, hp⟩ h'

/-- The mask at an element: zero where an index of the sample names the position, and one elsewhere. -/
theorem set_at (x : IVec S4x2048 1) (u : IVec S4x204 1) (hx : ∀ i, x i = 1#1) (hu : ∀ i, u i = 0#1)
    (h0 : ∀ b k, (idx (ix3 b k 0)).toInt = (b.val : ℤ)) (h1 : ∀ b k, (idx (ix3 b k 1)).toNat < 2048) (b : Fin 4) (t : Fin 2048) :
    Host.scatter setDims (fun _ b => b) x idx u (ix2 b t)
      = if ∃ k : Fin 204, (idx (ix3 b k 1)).toNat = t.val then 0#1 else 1#1 := by
  rw [← Routing.scatterIn_finRange, Routing.scatterIn_at, hx]
  refine (List.foldl_ext _ (fun r n => if setDims.resultIdx? (S4x204.rowMajor.symm n) idx = some (ix2 b t) then (fun _ b => b) r 0#1 else r) _
    fun r n hn => by simp only [hu]).trans ?_
  have f := fold_zero (List.finRange S4x204.numel) (fun n => setDims.resultIdx? (S4x204.rowMajor.symm n) idx = some (ix2 b t)) 1#1
  by_cases h : ∃ k : Fin 204, (idx (ix3 b k 1)).toNat = t.val
  · rw [if_pos h]
    obtain ⟨k, hk⟩ := h
    refine f.1 ⟨S4x204.rowMajor (ix2 b k), List.mem_finRange _, ?_⟩
    rw [Equiv.symm_apply_apply]
    refine (lands idx h0 h1 _).trans (congrArg some ?_)
    funext a
    match a with
    | ⟨0, _⟩ => rfl
    | ⟨1, _⟩ => exact Fin.ext hk
  · rw [if_neg h]
    refine f.2 ?_
    rintro ⟨n, -, hn⟩
    have hy := Option.some.inj ((lands idx h0 h1 _).symm.trans hn)
    have e0 : (S4x204.rowMajor.symm n) 0 = b := congrFun hy 0
    have e1 := congrArg Fin.val (congrFun hy 1)
    exact h ⟨(S4x204.rowMajor.symm n) 1, e0 ▸ e1⟩

end Cert.SelectReferenceIdeal.Select
-- ==== Proof.SelectRefTable.lean ====
/- The two tables of the reference, entry by entry. -/
module

public import proofs.«01_k».proof.Proof.SelectRefRead
public import proofs.«01_k».proof.Proof.SelectScatter

@[expose] public section

set_option maxRecDepth 16384

noncomputable section

namespace Cert.SelectReferenceIdeal.Select

open Cert.SelectReferenceIdeal Cert.SelectReferenceIdeal.Gen Cert.Select.Order
open Idealize.ShloMosaic Idealize.ShloMosaic.TcCoe Idealize.ShloMosaic.WordCmp

/-- A word below 2048 is not negative. -/
theorem small_slt (n : ℕ) (h : n < 2048) : (BitVec.ofNat 32 n).slt 0#32 = false := by
  have e : (BitVec.ofNat 32 n).toNat = n := by rw [BitVec.toNat_ofNat]; exact Nat.mod_eq_of_lt (by omega)
  have e' : (BitVec.ofNat 32 n).toInt = n := by
    rw [BitVec.toInt_eq_toNat_cond, e]; split <;> omega
  rw [BitVec.slt, e']
  simp

/-- A word below 2048 is left by the wrapping of negative positions. -/
theorem unwrapped (n : ℕ) (h : n < 2048) (z : BitVec 32) :
    Scalar.select (IntOp.cmpi .slt (BitVec.ofNat 32 n) 0#32) z (BitVec.ofNat 32 n) = BitVec.ofNat 32 n := by
  have e : IntOp.cmpi .slt (BitVec.ofNat 32 n) 0#32 = 0#1 := by
    show BitVec.ofBool ((BitVec.ofNat 32 n).slt 0#32) = 0#1
    rw [small_slt n h]
    rfl
  rw [e]
  rfl

/-- The first of a pair is the sample, -/
theorem pairs0 (w : IVec S4x204 32) (b : Fin 4) (k : Fin 204) : pairs w (ix3 b k 0) = BitVec.ofNat 32 b.val := by
  refine Eq.trans ?_ (unwrapped b.val (by omega) (IntOp.addi (BitVec.ofNat 32 b.val) 4#32))
  pointwise [pairs]

/-- and the second the position. -/
theorem pairs1 (w : IVec S4x204 32) (b : Fin 4) (k : Fin 204) (n : ℕ) (h : n < 2048) (hw : w (ix2 b k) = BitVec.ofNat 32 n) :
    pairs w (ix3 b k 1) = BitVec.ofNat 32 n := by
  refine Eq.trans ?_ (unwrapped n h (IntOp.addi (BitVec.ofNat 32 n) 2048#32))
  rw [← hw]
  pointwise [pairs]

/-- The mask is zero at the selected positions and one at the others. -/
theorem mask_at (a : FVec Ideal S4x1x2048 .f32) (b : Fin 4) (t : Fin 2048) :
    mask (pairs (first a)) (ix2 b t) = BitVec.ofBool (!sel (key a b) t) := by
  have hp : ∀ b k, pairs (first a) (ix3 b k 1) = BitVec.ofNat 32 (sortedFrom (keyFirst (key a b)) ⟨k.val, by omega⟩).val :=
    fun b k => pairs1 _ b k _ (Fin.isLt _) (first_at a b k)
  have hn : ∀ b k, (pairs (first a) (ix3 b k 1)).toNat = (sortedFrom (keyFirst (key a b)) ⟨k.val, by omega⟩).val := fun b k => by
    rw [hp, BitVec.toNat_ofNat]
    exact Nat.mod_eq_of_lt (by have := (sortedFrom (keyFirst (key a b)) ⟨k.val, by omega⟩).isLt; omega)
  refine (set_at (pairs (first a)) _ _ (fun i => rfl) (fun i => rfl) (fun b k => ?_) (fun b k => ?_) b t).trans ?_
  · rw [pairs0, BitVec.toInt_eq_toNat_cond, BitVec.toNat_ofNat, Nat.mod_eq_of_lt (by omega)]
    split <;> omega
  · rw [hn]
    exact Fin.isLt _
  · have e : (∃ k : Fin 204, (pairs (first a) (ix3 b k 1)).toNat = t.val) ↔ sel (key a b) t = true := by
      rw [decide_eq_true_eq]
      constructor
      · rintro ⟨k, hk⟩
        rw [hn] at hk
        have : rank (keyFirst (key a b)) t = k.val := (rank_eq_iff (keyFirst_total (key a b)) t ⟨k.val, by omega⟩).2 (Fin.ext hk.symm)
        omega
      · intro h
        refine ⟨⟨rank (keyFirst (key a b)) t, h⟩, ?_⟩
        rw [hn]
        exact congrArg Fin.val ((rank_eq_iff (keyFirst_total (key a b)) t ⟨rank (keyFirst (key a b)) t, by omega⟩).1 rfl).symm
    by_cases h : sel (key a b) t = true
    · rw [if_pos (e.2 h), h]
      rfl
    · rw [if_neg fun h' => h (e.1 h'), Bool.eq_false_iff.2 h]
      rfl

/-- The positions with the selected ones last, read at a place. -/
theorem maskOrder_at (k : IVec S4x2048 1) (b : Fin 4) (S : Fin 2048 → Bool) (h : ∀ t, k (ix2 b t) = BitVec.ofBool (!S t)) (i : Fin 2048) :
    maskOrder k (ix2 b i) = BitVec.ofNat 32 (sortedFrom (outFirst S) i).val := by
  rw [← sortedFrom_out]
  refine (sort_at _ _ b i).trans ?_
  have e : ∀ p q : Fin 2048, (comparator_i32_i32_d1 (Scalar.select (k (ix2 b p)) 0#32 1#32, BitVec.ofNat 32 p.val)
      (Scalar.select (k (ix2 b q)) 0#32 1#32, BitVec.ofNat 32 q.val) == 1#1) = (!S p && S q) := fun p q => by
    rw [h, h]
    unfold comparator_i32_i32_d1
    cases S p <;> cases S q <;> rfl
  exact congrArg (fun f : Fin 2048 → Fin 2048 → Bool => BitVec.ofNat 32 (sortedFrom f i).val) (funext fun p => funext fun q => e p q)

/-- The first table, entry by entry. -/
theorem ord_at (a : FVec Ideal S4x1x2048 .f32) (b : Fin 4) (k : Fin 2048) : ordRef a (ix3 b 0 k) = kept (key a b) k := by
  have hb : ordRef a (ix3 b 0 k) = pad S4x2048 ![0, 0] ![0, 204] ![0, 0]
      (extractStridedSlice S4x1844 ![0, 0] (maskOrder (mask (pairs (first a)))) slices_S4x2048_S4x1844_0_0) (id (constantI S_ 32 0#32)) pads_S4x1844_S4x2048_000_02040 h_S_ (ix2 b k) := by
    pointwise [ordRef]
  rw [hb]
  unfold kept
  by_cases h : k.val < 1844
  · rw [if_pos h, ← maskOrder_at (mask (pairs (first a))) b (sel (key a b)) (mask_at a b) k]
    refine (pad_apply_of_inside _ _ _ _ _ _ _ _ (ix2 b (⟨k.val, h⟩ : Fin 1844)) fun x => ?_).trans ?_
    · match x with
      | ⟨0, _⟩ => show b.val = 0 + b.val * (0 + 1); omega
      | ⟨1, _⟩ => show k.val = 0 + k.val * (0 + 1); omega
    · generalize maskOrder (mask (pairs (first a))) = w
      pointwise
  · rw [if_neg h]
    refine (pad_apply_of_not_inside _ _ _ _ _ _ _ _ (1 : Fin 2) fun hx => h ?_).trans rfl
    have : (k.val - 0) / (0 + 1) < 1844 := hx.2.2
    omega

/-- A half of the second table: a column of the selected positions, and zeros after it. -/
theorem half_at (w : IVec S4x102 32) (b : Fin 4) (k : Fin 1024) :
    pad S4x1024 ![0, 0] ![0, 922] ![0, 0] w (id (constantI S_ 32 0#32)) pads_S4x102_S4x1024_000_09220 h_S_ (ix2 b k)
      = if h : k.val < 102 then w (ix2 b ⟨k.val, h⟩) else 0#32 := by
  by_cases h : k.val < 102
  · rw [dif_pos h]
    refine pad_apply_of_inside _ _ _ _ _ _ _ _ (ix2 b (⟨k.val, h⟩ : Fin 102)) fun x => ?_
    match x with
    | ⟨0, _⟩ => show b.val = 0 + b.val * (0 + 1); omega
    | ⟨1, _⟩ => show k.val = 0 + k.val * (0 + 1); omega
  · rw [dif_neg h]
    refine (pad_apply_of_not_inside _ _ _ _ _ _ _ _ (1 : Fin 2) fun hx => h ?_).trans rfl
    have : (k.val - 0) / (0 + 1) < 102 := hx.2.2
    omega

/-- The even places of the selected positions, -/
theorem evens_at (w : IVec S4x204 32) (b : Fin 4) (k : Fin 102) :
    Host.slice S4x102 ![0, 0] ![1, 2] w slicesBy_S4x204_S4x102_0s1_0s2 (ix2 b k) = w (ix2 b ⟨2 * k.val, by omega⟩) := by
  refine congrArg w (funext fun x => Fin.ext ?_)
  match x with
  | ⟨0, _⟩ => show 0 + 1 * b.val = b.val; omega
  | ⟨1, _⟩ => show 0 + 2 * k.val = 2 * k.val; omega

/-- and the odd ones. -/
theorem odds_at (w : IVec S4x204 32) (b : Fin 4) (k : Fin 102) :
    Host.slice S4x102 ![0, 1] ![1, 2] w slicesBy_S4x204_S4x102_0s1_1s2 (ix2 b k) = w (ix2 b ⟨2 * k.val + 1, by omega⟩) := by
  refine congrArg w (funext fun x => Fin.ext ?_)
  match x with
  | ⟨0, _⟩ => show 0 + 1 * b.val = b.val; omega
  | ⟨1, _⟩ => show 1 + 2 * k.val = 2 * k.val + 1; omega

/-- The two halves side by side. -/
theorem halves_at (u v : IVec S4x1024 32) (b : Fin 4) (k : Fin 2048) :
    concatenate S4x2048 1 [⟨S4x1024, u⟩, ⟨S4x1024, v⟩] concatenates_S4x1024_S4x1024_S4x2048_d1 (ix2 b k)
      = if h : k.val < 1024 then u (ix2 b ⟨k.val, h⟩) else v (ix2 b ⟨k.val - 1024, by omega⟩) := by
  pointwise

/-- A table with a single middle row, read along it. -/
theorem row_at (w : IVec S4x2048 32) (b : Fin 4) (k : Fin 2048) :
    broadcastInDim S4x1x2048 ![0, 2] bcast_S4x2048_S4x1x2048_0_2 w (ix3 b 0 k) = w (ix2 b k) := by
  pointwise

/-- The second table, entry by entry. -/
theorem ab_at (a : FVec Ideal S4x1x2048 .f32) (b : Fin 4) (k : Fin 2048) : abRef a (ix3 b 0 k) = picked (key a b) k := by
  refine (row_at _ b k).trans ((halves_at _ _ b k).trans ?_)
  unfold picked place
  by_cases h : k.val < 1024
  · rw [dif_pos h, half_at, dif_pos h]
    by_cases h' : k.val < 102
    · rw [dif_pos h', if_pos (by show 2 * k.val < 204; omega), evens_at, first_at]
    · rw [dif_neg h', if_neg (by show ¬ 2 * k.val < 204; omega)]
  · rw [dif_neg h, half_at, dif_neg h]
    by_cases h' : k.val - 1024 < 102
    · rw [dif_pos h', if_pos (by show 2 * (k.val - 1024) + 1 < 204; omega), odds_at, first_at]
    · rw [dif_neg h', if_neg (by show ¬ 2 * (k.val - 1024) + 1 < 204; omega)]

end Cert.SelectReferenceIdeal.Select
-- ==== Proof.SelectValue.lean ====
/- The selection of the kernel is the reference's. -/
module

public import proofs.«01_k».proof.Proof.SelectArray
public import proofs.«01_k».proof.Proof.SelectRefTable

@[expose] public section

set_option maxRecDepth 16384

noncomputable section

namespace Cert.Select

open Idealize.ShloMosaic Idealize.ShloMosaic.TcCoe Cert.Select.Order

/-- The word of the reciprocal of 2048 is that number. -/
theorem word_recip : Ideal.ofBits .f32 0x3A000000#32 = (((1 : ℝ) / 2048 : ℝ) : EReal) := by
  simp [Ideal.ofBits, Ideal.ieee, -EReal.coe_mul]; norm_num

/-- The word of 2048 is that number. -/
theorem word_rows : Ideal.ofBits .f32 0x45000000#32 = ((2048 : ℝ) : EReal) := by
  simp [Ideal.ofBits, Ideal.ieee, -EReal.coe_mul]; norm_num

/-- To multiply by the one is to divide by the other. -/
theorem mean_word (x : EReal) : x * Ideal.ofBits .f32 0x3A000000#32 = Ideal.div x (Ideal.ofBits .f32 0x45000000#32) := by
  rw [word_recip, word_rows, Ideal.div, if_neg (by rw [EReal.coe_eq_zero]; norm_num), ← EReal.coe_inv]
  congr 2
  norm_num

/-- The keys of the two programs are the same. -/
theorem keys (a : FVec Ideal Cert.SelectIdeal.S4x1x2048 .f32) (b : Fin 4) : Cert.SelectIdeal.Select.key a b = Cert.SelectReferenceIdeal.Select.key a b := by
  funext k
  refine Eq.trans (b := ((a (ix3 b 0 k : Cert.SelectIdeal.S4x1x2048.Idx) : EReal)) * Ideal.ofBits .f32 0x3A000000#32) ?_ ((mean_word _).trans ?_)
  · pointwise [Cert.SelectIdeal.Select.key, Cert.SelectIdeal.Select.mean]
  · pointwise [Cert.SelectReferenceIdeal.Select.key, Cert.SelectReferenceIdeal.Select.mean]

/-- The first tables of the two programs agree, -/
theorem ord_eq (a : FVec Ideal Cert.SelectIdeal.S4x1x2048 .f32) : Cert.SelectIdeal.Select.ordArr a = Cert.SelectReferenceIdeal.Select.ordRef a := by
  funext i
  refine Eq.trans ?_ (congrArg (Cert.SelectReferenceIdeal.Select.ordRef a) (Cert.SelectIdeal.Select.named i))
  refine Eq.trans ?_ (Cert.SelectReferenceIdeal.Select.ord_at a (i 0) (i 2)).symm
  exact congrArg (fun c => kept c (i 2)) (keys a (i 0))

/-- and the second. -/
theorem ab_eq (a : FVec Ideal Cert.SelectIdeal.S4x1x2048 .f32) : Cert.SelectIdeal.Select.abArr a = Cert.SelectReferenceIdeal.Select.abRef a := by
  funext i
  refine Eq.trans ?_ (congrArg (Cert.SelectReferenceIdeal.Select.abRef a) (Cert.SelectIdeal.Select.named i))
  refine Eq.trans ?_ (Cert.SelectReferenceIdeal.Select.ab_at a (i 0) (i 2)).symm
  exact congrArg (fun c => picked c (i 2)) (keys a (i 0))

end Cert.Select
-- ==== Proof.MergeTrip.lean ====
module

public import proofs.«01_k».proof.Proof.Gen.MergeIdeal.Loops
public import proofs.«01_k».proof.Proof.Gen.MergeIdeal.Launch
public import Idealize.ShloMosaic.Lib.WritesUnit
public import Idealize.ShloMosaic.Lib.WholeRead
public import Idealize.ShloMosaic.Lib.ValueLayout
public import Idealize.ShloMosaic.Lib.Pipeline.Frame
public import Idealize.ShloMosaic.Lib.Pipeline.FrameBody
public import Idealize.ShloMosaic.Lib.Exec

@[expose] public section

noncomputable section

namespace Cert.MergeIdeal.Merge

open Cert.MergeIdeal Cert.MergeIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table of the kept rows, -/
abbrev ordM : Memref sig .tc .smem S8192 .i32 := Memref.whole main_arg0
/-- that of the two halves of the pairs, -/
abbrev abM : Memref sig .tc .smem S8192 .i32 := Memref.whole main_arg1
/-- and that of the destinations. -/
abbrev dstM : Memref sig .tc .smem S408 .i32 := Memref.whole main_arg2

/-- The contents of a table. -/
abbrev TbBuf (c : Dev nD) {S : Shape} {e : EltTy} (M : Memref sig .tc .smem S e) : Type := Buf (Elt F) (M.view.loc (c : Thread nD τ))
/-- A table held at its contents. -/
abbrev tbPt (c : Dev nD) {S : Shape} {e : EltTy} (M : Memref sig .tc .smem S e) (f : TbBuf (F := F) c M) : sProp 𝕄 :=
  M.view.loc (c : Thread nD τ) ↦{fullShare.right} f

/-- A row of a one-sample array, the row number held inside the array. -/
def rowAt (X : Vec F S1x2048x1024 .f32) (n : ℕ) (j : Fin 1024) : F .f32 :=
  X (ix3 (0 : Fin 1) (⟨min n 2047, by omega⟩ : Fin 2048) j)

/-- A word of a table of 8192 words, as a number. -/
def word (t : S8192.Idx → BitVec 32) (n : ℕ) : ℕ := (t (ix1 (⟨min n 8191, by omega⟩ : Fin 8192))).toNat

/-- A word of the table of 408 words, as a number. -/
def dword (t : S408.Idx → BitVec 32) (n : ℕ) : ℕ := (t (ix1 (⟨min n 407, by omega⟩ : Fin 408))).toNat

section Facts

/-- A position below 2048 is inside the block of tokens, in the first loop, -/
theorem chk1_of (w : BitVec 32) (h : w.toNat < 2048) : k0_chk1 w := by
  intro a
  match a with
  | ⟨0, _⟩ => exact Nat.le_refl 1
  | ⟨1, _⟩ => show w.toNat + 1 ≤ 2048; omega
  | ⟨2, _⟩ => exact Nat.le_refl 1024

/-- in the second -/
theorem chk2_of (w : BitVec 32) (h : w.toNat < 2048) : k0_chk2 w := chk1_of w h

/-- and in the third. -/
theorem chk4_of (w : BitVec 32) (h : w.toNat < 2048) : k0_chk4 w := chk1_of w h

/-- A destination after the kept rows, as a number. -/
theorem add_toNat (w : BitVec 32) (h : w.toNat < 102) : (Scalar.addi 1844#32 w).toNat = 1844 + w.toNat := by
  show (1844#32 + w).toNat = _
  rw [BitVec.toNat_add]
  show (1844 + w.toNat) % 4294967296 = _
  omega

/-- Where the third loop reads the result's block -/
theorem off9_eq (w : BitVec 32) (h : w.toNat < 102) : k0_off9 w = ![0, 1844 + w.toNat, 0] := by
  show ![0, (Scalar.addi 1844#32 w).toNat, 0] = _
  rw [add_toNat w h]

/-- and where it writes it. -/
theorem off11_eq (w : BitVec 32) (h : w.toNat < 102) : k0_off11 w = ![0, 1844 + w.toNat, 0] := off9_eq w h

/-- That place is inside the block. -/
theorem chk9 (w : BitVec 32) (h : w.toNat < 102) : ∀ a, k0_off9 w a + S1x1x1024.size a ≤ S1x1946x1024.size a := by
  rw [off9_eq w h]
  intro a
  match a with
  | ⟨0, _⟩ => exact Nat.le_refl 1
  | ⟨1, _⟩ => show 1844 + w.toNat + 1 ≤ 1946; omega
  | ⟨2, _⟩ => exact Nat.le_refl 1024

/-- So the third loop's condition holds. -/
theorem chk3_of (w : BitVec 32) (h : w.toNat < 102) : k0_chk3 w := ⟨chk9 w h, chk9 w h⟩

/-- One row written: that row holds the payload, every other row what it held. -/
theorem read_row (v : View sig .tc .vmem S1x1946x1024 .f32) (f : v.ty.Contents (Elt F)) {off : Fin 3 → ℕ} (o : ℕ)
    (heq : off = ![0, o, 0]) (inb : ∀ a, off a + S1x1x1024.size a ≤ S1x1946x1024.size a)
    (w : S1x1x1024.Idx → F .f32) (r : Fin 1946) (j : Fin 1024) :
    v.read (Elt F) (v.writes (Elt F) f [⟨Rect.unit (s := S1x1946x1024) off S1x1x1024.size inb, w⟩]) (ix3 (0 : Fin 1) r j)
      = if r.val = o then w (ix3 (0 : Fin 1) (0 : Fin 1) j) else v.read (Elt F) f (ix3 (0 : Fin 1) r j) := by
  by_cases h : r.val = o
  · rw [if_pos h]
    refine View.read_writes_cons_unit_of_mem v f inb w [] _ (ix3 (0 : Fin 1) (0 : Fin 1) j) heq fun a => ?_
    match a with
    | ⟨0, _⟩ => rfl
    | ⟨1, _⟩ => exact h
    | ⟨2, _⟩ => exact (Nat.zero_add _).symm
  · rw [if_neg h]
    refine (View.read_writes_cons_unit_of_not_mem v f inb w [] _ heq (1 : Fin 3) ?_).trans rfl
    show r.val < o ∨ o + 1 ≤ r.val
    omega

/-- One row of the output read back. -/
theorem out_row (v : View sig .tc .vmem S1x1946x1024 .f32) (f : v.ty.Contents (Elt F)) {off : Fin 3 → ℕ} (r : Fin 1946)
    (heq : off = ![0, r.val, 0]) (inb : ∀ a, off a + S1x1x1024.size a ≤ S1x1946x1024.size a) (j : Fin 1024) :
    v.readAt (Elt F) (Rect.unit (s := S1x1946x1024) off S1x1x1024.size inb).toLoadRect f (ix3 (0 : Fin 1) (0 : Fin 1) j)
      = v.read (Elt F) f (ix3 (0 : Fin 1) r j) := by
  subst heq
  refine congrArg (v.read (Elt F) f) (funext fun a => Fin.ext ?_)
  match a with
  | ⟨0, _⟩ => rfl
  | ⟨1, _⟩ => exact Nat.add_zero _
  | ⟨2, _⟩ => show 0 + 1 * j.val = j.val; omega

/-- One row of the sample read. -/
theorem in_row (m : Memref sig .tc .vmem S1x2048x1024 .f32) (h : m.IsWhole) (X : Vec F S1x2048x1024 .f32) {off : Fin 3 → ℕ} (n : ℕ)
    (hn : n < 2048) (heq : off = ![0, n, 0]) (inb : ∀ a, off a + S1x1x1024.size a ≤ S1x2048x1024.size a) (j : Fin 1024) :
    View.readAt (Elt F) m.view (Rect.unit (s := S1x2048x1024) off S1x1x1024.size inb).toLoadRect (h.unread X) (ix3 (0 : Fin 1) (0 : Fin 1) j)
      = rowAt X n j := by
  subst heq
  refine (h.readAt_unread X _ _).trans (congrArg X (funext fun a => Fin.ext ?_))
  match a with
  | ⟨0, _⟩ => rfl
  | ⟨1, _⟩ => show n + 1 * 0 = min n 2047; omega
  | ⟨2, _⟩ => show 0 + 1 * j.val = j.val; omega

/-- One count read. -/
theorem cnt_read (m : Memref sig .tc .vmem S1x102x1 .f32) (h : m.IsWhole) (C : Vec F S1x102x1 .f32) {off : Fin 3 → ℕ} (n : Fin 102)
    (heq : off = ![0, n.val, 0]) (inb : ∀ a, off a + S1x1x1.size a ≤ S1x102x1.size a) (y : S1x1x1.Idx) :
    View.readAt (Elt F) m.view (Rect.unit (s := S1x102x1) off S1x1x1.size inb).toLoadRect (h.unread C) y
      = C (ix3 (0 : Fin 1) n (0 : Fin 1)) := by
  subst heq
  refine (h.readAt_unread C _ _).trans (congrArg C (funext fun a => Fin.ext ?_))
  match a with
  | ⟨0, _⟩ => show 0 + 1 * (y 0).val = 0; have : (y 0).val < 1 := (y 0).isLt; omega
  | ⟨1, _⟩ => show n.val + 1 * (y 1).val = n.val; have : (y 1).val < 1 := (y 1).isLt; omega
  | ⟨2, _⟩ => show 0 + 1 * (y 2).val = 0; have : (y 2).val < 1 := (y 2).isLt; omega

/-- The first loop copies a row, -/
theorem pay1_apply (v : Vec F S1x1x1024 .f32) (j : Fin 1024) :
    k0_pay1 v (ix3 (0 : Fin 1) (0 : Fin 1) j) = v (ix3 (0 : Fin 1) (0 : Fin 1) j) := by
  unfold k0_pay1
  rw [shapeCast_ab_1ab_apply, shapeCast_1ab_ab_apply]

/-- so does the second, -/
theorem pay2_apply (v : Vec F S1x1x1024 .f32) (j : Fin 1024) :
    k0_pay2 v (ix3 (0 : Fin 1) (0 : Fin 1) j) = v (ix3 (0 : Fin 1) (0 : Fin 1) j) := pay1_apply v j

/-- the third adds one row to another -/
theorem pay3_apply (u v : Vec F S1x1x1024 .f32) (j : Fin 1024) :
    k0_pay3 u v (ix3 (0 : Fin 1) (0 : Fin 1) j)
      = FloatOps.addf (u (ix3 (0 : Fin 1) (0 : Fin 1) j)) (v (ix3 (0 : Fin 1) (0 : Fin 1) j)) := by
  unfold k0_pay3
  rw [shapeCast_ab_1ab_apply]
  show FloatOps.addf (shapeCast S1x1024 u _ (ix2 (0 : Fin 1) j)) (shapeCast S1x1024 v _ (ix2 (0 : Fin 1) j)) = _
  rw [shapeCast_1ab_ab_apply, shapeCast_1ab_ab_apply]

/-- and the fourth divides a row by a number. -/
theorem pay4_apply (u : Vec F S1x1x1 .f32) (v : Vec F S1x1x1024 .f32) (q : F .f32) (hu : ∀ y, u y = q) (j : Fin 1024) :
    k0_pay4 u v (ix3 (0 : Fin 1) (0 : Fin 1) j) = FloatOps.divf (v (ix3 (0 : Fin 1) (0 : Fin 1) j)) q := by
  unfold k0_pay4
  rw [shapeCast_ab_1ab_apply]
  show FloatOps.divf (shapeCast S1x1024 v _ (ix2 (0 : Fin 1) j)) (u _) = _
  rw [shapeCast_1ab_ab_apply, hu]

end Facts

end Cert.MergeIdeal.Merge

end
-- ==== Proof.MergeBody.lean ====
module

public import proofs.«01_k».proof.Proof.MergeTrip

@[expose] public section

noncomputable section

namespace Cert.MergeIdeal.Merge

open Cert.MergeIdeal Cert.MergeIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (c : Dev nD) (i : grid0.Coords) (tord : TbBuf (F := F) c ordM) (tab : TbBuf (F := F) c abM) (tdst : TbBuf (F := F) c dstM)
  (arg4 : Memref sig .tc .vmem S1x2048x1024 .f32) (harg4 : arg4.IsWhole) (arg5 : Memref sig .tc .vmem S1x102x1 .f32) (harg5 : arg5.IsWhole)
  (arg6 : Memref sig .tc .vmem S1x1946x1024 .f32) (harg6 : arg6.IsWhole)
  (X : Vec F S1x2048x1024 .f32) (cnt : Vec F S1x102x1 .f32)

/-- The output block, held at contents `f`. -/
abbrev oPt (f : Buf (Elt F) (arg6.view.loc (c : Thread nD τ))) : sProp 𝕄 := arg6.view.loc (c : Thread nD τ) ↦[arg6.view.set]{fullShare} f
/-- The sample's block, held at `X`. -/
abbrev xPt : sProp 𝕄 := arg4.view.loc (c : Thread nD τ) ↦[arg4.view.set]{fullShare} (harg4.unread X)
/-- The counts' block, held at `cnt`. -/
abbrev cPt : sProp 𝕄 := arg5.view.loc (c : Thread nD τ) ↦[arg5.view.set]{fullShare} (harg5.unread cnt)
/-- What the kernel only reads: the three tables, the sample and the counts. -/
abbrev ins : sProp 𝕄 := iprop(tbPt c ordM tord ∗ tbPt c abM tab ∗ tbPt c dstM tdst ∗ xPt c arg4 harg4 X ∗ cPt c arg5 harg5 cnt)

/-- One row of the output is given a value, the other rows kept. -/
def RowSet (f f' : Buf (Elt F) (arg6.view.loc (c : Thread nD τ))) (o : ℕ) (w : Fin 1024 → F .f32) : Prop :=
  ∀ (r : Fin 1946) (j : Fin 1024), arg6.view.read (Elt F) f' (ix3 (0 : Fin 1) r j)
    = if r.val = o then w j else arg6.view.read (Elt F) f (ix3 (0 : Fin 1) r j)

/-- A word read from the first table. -/
theorem ord_word {off : Fin 1 → ℕ} (n : ℕ) (hn : n < 8192) (heq : off = ![n]) (h1 : ∀ a, off a + S1.size a ≤ S8192.size a)
    (h2 : 0 < (Rect.unit (s := S8192) off S1.size h1).toLoadRect.shape.numel) :
    (View.readAt (Elt F) ordM.view (Rect.unit (s := S8192) off S1.size h1).toLoadRect tord (Shape.Idx.first h2) : BitVec 32).toNat
      = word tord n := by
  subst heq
  refine congrArg (fun y => (tord y : BitVec 32).toNat) (funext fun a => Fin.ext ?_)
  match a with
  | ⟨0, _⟩ =>
    show n + 1 * (Shape.Idx.first h2 0).val = min n 8191
    have : (Shape.Idx.first h2 0).val < 1 := (Shape.Idx.first h2 0).isLt
    omega

/-- A word read from the second table. -/
theorem ab_word {off : Fin 1 → ℕ} (n : ℕ) (hn : n < 8192) (heq : off = ![n]) (h1 : ∀ a, off a + S1.size a ≤ S8192.size a)
    (h2 : 0 < (Rect.unit (s := S8192) off S1.size h1).toLoadRect.shape.numel) :
    (View.readAt (Elt F) abM.view (Rect.unit (s := S8192) off S1.size h1).toLoadRect tab (Shape.Idx.first h2) : BitVec 32).toNat
      = word tab n := by
  subst heq
  refine congrArg (fun y => (tab y : BitVec 32).toNat) (funext fun a => Fin.ext ?_)
  match a with
  | ⟨0, _⟩ =>
    show n + 1 * (Shape.Idx.first h2 0).val = min n 8191
    have : (Shape.Idx.first h2 0).val < 1 := (Shape.Idx.first h2 0).isLt
    omega

/-- A word read from the third table. -/
theorem dst_word {off : Fin 1 → ℕ} (n : ℕ) (hn : n < 408) (heq : off = ![n]) (h1 : ∀ a, off a + S1.size a ≤ S408.size a)
    (h2 : 0 < (Rect.unit (s := S408) off S1.size h1).toLoadRect.shape.numel) :
    (View.readAt (Elt F) dstM.view (Rect.unit (s := S408) off S1.size h1).toLoadRect tdst (Shape.Idx.first h2) : BitVec 32).toNat
      = dword tdst n := by
  subst heq
  refine congrArg (fun y => (tdst y : BitVec 32).toNat) (funext fun a => Fin.ext ?_)
  match a with
  | ⟨0, _⟩ =>
    show n + 1 * (Shape.Idx.first h2 0).val = min n 407
    have : (Shape.Idx.first h2 0).val < 1 := (Shape.Idx.first h2 0).isLt
    omega

/-- The offsets of a merged row, by the number of the row. -/
theorem row_eq {n m : ℕ} (h : n = m) : (![0, 1844 + n, 0] : Fin 3 → ℕ) = ![0, 1844 + m, 0] := by rw [h]

/-- A trip of the first loop is below the number of kept rows, -/
theorem lt1 (k : Fin k0_t1_loop.trips) : k.val < 1844 := Nat.lt_of_lt_of_le k.isLt k0_t1_abs.2.1
/-- one of the second below the number of destinations, -/
theorem lt2 (k : Fin k0_t2_loop.trips) : k.val < 102 := Nat.lt_of_lt_of_le k.isLt k0_t2_abs.2.1
/-- one of the third below the number of sources, -/
theorem lt3 (k : Fin k0_t3_loop.trips) : k.val < 102 := Nat.lt_of_lt_of_le k.isLt k0_t3_abs.2.1
/-- one of the fourth below the number of destinations. -/
theorem lt4 (k : Fin k0_t4_loop.trips) : k.val < 102 := Nat.lt_of_lt_of_le k.isLt k0_t4_abs.2.1
/-- A grid point is a sample. -/
theorem bat (i : grid0.Coords) : (i 0).val < 4 := (i 0).isLt

/-- A trip of the first loop copies one unmerged row. -/
theorem trip1 (hord : ∀ j, (tord j).toNat < 2048) (k : Fin k0_t1_loop.trips) (f : Buf (Elt F) (arg6.view.loc (c : Thread nD τ))) :
    iprop(ins c tord tab tdst arg4 harg4 arg5 harg5 X cnt ∗ oPt c arg6 f) ⊢
      wp frame (wpE (defs₀ (F := F)) Variants.none (c : Thread nD τ) none) Set.univ
        (k0_t1_body (F := F) i ordM (Memref.isWhole_whole _) abM (Memref.isWhole_whole _) dstM (Memref.isWhole_whole _) arg4 harg4 arg5 harg5 arg6 harg6 k ())
        (fun _ => iprop(ins c tord tab tdst arg4 harg4 arg5 harg5 X cnt ∗ ∃ f', oPt c arg6 f' ∗
          ⌜RowSet c arg6 f f' k.val (rowAt X (word tord (2048 * (i 0).val + k.val)))⌝)) := by
  have hk := lt1 k
  have hb := bat i
  sl_unfold [k0_t1_body]
  iintro ⟨⟨HT, HA, HD, HX, HC⟩, HO⟩
  sl_exec (disch := exact chk1_of _ (hord _))
  sl_step
  sl_unfold_run_names
  isplitl [HT HA HD HX HC]
  · sl_close
  iexists _
  isplitl [HO]
  · iexact HO
  ipureintro
  intro r j
  rw [read_row _ _ k.val (k0_off3_eq k)]
  by_cases hr : r.val = k.val
  · rw [if_pos hr, if_pos hr, pay1_apply]
    refine (in_row arg4 harg4 X _ (hord _) rfl _ j).trans ?_
    exact congrArg (fun n => rowAt X n j) (ord_word c tord _ (by omega) (k0_off1_eq i k) _ _)
  · rw [if_neg hr, if_neg hr]

/-- A trip of the second loop copies one row of the partners' half. -/
theorem trip2 (hab : ∀ j, (tab j).toNat < 2048) (k : Fin k0_t2_loop.trips) (f : Buf (Elt F) (arg6.view.loc (c : Thread nD τ))) :
    iprop(ins c tord tab tdst arg4 harg4 arg5 harg5 X cnt ∗ oPt c arg6 f) ⊢
      wp frame (wpE (defs₀ (F := F)) Variants.none (c : Thread nD τ) none) Set.univ
        (k0_t2_body (F := F) i ordM (Memref.isWhole_whole _) abM (Memref.isWhole_whole _) dstM (Memref.isWhole_whole _) arg4 harg4 arg5 harg5 arg6 harg6 k ())
        (fun _ => iprop(ins c tord tab tdst arg4 harg4 arg5 harg5 X cnt ∗ ∃ f', oPt c arg6 f' ∗
          ⌜RowSet c arg6 f f' (k.val + 1844) (rowAt X (word tab (2048 * (i 0).val + k.val + 1024)))⌝)) := by
  have hk := lt2 k
  have hb := bat i
  sl_unfold [k0_t2_body]
  iintro ⟨⟨HT, HA, HD, HX, HC⟩, HO⟩
  sl_exec (disch := exact chk2_of _ (hab _))
  sl_step
  sl_unfold_run_names
  isplitl [HT HA HD HX HC]
  · sl_close
  iexists _
  isplitl [HO]
  · iexact HO
  ipureintro
  intro r j
  rw [read_row _ _ (k.val + 1844) (k0_off6_eq k)]
  by_cases hr : r.val = k.val + 1844
  · rw [if_pos hr, if_pos hr, pay2_apply]
    refine (in_row arg4 harg4 X _ (hab _) rfl _ j).trans ?_
    exact congrArg (fun n => rowAt X n j) (ab_word c tab _ (by omega) (k0_off4_eq i k) _ _)
  · rw [if_neg hr, if_neg hr]

/-- A trip of the third loop adds one row to the partner's row. -/
theorem trip3 (hab : ∀ j, (tab j).toNat < 2048) (hdst : ∀ j, (tdst j).toNat < 102) (k : Fin k0_t3_loop.trips) (f : Buf (Elt F) (arg6.view.loc (c : Thread nD τ))) :
    iprop(ins c tord tab tdst arg4 harg4 arg5 harg5 X cnt ∗ oPt c arg6 f) ⊢
      wp frame (wpE (defs₀ (F := F)) Variants.none (c : Thread nD τ) none) Set.univ
        (k0_t3_body (F := F) i ordM (Memref.isWhole_whole _) abM (Memref.isWhole_whole _) dstM (Memref.isWhole_whole _) arg4 harg4 arg5 harg5 arg6 harg6 k ())
        (fun _ => iprop(ins c tord tab tdst arg4 harg4 arg5 harg5 X cnt ∗ ∃ f', oPt c arg6 f' ∗
          ⌜∀ (r : Fin 1946) (j : Fin 1024), arg6.view.read (Elt F) f' (ix3 (0 : Fin 1) r j)
            = if r.val = 1844 + dword tdst (102 * (i 0).val + k.val) then
                FloatOps.addf (arg6.view.read (Elt F) f (ix3 (0 : Fin 1) r j)) (rowAt X (word tab (2048 * (i 0).val + k.val)) j)
              else arg6.view.read (Elt F) f (ix3 (0 : Fin 1) r j)⌝)) := by
  have hk := lt3 k
  have hb := bat i
  sl_unfold [k0_t3_body]
  iintro ⟨⟨HT, HA, HD, HX, HC⟩, HO⟩
  sl_exec (disch := first | exact chk3_of _ (hdst _) | exact chk4_of _ (hab _))
  sl_step
  sl_unfold_run_names
  isplitl [HT HA HD HX HC]
  · sl_close
  iexists _
  isplitl [HO]
  · iexact HO
  ipureintro
  intro r j
  refine (read_row _ _ (1844 + dword tdst (102 * (i 0).val + k.val))
    ((off11_eq _ (hdst _)).trans (row_eq (dst_word c tdst _ (by omega) (k0_off7_eq i k) _ _))) _ _ r j).trans ?_
  by_cases hr : r.val = 1844 + dword tdst (102 * (i 0).val + k.val)
  · rw [if_pos hr, if_pos hr, pay3_apply]
    refine congrArg₂ FloatOps.addf (out_row _ f r ((off9_eq _ (hdst _)).trans
        ((row_eq (dst_word c tdst _ (by omega) (k0_off7_eq i k) _ _)).trans (by rw [hr]))) _ j)
      ((in_row arg4 harg4 X _ (hab _) rfl _ j).trans <| congrArg (fun n => rowAt X n j) (ab_word c tab _ (by omega) (k0_off8_eq i k) _ _))
  · rw [if_neg hr, if_neg hr]

/-- A trip of the fourth loop divides one row by its count. -/
theorem trip4 (k : Fin k0_t4_loop.trips) (f : Buf (Elt F) (arg6.view.loc (c : Thread nD τ))) :
    iprop(ins c tord tab tdst arg4 harg4 arg5 harg5 X cnt ∗ oPt c arg6 f) ⊢
      wp frame (wpE (defs₀ (F := F)) Variants.none (c : Thread nD τ) none) Set.univ
        (k0_t4_body (F := F) i ordM (Memref.isWhole_whole _) abM (Memref.isWhole_whole _) dstM (Memref.isWhole_whole _) arg4 harg4 arg5 harg5 arg6 harg6 k ())
        (fun _ => iprop(ins c tord tab tdst arg4 harg4 arg5 harg5 X cnt ∗ ∃ f', oPt c arg6 f' ∗
          ⌜∀ (r : Fin 1946) (j : Fin 1024), arg6.view.read (Elt F) f' (ix3 (0 : Fin 1) r j)
            = if r.val = k.val + 1844 then
                FloatOps.divf (arg6.view.read (Elt F) f (ix3 (0 : Fin 1) r j)) (cnt (ix3 (0 : Fin 1) (⟨k.val, lt4 k⟩ : Fin 102) (0 : Fin 1)))
              else arg6.view.read (Elt F) f (ix3 (0 : Fin 1) r j)⌝)) := by
  have hk := lt4 k
  sl_unfold [k0_t4_body]
  iintro ⟨⟨HT, HA, HD, HX, HC⟩, HO⟩
  sl_exec
  sl_step
  sl_unfold_run_names
  isplitl [HT HA HD HX HC]
  · sl_close
  iexists _
  isplitl [HO]
  · iexact HO
  ipureintro
  intro r j
  rw [read_row _ _ (k.val + 1844) (k0_off13_eq k)]
  by_cases hr : r.val = k.val + 1844
  · rw [if_pos hr, if_pos hr, pay4_apply _ _ _ (cnt_read arg5 harg5 cnt ⟨k.val, lt4 k⟩ (k0_off12_eq k) _)]
    exact congrArg (fun a => FloatOps.divf a _) (out_row _ f r ((k0_off13_eq k).trans (by rw [hr])) _ j)
  · rw [if_neg hr, if_neg hr]

end Trip

end Cert.MergeIdeal.Merge

end
-- ==== Proof.MergeKernel.lean ====
module

public import proofs.«01_k».proof.Proof.MergeBody

@[expose] public section

noncomputable section

namespace Cert.MergeIdeal.Merge

open Cert.MergeIdeal Cert.MergeIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the rows hold -/

section Rows

variable (b : ℕ) (tord tab : S8192.Idx → BitVec 32) (tdst : S408.Idx → BitVec 32) (X : Vec F S1x2048x1024 .f32) (cnt : Vec F S1x102x1 .f32)

/-- Unmerged row `n`: the row of the sample the order names. -/
def kept (n : ℕ) (j : Fin 1024) : F .f32 := rowAt X (word tord (2048 * b + n)) j

/-- Partner row `i` after the first `k` merged rows are added to their partners. -/
def merged : ℕ → ℕ → Fin 1024 → F .f32
  | 0, i, j => rowAt X (word tab (2048 * b + i + 1024)) j
  | k + 1, i, j =>
    if i = dword tdst (102 * b + k) then FloatOps.addf (merged k i j) (rowAt X (word tab (2048 * b + k)) j) else merged k i j

/-- The rows while the third loop has made `k` trips (the second loop's end is `k = 0`). -/
def summed (k n : ℕ) (j : Fin 1024) : F .f32 := if n < 1844 then kept b tord X n j else merged b tab tdst X k (n - 1844) j

/-- The rows while the fourth loop has made `k` trips. -/
def divided (k n : ℕ) (j : Fin 1024) : F .f32 :=
  if n < 1844 then kept b tord X n j
  else if n - 1844 < k then
    FloatOps.divf (merged b tab tdst X 102 (n - 1844) j) (cnt (ix3 (0 : Fin 1) (⟨min (n - 1844) 101, by omega⟩ : Fin 102) (0 : Fin 1)))
  else merged b tab tdst X 102 (n - 1844) j

/-- The block the kernel leaves. -/
def outBlk : Vec F S1x1946x1024 .f32 := fun y => divided b tord tab tdst X cnt 102 (y 1).val ⟨(y 2).val, (y 2).isLt⟩

end Rows

section Loops

variable (c : Dev nD) (i : grid0.Coords) (tord : TbBuf (F := F) c ordM) (tab : TbBuf (F := F) c abM) (tdst : TbBuf (F := F) c dstM)
  (arg4 : Memref sig .tc .vmem S1x2048x1024 .f32) (harg4 : arg4.IsWhole) (arg5 : Memref sig .tc .vmem S1x102x1 .f32) (harg5 : arg5.IsWhole)
  (arg6 : Memref sig .tc .vmem S1x1946x1024 .f32) (harg6 : arg6.IsWhole)
  (X : Vec F S1x2048x1024 .f32) (cnt : Vec F S1x102x1 .f32)

/-- The first `n` rows of the output hold `D`. -/
def Held (n : ℕ) (D : ℕ → Fin 1024 → F .f32) (f : Buf (Elt F) (arg6.view.loc (c : Thread nD τ))) : Prop :=
  ∀ (r : Fin 1946) (j : Fin 1024), r.val < n → arg6.view.read (Elt F) f (ix3 (0 : Fin 1) r j) = D r.val j

/-- The state between trips: the inputs held, and the first `n` rows of the output at `D`. -/
abbrev state (n : ℕ) (D : ℕ → Fin 1024 → F .f32) : sProp 𝕄 :=
  iprop(ins c tord tab tdst arg4 harg4 arg5 harg5 X cnt ∗ ∃ f, oPt c arg6 f ∗ ⌜Held c arg6 n D f⌝)

/-- A trip of the first loop extends the copied rows by one. -/
theorem held1 (k : ℕ) (f f' : Buf (Elt F) (arg6.view.loc (c : Thread nD τ)))
    (h : Held c arg6 k (summed (i 0).val tord tab tdst X 0) f) (hk : k < 1844)
    (hs : RowSet c arg6 f f' k (rowAt X (word tord (2048 * (i 0).val + k)))) :
    Held c arg6 (k + 1) (summed (i 0).val tord tab tdst X 0) f' := by
  intro r j hr
  rw [hs r j]
  by_cases e : r.val = k
  · rw [if_pos e, e]
    unfold summed
    rw [if_pos hk]
    rfl
  · rw [if_neg e, h r j (by omega)]

/-- A trip of the second loop extends them by one partner row. -/
theorem held2 (k : ℕ) (f f' : Buf (Elt F) (arg6.view.loc (c : Thread nD τ)))
    (h : Held c arg6 (1844 + k) (summed (i 0).val tord tab tdst X 0) f)
    (hs : RowSet c arg6 f f' (k + 1844) (rowAt X (word tab (2048 * (i 0).val + k + 1024)))) :
    Held c arg6 (1844 + (k + 1)) (summed (i 0).val tord tab tdst X 0) f' := by
  intro r j hr
  rw [hs r j]
  by_cases e : r.val = k + 1844
  · rw [if_pos e, e]
    unfold summed
    rw [if_neg (by omega), Nat.add_sub_cancel]
    rfl
  · rw [if_neg e, h r j (by omega)]

/-- A trip of the third loop adds one merged row to its partner's. -/
theorem held3 (k : ℕ) (f f' : Buf (Elt F) (arg6.view.loc (c : Thread nD τ)))
    (h : Held c arg6 1946 (summed (i 0).val tord tab tdst X k) f)
    (hs : ∀ (r : Fin 1946) (j : Fin 1024), arg6.view.read (Elt F) f' (ix3 (0 : Fin 1) r j)
            = if r.val = 1844 + dword tdst (102 * (i 0).val + k) then
                FloatOps.addf (arg6.view.read (Elt F) f (ix3 (0 : Fin 1) r j)) (rowAt X (word tab (2048 * (i 0).val + k)) j)
              else arg6.view.read (Elt F) f (ix3 (0 : Fin 1) r j)) :
    Held c arg6 1946 (summed (i 0).val tord tab tdst X (k + 1)) f' := by
  intro r j hr
  rw [hs r j, h r j hr]
  unfold summed
  by_cases hn : r.val < 1844
  · rw [if_pos hn, if_pos hn, if_neg (by omega)]
  · rw [if_neg hn, if_neg hn]
    show _ = if r.val - 1844 = dword tdst (102 * (i 0).val + k) then _ else _
    by_cases e : r.val = 1844 + dword tdst (102 * (i 0).val + k)
    · rw [if_pos e, if_pos (by omega)]
    · rw [if_neg e, if_neg (by omega)]

/-- Before the fourth loop no row is divided yet. -/
theorem divided_zero : divided (i 0).val tord tab tdst X cnt 0 = summed (i 0).val tord tab tdst X 102 := by
  funext n j
  unfold divided summed
  rw [if_neg (Nat.not_lt_zero (n - 1844))]

/-- A trip of the fourth loop divides one more row. -/
theorem held4 (k : ℕ) (hk : k < 102) (f f' : Buf (Elt F) (arg6.view.loc (c : Thread nD τ)))
    (h : Held c arg6 1946 (divided (i 0).val tord tab tdst X cnt k) f)
    (hs : ∀ (r : Fin 1946) (j : Fin 1024), arg6.view.read (Elt F) f' (ix3 (0 : Fin 1) r j)
            = if r.val = k + 1844 then
                FloatOps.divf (arg6.view.read (Elt F) f (ix3 (0 : Fin 1) r j)) (cnt (ix3 (0 : Fin 1) (⟨k, hk⟩ : Fin 102) (0 : Fin 1)))
              else arg6.view.read (Elt F) f (ix3 (0 : Fin 1) r j)) :
    Held c arg6 1946 (divided (i 0).val tord tab tdst X cnt (k + 1)) f' := by
  intro r j hr
  rw [hs r j, h r j hr]
  unfold divided
  by_cases hn : r.val < 1844
  · rw [if_pos hn, if_pos hn, if_neg (by omega)]
  · rw [if_neg hn, if_neg hn]
    by_cases e : r.val = k + 1844
    · have hm : (⟨k, hk⟩ : Fin 102) = ⟨min (r.val - 1844) 101, by omega⟩ := Fin.ext (by show k = min (r.val - 1844) 101; omega)
      rw [if_pos e, if_neg (by omega), if_pos (by omega), hm]
    · rw [if_neg e]
      by_cases hl : r.val - 1844 < k
      · rw [if_pos hl, if_pos (by omega)]
      · rw [if_neg hl, if_neg (by omega)]

/-- Every row held is the whole block held. -/
theorem held_out (f : Buf (Elt F) (arg6.view.loc (c : Thread nD τ)))
    (h : Held c arg6 1946 (divided (i 0).val tord tab tdst X cnt 102) f) :
    arg6.view.read (Elt F) f = outBlk (i 0).val tord tab tdst X cnt := by
  funext y
  have e : y = ix3 (0 : Fin 1) (⟨(y 1).val, (y 1).isLt⟩ : Fin 1946) (⟨(y 2).val, (y 2).isLt⟩ : Fin 1024) := by
    funext a
    refine Fin.ext ?_
    match a with
    | ⟨0, _⟩ => show (y 0).val = 0; have : (y 0).val < 1 := (y 0).isLt; omega
    | ⟨1, _⟩ => rfl
    | ⟨2, _⟩ => rfl
  exact (congrArg (arg6.view.read (Elt F) f) e).trans (h _ _ (y 1).isLt)

/-- The first loop makes 1844 trips, -/
theorem trips1 : k0_t1_loop.trips = 1844 := by decide +kernel
/-- the second 102, -/
theorem trips2 : k0_t2_loop.trips = 102 := by decide +kernel
/-- the third 102, -/
theorem trips3 : k0_t3_loop.trips = 102 := by decide +kernel
/-- and the fourth 102. -/
theorem trips4 : k0_t4_loop.trips = 102 := by decide +kernel

variable (hord : ∀ j, (tord j).toNat < 2048) (hab : ∀ j, (tab j).toNat < 2048) (hdst : ∀ j, (tdst j).toNat < 102)

set_option warn.classDefReducibility false in
/-- The first loop by its invariant: `k` rows copied before trip `k`. -/
def loop1 : LoopInvTy_k0_t1 (F := F) Unit ℕ (UR sig nD τ) ℕ Variants.none c none Set.univ i ordM (Memref.isWhole_whole _) abM (Memref.isWhole_whole _) dstM (Memref.isWhole_whole _) arg4 harg4 arg5 harg5 arg6 harg6 where
  inv k _ := state c tord tab tdst arg4 harg4 arg5 harg5 arg6 X cnt k (summed (i 0).val tord tab tdst X 0)
  step k acc := by
    iintro ⟨HI, ⟨%f, HO, %hf⟩⟩
    iapply (wp_wand_r Idealize.ShloMosaic.frame (wpE (defs₀ (F := F)) Variants.none (c : Thread nD τ) none) Set.univ)
    isplitl [HI HO]
    · iapply (trip1 c i tord tab tdst arg4 harg4 arg5 harg5 arg6 harg6 X cnt hord k f)
      isplitl [HI]; · iexact HI
      iexact HO
    · iintro %_ ⟨HI, ⟨%f', HO, %hs⟩⟩
      isplitl [HI]; · iexact HI
      iexists f'
      isplitl [HO]; · iexact HO
      ipureintro
      exact held1 c i tord tab tdst arg6 X k.val f f' hf (lt1 k) hs

set_option warn.classDefReducibility false in
/-- The second loop by its invariant: `k` partner rows copied before trip `k`. -/
def loop2 : LoopInvTy_k0_t2 (F := F) Unit ℕ (UR sig nD τ) ℕ Variants.none c none Set.univ i ordM (Memref.isWhole_whole _) abM (Memref.isWhole_whole _) dstM (Memref.isWhole_whole _) arg4 harg4 arg5 harg5 arg6 harg6 where
  inv k _ := state c tord tab tdst arg4 harg4 arg5 harg5 arg6 X cnt (1844 + k) (summed (i 0).val tord tab tdst X 0)
  step k acc := by
    iintro ⟨HI, ⟨%f, HO, %hf⟩⟩
    iapply (wp_wand_r Idealize.ShloMosaic.frame (wpE (defs₀ (F := F)) Variants.none (c : Thread nD τ) none) Set.univ)
    isplitl [HI HO]
    · iapply (trip2 c i tord tab tdst arg4 harg4 arg5 harg5 arg6 harg6 X cnt hab k f)
      isplitl [HI]; · iexact HI
      iexact HO
    · iintro %_ ⟨HI, ⟨%f', HO, %hs⟩⟩
      isplitl [HI]; · iexact HI
      iexists f'
      isplitl [HO]; · iexact HO
      ipureintro
      exact held2 c i tord tab tdst arg6 X k.val f f' hf hs

set_option warn.classDefReducibility false in
/-- The third loop by its invariant: `k` merged rows added before trip `k`. -/
def loop3 : LoopInvTy_k0_t3 (F := F) Unit ℕ (UR sig nD τ) ℕ Variants.none c none Set.univ i ordM (Memref.isWhole_whole _) abM (Memref.isWhole_whole _) dstM (Memref.isWhole_whole _) arg4 harg4 arg5 harg5 arg6 harg6 where
  inv k _ := state c tord tab tdst arg4 harg4 arg5 harg5 arg6 X cnt 1946 (summed (i 0).val tord tab tdst X k)
  step k acc := by
    iintro ⟨HI, ⟨%f, HO, %hf⟩⟩
    iapply (wp_wand_r Idealize.ShloMosaic.frame (wpE (defs₀ (F := F)) Variants.none (c : Thread nD τ) none) Set.univ)
    isplitl [HI HO]
    · iapply (trip3 c i tord tab tdst arg4 harg4 arg5 harg5 arg6 harg6 X cnt hab hdst k f)
      isplitl [HI]; · iexact HI
      iexact HO
    · iintro %_ ⟨HI, ⟨%f', HO, %hs⟩⟩
      isplitl [HI]; · iexact HI
      iexists f'
      isplitl [HO]; · iexact HO
      ipureintro
      exact held3 c i tord tab tdst arg6 X k.val f f' hf hs

set_option warn.classDefReducibility false in
/-- The fourth loop by its invariant: `k` rows divided before trip `k`. -/
def loop4 : LoopInvTy_k0_t4 (F := F) Unit ℕ (UR sig nD τ) ℕ Variants.none c none Set.univ i ordM (Memref.isWhole_whole _) abM (Memref.isWhole_whole _) dstM (Memref.isWhole_whole _) arg4 harg4 arg5 harg5 arg6 harg6 where
  inv k _ := state c tord tab tdst arg4 harg4 arg5 harg5 arg6 X cnt 1946 (divided (i 0).val tord tab tdst X cnt k)
  step k acc := by
    iintro ⟨HI, ⟨%f, HO, %hf⟩⟩
    iapply (wp_wand_r Idealize.ShloMosaic.frame (wpE (defs₀ (F := F)) Variants.none (c : Thread nD τ) none) Set.univ)
    isplitl [HI HO]
    · iapply (trip4 c i tord tab tdst arg4 harg4 arg5 harg5 arg6 harg6 X cnt k f)
      isplitl [HI]; · iexact HI
      iexact HO
    · iintro %_ ⟨HI, ⟨%f', HO, %hs⟩⟩
      isplitl [HI]; · iexact HI
      iexists f'
      isplitl [HO]; · iexact HO
      ipureintro
      exact held4 c i tord tab tdst arg6 X cnt k.val (lt4 k) f f' hf hs

include hord in
/-- The first loop run to its end. -/
theorem run1 {β : Type} (kk : Unit → Prog (TpuEff nD τ sig (Elt F) Λ₀ .tc) β) (Q : β → sProp 𝕄) :
    state c tord tab tdst arg4 harg4 arg5 harg5 arg6 X cnt 0 (summed (i 0).val tord tab tdst X 0)
      ⊢ iprop((∀ acc, state c tord tab tdst arg4 harg4 arg5 harg5 arg6 X cnt 1844 (summed (i 0).val tord tab tdst X 0)
            -∗ wp frame (wpE (defs₀ (F := F)) Variants.none (c : Thread nD τ) none) Set.univ (kk acc) Q)
          -∗ wp frame (wpE (defs₀ (F := F)) Variants.none (c : Thread nD τ) none) Set.univ
            (Scf.Loop.for k0_t1_loop k0_t1_ok () (k0_t1_body i ordM (Memref.isWhole_whole _) abM (Memref.isWhole_whole _) dstM (Memref.isWhole_whole _) arg4 harg4 arg5 harg5 arg6 harg6) >>= kk) Q) := by
  have h := exec_loop (kk := kk) (Q := Q) _ _ _ _ _ _ _ _ _ (loop1 c i tord tab tdst arg4 harg4 arg5 harg5 arg6 harg6 X cnt hord)
  dsimp only [loop1] at h
  rw [show Scf.trips k0_t1_loop.lb k0_t1_loop.ub k0_t1_loop.st = _ from trips1] at h
  exact h

include hab in
/-- The second loop run to its end. -/
theorem run2 {β : Type} (kk : Unit → Prog (TpuEff nD τ sig (Elt F) Λ₀ .tc) β) (Q : β → sProp 𝕄) :
    state c tord tab tdst arg4 harg4 arg5 harg5 arg6 X cnt 1844 (summed (i 0).val tord tab tdst X 0)
      ⊢ iprop((∀ acc, state c tord tab tdst arg4 harg4 arg5 harg5 arg6 X cnt 1946 (summed (i 0).val tord tab tdst X 0)
            -∗ wp frame (wpE (defs₀ (F := F)) Variants.none (c : Thread nD τ) none) Set.univ (kk acc) Q)
          -∗ wp frame (wpE (defs₀ (F := F)) Variants.none (c : Thread nD τ) none) Set.univ
            (Scf.Loop.for k0_t2_loop k0_t2_ok () (k0_t2_body i ordM (Memref.isWhole_whole _) abM (Memref.isWhole_whole _) dstM (Memref.isWhole_whole _) arg4 harg4 arg5 harg5 arg6 harg6) >>= kk) Q) := by
  have h := exec_loop (kk := kk) (Q := Q) _ _ _ _ _ _ _ _ _ (loop2 c i tord tab tdst arg4 harg4 arg5 harg5 arg6 harg6 X cnt hab)
  dsimp only [loop2] at h
  rw [show Scf.trips k0_t2_loop.lb k0_t2_loop.ub k0_t2_loop.st = _ from trips2] at h
  exact h

include hab hdst in
/-- The third loop run to its end. -/
theorem run3 {β : Type} (kk : Unit → Prog (TpuEff nD τ sig (Elt F) Λ₀ .tc) β) (Q : β → sProp 𝕄) :
    state c tord tab tdst arg4 harg4 arg5 harg5 arg6 X cnt 1946 (summed (i 0).val tord tab tdst X 0)
      ⊢ iprop((∀ acc, state c tord tab tdst arg4 harg4 arg5 harg5 arg6 X cnt 1946 (summed (i 0).val tord tab tdst X 102)
            -∗ wp frame (wpE (defs₀ (F := F)) Variants.none (c : Thread nD τ) none) Set.univ (kk acc) Q)
          -∗ wp frame (wpE (defs₀ (F := F)) Variants.none (c : Thread nD τ) none) Set.univ
            (Scf.Loop.for k0_t3_loop k0_t3_ok () (k0_t3_body i ordM (Memref.isWhole_whole _) abM (Memref.isWhole_whole _) dstM (Memref.isWhole_whole _) arg4 harg4 arg5 harg5 arg6 harg6) >>= kk) Q) := by
  have h := exec_loop (kk := kk) (Q := Q) _ _ _ _ _ _ _ _ _ (loop3 c i tord tab tdst arg4 harg4 arg5 harg5 arg6 harg6 X cnt hab hdst)
  dsimp only [loop3] at h
  rw [show Scf.trips k0_t3_loop.lb k0_t3_loop.ub k0_t3_loop.st = _ from trips3] at h
  exact h

/-- The fourth loop run to its end. -/
theorem run4 {β : Type} (kk : Unit → Prog (TpuEff nD τ sig (Elt F) Λ₀ .tc) β) (Q : β → sProp 𝕄) :
    state c tord tab tdst arg4 harg4 arg5 harg5 arg6 X cnt 1946 (divided (i 0).val tord tab tdst X cnt 0)
      ⊢ iprop((∀ acc, state c tord tab tdst arg4 harg4 arg5 harg5 arg6 X cnt 1946 (divided (i 0).val tord tab tdst X cnt 102)
            -∗ wp frame (wpE (defs₀ (F := F)) Variants.none (c : Thread nD τ) none) Set.univ (kk acc) Q)
          -∗ wp frame (wpE (defs₀ (F := F)) Variants.none (c : Thread nD τ) none) Set.univ
            (Scf.Loop.for k0_t4_loop k0_t4_ok () (k0_t4_body i ordM (Memref.isWhole_whole _) abM (Memref.isWhole_whole _) dstM (Memref.isWhole_whole _) arg4 harg4 arg5 harg5 arg6 harg6) >>= kk) Q) := by
  have h := exec_loop (kk := kk) (Q := Q) _ _ _ _ _ _ _ _ _ (loop4 c i tord tab tdst arg4 harg4 arg5 harg5 arg6 harg6 X cnt )
  dsimp only [loop4] at h
  rw [show Scf.trips k0_t4_loop.lb k0_t4_loop.ub k0_t4_loop.st = _ from trips4] at h
  exact h

include hord hab hdst in
/-- The kernel on one sample: the inputs as they were, the output block at `outBlk`. -/
theorem kernel_run (K : PUnit → sProp 𝕄) :
    iprop(owns (c : Thread nD τ) arg4 fullShare X ∗ owns (c : Thread nD τ) arg5 fullShare cnt ∗ (∃ d, owns (c : Thread nD τ) arg6 fullShare d)
        ∗ (tbPt c ordM tord ∗ tbPt c abM tab ∗ tbPt c dstM tdst)
        ∗ (iprop(owns (c : Thread nD τ) arg4 fullShare X ∗ owns (c : Thread nD τ) arg5 fullShare cnt
            ∗ owns (c : Thread nD τ) arg6 fullShare (outBlk (i 0).val tord tab tdst X cnt)
            ∗ (tbPt c ordM tord ∗ tbPt c abM tab ∗ tbPt c dstM tdst)) -∗ K ⟨⟩))
      ⊢ wp frame (wpE (defs₀ (F := F)) Variants.none (c : Thread nD τ) none) Set.univ
        (cc0__merge_kernel i ordM (Memref.isWhole_whole _) abM (Memref.isWhole_whole _) dstM (Memref.isWhole_whole _) arg4 harg4 arg5 harg5 arg6 harg6) K := by
  simp only [cc0__merge_kernel_eq_skeleton]; unfold cc0__merge_kernel_skel
  unfold owns
  iintro ⟨⟨%f0, %hf0, H0⟩, ⟨%f1, %hf1, H1⟩, ⟨%d2, %f2, -, H2⟩, ⟨HT, HA, HD⟩, Hk⟩
  obtain rfl := harg4.eq_unread hf0
  obtain rfl := harg5.eq_unread hf1
  iapply (run1 c i tord tab tdst arg4 harg4 arg5 harg5 arg6 harg6 X cnt hord) $$ [H0 H1 H2 HT HA HD]
  · isplitl [H0 H1 HT HA HD]
    · sl_close
    iexists f2
    isplitl [H2]; · iexact H2
    ipureintro
    intro r j hr
    exact absurd hr (Nat.not_lt_zero _)
  iintro %_ HS
  iapply (run2 c i tord tab tdst arg4 harg4 arg5 harg5 arg6 harg6 X cnt hab) $$ [HS]
  · iexact HS
  iintro %_ HS
  iapply (run3 c i tord tab tdst arg4 harg4 arg5 harg5 arg6 harg6 X cnt hab hdst) $$ [HS]
  · iexact HS
  iintro %_ HS
  rw [← divided_zero c i tord tab tdst X cnt]
  iapply (run4 c i tord tab tdst arg4 harg4 arg5 harg5 arg6 harg6 X cnt) $$ [HS]
  · iexact HS
  iintro %_ ⟨⟨HT, HA, HD, H0, H1⟩, ⟨%f, HO, %hf⟩⟩
  sl_step
  iapply Hk
  isplitl [H0]
  · iexists _; isplitr; · ipureintro; exact harg4.read_unread _
    iexact H0
  isplitl [H1]
  · iexists _; isplitr; · ipureintro; exact harg5.read_unread _
    iexact H1
  isplitl [HO]
  · iexists f; isplitr; · ipureintro; exact held_out c i tord tab tdst arg6 X cnt f hf
    iexact HO
  sl_close

end Loops

end Cert.MergeIdeal.Merge

end
-- ==== Proof.MergeFrame.lean ====
module

public import proofs.«01_k».proof.Proof.MergeKernel
public import Idealize.ShloMosaic.Lib.Claim

@[expose] public section

set_option maxRecDepth 16384

noncomputable section

namespace Cert.MergeIdeal.Merge

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the kernel is entered: as launched. -/
abbrev V (c : Dev nD) (b : Ref sig .tc) : Buf (Elt F) ((c : Thread nD τ).loc b) := m ((c : Thread nD τ).loc b)

/-- The program is the kernel's call alone. -/
theorem entry (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The three tables' contents. -/
def tbl : pre0.Contents (Elt F) := fun j => V m (0 : Dev nD) (pre0.ref j)

/-- There is one device. -/
theorem V_pre (c : Dev nD) (j : Fin 3) : V m c (pre0.ref j) = tbl m j := by
  obtain rfl : c = 0 := Subsingleton.elim _ _
  rfl

/-- The tables lie in their ranges. -/
structure InRange : Prop where
  /-- the order's words are row numbers -/
  ord : ∀ j, (show BitVec 32 from tbl m 0 j).toNat < 2048
  /-- the partition's words are row numbers -/
  ab : ∀ j, (show BitVec 32 from tbl m 1 j).toNat < 2048
  /-- the partners' words are numbers of merged rows -/
  dst : ∀ j, (show BitVec 32 from tbl m 2 j).toNat < 102

/-- No block's place depends on a table. -/
theorem ok : ok0 (F := F) (tbl m) := trivial

/-- The tables of the run, at contents that keep the windows inside their arrays. -/
abbrev adm : (pcfg0 (F := F)).Adm := ⟨tbl m, ok m⟩
/-- The pipeline at those tables. -/
abbrev cfgM : Pipeline.Cfg sig Λ₀ := cfg0 (adm m)

/-- The tables as the kernel is handed them. -/
theorem tables_eq (c : Dev nD) : (Pipeline.ΦT pre0 (tbl m) c : sProp 𝕄)
    = iprop(tbPt c ordM (tbl m 0) ∗ tbPt c abM (tbl m 1) ∗ tbPt c dstM (tbl m 2)) := by
  unfold Pipeline.ΦT Pipeline.prefHeld
  rw [bigSep_univ_eq_bigSepL [(0 : Fin 3), (1 : Fin 3), (2 : Fin 3)] (by decide) (by decide)]
  rfl

/-- A window's block at a point, of its array as launched. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Each window's current buffer at a point, and its wholeness. -/
abbrev ms0 (t : Fin (cfgM m).N) : Memref sig .tc .vmem S1x2048x1024 .f32 := spec0_0.stage ((cfgM m).slots t 0)
/-- It is a whole buffer. -/
abbrev hs0 (t : Fin (cfgM m).N) : (ms0 m t).IsWhole := hstage0_0 (((cfgM m).slots t 0).cast nbuf0_0)
/-- The staging buffer of the counts at point `t`, -/
abbrev ms1 (t : Fin (cfgM m).N) : Memref sig .tc .vmem S1x102x1 .f32 := spec0_1.stage ((cfgM m).slots t 1)
/-- a whole buffer. -/
abbrev hs1 (t : Fin (cfgM m).N) : (ms1 m t).IsWhole := hstage0_1 (((cfgM m).slots t 1).cast nbuf0_1)
/-- The staging buffer of the result at point `t`, -/
abbrev ms2 (t : Fin (cfgM m).N) : Memref sig .tc .vmem S1x1946x1024 .f32 := spec0_2.stage ((cfgM m).slots t 2)
/-- a whole buffer. -/
abbrev hs2 (t : Fin (cfgM m).N) : (ms2 m t).IsWhole := hstage0_2 (((cfgM m).slots t 2).cast nbuf0_2)

/-- What the kernel leaves in the output's buffer at a point. -/
def outAt (c : Dev nD) (t : Fin (cfgM m).N) : Vec F S1x1946x1024 .f32 :=
  outBlk ((grid0.coords t) 0).val (tbl m 0) (tbl m 1) (tbl m 2) (iblk m c 0 t) (iblk m c 1 t)

/-- The run's data: arrays as launched, inputs left in place, the output's block at `outAt`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outAt m c t
  Φ _ := iprop(Pipeline.ΦA spec0 c ∗ Pipeline.ΦT pre0 (tbl m) c)
  q _ := fullShare
  owed _ := 0

/-- Each window's array starts at the contents of its reference. -/
theorem A_eq (c : Dev nD) (w : Fin (cfgM m).W) : (dats m 0 c).A w = V m c (Pipeline.arrRef spec0 w) := by
  dsimp only [dats]

/-- The tokens' block is left as fetched, -/
theorem after0 (c : Dev nD) (t : Fin (cfgM m).N) : (dats m 0 c).after 0 t = iblk m c 0 t := by dsimp only [dats]; try rfl
/-- and so is that of the counts; -/
theorem after1 (c : Dev nD) (t : Fin (cfgM m).N) : (dats m 0 c).after 1 t = iblk m c 1 t := by dsimp only [dats]; try rfl
/-- the result's block holds what the four loops leave. -/
theorem after2 (c : Dev nD) (t : Fin (cfgM m).N) : (dats m 0 c).after 2 t = outAt m c t := by dsimp only [dats]; try rfl

/-- The sample's buffer holds the sample at every point. -/
theorem before0 (c : Dev nD) (t : Fin (cfgM m).N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- The counts' buffer holds the sample's counts at every point. -/
theorem before1 (c : Dev nD) (t : Fin (cfgM m).N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- What the kernel is called with at a point, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

/-- The kernel as it is called at a point. -/
abbrev bodyAt (t : Fin (cfgM m).N) : Prog (TpuEff nD τ sig (Elt F) Λ₀ .tc) PUnit :=
  cc0__merge_kernel (grid0.coords t) ordM (Memref.isWhole_whole _) abM (Memref.isWhole_whole _) dstM (Memref.isWhole_whole _)
    (ms0 m t) (hs0 m t) (ms1 m t) (hs1 m t) (ms2 m t) (hs2 m t)

variable (hR : InRange m)

include hR in
/-- The kernel at any point takes what it is called with to what it returns. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, tables_eq]
  unfold outAt
  iintro ⟨⟨HΦ, HT⟩, Ho, ⟨%d0, H0⟩, ⟨%d1, H1⟩, ⟨%d2, H2⟩⟩
  iapply (kernel_run c (grid0.coords t) (tbl m 0) (tbl m 1) (tbl m 2) (ms0 m t) (hs0 m t) (ms1 m t) (hs1 m t) (ms2 m t) (hs2 m t)
    (iblk m c 0 t) (iblk m c 1 t) hR.ord hR.ab hR.dst _)
  isplitl [H0]; · iexact H0
  isplitl [H1]; · iexact H1
  isplitl [H2]; · iexists _; iexact H2
  isplitl [HT]; · iexact HT
  iintro ⟨H0, H1, H2, HT⟩
  isplitl [HΦ HT]
  · isplitl [HΦ]
    · iexact HΦ
    iexact HT
  isplitl [Ho]; · iexact Ho
  isplitl [H0]; · iexact H0
  isplitl [H1]; · iexact H1
  iexact H2

/-- One grid point: from the fetched blocks, the body leaves what `dats` says. -/
theorem row (t : Fin (cfgM m).N) :
    defs₀ (F := F) .tc (cfgM m).body ((cfgM m).bodyArgs t ((cfgM m).slots t)) = bodyAt m t := by
  unfold defs₀; rw [Defs.onTc_tc]

include hR in
/-- The kernel at every point, as the launch asks it. -/
theorem body_obligation (c : Dev nD) : BodyObligation (dats (F := F) m 0 c) (defs₀ (F := F)) Variants.none () Set.univ := fun t => by
  rw [bigSep_W0, bigSep_W0, row m]
  exact triple_restated (sound_body m hR c t) rfl .rfl fun _ => .rfl

set_option backward.isDefEq.respectTransparency.types false in
include hR in
/-- The launch: every run ends with the arrays at what the run's data say, and every semaphore at zero. -/
theorem launch : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m hR c).loose) (hshare := fun c => (dats m 0 c).share_full fun _ => rfl)
    (howed := fun _ _ => rfl) (V := V m) (hmain := entry m Variants.none) (hA := A_eq m) (hpf := V_pre m)
    (hΦ := fun _ _ => rfl)

include hR in
/-- Every run ends, the arguments unchanged, the result at what the run's data say, every semaphore at zero. -/
theorem run_ends : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v0) = (dats m 0 c).arrAt 2 (cfgM m).N)
      ∧ r.2.sem = fun _ => 0) :=
  (θ_run defs _ _).mono (fun _ h => ⟨fun c => ⟨⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      ((h.1 c).1 0).trans (((dats m 0 c).arrAt_in 0 rfl _).trans (A_eq m c 0)),
      ((h.1 c).1 1).trans (((dats m 0 c).arrAt_in 1 rfl _).trans (A_eq m c 1))⟩, (h.1 c).1 2⟩, h.2⟩) (launch m ρ hR)

end Cert.MergeIdeal.Merge

end
-- ==== Proof.MergeArray.lean ====
/- What the merge's result array holds: row by row, what its sample's grid step left. -/
module

public import proofs.«01_k».proof.Proof.MergeFrame
public import Idealize.ShloMosaic.Lib.Pipeline.Value

@[expose] public section

set_option maxRecDepth 16384

noncomputable section

namespace Cert.MergeIdeal.Merge

open Cert.MergeIdeal Cert.MergeIdeal.Gen
open Idealize.ShloMosaic Idealize.ShloMosaic.TcCoe Idealize.ShloMosaic.ValueIdx Idealize.SL.Sem

variable {F : FTy → Type} [FloatOps F]

variable (m : (ℓ : Loc nD τ sig) → Buf (Elt F) ℓ)

/-- Each grid step's blocks are its sample's. -/
theorem idx : ∀ t : Fin grid0.N, cc0_transform_0 (grid0.coords t) = ![t.val, 0, 0] ∧ cc0_transform_1 (grid0.coords t) = ![t.val, 0, 0]
    ∧ cc0_transform_2 (grid0.coords t) = ![t.val, 0, 0] ∧ (grid0.coords t 0).val = t.val := by decide +kernel

/-- The sample, and its counts. -/
def sample (x : FVec F S4x2048x1024 .f32) (b : Fin 4) : Vec F S1x2048x1024 .f32 := fun y => x (ix3 b (y 1) (y 2))
/-- The counts of one sample, as a block. -/
def counts (n : FVec F S4x102x1 .f32) (b : Fin 4) : Vec F S1x102x1 .f32 := fun y => n (ix3 b (y 1) (y 2))

/-- The result array. -/
def G (c : Dev nD) : S4x1946x1024.Idx → Elt F .f32 := fun i =>
  divided (i 0).val (tbl m 0) (tbl m 1) (tbl m 2) (sample (V m c main_arg3) (i 0)) (counts (V m c main_arg4) (i 0)) 102 (i 1).val (i 2)

/-- A grid step reads its sample. -/
theorem iblk0 (c : Dev nD) (t : Fin (cfgM m).N) (b : Fin 4) (hb : b.val = t.val) : iblk m c 0 t = sample (V m c main_arg3) b := by
  refine funext fun (y : S1x2048x1024.Idx) => ?_
  have h0 : (y 0).val < 1 := (y 0).isLt
  refine congrArg (V m c main_arg3) (funext fun a => Fin.ext ?_)
  match a with
  | ⟨0, _⟩ => show cc0_transform_0 (grid0.coords t) 0 * 1 + 1 * (y 0).val = b.val; rw [(idx t).1]; show t.val * 1 + 1 * (y 0).val = b.val; omega
  | ⟨1, _⟩ => show cc0_transform_0 (grid0.coords t) 1 * 2048 + 1 * (y 1).val = (y 1).val; rw [(idx t).1]; show 0 * 2048 + 1 * (y 1).val = (y 1).val; omega
  | ⟨2, _⟩ => show cc0_transform_0 (grid0.coords t) 2 * 1024 + 1 * (y 2).val = (y 2).val; rw [(idx t).1]; show 0 * 1024 + 1 * (y 2).val = (y 2).val; omega

/-- A grid step reads its sample's counts. -/
theorem iblk1 (c : Dev nD) (t : Fin (cfgM m).N) (b : Fin 4) (hb : b.val = t.val) : iblk m c 1 t = counts (V m c main_arg4) b := by
  refine funext fun (y : S1x102x1.Idx) => ?_
  have h0 : (y 0).val < 1 := (y 0).isLt
  refine congrArg (V m c main_arg4) (funext fun a => Fin.ext ?_)
  match a with
  | ⟨0, _⟩ => show cc0_transform_1 (grid0.coords t) 0 * 1 + 1 * (y 0).val = b.val; rw [(idx t).2.1]; show t.val * 1 + 1 * (y 0).val = b.val; omega
  | ⟨1, _⟩ => show cc0_transform_1 (grid0.coords t) 1 * 102 + 1 * (y 1).val = (y 1).val; rw [(idx t).2.1]; show 0 * 102 + 1 * (y 1).val = (y 1).val; omega
  | ⟨2, _⟩ => show cc0_transform_1 (grid0.coords t) 2 * 1 + 1 * (y 2).val = (y 2).val; rw [(idx t).2.1]; show 0 * 1 + 1 * (y 2).val = (y 2).val; omega

/-- Where an element of a grid step's block lies in the array. -/
theorem emb_out (t : Fin (cfgM m).N) (b : Fin 4) (hb : b.val = t.val) (y : S1x1946x1024.Idx) :
    (((cfgM m).win 2).blk t).view.emb y = (ix3 b (y 1) (y 2) : S4x1946x1024.Idx) := by
  have h0 : (y 0).val < 1 := (y 0).isLt
  refine funext fun a => Fin.ext ?_
  match a with
  | ⟨0, _⟩ => show cc0_transform_2 (grid0.coords t) 0 * 1 + 1 * (y 0).val = b.val; rw [(idx t).2.2.1]; show t.val * 1 + 1 * (y 0).val = b.val; omega
  | ⟨1, _⟩ => show cc0_transform_2 (grid0.coords t) 1 * 1946 + 1 * (y 1).val = (y 1).val; rw [(idx t).2.2.1]; show 0 * 1946 + 1 * (y 1).val = (y 1).val; omega
  | ⟨2, _⟩ => show cc0_transform_2 (grid0.coords t) 2 * 1024 + 1 * (y 2).val = (y 2).val; rw [(idx t).2.2.1]; show 0 * 1024 + 1 * (y 2).val = (y 2).val; omega

/-- What a grid step writes back is its block of the result array. -/
theorem flushed (c : Dev nD) (t : Fin (cfgM m).N) : (dats m 0 c).flushed 2 t = (((cfgM m).win 2).blk t).view.read (Elt F) (G m c) := by
  show ((cfgM m).win 2).cut (grid0.coords t) ((dats m 0 c).after 2 t) = _
  rw [after2]
  have hN : t.val < 4 := lt_of_lt_of_eq t.isLt N_0
  have hb : (⟨t.val, hN⟩ : Fin 4).val = t.val := rfl
  refine funext fun (y : S1x1946x1024.Idx) => ?_
  refine Eq.trans ?_ (congrArg (G m c) (emb_out m t ⟨t.val, hN⟩ hb y).symm)
  show outAt m c t _ = _
  unfold outAt outBlk G
  rw [iblk0 m c t _ hb, iblk1 m c t _ hb, (idx t).2.2.2]
  rfl

/-- Every grid step writes its block back. -/
theorem flush_out (t : Fin (cfgM m).N) : ((cfgM m).win 2).flush t = true :=
  Pipeline.Window.flushOf_reads cc0_transform_2 reads0_2 hreads0_2 0 (by decide) (by decide)
    (Pipeline.Window.sep_of_coord cc0_transform_2 0 0 (fun _ => rfl) (by decide)) (P := 1) (m := 0) (by decide) rfl t |>.mpr (Nat.mod_one _)

/-- A sample's rows lie in its grid step's block. -/
theorem mem_out (t : Fin (cfgM m).N) (b : Fin 4) (hb : b.val = t.val) (y : S1x1946x1024.Idx) (i : S4x1946x1024.Idx)
    (hi : (ix3 b (y 1) (y 2) : S4x1946x1024.Idx) = i) : i ∈ (((cfgM m).win 2).blk t).view.set :=
  Eq.subst (motive := fun z : S4x1946x1024.Idx => z ∈ (((cfgM m).win 2).blk t).view.set) ((emb_out m t b hb y).trans hi)
    ((((cfgM m).win 2).blk t).view.emb_mem_set y)

/-- The result array after the run. -/
theorem array_eq (c : Dev nD) : (dats m 0 c).arrAt 2 (cfgM m).N = G m c :=
  (dats m 0 c).arrAt_eq_of_cover 2 _ (fun t _ => flushed m c t) fun (i : S4x1946x1024.Idx) =>
    have h0 : (i 0).val < 4 := (i 0).isLt
    ⟨⟨(i 0).val, lt_of_lt_of_eq h0 N_0.symm⟩, flush_out m _, mem_out m _ (i 0) rfl (ix3 0 (i 1) (i 2)) i (eq_ix3 i).symm⟩

end Cert.MergeIdeal.Merge

end
-- ==== Proof.MergePre.lean ====
/- The precondition of the merge, read back: every word of the three tables lies in its range. -/
module

public import proofs.«01_k».proof.Proof.MergeFrame
public import proofs.«01_k».proof.Proof.Gen.Pre_in_ranges
public import Idealize.ShloMosaic.Lib.ReduceAll

@[expose] public section

set_option maxRecDepth 16384

noncomputable section

namespace Cert.MergeIdeal.Merge

open Cert.MergeIdeal Cert.MergeIdeal.Gen
open Idealize.ShloMosaic Idealize.ShloMosaic.TcCoe Idealize.ShloMosaic.ValueIdx

variable {F : FTy → Type} [FloatOps F]

/-- A word that is at least 0 and below `n`, both read signed, is below `n`. -/
theorem word_lt (w : BitVec 32) (n : ℕ) (hn : n < 2 ^ 31)
    (h : IntOp.andi (IntOp.cmpi .sge w 0#32) (IntOp.cmpi .slt w (BitVec.ofNat 32 n)) = 1#1) : w.toNat < n := by
  obtain ⟨h0, h1⟩ := IntOp.andi_eq_one.1 h
  have h0 := IntOp.cmpi_sge.1 h0
  have h1 := IntOp.cmpi_slt.1 h1
  have e : (BitVec.ofNat 32 n).toInt = n := by
    rw [BitVec.toInt_eq_toNat_cond, BitVec.toNat_ofNat]; omega
  rw [e] at h1
  rw [BitVec.toInt_zero] at h0
  have := w.isLt
  rw [BitVec.toInt_eq_toNat_cond] at h0 h1
  split at h0 <;> omega

/-- The scalar shape has one index. -/
instance : Subsingleton Cert.Pre_in_ranges.S_.Idx := ⟨fun a b => funext fun i => i.elim0⟩

/-- The precondition says that the words of each table lie in its range. -/
theorem ranges (o a : IVec S8192 32) (d : IVec S408 32) (x : FVec F S4x2048x1024 .f32) (n : FVec F S4x102x1 .f32)
    (h : Cert.Pre_in_ranges.fn (F := F) o a d x n = fun _ => 1#1) :
    (∀ j, (o j).toNat < 2048) ∧ (∀ j, (a j).toNat < 2048) ∧ ∀ j, (d j).toNat < 102 := by
  have h := congrFun h ValueIdx.ix0
  unfold Cert.Pre_in_ranges.fn Cert.Pre_in_ranges.fn_part1 at h
  obtain ⟨h, h3⟩ := IntOp.andi_eq_one.1 h
  obtain ⟨h1, h2⟩ := IntOp.andi_eq_one.1 h
  exact ⟨fun j => word_lt _ 2048 (by decide) (Host.reduce_andi_all _ _ _ _ _ h1 j),
    fun j => word_lt _ 2048 (by decide) (Host.reduce_andi_all _ _ _ _ _ h2 j),
    fun j => word_lt _ 102 (by decide) (Host.reduce_andi_all _ _ _ _ _ h3 j)⟩

/-- A memory that meets the precondition has its tables in their ranges. -/
theorem inRange (m : (ℓ : Loc nD τ sig) → Buf (Elt F) ℓ)
    (h : Cert.Pre_in_ranges.fn (F := F) (m (((0 : Dev nD) : Thread nD τ).loc main_arg0)) (m (((0 : Dev nD) : Thread nD τ).loc main_arg1))
      (m (((0 : Dev nD) : Thread nD τ).loc main_arg2)) (m (((0 : Dev nD) : Thread nD τ).loc main_arg3))
      (m (((0 : Dev nD) : Thread nD τ).loc main_arg4)) = fun _ => 1#1) : InRange m :=
  have hr := ranges _ _ _ _ _ h
  ⟨hr.1, hr.2.1, hr.2.2⟩

end Cert.MergeIdeal.Merge

end
-- ==== Proof.MergeScatter.lean ====
/- Rows added at an index, element by element. -/
module

public import proofs.«01_k».proof.Proof.Gen.MergeReferenceIdeal.Run
public import Idealize.ShloMosaic.Lib.Pointwise

@[expose] public section

set_option maxRecDepth 16384

noncomputable section

namespace Cert.MergeReferenceIdeal.Merge

open Cert.MergeReferenceIdeal Cert.MergeReferenceIdeal.Gen
open Idealize.ShloMosaic Idealize.ShloMosaic.TcCoe

/-- The dimension numbers of the addition at an index. -/
abbrev addDims := scatter_S4x102x1024_S4x102x2_S4x102x1024_2_01_01_2

variable (idx : IVec S4x102x2 32)

/-- The scatter's start on the sample's axis is the index's first component, -/
theorem start0 (y : S4x102x1024.Idx) : addDims.start y idx 0 = (idx (ix3 (y 0) (y 1) 0)).toInt := by
  unfold ScatterDims.start
  rw [dif_pos (by decide)]
  congr 2
  funext b; refine Fin.ext ?_
  match b with
  | ⟨0, _⟩ => rfl
  | ⟨1, _⟩ => rfl
  | ⟨2, _⟩ => rfl

/-- on the rows' axis its second, -/
theorem start1 (y : S4x102x1024.Idx) : addDims.start y idx 1 = (idx (ix3 (y 0) (y 1) 1)).toInt := by
  unfold ScatterDims.start
  rw [dif_pos (by decide)]
  congr 2
  funext b; refine Fin.ext ?_
  match b with
  | ⟨0, _⟩ => rfl
  | ⟨1, _⟩ => rfl
  | ⟨2, _⟩ => rfl

/-- and zero along the row. -/
theorem start2 (y : S4x102x1024.Idx) : addDims.start y idx 2 = 0 := by
  unfold ScatterDims.start
  rw [dif_neg (by decide)]

/-- The window runs along the row only. -/
theorem window0 (y : S4x102x1024.Idx) : addDims.window y 0 = 0 := by
  unfold ScatterDims.window
  rw [dif_neg (by decide)]
/-- No window offset along the tokens, -/
theorem window1 (y : S4x102x1024.Idx) : addDims.window y 1 = 0 := by
  unfold ScatterDims.window
  rw [dif_neg (by decide)]
/-- and along the channels that of the update. -/
theorem window2 (y : S4x102x1024.Idx) : addDims.window y 2 = (y 2).val := by
  unfold ScatterDims.window
  rw [dif_pos (by decide)]
  rfl

/-- With indices in range, an update lands in its own sample, at the row its index names, in its own column. -/
theorem lands (h0 : ∀ b k, (idx (ix3 b k 0)).toInt = (b.val : ℤ)) (h1 : ∀ b k, (idx (ix3 b k 1)).toNat < 102) (y : S4x102x1024.Idx) :
    addDims.resultIdx? y idx = some (ix3 (y 0) ⟨(idx (ix3 (y 0) (y 1) 1)).toNat, h1 _ _⟩ (y 2)) := by
  have t1 : (idx (ix3 (y 0) (y 1) 1)).toInt = ((idx (ix3 (y 0) (y 1) 1)).toNat : ℤ) := by
    have := h1 (y 0) (y 1)
    rw [BitVec.toInt_eq_toNat_cond]; split <;> omega
  have e : ∀ a, addDims.start y idx a + addDims.window y a = ((ix3 (y 0) ⟨(idx (ix3 (y 0) (y 1) 1)).toNat, h1 _ _⟩ (y 2) : S4x102x1024.Idx) a : ℤ) := fun a => by
    match a with
    | ⟨0, _⟩ => refine (congrArg₂ (fun (p : ℤ) (q : ℕ) => p + q) (start0 idx y) (window0 y)).trans ?_; exact (congrArg (fun p : ℤ => p + ((0 : ℕ) : ℤ)) (h0 (y 0) (y 1))).trans (Int.add_zero _)
    | ⟨1, _⟩ => refine (congrArg₂ (fun (p : ℤ) (q : ℕ) => p + q) (start1 idx y) (window1 y)).trans ?_; rw [t1]; exact Int.add_zero _
    | ⟨2, _⟩ => refine (congrArg₂ (fun (p : ℤ) (q : ℕ) => p + q) (start2 idx y) (window2 y)).trans ?_; exact Int.zero_add _
  unfold ScatterDims.resultIdx?
  rw [dif_pos fun a => by
    rw [e]
    exact ⟨Int.natCast_nonneg _, Int.ofNat_lt.2 (Fin.isLt _)⟩]
  refine congrArg some (funext fun a => Fin.ext ?_)
  show (addDims.start y idx a + addDims.window y a).toNat = _
  rw [e]
  rfl

/-- The addition, at an element: the operand's, and every update of the sample whose index names the row. -/
theorem scatter_at (x u : FVec Ideal S4x102x1024 .f32) (h0 : ∀ b k, (idx (ix3 b k 0)).toInt = (b.val : ℤ))
    (h1 : ∀ b k, (idx (ix3 b k 1)).toNat < 102) (b : Fin 4) (i : Fin 102) (j : Fin 1024) :
    Host.scatterAdd addDims x idx u (ix3 b i j)
      = (show EReal from x (ix3 b i j)) + ∑ k : Fin 102, if (idx (ix3 b k 1)).toNat = i.val then (show EReal from u (ix3 b k j)) else 0 := by
  show (show EReal from x (ix3 b i j)) + ∑ y ∈ Finset.univ.filter (fun y => addDims.resultIdx? y idx = some (ix3 b i j)), (show EReal from u y) = _
  congr 1
  rw [← Finset.sum_filter]
  refine Finset.sum_nbij' (fun y : S4x102x1024.Idx => (y 1 : Fin 102)) (fun k => (ix3 b k j : S4x102x1024.Idx)) ?_ ?_ ?_ ?_ ?_
  · intro y hy
    have hy := Option.some.inj ((lands idx h0 h1 y).symm.trans (Finset.mem_filter.1 hy).2)
    have e0 : y 0 = b := congrFun hy 0
    have e1 := congrArg Fin.val (congrFun hy 1)
    rw [← e0]
    exact Finset.mem_filter.2 ⟨Finset.mem_univ _, e1⟩
  · intro k hk
    have hk := (Finset.mem_filter.1 hk).2
    refine Finset.mem_filter.2 ⟨Finset.mem_univ _, (lands idx h0 h1 _).trans (congrArg some ?_)⟩
    funext a
    match a with
    | ⟨0, _⟩ => rfl
    | ⟨1, _⟩ => exact Fin.ext hk
    | ⟨2, _⟩ => rfl
  · intro y hy
    have hy := Option.some.inj ((lands idx h0 h1 y).symm.trans (Finset.mem_filter.1 hy).2)
    have e0 : y 0 = b := congrFun hy 0
    have e2 : y 2 = j := congrFun hy 2
    rw [← e0, ← e2]
    exact (eq_ix3 y).symm
  · intro k hk
    rfl
  · intro y hy
    have hy := Option.some.inj ((lands idx h0 h1 y).symm.trans (Finset.mem_filter.1 hy).2)
    have e0 : y 0 = b := congrFun hy 0
    have e2 : y 2 = j := congrFun hy 2
    rw [← e0, ← e2]
    exact congrArg u (eq_ix3 y)

end Cert.MergeReferenceIdeal.Merge

end
-- ==== Proof.MergeValue.lean ====
/- The reference of the merge as one named term, and what it holds at an element. -/
module

public import proofs.«01_k».proof.Proof.MergeRef
public import proofs.«01_k».proof.Proof.MergeScatter

@[expose] public section

set_option maxRecDepth 16384

noncomputable section

namespace Cert.MergeReferenceIdeal.Merge

open Cert.MergeReferenceIdeal Cert.MergeReferenceIdeal.Gen
open Idealize.ShloMosaic Idealize.ShloMosaic.TcCoe

section Term

variable {F : FTy → Type} [FloatOps F]

/-- The indices of the rows that are kept, -/
def order (o : IVec S8192 32) : IVec S4x1844x1 32 :=
  broadcastInDim S4x1844x1 ![0, 1] bcast_S4x1844_S4x1844x1_0_1 (extractStridedSlice S4x1844 ![0, 0] (shapeCast S4x2048 o shapeCasts_S8192_S4x2048) slices_S4x2048_S4x1844_0_0)

/-- of the rows that are merged away, -/
def first (a : IVec S8192 32) : IVec S4x102x1 32 :=
  broadcastInDim S4x102x1 ![0, 1] bcast_S4x102_S4x102x1_0_1 (extractStridedSlice S4x102 ![0, 0] (shapeCast S4x2048 a shapeCasts_S8192_S4x2048) slices_S4x2048_S4x102_0_0)

/-- and of their partners. -/
def second (a : IVec S8192 32) : IVec S4x102x1 32 :=
  broadcastInDim S4x102x1 ![0, 1] bcast_S4x102_S4x102x1_0_1 (extractStridedSlice S4x102 ![0, 1024] (shapeCast S4x2048 a shapeCasts_S8192_S4x2048) slices_S4x2048_S4x102_0_1024)

/-- The sample's number and the partner's number, for each merged row. -/
def pairs (d : IVec S408 32) : IVec S4x102x2 32 :=
  concatenate S4x102x2 2 [⟨S4x102x1, (broadcastInDim S4x102x1 ![0, 1] bcast_S4x102_S4x102x1_0_1 (broadcastInDim S4x102 ![0, 1] bcast_S4x1_S4x102_0_1
      (select (cmpi .slt (broadcastInDim S4x1 ![0] bcast_S4_S4x1_0 (iotaInDim S4 32 0)) (broadcastInDim S4x1 ![] bcast_S_S4x1 (constantI S_ 32 0#32)))
        (addi (broadcastInDim S4x1 ![0] bcast_S4_S4x1_0 (iotaInDim S4 32 0)) (broadcastInDim S4x1 ![] bcast_S_S4x1 (constantI S_ 32 4#32)))
        (broadcastInDim S4x1 ![0] bcast_S4_S4x1_0 (iotaInDim S4 32 0)))))⟩,
    ⟨S4x102x1, (broadcastInDim S4x102x1 ![0, 1] bcast_S4x102_S4x102x1_0_1
      (select (cmpi .slt (shapeCast S4x102 d shapeCasts_S408_S4x102) (broadcastInDim S4x102 ![] bcast_S_S4x102 (constantI S_ 32 0#32)))
        (addi (shapeCast S4x102 d shapeCasts_S408_S4x102) (broadcastInDim S4x102 ![] bcast_S_S4x102 (constantI S_ 32 102#32)))
        (shapeCast S4x102 d shapeCasts_S408_S4x102)))⟩] concatenates_S4x102x1_S4x102x1_S4x102x2_d2

/-- The kept rows, -/
def keptRows (o : IVec S8192 32) (x : FVec F S4x2048x1024 .f32) : FVec F S4x1844x1024 .f32 :=
  rowsTaken gather_S4x2048x1024_S4x1844x1_S4x1844x1024_2_1_0_0_1_2_111024_wf bcast_S_S4x1844x1 bcast_S1_S1x1x1_2 bcast_S1x1x1_S4x1844x1_0_1_2
    reducesTo_S4x1844x1_S4x1844_d2 h_S_ bcast_S4x1844_S4x1844x1024_0_1 bcast_S_S4x1844x1024 x (order o)

/-- and some merged rows or partners. -/
def someRows (i : IVec S4x102x1 32) (x : FVec F S4x2048x1024 .f32) : FVec F S4x102x1024 .f32 :=
  rowsTaken gather_S4x2048x1024_S4x102x1_S4x102x1024_2_1_0_0_1_2_111024_wf bcast_S_S4x102x1 bcast_S1_S1x1x1_2 bcast_S1x1x1_S4x102x1_0_1_2
    reducesTo_S4x102x1_S4x102_d2 h_S_ bcast_S4x102_S4x102x1024_0_1 bcast_S_S4x102x1024 x i

/-- The reference's result. -/
def merge (o a : IVec S8192 32) (d : IVec S408 32) (x : FVec F S4x2048x1024 .f32) (n : FVec F S4x102x1 .f32) : FVec F S4x1946x1024 .f32 :=
  concatenate S4x1946x1024 1 [⟨S4x1844x1024, keptRows o x⟩,
    ⟨S4x102x1024, Host.divf (Host.scatterAdd addDims (someRows (second a) x) (pairs d) (someRows (first a) x))
      (broadcastInDim S4x102x1024 ![0, 1, 2] bcast_S4x102x1_S4x102x1024_0_1_2 n)⟩] concatenates_S4x1844x1024_S4x102x1024_S4x1946x1024_d1

/-- It is what the reference's run leaves. -/
theorem res_eq (m : (ℓ : Loc nD τ sig) → Buf (Elt F) ℓ) (c : Dev nD) : Value.res_main_v32 m c
    = merge (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Term

/-- The index of a kept row is read off the order's table. -/
theorem order_at (o : IVec S8192 32) (b : Fin 4) (k : Fin 1844) : order o (ix3 b k 0) = o (ix1 ⟨b.val * 2048 + k.val, by omega⟩) := by
  pointwise [order]

/-- The index of a merged row is read off the partition's table. -/
theorem first_at (a : IVec S8192 32) (b : Fin 4) (k : Fin 102) : first a (ix3 b k 0) = a (ix1 ⟨b.val * 2048 + k.val, by omega⟩) := by
  pointwise [first]

/-- The index of a partner is read off the partition's table, half a sample further on. -/
theorem second_at (a : IVec S8192 32) (b : Fin 4) (k : Fin 102) : second a (ix3 b k 0) = a (ix1 ⟨b.val * 2048 + (1024 + k.val), by omega⟩) := by
  pointwise [second]

/-- The first component of an index of the addition is the sample's number. -/
theorem pairs_fst (d : IVec S408 32) (b : Fin 4) (k : Fin 102) : (pairs d (ix3 b k 0)).toInt = (b.val : ℤ) := by
  pointwise [pairs]
  revert b
  decide

/-- The second is the partner's number, read off the partners' table. -/
theorem pairs_snd (d : IVec S408 32) (hd : ∀ j, (d j).toNat < 102) (b : Fin 4) (k : Fin 102) :
    pairs d (ix3 b k 1) = d (ix1 ⟨b.val * 102 + k.val, by omega⟩) := by
  pointwise [pairs]
  refine if_neg fun h => ?_
  have h := IntOp.cmpi_slt.1 h
  have := hd (ix1 ⟨b.val * 102 + k.val, by omega⟩)
  rw [BitVec.toInt_zero, BitVec.toInt_eq_toNat_cond] at h
  split at h <;> omega

variable (o a : IVec S8192 32) (d : IVec S408 32) (x : FVec Ideal S4x2048x1024 .f32) (n : FVec Ideal S4x102x1 .f32)
  (ho : ∀ j, (o j).toNat < 2048) (ha : ∀ j, (a j).toNat < 2048) (hd : ∀ j, (d j).toNat < 102)

/-- A kept row of the result is the row of the sample that the order names. -/
theorem merge_kept (b : Fin 4) (r : Fin 1946) (hr : r.val < 1844) (j : Fin 1024) :
    merge o a d x n (ix3 b r j) = x (ix3 b ⟨(o (ix1 ⟨b.val * 2048 + r.val, by omega⟩)).toNat, ho _⟩ j) := by
  unfold merge
  refine (concatenate_pair_apply_left (t := S4x1946x1024) (s₁ := S4x1844x1024) (s₂ := S4x102x1024) 1 _ _ _ _ rfl (ix3 b ⟨r.val, hr⟩ j) fun q => ?_).trans ?_
  · match q with
    | ⟨0, _⟩ => rfl
    | ⟨1, _⟩ => rfl
    | ⟨2, _⟩ => rfl
  unfold keptRows
  have hi : ∀ y, (order o y).toNat < 2048 := fun y => ho _
  refine (rowsTaken_at _ _ _ _ _ _ _ _ x (order o) hi b ⟨r.val, hr⟩ j).trans ?_
  congr 2
  exact Fin.ext (congrArg BitVec.toNat (order_at o b ⟨r.val, hr⟩))

include hd in
/-- A merged row of the result: the partner with every row that names it added, over the partner's count. -/
theorem merge_merged (b : Fin 4) (i : Fin 102) (j : Fin 1024) :
    merge o a d x n (ix3 b ⟨1844 + i.val, by omega⟩ j)
      = Ideal.div (x (ix3 b ⟨(a (ix1 ⟨b.val * 2048 + (1024 + i.val), by omega⟩)).toNat, ha _⟩ j)
          + ∑ k : Fin 102, if (d (ix1 ⟨b.val * 102 + k.val, by omega⟩)).toNat = i.val
              then x (ix3 b ⟨(a (ix1 ⟨b.val * 2048 + k.val, by omega⟩)).toNat, ha _⟩ j) else 0)
        (n (ix3 b i 0)) := by
  unfold merge
  refine (concatenate_pair_apply_right (t := S4x1946x1024) (s₁ := S4x1844x1024) (s₂ := S4x102x1024) 1 _ _ _ _ rfl rfl (ix3 b i j) (fun q hq => ?_) ?_).trans ?_
  · match q with
    | ⟨0, _⟩ => rfl
    | ⟨1, _⟩ => exact absurd rfl hq
    | ⟨2, _⟩ => rfl
  · exact Nat.add_comm i.val 1844
  show Ideal.div (Host.scatterAdd (F := Ideal) (φ := .f32) addDims (someRows (second a) x) (pairs d) (someRows (first a) x) (ix3 b i j)) (broadcastInDim S4x102x1024 ![0, 1, 2] bcast_S4x102x1_S4x102x1024_0_1_2 n (ix3 b i j)) = _
  have h1 : ∀ b k, (pairs d (ix3 b k 1)).toNat < 102 := fun b k => by rw [pairs_snd d hd]; exact hd _
  have hrow : ∀ (w : IVec S4x102x1 32) (hw : ∀ y, (w y).toNat < 2048) (k : Fin 102),
      someRows w x (ix3 b k j) = x (ix3 b ⟨(w (ix3 b k 0)).toNat, hw _⟩ j) := fun w hw k =>
    rowsTaken_at _ _ _ _ _ _ _ _ x w hw b k j
  have hs : ∀ y, (second a y).toNat < 2048 := fun y => ha _
  have hf : ∀ y, (first a y).toNat < 2048 := fun y => ha _
  refine congrArg₂ Ideal.div ((scatter_at (pairs d) _ _ (pairs_fst d) h1 b i j).trans (congrArg₂ _ ?_ (Finset.sum_congr rfl fun k _ => ?_))) ?_
  · refine (hrow (second a) hs i).trans ?_
    congr 2
    exact Fin.ext (congrArg BitVec.toNat (second_at a b i))
  · rw [pairs_snd d hd]
    refine if_congr Iff.rfl ?_ rfl
    refine (hrow (first a) hf k).trans ?_
    congr 2
    exact Fin.ext (congrArg BitVec.toNat (first_at a b k))
  · pointwise []

end Cert.MergeReferenceIdeal.Merge

end
-- ==== Proof.MergeMath.lean ====
/- The merge kernel's rows are the reference's. -/
module

public import proofs.«01_k».proof.Proof.MergeArray
public import proofs.«01_k».proof.Proof.MergeValue

@[expose] public section

set_option maxRecDepth 16384

noncomputable section

namespace Cert.MergeIdeal.Merge

open Cert.MergeIdeal Cert.MergeIdeal.Gen
open Idealize.ShloMosaic Idealize.ShloMosaic.TcCoe
open Cert.MergeReferenceIdeal.Merge (merge merge_kept merge_merged)

variable (o a : IVec S8192 32) (d : IVec S408 32) (x : FVec Ideal S4x2048x1024 .f32) (n : FVec Ideal S4x102x1 .f32)

/-- A row of a sample, at a row number in range. -/
theorem rowAt_sample (b : Fin 4) (w : BitVec 32) (hw : w.toNat < 2048) (j : Fin 1024) :
    rowAt (sample x b) w.toNat j = x (ix3 b ⟨w.toNat, hw⟩ j) := by
  show x (ValueIdx.ix3 b ⟨min w.toNat 2047, _⟩ j) = _
  refine congrArg x ?_
  show ix3 b _ j = ix3 b _ j
  congr 1
  exact Fin.ext (by show min w.toNat 2047 = w.toNat; omega)

/-- A word of a table of the samples' rows, at an index in range. -/
theorem word_at (t : IVec S8192 32) (p q : ℕ) (hq : q < 8192) (e : p = q) : word t p = (t (ix1 ⟨q, hq⟩)).toNat := by
  subst e
  show (t (ValueIdx.ix1 ⟨min p 8191, _⟩)).toNat = _
  refine congrArg (fun z => (t z).toNat) ?_
  show ix1 _ = ix1 _
  congr 1
  exact Fin.ext (by show min p 8191 = p; omega)

/-- A word of the partners' table, at an index in range. -/
theorem dword_at (t : IVec S408 32) (p q : ℕ) (hq : q < 408) (e : p = q) : dword t p = (t (ix1 ⟨q, hq⟩)).toNat := by
  subst e
  show (t (ValueIdx.ix1 ⟨min p 407, _⟩)).toNat = _
  refine congrArg (fun z => (t z).toNat) ?_
  show ix1 _ = ix1 _
  congr 1
  exact Fin.ext (by show min p 407 = p; omega)

/-- After `k` merged rows a partner holds itself plus those of them that name it. -/
theorem merged_eq (X : Vec Ideal S1x2048x1024 .f32) (b i : ℕ) (j : Fin 1024) : ∀ k, merged (F := Ideal) b a d X k i j
    = (show EReal from rowAt X (word a (2048 * b + i + 1024)) j)
      + ∑ q ∈ Finset.range k, if dword d (102 * b + q) = i then (show EReal from rowAt X (word a (2048 * b + q)) j) else 0
  | 0 => by rw [Finset.sum_range_zero, add_zero]; rfl
  | k + 1 => by
    rw [Finset.sum_range_succ, ← add_assoc, ← merged_eq X b i j k]
    show (if i = dword d (102 * b + k) then _ else _) = _
    by_cases h : i = dword d (102 * b + k)
    · rw [if_pos h, if_pos h.symm]; rfl
    · rw [if_neg h, if_neg (Ne.symm h)]; exact (add_zero _).symm

variable (ho : ∀ j, (o j).toNat < 2048) (ha : ∀ j, (a j).toNat < 2048) (hd : ∀ j, (d j).toNat < 102)

include ho ha hd in
/-- The row the kernel leaves is the reference's. -/
theorem row_eq_ref (b : Fin 4) (r : Fin 1946) (j : Fin 1024) :
    divided b.val o a d (sample x b) (counts n b) 102 r.val j = merge o a d x n (ix3 b r j) := by
  unfold divided
  by_cases hr : r.val < 1844
  · rw [if_pos hr, merge_kept o a d x n ho b r hr j]
    unfold kept
    rw [word_at o _ (b.val * 2048 + r.val) (by omega) (by omega)]
    exact rowAt_sample x b _ (ho _) j
  · obtain ⟨i, hi⟩ : ∃ i : Fin 102, r.val = 1844 + i.val := ⟨⟨r.val - 1844, by omega⟩, by show r.val = 1844 + (r.val - 1844); omega⟩
    obtain rfl : r = ⟨1844 + i.val, Nat.add_lt_add_left i.isLt 1844⟩ := Fin.ext hi
    rw [if_neg hr, if_pos (by show 1844 + i.val - 1844 < 102; omega), merge_merged o a d x n ha hd b i j]
    have e : (⟨1844 + i.val, by omega⟩ : Fin 1946).val - 1844 = i.val := by show 1844 + i.val - 1844 = i.val; omega
    refine congrArg₂ Ideal.div ?_ ?_
    · rw [e, merged_eq, Finset.sum_range]
      refine congrArg₂ _ ?_ (Finset.sum_congr rfl fun k _ => ?_)
      · rw [word_at a _ (b.val * 2048 + (1024 + i.val)) (by omega) (by omega)]
        exact rowAt_sample x b _ (ha _) j
      · rw [dword_at d _ (b.val * 102 + k.val) (by omega) (by omega), word_at a _ (b.val * 2048 + k.val) (by omega) (by omega)]
        exact if_congr Iff.rfl (rowAt_sample x b _ (ha _) j) rfl
    · refine congrArg n ?_
      show ix3 b _ _ = ix3 b i 0
      congr 1
      exact Fin.ext (by show min (1844 + i.val - 1844) 101 = i.val; omega)

end Cert.MergeIdeal.Merge

end
-- ==== Proof.MergeBits.lean ====
/- The merge over the machine's floats. The program printed for that reading and the one printed for the ideal reading
   are one text: no rule rewrote an operation. So what holds of the second over any floats holds of the first. -/
module

public import proofs.«01_k».proof.Defs
public import proofs.«01_k».proof.Proof.Gen.Merge
public import proofs.«01_k».proof.Proof.MergeFrame
public import proofs.«01_k».proof.Proof.MergePre
public import Idealize.ShloMosaic.Lib.Pipeline.Regions

@[expose] public section

noncomputable section

namespace Cert.MergeIdeal.Merge

open Idealize.ShloMosaic Idealize.SL.Sem
open Cert.MergeIdeal

/-- From tables in range the program ends, its arguments unchanged and no semaphore raised; over floats `F`. -/
def Ends (F : FTy → Type) [FloatOps F] [Cert.MergeIdeal.Facts] [Cert.Pre_in_ranges.Facts] : Prop :=
  ∀ (m : (l : Loc nD τ sig) → Buf (Elt F) l) (g : Dev nD → PrngReg),
    (∀ c : Dev nD, (Cert.Pre_in_ranges.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) = (fun _ => 1#1)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- It does, over any floats. -/
theorem ends (F : FTy → Type) [FloatOps F] : Ends F := fun m ρ h =>
  (θ_run defs _ _).mono (fun _ h => ⟨fun c => (h.1 c).1, h.2⟩) (run_ends (F := F) m ρ (inRange m (h 0)))

/-- The claim of the program printed for the machine's floats is that of the other, taken over those floats. -/
theorem same_program : Cert.quiescent_Merge = Ends Bits := by chain_rfl

end Cert.MergeIdeal.Merge

end
-- ==== Proof.ScoresTrip.lean ====
/- The gather kernel on one sample: a loop that copies, trip by trip, one row of each half of the pairs. -/
module

public import proofs.«01_k».proof.Proof.Gen.ScoresIdeal.Loops
public import proofs.«01_k».proof.Proof.Gen.ScoresIdeal.Launch
public import Idealize.ShloMosaic.Lib.WritesUnit
public import Idealize.ShloMosaic.Lib.WholeRead
public import Idealize.ShloMosaic.Lib.ValueLayout
public import Idealize.ShloMosaic.Lib.Pipeline.Frame
public import Idealize.ShloMosaic.Lib.Pipeline.FrameBody
public import Idealize.ShloMosaic.Lib.Exec

@[expose] public section

noncomputable section

namespace Cert.ScoresIdeal.Scores

open Cert.ScoresIdeal Cert.ScoresIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table of the two halves of the pairs. -/
abbrev abM : Memref sig .tc .smem S8192 .i32 := Memref.whole main_arg0
/-- Its contents. -/
abbrev TbBuf (c : Dev nD) : Type := Buf (Elt F) (abM.view.loc (c : Thread nD τ))
/-- The table held at its contents. -/
abbrev tbPt (c : Dev nD) (f : TbBuf (F := F) c) : sProp 𝕄 := abM.view.loc (c : Thread nD τ) ↦{fullShare.right} f

/-- A row of a sample, the row number held inside the sample. -/
def rowAt (X : Vec F S1x2048x1024 .f32) (n : ℕ) (j : Fin 1024) : F .f32 :=
  X (ix3 (0 : Fin 1) (⟨min n 2047, by omega⟩ : Fin 2048) j)

/-- A word of the table, as a number. -/
def word (t : S8192.Idx → BitVec 32) (n : ℕ) : ℕ := (t (ix1 (⟨min n 8191, by omega⟩ : Fin 8192))).toNat

/-- A position below 2048 is inside the sample, -/
theorem chk1_of (w : BitVec 32) (h : w.toNat < 2048) : k0_chk1 w := by
  intro a
  match a with
  | ⟨0, _⟩ => exact Nat.le_refl 1
  | ⟨1, _⟩ => show w.toNat + 1 ≤ 2048; omega
  | ⟨2, _⟩ => exact Nat.le_refl 1024

/-- for the second half as for the first. -/
theorem chk2_of (w : BitVec 32) (h : w.toNat < 2048) : k0_chk2 w := chk1_of w h

/-- One row written: that row holds the payload, every other row what it held. -/
theorem read_row (v : View sig .tc .vmem S1x102x1024 .f32) (f : v.ty.Contents (Elt F)) {off : Fin 3 → ℕ} (o : ℕ)
    (heq : off = ![0, o, 0]) (inb : ∀ a, off a + S1x1x1024.size a ≤ S1x102x1024.size a)
    (w : S1x1x1024.Idx → F .f32) (r : Fin 102) (j : Fin 1024) :
    v.read (Elt F) (v.writes (Elt F) f [⟨Rect.unit (s := S1x102x1024) off S1x1x1024.size inb, w⟩]) (ix3 (0 : Fin 1) r j)
      = if r.val = o then w (ix3 (0 : Fin 1) (0 : Fin 1) j) else v.read (Elt F) f (ix3 (0 : Fin 1) r j) := by
  by_cases h : r.val = o
  · rw [if_pos h]
    refine View.read_writes_cons_unit_of_mem v f inb w [] _ (ix3 (0 : Fin 1) (0 : Fin 1) j) heq fun a => ?_
    match a with
    | ⟨0, _⟩ => rfl
    | ⟨1, _⟩ => exact h
    | ⟨2, _⟩ => exact (Nat.zero_add _).symm
  · rw [if_neg h]
    refine (View.read_writes_cons_unit_of_not_mem v f inb w [] _ heq (1 : Fin 3) ?_).trans rfl
    show r.val < o ∨ o + 1 ≤ r.val
    omega

/-- One row of the sample read. -/
theorem in_row (m : Memref sig .tc .vmem S1x2048x1024 .f32) (h : m.IsWhole) (X : Vec F S1x2048x1024 .f32) {off : Fin 3 → ℕ} (n : ℕ)
    (hn : n < 2048) (heq : off = ![0, n, 0]) (inb : ∀ a, off a + S1x1x1024.size a ≤ S1x2048x1024.size a) (j : Fin 1024) :
    View.readAt (Elt F) m.view (Rect.unit (s := S1x2048x1024) off S1x1x1024.size inb).toLoadRect (h.unread X) (ix3 (0 : Fin 1) (0 : Fin 1) j)
      = rowAt X n j := by
  subst heq
  refine (h.readAt_unread X _ _).trans (congrArg X (funext fun a => Fin.ext ?_))
  match a with
  | ⟨0, _⟩ => rfl
  | ⟨1, _⟩ => show n + 1 * 0 = min n 2047; omega
  | ⟨2, _⟩ => show 0 + 1 * j.val = j.val; omega

/-- A row is copied as it is, -/
theorem pay1_apply (v : Vec F S1x1x1024 .f32) (j : Fin 1024) :
    k0_pay1 v (ix3 (0 : Fin 1) (0 : Fin 1) j) = v (ix3 (0 : Fin 1) (0 : Fin 1) j) := by
  unfold k0_pay1
  rw [shapeCast_ab_1ab_apply, shapeCast_1ab_ab_apply]

/-- of the second half as of the first. -/
theorem pay2_apply (v : Vec F S1x1x1024 .f32) (j : Fin 1024) :
    k0_pay2 v (ix3 (0 : Fin 1) (0 : Fin 1) j) = v (ix3 (0 : Fin 1) (0 : Fin 1) j) := pay1_apply v j

section Trip

variable (c : Dev nD) (i : grid0.Coords) (tab : TbBuf (F := F) c)
  (arg2 : Memref sig .tc .vmem S1x2048x1024 .f32) (harg2 : arg2.IsWhole)
  (arg3 : Memref sig .tc .vmem S1x102x1024 .f32) (harg3 : arg3.IsWhole)
  (arg4 : Memref sig .tc .vmem S1x102x1024 .f32) (harg4 : arg4.IsWhole)
  (X : Vec F S1x2048x1024 .f32)

/-- A block of gathered rows, held at contents `f`. -/
abbrev oPt (arg : Memref sig .tc .vmem S1x102x1024 .f32) (f : Buf (Elt F) (arg.view.loc (c : Thread nD τ))) : sProp 𝕄 :=
  arg.view.loc (c : Thread nD τ) ↦[arg.view.set]{fullShare} f
/-- The sample's block, held at `X`. -/
abbrev xPt : sProp 𝕄 := arg2.view.loc (c : Thread nD τ) ↦[arg2.view.set]{fullShare} (harg2.unread X)
/-- What the kernel only reads: the table and the sample. -/
abbrev ins : sProp 𝕄 := iprop(tbPt c tab ∗ xPt c arg2 harg2 X)

/-- One row of a block is given a value, the other rows kept. -/
def RowSet (arg : Memref sig .tc .vmem S1x102x1024 .f32) (f f' : Buf (Elt F) (arg.view.loc (c : Thread nD τ))) (o : ℕ) (w : Fin 1024 → F .f32) : Prop :=
  ∀ (r : Fin 102) (j : Fin 1024), arg.view.read (Elt F) f' (ix3 (0 : Fin 1) r j)
    = if r.val = o then w j else arg.view.read (Elt F) f (ix3 (0 : Fin 1) r j)

/-- A word read from the table. -/
theorem ab_word {off : Fin 1 → ℕ} (n : ℕ) (hn : n < 8192) (heq : off = ![n]) (h1 : ∀ a, off a + S1.size a ≤ S8192.size a)
    (h2 : 0 < (Rect.unit (s := S8192) off S1.size h1).toLoadRect.shape.numel) :
    (View.readAt (Elt F) abM.view (Rect.unit (s := S8192) off S1.size h1).toLoadRect tab (Shape.Idx.first h2) : BitVec 32).toNat
      = word tab n := by
  subst heq
  refine congrArg (fun y => (tab y : BitVec 32).toNat) (funext fun a => Fin.ext ?_)
  match a with
  | ⟨0, _⟩ =>
    show n + 1 * (Shape.Idx.first h2 0).val = min n 8191
    have : (Shape.Idx.first h2 0).val < 1 := (Shape.Idx.first h2 0).isLt
    omega

/-- A trip of the loop is below the number of pairs, -/
theorem lt1 (k : Fin k0_t1_loop.trips) : k.val < 102 := Nat.lt_of_lt_of_le k.isLt k0_t1_abs.2.1
/-- and a grid point is a sample. -/
theorem bat (i : grid0.Coords) : (i 0).val < 4 := (i 0).isLt

/-- A trip of the loop copies one row of each half. -/
theorem trip (hab : ∀ j, (tab j).toNat < 2048) (k : Fin k0_t1_loop.trips)
    (f : Buf (Elt F) (arg3.view.loc (c : Thread nD τ))) (g : Buf (Elt F) (arg4.view.loc (c : Thread nD τ))) :
    iprop(ins c tab arg2 harg2 X ∗ oPt c arg3 f ∗ oPt c arg4 g) ⊢
      wp frame (wpE (defs₀ (F := F)) Variants.none (c : Thread nD τ) none) Set.univ
        (k0_t1_body (F := F) i abM (Memref.isWhole_whole _) arg2 harg2 arg3 harg3 arg4 harg4 k ())
        (fun _ => iprop(ins c tab arg2 harg2 X ∗ ∃ f' g', oPt c arg3 f' ∗ oPt c arg4 g' ∗
          ⌜RowSet c arg3 f f' k.val (rowAt X (word tab (2048 * (i 0).val + k.val)))
            ∧ RowSet c arg4 g g' k.val (rowAt X (word tab (2048 * (i 0).val + k.val + 1024)))⌝)) := by
  have hk := lt1 k
  have hb := bat i
  sl_unfold [k0_t1_body]
  iintro ⟨⟨HT, HX⟩, HO, HP⟩
  sl_exec (disch := first | exact chk1_of _ (hab _) | exact chk2_of _ (hab _))
  sl_step
  sl_unfold_run_names
  isplitl [HT HX]
  · sl_close
  iexists _, _
  isplitl [HO]
  · iexact HO
  isplitl [HP]
  · iexact HP
  ipureintro
  constructor
  · intro r j
    rw [read_row _ _ k.val (k0_off4_eq k)]
    by_cases hr : r.val = k.val
    · rw [if_pos hr, if_pos hr, pay1_apply]
      refine (in_row arg2 harg2 X _ (hab _) rfl _ j).trans ?_
      exact congrArg (fun n => rowAt X n j) (ab_word c tab _ (by omega) (k0_off1_eq i k) _ _)
    · rw [if_neg hr, if_neg hr]
  · intro r j
    rw [read_row _ _ k.val (k0_off6_eq k)]
    by_cases hr : r.val = k.val
    · rw [if_pos hr, if_pos hr, pay2_apply]
      refine (in_row arg2 harg2 X _ (hab _) rfl _ j).trans ?_
      exact congrArg (fun n => rowAt X n j) (ab_word c tab _ (by omega) (k0_off2_eq i k) _ _)
    · rw [if_neg hr, if_neg hr]

end Trip

end Cert.ScoresIdeal.Scores

end
-- ==== Proof.ScoresKernel.lean ====
module

public import proofs.«01_k».proof.Proof.ScoresTrip

@[expose] public section

noncomputable section

namespace Cert.ScoresIdeal.Scores

open Cert.ScoresIdeal Cert.ScoresIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rows of one half of the pairs: row `r` is the row of the sample that word `o + r` of the table names. -/
def halfBlk (tab : S8192.Idx → BitVec 32) (X : Vec F S1x2048x1024 .f32) (o : ℕ) : Vec F S1x102x1024 .f32 :=
  fun y => rowAt X (word tab (o + (y 1).val)) ⟨(y 2).val, (y 2).isLt⟩

section Loops

variable (c : Dev nD) (i : grid0.Coords) (tab : TbBuf (F := F) c)
  (arg2 : Memref sig .tc .vmem S1x2048x1024 .f32) (harg2 : arg2.IsWhole)
  (arg3 : Memref sig .tc .vmem S1x102x1024 .f32) (harg3 : arg3.IsWhole)
  (arg4 : Memref sig .tc .vmem S1x102x1024 .f32) (harg4 : arg4.IsWhole)
  (X : Vec F S1x2048x1024 .f32)

/-- The first `n` rows of a block are those of the half that starts at word `o`. -/
def Held (arg : Memref sig .tc .vmem S1x102x1024 .f32) (n o : ℕ) (f : Buf (Elt F) (arg.view.loc (c : Thread nD τ))) : Prop :=
  ∀ (r : Fin 102) (j : Fin 1024), r.val < n → arg.view.read (Elt F) f (ix3 (0 : Fin 1) r j) = rowAt X (word tab (o + r.val)) j

/-- The state between trips: what is only read is held, and the first `n` rows of both blocks are copied. -/
abbrev state (n : ℕ) : sProp 𝕄 :=
  iprop(ins c tab arg2 harg2 X ∗ ∃ f g, oPt c arg3 f ∗ oPt c arg4 g
    ∗ ⌜Held c tab X arg3 n (2048 * (i 0).val) f ∧ Held c tab X arg4 n (2048 * (i 0).val + 1024) g⌝)

/-- One more row copied. -/
theorem held_succ (arg : Memref sig .tc .vmem S1x102x1024 .f32) (k o : ℕ) (f f' : Buf (Elt F) (arg.view.loc (c : Thread nD τ)))
    (h : Held c tab X arg k o f) (hs : RowSet c arg f f' k (rowAt X (word tab (o + k)))) : Held c tab X arg (k + 1) o f' := by
  intro r j hr
  rw [hs r j]
  by_cases e : r.val = k
  · rw [if_pos e, e]
  · rw [if_neg e, h r j (by omega)]

/-- Every row held is the whole block held. -/
theorem held_out (arg : Memref sig .tc .vmem S1x102x1024 .f32) (o : ℕ) (f : Buf (Elt F) (arg.view.loc (c : Thread nD τ)))
    (h : Held c tab X arg 102 o f) : arg.view.read (Elt F) f = halfBlk tab X o := by
  funext y
  have e : y = ix3 (0 : Fin 1) (⟨(y 1).val, (y 1).isLt⟩ : Fin 102) (⟨(y 2).val, (y 2).isLt⟩ : Fin 1024) := by
    funext a
    refine Fin.ext ?_
    match a with
    | ⟨0, _⟩ => show (y 0).val = 0; have : (y 0).val < 1 := (y 0).isLt; omega
    | ⟨1, _⟩ => rfl
    | ⟨2, _⟩ => rfl
  exact (congrArg (arg.view.read (Elt F) f) e).trans (h _ _ (y 1).isLt)

/-- The loop makes 102 trips. -/
theorem trips1 : k0_t1_loop.trips = 102 := by decide +kernel

variable (hab : ∀ j, (tab j).toNat < 2048)

set_option warn.classDefReducibility false in
/-- The loop by its invariant: `k` rows of each block copied before trip `k`. -/
def loop1 : LoopInvTy_k0_t1 (F := F) Unit ℕ (UR sig nD τ) ℕ Variants.none c none Set.univ i abM (Memref.isWhole_whole _) arg2 harg2 arg3 harg3 arg4 harg4 where
  inv k _ := state c i tab arg2 harg2 arg3 arg4 X k
  step k acc := by
    iintro ⟨HI, ⟨%f, %g, HO, HP, %hf⟩⟩
    iapply (wp_wand_r Idealize.ShloMosaic.frame (wpE (defs₀ (F := F)) Variants.none (c : Thread nD τ) none) Set.univ)
    isplitl [HI HO HP]
    · iapply (trip c i tab arg2 harg2 arg3 harg3 arg4 harg4 X hab k f g)
      isplitl [HI]; · iexact HI
      isplitl [HO]; · iexact HO
      iexact HP
    · iintro %_ ⟨HI, ⟨%f', %g', HO, HP, %hs⟩⟩
      isplitl [HI]; · iexact HI
      iexists f', g'
      isplitl [HO]; · iexact HO
      isplitl [HP]; · iexact HP
      ipureintro
      refine ⟨held_succ c tab X arg3 k.val _ f f' hf.1 hs.1, held_succ c tab X arg4 k.val _ g g' hf.2 ?_⟩
      have e : 2048 * (i 0).val + 1024 + k.val = 2048 * (i 0).val + k.val + 1024 := by omega
      rw [e]
      exact hs.2

include hab in
/-- The loop run to its end. -/
theorem run1 {β : Type} (kk : Unit → Prog (TpuEff nD τ sig (Elt F) Λ₀ .tc) β) (Q : β → sProp 𝕄) :
    state c i tab arg2 harg2 arg3 arg4 X 0
      ⊢ iprop((∀ acc, state c i tab arg2 harg2 arg3 arg4 X 102
            -∗ wp frame (wpE (defs₀ (F := F)) Variants.none (c : Thread nD τ) none) Set.univ (kk acc) Q)
          -∗ wp frame (wpE (defs₀ (F := F)) Variants.none (c : Thread nD τ) none) Set.univ
            (Scf.Loop.for k0_t1_loop k0_t1_ok () (k0_t1_body i abM (Memref.isWhole_whole _) arg2 harg2 arg3 harg3 arg4 harg4) >>= kk) Q) := by
  have h := exec_loop (kk := kk) (Q := Q) _ _ _ _ _ _ _ _ _ (loop1 c i tab arg2 harg2 arg3 harg3 arg4 harg4 X hab)
  dsimp only [loop1] at h
  rw [show Scf.trips k0_t1_loop.lb k0_t1_loop.ub k0_t1_loop.st = _ from trips1] at h
  exact h

include hab in
/-- The kernel on one sample: what it reads as it was, the two blocks at the two halves' rows. -/
theorem kernel_run (K : PUnit → sProp 𝕄) :
    iprop(owns (c : Thread nD τ) arg2 fullShare X ∗ (∃ d, owns (c : Thread nD τ) arg3 fullShare d) ∗ (∃ d, owns (c : Thread nD τ) arg4 fullShare d)
        ∗ tbPt c tab
        ∗ (iprop(owns (c : Thread nD τ) arg2 fullShare X
            ∗ owns (c : Thread nD τ) arg3 fullShare (halfBlk tab X (2048 * (i 0).val))
            ∗ owns (c : Thread nD τ) arg4 fullShare (halfBlk tab X (2048 * (i 0).val + 1024))
            ∗ tbPt c tab) -∗ K ⟨⟩))
      ⊢ wp frame (wpE (defs₀ (F := F)) Variants.none (c : Thread nD τ) none) Set.univ
        (cc0__ab_gather_kernel i abM (Memref.isWhole_whole _) arg2 harg2 arg3 harg3 arg4 harg4) K := by
  simp only [cc0__ab_gather_kernel_eq_skeleton]; unfold cc0__ab_gather_kernel_skel
  unfold owns
  iintro ⟨⟨%f0, %hf0, H0⟩, ⟨%d1, %f1, -, H1⟩, ⟨%d2, %f2, -, H2⟩, HT, Hk⟩
  obtain rfl := harg2.eq_unread hf0
  iapply (run1 c i tab arg2 harg2 arg3 harg3 arg4 harg4 X hab) $$ [H0 H1 H2 HT]
  · isplitl [H0 HT]
    · sl_close
    iexists f1, f2
    isplitl [H1]; · iexact H1
    isplitl [H2]; · iexact H2
    ipureintro
    exact ⟨fun r j hr => absurd hr (Nat.not_lt_zero _), fun r j hr => absurd hr (Nat.not_lt_zero _)⟩
  iintro %_ ⟨⟨HT, H0⟩, ⟨%f, %g, HO, HP, %hf⟩⟩
  sl_step
  iapply Hk
  isplitl [H0]
  · iexists _; isplitr; · ipureintro; exact harg2.read_unread _
    iexact H0
  isplitl [HO]
  · iexists f; isplitr; · ipureintro; exact held_out c tab X arg3 _ f hf.1
    iexact HO
  isplitl [HP]
  · iexists g; isplitr; · ipureintro; exact held_out c tab X arg4 _ g hf.2
    iexact HP
  iexact HT

end Loops

end Cert.ScoresIdeal.Scores

end
-- ==== Proof.ScoresFrame.lean ====
module

public import proofs.«01_k».proof.Proof.ScoresKernel
public import Idealize.ShloMosaic.Lib.Pipeline.FrameSuffix
public import Idealize.ShloMosaic.Lib.Claim

@[expose] public section

set_option maxRecDepth 16384

noncomputable section

namespace Cert.ScoresIdeal.Scores

open Cert.ScoresIdeal Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operations before and after the call -/

/-- The lines before the call: the norms, the bound, the maximum, the quotient. -/
abbrev lines : List (List (HloOp τ sig (Elt F))) := [hostOps0, hostOps0_1, hostOps0_2, hostOps0_3]
/-- The line after the call: two roundings and a product. -/
abbrev tail : List (List (HloOp τ sig (Elt F))) := [hostOps1]

/-- The buffers when the kernel is entered. -/
abbrev V0 (c : Dev nD) : Valuation τ sig (Elt F) := StableHlo.after (List.flatten lines) (fun b => m (c, b))
/-- The same, at a reference. -/
abbrev V (c : Dev nD) (b : Ref sig .tc) : Buf (Elt F) ((c : Thread nD τ).loc b) := V0 m c (Proc.devRef .tc b)

/-- The program is the lines, the kernel's call and the line after it. -/
theorem entry (𝒱₀ : Variants) : Pipeline.HMainPK (Ix := Unit) (Name := ℕ) (U := UR sig nD τ) (Lvl := ℕ) pcfgs 0 defs₀ 𝒱₀ m (main (F := F)) (V m)
    (fun _ => Pipeline.chain ((tail (F := F)).map StableHlo.seq)) :=
  Pipeline.hmainP_around pcfgs 0 defs₀ 𝒱₀ m main lines tail
    (by simp only [List.Forall]; exact ⟨hostOps0_sub, hostOps0_1_sub, hostOps0_2_sub, hostOps0_3_sub⟩)
    (by simp only [List.Forall]; exact ⟨⟨rfl, rfl, rfl, rfl, rfl⟩, rfl, ⟨rfl, rfl, rfl⟩, rfl, rfl⟩) main_chain

/-- The line after the call touches no table. -/
theorem tail_sub : ∀ ops ∈ (tail (F := F)), ∀ op ∈ ops, op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  simp only [hostOps1, List.mem_cons, List.mem_nil_iff, or_false] at hop
  rcases hop with rfl | rfl | rfl
  all_goals
    intro j
    fin_cases j
    simp only [StableHlo.unary_bufs, StableHlo.binary_bufs, Finset.mem_insert, Finset.mem_singleton, not_or]
    and_intros <;> exact StableHlo.devRef_ne_of_ne (by decide)

/-- It allocates nothing, -/
theorem tail_fresh : ∀ ops ∈ (tail (F := F)), ∀ op ∈ ops, op.fresh = ∅ := by
  intro ops hops op hop
  obtain rfl := List.mem_singleton.mp hops
  simp only [hostOps1, List.mem_cons, List.mem_nil_iff, or_false] at hop
  rcases hop with rfl | rfl | rfl <;> rfl

/-- and writes no array of the call. -/
theorem tail_keeps : ∀ ops ∈ (tail (F := F)), ∀ op ∈ ops, ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl | rfl
  all_goals
    intro w
    fin_cases w <;> simp only [StableHlo.unary_writes, StableHlo.binary_writes, Finset.mem_singleton] <;>
      exact StableHlo.devRef_ne_of_ne (by decide)

/-! ## The call -/

/-- The table's contents. -/
def tbl : pre0.Contents (Elt F) := fun j => V m (0 : Dev nD) (pre0.ref j)

/-- There is one device. -/
theorem V_pre (c : Dev nD) (j : Fin 1) : V m c (pre0.ref j) = tbl m j := by
  obtain rfl : c = 0 := Subsingleton.elim _ _
  rfl

/-- The table lies in its range. -/
def InRange : Prop := ∀ j, (show BitVec 32 from tbl m 0 j).toNat < 2048

/-- No block's place depends on the table. -/
theorem ok : ok0 (F := F) (tbl m) := trivial

/-- The table of the run, at contents that keep the windows inside their arrays. -/
abbrev adm : (pcfg0 (F := F)).Adm := ⟨tbl m, ok m⟩
/-- The pipeline at that table. -/
abbrev cfgM : Pipeline.Cfg sig Λ₀ := cfg0 (adm m)

/-- The table as the kernel is handed it. -/
theorem tables_eq (c : Dev nD) : (Pipeline.ΦT pre0 (tbl m) c : sProp 𝕄) = tbPt c (tbl m 0) := by
  unfold Pipeline.ΦT Pipeline.prefHeld
  rw [bigSep_univ_eq_bigSepL [(0 : Fin 1)] (by decide) (by decide)]
  rfl

/-- A window's block at a point, of its array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The staging buffer of the sample at point `t`, -/
abbrev ms0 (t : Fin (cfgM m).N) : Memref sig .tc .vmem S1x2048x1024 .f32 := spec0_0.stage ((cfgM m).slots t 0)
/-- a whole buffer. -/
abbrev hs0 (t : Fin (cfgM m).N) : (ms0 m t).IsWhole := hstage0_0 (((cfgM m).slots t 0).cast nbuf0_0)
/-- The staging buffer of the first half's rows at point `t`, -/
abbrev ms1 (t : Fin (cfgM m).N) : Memref sig .tc .vmem S1x102x1024 .f32 := spec0_1.stage ((cfgM m).slots t 1)
/-- a whole buffer. -/
abbrev hs1 (t : Fin (cfgM m).N) : (ms1 m t).IsWhole := hstage0_1 (((cfgM m).slots t 1).cast nbuf0_1)
/-- The staging buffer of the second half's rows at point `t`, -/
abbrev ms2 (t : Fin (cfgM m).N) : Memref sig .tc .vmem S1x102x1024 .f32 := spec0_2.stage ((cfgM m).slots t 2)
/-- a whole buffer. -/
abbrev hs2 (t : Fin (cfgM m).N) : (ms2 m t).IsWhole := hstage0_2 (((cfgM m).slots t 2).cast nbuf0_2)

/-- What the kernel leaves in the buffer of the half that starts at word `o` of a sample's words. -/
def outAt (o : ℕ) (c : Dev nD) (t : Fin (cfgM m).N) : Vec F S1x102x1024 .f32 :=
  halfBlk (tbl m 0) (iblk m c 0 t) (2048 * ((grid0.coords t) 0).val + o)

/-- The run's data: arrays as the call finds them, the sample left in place, the two blocks at `outAt`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => outAt m 0 c t
    | ⟨2, _⟩ => outAt m 1024 c t
  Φ _ := iprop(Pipeline.ΦA spec0 c ∗ Pipeline.ΦT pre0 (tbl m) c)
  q _ := fullShare
  owed _ := 0

/-- Each window's array starts at the contents of its reference. -/
theorem A_eq (c : Dev nD) (w : Fin (cfgM m).W) : (dats m 0 c).A w = V m c (Pipeline.arrRef spec0 w) := by
  dsimp only [dats]

/-- The sample's block is left as fetched; -/
theorem after0 (c : Dev nD) (t : Fin (cfgM m).N) : (dats m 0 c).after 0 t = iblk m c 0 t := by dsimp only [dats]; try rfl
/-- the first result's block holds the first half's rows, -/
theorem after1 (c : Dev nD) (t : Fin (cfgM m).N) : (dats m 0 c).after 1 t = outAt m 0 c t := by dsimp only [dats]; try rfl
/-- the second result's the second half's. -/
theorem after2 (c : Dev nD) (t : Fin (cfgM m).N) : (dats m 0 c).after 2 t = outAt m 1024 c t := by dsimp only [dats]; try rfl

/-- The sample's buffer holds the sample at every point. -/
theorem before0 (c : Dev nD) (t : Fin (cfgM m).N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- What the kernel is called with at a point, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

/-- The kernel as it is called at a point. -/
abbrev bodyAt (t : Fin (cfgM m).N) : Prog (TpuEff nD τ sig (Elt F) Λ₀ .tc) PUnit :=
  cc0__ab_gather_kernel (grid0.coords t) abM (Memref.isWhole_whole _) (ms0 m t) (hs0 m t) (ms1 m t) (hs1 m t) (ms2 m t) (hs2 m t)

variable (hR : InRange m)

include hR in
/-- The kernel at any point takes what it is called with to what it returns. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, tables_eq]
  unfold outAt
  iintro ⟨⟨HΦ, HT⟩, Ho, ⟨%d0, H0⟩, ⟨%d1, H1⟩, ⟨%d2, H2⟩⟩
  iapply (kernel_run c (grid0.coords t) (tbl m 0) (ms0 m t) (hs0 m t) (ms1 m t) (hs1 m t) (ms2 m t) (hs2 m t) (iblk m c 0 t) hR _)
  isplitl [H0]; · iexact H0
  isplitl [H1]; · iexists _; iexact H1
  isplitl [H2]; · iexists _; iexact H2
  isplitl [HT]; · iexact HT
  iintro ⟨H0, H1, H2, HT⟩
  isplitl [HΦ HT]
  · isplitl [HΦ]
    · iexact HΦ
    iexact HT
  isplitl [Ho]; · iexact Ho
  isplitl [H0]; · iexact H0
  isplitl [H1]; · iexact H1
  iexact H2

/-- One grid point calls the kernel at its blocks. -/
theorem row (t : Fin (cfgM m).N) :
    defs₀ (F := F) .tc (cfgM m).body ((cfgM m).bodyArgs t ((cfgM m).slots t)) = bodyAt m t := by
  unfold defs₀; rw [Defs.onTc_tc]

include hR in
/-- The kernel at every point, as the launch asks it. -/
theorem body_obligation (c : Dev nD) : BodyObligation (dats (F := F) m 0 c) (defs₀ (F := F)) Variants.none () Set.univ := fun t => by
  rw [bigSep_W0, bigSep_W0, row m]
  exact triple_restated (sound_body m hR c t) rfl .rfl fun _ => .rfl

/-- What a buffer holds when the program ends. -/
abbrev final (c : Dev nD) (b : Ref sig .tc) : Buf (Elt F) ((c : Thread nD τ).loc b) :=
  Pipeline.afterTail pcfgs (fun _ => adm m) (dats m) 0 (V0 m) tail c b

set_option backward.isDefEq.respectTransparency.types false in
include hR in
/-- The launch: every run ends with the arrays at what the run's data say, the other buffers at what the lines leave,
    and every semaphore at zero. -/
theorem launch : θ_run defs (onTc (τ := τ) (main (F := F))) (s₀ m ρ)
    (fun r => (Pipeline.FramePost (Pipeline.pin pcfgs fun _ => adm m) (dats m) 0 (final m)) r ∧ r.2.sem = fun _ => 0) :=
  Pipeline.θ_run_frameP_around (Q' := _) pcfgs (fun _ => adm m) (dats m) (0 : Fin 1) launch0 defs₀ Variants.none m ρ main
    (hbody := fun c => (body_obligation m hR c).loose) (hshare := fun c => (dats m 0 c).share_full fun _ => rfl)
    (howed := fun _ _ => rfl) (V₀ := V0 m) (opss := tail) (hsub := tail_sub) (hfresh := tail_fresh) (hkeep := tail_keeps)
    (hmain := entry m Variants.none) (hA := A_eq m) (hpf := V_pre m) (hΦ := fun _ _ => rfl)

end Cert.ScoresIdeal.Scores

end
-- ==== Proof.ScoresRun.lean ====
/- What the buffers hold when the program ends: the arguments, and the product of the two arrays of gathered rows. -/
module

public import proofs.«01_k».proof.Proof.ScoresFrame
public import Idealize.ShloMosaic.Lib.Pipeline.FrameTail

@[expose] public section

set_option maxRecDepth 16384

noncomputable section

namespace Cert.ScoresIdeal.Scores

open Cert.ScoresIdeal Cert.ScoresIdeal.Gen
open Idealize.ShloMosaic Idealize.ShloMosaic.TcCoe Idealize.SL.Sem
open Facts

variable {F : FTy → Type} [FloatOps F]

variable (m : (ℓ : Loc nD τ sig) → Buf (Elt F) ℓ) (ρ : Dev nD → PrngReg)

/-- The tokens divided by their norms, the norms bounded from below. -/
def normed (x : FVec F S4x2048x1024 .f32) : FVec F S4x2048x1024 .f32 :=
  Host.divf x (broadcastInDim S4x2048x1024 ![0, 1, 2] bcast_S4x2048x1_S4x2048x1024_0_1_2
    (maximumf (broadcastInDim S4x2048x1 ![] bcast_S_S4x2048x1 (constant S_ .f32 0x2B8CBCCC#32))
      (Host.sqrt (broadcastInDim S4x2048x1 ![0, 1] bcast_S4x2048_S4x2048x1_0_1
        (Host.reduceAdd (mulf x x) (constant S_ .f32 0x00000000#32) reducesTo_S4x2048x1024_S4x2048_d2 h_S_)))))

/-- The rounded products of the rows of two arrays. -/
def products (a b : FVec F S4x102x1024 .f32) : FVec F S4x102x102 .f32 :=
  Host.dotGeneral dot_S4x102x1024_S4x102x1024_S4x102x102_2_2_1_1_0_0 none (truncf .bf16 a bitsLt_bf16_f32) (truncf .bf16 b bitsLt_bf16_f32)

/-- The call is handed the table, -/
theorem V_arg0 (c : Dev nD) : V m c main_arg0 = m ((c.tc : Thread nD τ).loc main_arg0) := by
  unfold V V0 lines
  simp only [List.flatten_cons, List.flatten_nil, List.append_nil, List.cons_append, List.nil_append]
  after_results
  try rfl

/-- the tokens stay as launched, -/
theorem V_arg1 (c : Dev nD) : V m c main_arg1 = m ((c.tc : Thread nD τ).loc main_arg1) := by
  unfold V V0 lines
  simp only [List.flatten_cons, List.flatten_nil, List.append_nil, List.cons_append, List.nil_append]
  after_results
  try rfl

/-- and the call is handed the tokens divided by their norms. -/
theorem V_v3 (c : Dev nD) : V m c main_v3 = normed (m ((c.tc : Thread nD τ).loc main_arg1)) := by
  unfold V V0 lines
  simp only [List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  try rfl

/-- The contents at the call's end: the windows' arrays at what the run's data say, the rest as the call found them. -/
abbrev mid (c : Dev nD) : Valuation τ sig (Elt F) :=
  Pipeline.withArrays spec0 c (V0 m c) fun w => (dats m 0 c).arrAt w (cfgM m).N

/-- The first array of gathered rows after the call, -/
theorem mid_v4_0 (c : Dev nD) : mid m c (Proc.devRef .tc main_v4_0) = (dats m 0 c).arrAt 1 (cfgM m).N :=
  Pipeline.withArrays_arr spec0 (launch0 (F := F)).win.arr_inj c (V0 m c) (fun w => (dats m 0 c).arrAt w (cfgM m).N) 1

/-- and the second. -/
theorem mid_v4_1 (c : Dev nD) : mid m c (Proc.devRef .tc main_v4_1) = (dats m 0 c).arrAt 2 (cfgM m).N :=
  Pipeline.withArrays_arr spec0 (launch0 (F := F)).win.arr_inj c (V0 m c) (fun w => (dats m 0 c).arrAt w (cfgM m).N) 2

/-- The result holds the products of the two arrays' rows. -/
theorem final_v7 (c : Dev nD) : final m c main_v7 = products ((dats m 0 c).arrAt 1 (cfgM m).N) ((dats m 0 c).arrAt 2 (cfgM m).N) := by
  show StableHlo.after (List.flatten tail) (mid m c) (Proc.devRef .tc main_v7) = _
  rw [← mid_v4_0, ← mid_v4_1]
  unfold tail
  simp only [List.flatten_cons, List.flatten_nil, List.append_nil]
  after_results
  try rfl

/-- The table is as launched, -/
theorem final_arg0 (c : Dev nD) : final m c main_arg0 = m ((c.tc : Thread nD τ).loc main_arg0) := by
  refine Eq.trans ?_ (V_arg0 m c)
  show StableHlo.after (List.flatten tail) (mid m c) (Proc.devRef .tc main_arg0) = _
  unfold tail
  simp only [List.flatten_cons, List.flatten_nil, List.append_nil]
  after_results
  exact Pipeline.withArrays_of_ne spec0 c (V0 m c) _ main_arg0 (by decide)

/-- and so are the tokens. -/
theorem final_arg1 (c : Dev nD) : final m c main_arg1 = m ((c.tc : Thread nD τ).loc main_arg1) := by
  refine Eq.trans ?_ (V_arg1 m c)
  show StableHlo.after (List.flatten tail) (mid m c) (Proc.devRef .tc main_arg1) = _
  unfold tail
  simp only [List.flatten_cons, List.flatten_nil, List.append_nil]
  after_results
  exact Pipeline.withArrays_of_ne spec0 c (V0 m c) _ main_arg1 (by decide)

/-- Every run ends, the arguments unchanged, the result at the products, every semaphore at zero. -/
theorem run_ends (hR : InRange m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v7) = products ((dats m 0 c).arrAt 1 (cfgM m).N) ((dats m 0 c).arrAt 2 (cfgM m).N))
      ∧ r.2.sem = fun _ => 0) :=
  (θ_run defs _ _).mono (fun _ h => ⟨fun c => ⟨⟨
      ((h.1 c).2 main_arg0 (by decide : main_arg0 ∈ Pipeline.restRefs sig spec0)).trans (final_arg0 m c),
      ((h.1 c).2 main_arg1 (by decide : main_arg1 ∈ Pipeline.restRefs sig spec0)).trans (final_arg1 m c)⟩,
      ((h.1 c).2 main_v7 (by decide : main_v7 ∈ Pipeline.restRefs sig spec0)).trans (final_v7 m c)⟩, h.2⟩) (launch m ρ hR)

end Cert.ScoresIdeal.Scores

end
-- ==== Proof.ScoresArray.lean ====
/- What the two arrays of gathered rows hold: row by row, what their sample's grid step left. -/
module

public import proofs.«01_k».proof.Proof.ScoresRun
public import Idealize.ShloMosaic.Lib.Pipeline.Value

@[expose] public section

set_option maxRecDepth 16384

noncomputable section

namespace Cert.ScoresIdeal.Scores

open Cert.ScoresIdeal Cert.ScoresIdeal.Gen
open Idealize.ShloMosaic Idealize.ShloMosaic.TcCoe Idealize.ShloMosaic.ValueIdx Idealize.SL.Sem

variable {F : FTy → Type} [FloatOps F]

variable (m : (ℓ : Loc nD τ sig) → Buf (Elt F) ℓ)

/-- Each grid step's blocks are its sample's. -/
theorem idx : ∀ t : Fin grid0.N, cc0_transform_0 (grid0.coords t) = ![t.val, 0, 0] ∧ cc0_transform_1 (grid0.coords t) = ![t.val, 0, 0]
    ∧ cc0_transform_2 (grid0.coords t) = ![t.val, 0, 0] ∧ (grid0.coords t 0).val = t.val := by decide +kernel

/-- One sample of the tokens, as a block. -/
def sample (x : FVec F S4x2048x1024 .f32) (b : Fin 4) : Vec F S1x2048x1024 .f32 := fun y => x (ix3 b (y 1) (y 2))

/-- An array of gathered rows: of each sample the rows that its words from word `o` on name. -/
def gathered (tab : S8192.Idx → BitVec 32) (x : FVec F S4x2048x1024 .f32) (o : ℕ) : FVec F S4x102x1024 .f32 := fun i =>
  rowAt (sample x (i 0)) (word tab (2048 * (i 0).val + o + (i 1).val)) (i 2)

/-- A grid step reads its sample. -/
theorem iblk0 (c : Dev nD) (t : Fin (cfgM m).N) (b : Fin 4) (hb : b.val = t.val) : iblk m c 0 t = sample (V m c main_v3) b := by
  refine funext fun (y : S1x2048x1024.Idx) => ?_
  have h0 : (y 0).val < 1 := (y 0).isLt
  refine congrArg (V m c main_v3) (funext fun a => Fin.ext ?_)
  match a with
  | ⟨0, _⟩ => show cc0_transform_0 (grid0.coords t) 0 * 1 + 1 * (y 0).val = b.val; rw [(idx t).1]; show t.val * 1 + 1 * (y 0).val = b.val; omega
  | ⟨1, _⟩ => show cc0_transform_0 (grid0.coords t) 1 * 2048 + 1 * (y 1).val = (y 1).val; rw [(idx t).1]; show 0 * 2048 + 1 * (y 1).val = (y 1).val; omega
  | ⟨2, _⟩ => show cc0_transform_0 (grid0.coords t) 2 * 1024 + 1 * (y 2).val = (y 2).val; rw [(idx t).1]; show 0 * 1024 + 1 * (y 2).val = (y 2).val; omega

/-- What a grid step leaves of a half is its sample's rows of the gathered array. -/
theorem outAt_apply (o : ℕ) (c : Dev nD) (t : Fin (cfgM m).N) (b : Fin 4) (hb : b.val = t.val) (y : S1x102x1024.Idx) :
    outAt m o c t y = gathered (tbl m 0) (V m c main_v3) o (ix3 b (y 1) (y 2)) := by
  unfold outAt halfBlk gathered
  rw [iblk0 m c t b hb, (idx t).2.2.2, ← hb]
  rfl

/-- Where an element of a grid step's first block lies in its array, -/
theorem emb1 (t : Fin (cfgM m).N) (b : Fin 4) (hb : b.val = t.val) (y : S1x102x1024.Idx) :
    (((cfgM m).win 1).blk t).view.emb y = (ix3 b (y 1) (y 2) : S4x102x1024.Idx) := by
  have h0 : (y 0).val < 1 := (y 0).isLt
  refine funext fun a => Fin.ext ?_
  match a with
  | ⟨0, _⟩ => show cc0_transform_1 (grid0.coords t) 0 * 1 + 1 * (y 0).val = b.val; rw [(idx t).2.1]; show t.val * 1 + 1 * (y 0).val = b.val; omega
  | ⟨1, _⟩ => show cc0_transform_1 (grid0.coords t) 1 * 102 + 1 * (y 1).val = (y 1).val; rw [(idx t).2.1]; show 0 * 102 + 1 * (y 1).val = (y 1).val; omega
  | ⟨2, _⟩ => show cc0_transform_1 (grid0.coords t) 2 * 1024 + 1 * (y 2).val = (y 2).val; rw [(idx t).2.1]; show 0 * 1024 + 1 * (y 2).val = (y 2).val; omega

/-- and one of its second block. -/
theorem emb2 (t : Fin (cfgM m).N) (b : Fin 4) (hb : b.val = t.val) (y : S1x102x1024.Idx) :
    (((cfgM m).win 2).blk t).view.emb y = (ix3 b (y 1) (y 2) : S4x102x1024.Idx) := by
  have h0 : (y 0).val < 1 := (y 0).isLt
  refine funext fun a => Fin.ext ?_
  match a with
  | ⟨0, _⟩ => show cc0_transform_2 (grid0.coords t) 0 * 1 + 1 * (y 0).val = b.val; rw [(idx t).2.2.1]; show t.val * 1 + 1 * (y 0).val = b.val; omega
  | ⟨1, _⟩ => show cc0_transform_2 (grid0.coords t) 1 * 102 + 1 * (y 1).val = (y 1).val; rw [(idx t).2.2.1]; show 0 * 102 + 1 * (y 1).val = (y 1).val; omega
  | ⟨2, _⟩ => show cc0_transform_2 (grid0.coords t) 2 * 1024 + 1 * (y 2).val = (y 2).val; rw [(idx t).2.2.1]; show 0 * 1024 + 1 * (y 2).val = (y 2).val; omega

/-- What a grid step writes back to the first array is its block of it, -/
theorem flushed1 (c : Dev nD) (t : Fin (cfgM m).N) :
    (dats m 0 c).flushed 1 t = (((cfgM m).win 1).blk t).view.read (Elt F) (gathered (tbl m 0) (V m c main_v3) 0) := by
  show ((cfgM m).win 1).cut (grid0.coords t) ((dats m 0 c).after 1 t) = _
  rw [after1]
  refine funext fun (y : S1x102x1024.Idx) => ?_
  refine Eq.trans ?_ (congrArg (gathered (tbl m 0) (V m c main_v3) 0) (emb1 m t ⟨t.val, lt_of_lt_of_eq t.isLt N_0⟩ rfl y).symm)
  exact outAt_apply m 0 c t ⟨t.val, lt_of_lt_of_eq t.isLt N_0⟩ rfl y

/-- and to the second its block of that. -/
theorem flushed2 (c : Dev nD) (t : Fin (cfgM m).N) :
    (dats m 0 c).flushed 2 t = (((cfgM m).win 2).blk t).view.read (Elt F) (gathered (tbl m 0) (V m c main_v3) 1024) := by
  show ((cfgM m).win 2).cut (grid0.coords t) ((dats m 0 c).after 2 t) = _
  rw [after2]
  refine funext fun (y : S1x102x1024.Idx) => ?_
  refine Eq.trans ?_ (congrArg (gathered (tbl m 0) (V m c main_v3) 1024) (emb2 m t ⟨t.val, lt_of_lt_of_eq t.isLt N_0⟩ rfl y).symm)
  exact outAt_apply m 1024 c t ⟨t.val, lt_of_lt_of_eq t.isLt N_0⟩ rfl y

/-- Every grid step writes its first block back, -/
theorem flush1 (t : Fin (cfgM m).N) : ((cfgM m).win 1).flush t = true :=
  Pipeline.Window.flushOf_reads cc0_transform_1 reads0_1 hreads0_1 0 (by decide) (by decide)
    (Pipeline.Window.sep_of_coord cc0_transform_1 0 0 (fun _ => rfl) (by decide)) (P := 1) (m := 0) (by decide) rfl t |>.mpr (Nat.mod_one _)

/-- and its second. -/
theorem flush2 (t : Fin (cfgM m).N) : ((cfgM m).win 2).flush t = true :=
  Pipeline.Window.flushOf_reads cc0_transform_2 reads0_2 hreads0_2 0 (by decide) (by decide)
    (Pipeline.Window.sep_of_coord cc0_transform_2 0 0 (fun _ => rfl) (by decide)) (P := 1) (m := 0) (by decide) rfl t |>.mpr (Nat.mod_one _)

/-- A sample's rows lie in its grid step's first block, -/
theorem mem1 (t : Fin (cfgM m).N) (b : Fin 4) (hb : b.val = t.val) (y : S1x102x1024.Idx) (i : S4x102x1024.Idx)
    (hi : (ix3 b (y 1) (y 2) : S4x102x1024.Idx) = i) : i ∈ (((cfgM m).win 1).blk t).view.set :=
  Eq.subst (motive := fun z : S4x102x1024.Idx => z ∈ (((cfgM m).win 1).blk t).view.set) ((emb1 m t b hb y).trans hi)
    ((((cfgM m).win 1).blk t).view.emb_mem_set y)

/-- and in its second. -/
theorem mem2 (t : Fin (cfgM m).N) (b : Fin 4) (hb : b.val = t.val) (y : S1x102x1024.Idx) (i : S4x102x1024.Idx)
    (hi : (ix3 b (y 1) (y 2) : S4x102x1024.Idx) = i) : i ∈ (((cfgM m).win 2).blk t).view.set :=
  Eq.subst (motive := fun z : S4x102x1024.Idx => z ∈ (((cfgM m).win 2).blk t).view.set) ((emb2 m t b hb y).trans hi)
    ((((cfgM m).win 2).blk t).view.emb_mem_set y)

/-- The first array after the run, -/
theorem array1 (c : Dev nD) : (dats m 0 c).arrAt 1 (cfgM m).N = gathered (tbl m 0) (V m c main_v3) 0 :=
  (dats m 0 c).arrAt_eq_of_cover 1 _ (fun t _ => flushed1 m c t) fun (i : S4x102x1024.Idx) =>
    have h0 : (i 0).val < 4 := (i 0).isLt
    ⟨⟨(i 0).val, lt_of_lt_of_eq h0 N_0.symm⟩, flush1 m _, mem1 m _ (i 0) rfl (ix3 0 (i 1) (i 2)) i (eq_ix3 i).symm⟩

/-- and the second. -/
theorem array2 (c : Dev nD) : (dats m 0 c).arrAt 2 (cfgM m).N = gathered (tbl m 0) (V m c main_v3) 1024 :=
  (dats m 0 c).arrAt_eq_of_cover 2 _ (fun t _ => flushed2 m c t) fun (i : S4x102x1024.Idx) =>
    have h0 : (i 0).val < 4 := (i 0).isLt
    ⟨⟨(i 0).val, lt_of_lt_of_eq h0 N_0.symm⟩, flush2 m _, mem2 m _ (i 0) rfl (ix3 0 (i 1) (i 2)) i (eq_ix3 i).symm⟩

end Cert.ScoresIdeal.Scores

end
-- ==== Proof.ScoresMath.lean ====
/- The equation of the scores: what the call's host lines make of the gathered rows is what the reference makes of the
   rows it takes. -/
module

public import proofs.«01_k».proof.Proof.ScoresArray
public import proofs.«01_k».proof.Proof.MergeValue
public import proofs.«01_k».proof.Proof.Gen.ScoresReferenceIdeal.Run

@[expose] public section

set_option maxRecDepth 16384

noncomputable section

namespace Cert.ScoresIdeal.Scores

open Cert.ScoresIdeal Cert.ScoresIdeal.Gen
open Idealize.ShloMosaic Idealize.ShloMosaic.TcCoe
open Cert.MergeReferenceIdeal.Merge (first second someRows first_at second_at rowsTaken_at)

/-- The reference's result: the products of the rows of the normed tokens that the two halves of the table name. -/
theorem ref_res {F : FTy → Type} [FloatOps F] (m : (ℓ : Loc Cert.ScoresReferenceIdeal.nD Cert.ScoresReferenceIdeal.τ Cert.ScoresReferenceIdeal.sig) → Buf (Elt F) ℓ)
    (c : Dev Cert.ScoresReferenceIdeal.nD) : Cert.ScoresReferenceIdeal.Value.res_main_v12 m c
      = Host.dotGeneral dot_S4x102x1024_S4x102x1024_S4x102x102_2_2_1_1_0_0 none
          (someRows (first (m ((c.tc : Thread _ _).loc Cert.ScoresReferenceIdeal.main_arg0))) (normed (F := F) (m ((c.tc : Thread _ _).loc Cert.ScoresReferenceIdeal.main_arg1))))
          (someRows (second (m ((c.tc : Thread _ _).loc Cert.ScoresReferenceIdeal.main_arg0))) (normed (F := F) (m ((c.tc : Thread _ _).loc Cert.ScoresReferenceIdeal.main_arg1)))) := rfl

variable (a : IVec S8192 32) (x : FVec Ideal S4x2048x1024 .f32) (ha : ∀ j, (a j).toNat < 2048)

/-- A row of a sample, when the number is a row's. -/
theorem rowAt_eq (b : Fin 4) (n : ℕ) (hn : n < 2048) (j : Fin 1024) : rowAt (sample x b) n j = x (ix3 b ⟨n, hn⟩ j) :=
  congrArg x (congrArg (fun k => ix3 b k j) (Fin.ext (Nat.min_eq_left (by omega))))

/-- A word of the table, when the place is one of the table's. -/
theorem word_eq (n : ℕ) (k : Fin 8192) (hk : k.val = n) : word a n = (a (ix1 k)).toNat := by
  subst hk
  exact congrArg (fun k => (a (ix1 k)).toNat) (Fin.ext (Nat.min_eq_left (by omega)))

/-- One element of an array of gathered rows. -/
theorem gathered_at (o : ℕ) (b : Fin 4) (r : Fin 102) (j : Fin 1024) (k : Fin 8192) (hk : k.val = 2048 * b.val + o + r.val) :
    gathered a x o (ix3 b r j) = x (ix3 b ⟨(a (ix1 k)).toNat, ha _⟩ j) := by
  show rowAt (sample x b) (word a (2048 * b.val + o + r.val)) j = _
  rw [word_eq a _ k hk]
  exact rowAt_eq x b _ _ j

include ha in
/-- The rows the table's first half names are the rows the reference takes first, -/
theorem gathered_first : gathered a x 0 = someRows (first a) x := by
  funext i
  rw [eq_ix3 i]
  have hf : ∀ y, (first a y).toNat < 2048 := fun y => ha _
  refine (gathered_at a x ha 0 (i 0) (i 1) (i 2) ⟨(i 0).val * 2048 + (i 1).val, ?_⟩ ?_).trans ?_
  · have : (i 0).val < 4 := (i 0).isLt
    have : (i 1).val < 102 := (i 1).isLt
    omega
  · show (i 0).val * 2048 + (i 1).val = 2048 * (i 0).val + 0 + (i 1).val
    omega
  refine Eq.trans ?_ (rowsTaken_at _ _ _ _ _ _ _ _ x (first a) hf (i 0) (i 1) (i 2)).symm
  congr 2
  exact Fin.ext (congrArg BitVec.toNat (first_at a (i 0) (i 1)).symm)

include ha in
/-- and those its second half names are the rows it takes second. -/
theorem gathered_second : gathered a x 1024 = someRows (second a) x := by
  funext i
  rw [eq_ix3 i]
  have hf : ∀ y, (second a y).toNat < 2048 := fun y => ha _
  refine (gathered_at a x ha 1024 (i 0) (i 1) (i 2) ⟨(i 0).val * 2048 + (1024 + (i 1).val), ?_⟩ ?_).trans ?_
  · have : (i 0).val < 4 := (i 0).isLt
    have : (i 1).val < 102 := (i 1).isLt
    omega
  · show (i 0).val * 2048 + (1024 + (i 1).val) = 2048 * (i 0).val + 1024 + (i 1).val
    omega
  refine Eq.trans ?_ (rowsTaken_at _ _ _ _ _ _ _ _ x (second a) hf (i 0) (i 1) (i 2)).symm
  congr 2
  exact Fin.ext (congrArg BitVec.toNat (second_at a (i 0) (i 1)).symm)

/-- Over the extended reals the host's narrowing of the rows before the products changes nothing. -/
theorem products_eq (u v : FVec Ideal S4x102x1024 .f32) :
    products u v = Host.dotGeneral dot_S4x102x1024_S4x102x1024_S4x102x102_2_2_1_1_0_0 none u v := rfl

include ha in
/-- So the two results are equal. -/
theorem scores_eq : products (gathered a (normed x) 0) (gathered a (normed x) 1024)
    = Host.dotGeneral dot_S4x102x1024_S4x102x1024_S4x102x102_2_2_1_1_0_0 none (someRows (first a) (normed x)) (someRows (second a) (normed x)) := by
  rw [products_eq, gathered_first a _ ha, gathered_second a _ ha]

end Cert.ScoresIdeal.Scores

end
-- ==== Proof.ScoresPre.lean ====
/- The precondition of the scores, read back: every word of the table is a row number. -/
module

public import proofs.«01_k».proof.Proof.ScoresRun
public import proofs.«01_k».proof.Proof.MergePre
public import proofs.«01_k».proof.Proof.Gen.Pre_pairs_in_range

@[expose] public section

set_option maxRecDepth 16384

noncomputable section

namespace Cert.ScoresIdeal.Scores

open Cert.ScoresIdeal Cert.ScoresIdeal.Gen
open Idealize.ShloMosaic Idealize.ShloMosaic.TcCoe Idealize.ShloMosaic.ValueIdx

variable {F : FTy → Type} [FloatOps F]

/-- The scalar shape has one index. -/
instance : Subsingleton Cert.Pre_pairs_in_range.S_.Idx := ⟨fun a b => funext fun i => i.elim0⟩

/-- The precondition says that every word of the table is a row number. -/
theorem rows_of_pre (a : IVec S8192 32) (x : FVec F S4x2048x1024 .f32)
    (h : Cert.Pre_pairs_in_range.fn (F := F) a x = fun _ => 1#1) (j : S8192.Idx) : (a j).toNat < 2048 := by
  have h := congrFun h ValueIdx.ix0
  unfold Cert.Pre_pairs_in_range.fn at h
  exact Cert.MergeIdeal.Merge.word_lt _ 2048 (by decide) (Host.reduce_andi_all _ _ _ _ _ h j)

/-- The table as the call finds it is the table as launched. -/
theorem tbl_eq (m : (ℓ : Loc nD τ sig) → Buf (Elt F) ℓ) : tbl m 0 = m (((0 : Dev nD) : Thread nD τ).loc main_arg0) := V_arg0 m 0

/-- A memory that meets the precondition has its table in range. -/
theorem inRange (m : (ℓ : Loc nD τ sig) → Buf (Elt F) ℓ)
    (h : Cert.Pre_pairs_in_range.fn (F := F) (m (((0 : Dev nD) : Thread nD τ).loc main_arg0)) (m (((0 : Dev nD) : Thread nD τ).loc main_arg1))
      = fun _ => 1#1) : InRange m := by
  unfold InRange
  rw [tbl_eq]
  exact rows_of_pre _ _ h

end Cert.ScoresIdeal.Scores

end
-- ==== Proof.ScoresBits.lean ====
/- The scores over the machine's floats. The program printed for that reading and the one printed for the ideal reading
   are one text: no rule rewrote an operation. So what holds of the second over any floats holds of the first. -/
module

public import proofs.«01_k».proof.Defs
public import proofs.«01_k».proof.Proof.Gen.Scores
public import proofs.«01_k».proof.Proof.ScoresPre
public import Idealize.ShloMosaic.Lib.Pipeline.Regions

@[expose] public section

noncomputable section

namespace Cert.ScoresIdeal.Scores

open Idealize.ShloMosaic Idealize.SL.Sem
open Cert.ScoresIdeal

/-- From a table in range the program ends, its arguments unchanged and no semaphore raised; over floats `F`. -/
def Ends (F : FTy → Type) [FloatOps F] [Cert.ScoresIdeal.Facts] [Cert.Pre_pairs_in_range.Facts] : Prop :=
  ∀ (m : (l : Loc nD τ sig) → Buf (Elt F) l) (g : Dev nD → PrngReg),
    (∀ c : Dev nD, (Cert.Pre_pairs_in_range.fn (F := F) (m ((c.tc : Thread nD τ).loc main_arg0)) (m ((c.tc : Thread nD τ).loc main_arg1))) = (fun _ => 1#1)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

/-- It does, over any floats. -/
theorem ends (F : FTy → Type) [FloatOps F] : Ends F := fun m ρ h =>
  (θ_run defs _ _).mono (fun _ h => ⟨fun c => (h.1 c).1, h.2⟩) (run_ends (F := F) m ρ (inRange m (h 0)))

/-- The claim of the program printed for the machine's floats is that of the other, taken over those floats. -/
theorem same_program : Cert.quiescent_Scores = Ends Bits := by chain_rfl

end Cert.ScoresIdeal.Scores

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_rows_have_length
public import proofs.«01_k».proof.Proof.Gen.ReferenceIdeal.Run
public import proofs.«01_k».proof.Proof.Gen.Tail
public import proofs.«01_k».proof.Proof.Gen.Tail.Skeleton
public import proofs.«01_k».proof.Proof.Gen.Tail.Loops
public import proofs.«01_k».proof.Proof.Gen.Tail.Launch
public import proofs.«01_k».proof.Proof.Gen.Tail.Regions
public import proofs.«01_k».proof.Proof.Gen.TailIdeal
public import proofs.«01_k».proof.Proof.Gen.TailIdeal.Skeleton
public import proofs.«01_k».proof.Proof.Gen.TailIdeal.Loops
public import proofs.«01_k».proof.Proof.Gen.TailIdeal.Launch
public import proofs.«01_k».proof.Proof.Gen.TailIdeal.Regions
public import proofs.«01_k».proof.Proof.Gen.TailReferenceIdeal
public import proofs.«01_k».proof.Proof.Gen.Pre_in_range
public import proofs.«01_k».proof.Proof.Gen.Select.Frame
public import proofs.«01_k».proof.Proof.Gen.SelectIdeal.Value
public import proofs.«01_k».proof.Proof.Gen.SelectReferenceIdeal.Run
public import proofs.«01_k».proof.Proof.Gen.MergeReferenceIdeal.Run
public import proofs.«01_k».proof.Proof.Gen.Pre_in_ranges
public import proofs.«01_k».proof.Proof.Gen.Merge
public import proofs.«01_k».proof.Proof.Gen.Merge.Skeleton
public import proofs.«01_k».proof.Proof.Gen.Merge.Loops
public import proofs.«01_k».proof.Proof.Gen.Merge.Launch
public import proofs.«01_k».proof.Proof.Gen.MergeIdeal
public import proofs.«01_k».proof.Proof.Gen.MergeIdeal.Skeleton
public import proofs.«01_k».proof.Proof.Gen.MergeIdeal.Loops
public import proofs.«01_k».proof.Proof.Gen.MergeIdeal.Launch
public import proofs.«01_k».proof.Proof.Gen.Scores
public import proofs.«01_k».proof.Proof.Gen.Scores.Skeleton
public import proofs.«01_k».proof.Proof.Gen.Scores.Loops
public import proofs.«01_k».proof.Proof.Gen.Scores.Launch
public import proofs.«01_k».proof.Proof.Gen.ScoresIdeal
public import proofs.«01_k».proof.Proof.Gen.ScoresIdeal.Skeleton
public import proofs.«01_k».proof.Proof.Gen.ScoresIdeal.Loops
public import proofs.«01_k».proof.Proof.Gen.ScoresIdeal.Launch
public import proofs.«01_k».proof.Proof.Gen.ScoresReferenceIdeal.Run
public import proofs.«01_k».proof.Proof.Gen.Pre_pairs_in_range
public import Idealize.ShloMosaic.Adequacy
public import Idealize.ShloMosaic.Init
public import Idealize.ShloMosaic.Lib.Quiescent
public import proofs.«01_k».proof.Proof.ColsumMath
public import proofs.«01_k».proof.Proof.TailMath
public import proofs.«01_k».proof.Proof.TailBits
public import proofs.«01_k».proof.Proof.TailRefRead
public import proofs.«01_k».proof.Proof.SelectValue
public import proofs.«01_k».proof.Proof.MergeMath
public import proofs.«01_k».proof.Proof.MergeBits
public import proofs.«01_k».proof.Proof.ScoresMath
public import proofs.«01_k».proof.Proof.ScoresBits

@[expose] public section

noncomputable section

namespace Cert.Proof

open Idealize.ShloMosaic Idealize.SL.Sem

/-- The reference of the column sums ends, its argument unchanged and no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The column sums: on one argument whose rows have a length, the kernel leaves what its reference leaves. -/
theorem algebraic_colsum : algebraic_KernelIdeal_ReferenceIdeal_pre_rows_have_length := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.KernelIdeal.Colsum.ref_res, hagree c]
  exact (Cert.KernelIdeal.Colsum.array_eq m c (hpre c)).symm

/-- The merge by the two calls, and the host lines about them, ends, its arguments unchanged and no semaphore raised: over
    the machine's floats, -/
theorem quiescent_Tail : quiescent_Tail := Cert.TailIdeal.Whole.same_program ▸ Cert.TailIdeal.Whole.ends Bits

/-- and over the extended reals. -/
theorem quiescent_TailIdeal : quiescent_TailIdeal := Cert.TailIdeal.Whole.ends Ideal

/-- The reference of the merge ends, its arguments unchanged and no semaphore raised. -/
theorem quiescent_TailReferenceIdeal : quiescent_TailReferenceIdeal := fun m ρ _ =>
  (θ_run Cert.TailReferenceIdeal.defs _ _).mono (fun r h => ⟨fun c => (h c).2, sem_eq_zero_of_no_sems (by decide) r.2⟩)
    (Cert.TailReferenceIdeal.Tail.run (F := Ideal) m ρ)

/-- The merge: on tables of row numbers, the two calls and the host lines about them leave what their reference leaves. -/
theorem algebraic_tail : algebraic_TailIdeal_TailReferenceIdeal := by
  intro m ρ m' ρ' hpre hagree
  have hR := Cert.TailIdeal.Whole.inRange m (hpre 0)
  refine ⟨fun c => Cert.TailIdeal.Merge.G (Cert.TailIdeal.Whole.W8 m) c, (θ_run Cert.TailIdeal.defs _ _).mono
    (fun _ h c => ⟨(h.1 c).2.trans (Cert.TailIdeal.Merge.array_eq _ c), (h.1 c).1⟩)
    (Cert.TailIdeal.Whole.run_ends (F := Ideal) m ρ (Cert.TailIdeal.Whole.gather_inRange hR) (Cert.TailIdeal.Whole.merge_inRange hR)), ?_⟩
  refine (θ_run Cert.TailReferenceIdeal.defs _ _).mono (fun _ h c => ⟨(h c).1.trans ?_, (h c).2⟩)
    (Cert.TailReferenceIdeal.Tail.run (F := Ideal) m' ρ')
  obtain rfl : c = 0 := Subsingleton.elim _ _
  refine Eq.trans ?_ (Cert.TailIdeal.Whole.tail_eq hR).symm
  rw [(hagree 0).1, (hagree 0).2.1, (hagree 0).2.2]

/-- The reference of the selection ends, its argument unchanged and no semaphore raised. -/
theorem quiescent_SelectReferenceIdeal : quiescent_SelectReferenceIdeal := fun m ρ _ =>
  (θ_run Cert.SelectReferenceIdeal.defs _ _).mono (fun r h => ⟨fun c => (h c).2.2, sem_eq_zero_of_no_sems (by decide) r.2⟩)
    (Cert.SelectReferenceIdeal.Select.run_tables m ρ)

/-- The selection: on one argument the kernel leaves the two tables that its reference leaves. -/
theorem algebraic_select : algebraic_SelectIdeal_SelectReferenceIdeal := by
  intro m ρ m' ρ' _ hagree
  refine ⟨fun c => Cert.SelectIdeal.Select.ordArr (m ((c.tc : Thread Cert.SelectIdeal.nD Cert.SelectIdeal.τ).loc Cert.SelectIdeal.main_arg0)),
    fun c => Cert.SelectIdeal.Select.abArr (m ((c.tc : Thread Cert.SelectIdeal.nD Cert.SelectIdeal.τ).loc Cert.SelectIdeal.main_arg0)),
    (θ_run Cert.SelectIdeal.defs _ _).mono
      (fun _ h c => ⟨(h c).1.trans (Cert.SelectIdeal.Select.array2 m c), (h c).2.1.trans (Cert.SelectIdeal.Select.array3 m c), (h c).2.2⟩)
      (Cert.SelectIdeal.Value.run_blocks m ρ), ?_⟩
  refine (θ_run Cert.SelectReferenceIdeal.defs _ _).mono (fun _ h c => ⟨(h c).1.trans ?_, (h c).2.1.trans ?_, (h c).2.2⟩)
    (Cert.SelectReferenceIdeal.Select.run_tables m' ρ')
  · rw [hagree c]
    exact (Cert.Select.ord_eq _).symm
  · rw [hagree c]
    exact (Cert.Select.ab_eq _).symm

/-- The merge call by itself ends, its arguments unchanged and no semaphore raised: over the machine's floats, -/
theorem quiescent_Merge : quiescent_Merge := Cert.MergeIdeal.Merge.same_program ▸ Cert.MergeIdeal.Merge.ends Bits

/-- and over the extended reals. -/
theorem quiescent_MergeIdeal : quiescent_MergeIdeal := Cert.MergeIdeal.Merge.ends Ideal

/-- The reference of the merge call ends, its arguments unchanged and no semaphore raised. -/
theorem quiescent_MergeReferenceIdeal : quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The merge call: on arguments whose tables are in range, the kernel leaves what its reference leaves. -/
theorem algebraic_merge : algebraic_MergeIdeal_MergeReferenceIdeal := by
  intro m ρ m' ρ' hpre hagree
  have hR := Cert.MergeIdeal.Merge.inRange m (hpre 0)
  refine ⟨fun c => Cert.MergeIdeal.Merge.G m c, (θ_run Cert.MergeIdeal.defs _ _).mono
    (fun _ h c => ⟨(h.1 c).2.trans (Cert.MergeIdeal.Merge.array_eq m c), (h.1 c).1⟩)
    (Cert.MergeIdeal.Merge.run_ends (F := Ideal) m ρ hR), ?_⟩
  refine (θ_run Cert.MergeReferenceIdeal.defs _ _).mono (fun _ h c => ⟨(h c).1.trans ?_, (h c).2⟩)
    (Cert.MergeReferenceIdeal.Value.run (F := Ideal) m' ρ')
  rw [Cert.MergeReferenceIdeal.Merge.res_eq, (hagree c).1, (hagree c).2.1, (hagree c).2.2.1, (hagree c).2.2.2.1, (hagree c).2.2.2.2]
  obtain rfl : c = 0 := Subsingleton.elim _ _
  funext i
  rw [eq_ix3 i]
  exact (Cert.MergeIdeal.Merge.row_eq_ref _ _ _ _ _ hR.ord hR.ab hR.dst (i 0) (i 1) (i 2)).symm

/-- The scores end, their arguments unchanged and no semaphore raised: over the machine's floats, -/
theorem quiescent_Scores : quiescent_Scores := Cert.ScoresIdeal.Scores.same_program ▸ Cert.ScoresIdeal.Scores.ends Bits

/-- and over the extended reals. -/
theorem quiescent_ScoresIdeal : quiescent_ScoresIdeal := Cert.ScoresIdeal.Scores.ends Ideal

/-- The reference of the scores ends, its arguments unchanged and no semaphore raised. -/
theorem quiescent_ScoresReferenceIdeal : quiescent_ScoresReferenceIdeal := fun m ρ _ =>
  (θ_run Cert.ScoresReferenceIdeal.defs _ _).mono (fun r h => ⟨fun c => (h c).2, sem_eq_zero_of_no_sems (by decide) r.2⟩)
    (Cert.ScoresReferenceIdeal.Value.run (F := Ideal) m ρ)

/-- The scores: on a table in range, the program leaves what its reference leaves. -/
theorem algebraic_scores : algebraic_ScoresIdeal_ScoresReferenceIdeal := by
  intro m ρ m' ρ' hpre hagree
  have hR := Cert.ScoresIdeal.Scores.inRange m (hpre 0)
  refine ⟨fun c => Cert.ScoresReferenceIdeal.Value.res_main_v12 m' c, (θ_run Cert.ScoresIdeal.defs _ _).mono
    (fun _ h c => ⟨(h.1 c).2.trans ?_, (h.1 c).1⟩) (Cert.ScoresIdeal.Scores.run_ends (F := Ideal) m ρ hR),
    Cert.ScoresReferenceIdeal.Value.run (F := Ideal) m' ρ'⟩
  refine (congrArg₂ Cert.ScoresIdeal.Scores.products (Cert.ScoresIdeal.Scores.array1 m c) (Cert.ScoresIdeal.Scores.array2 m c)).trans ?_
  show _ = Cert.ScoresReferenceIdeal.Value.res_main_v12 m' c
  rw [Cert.ScoresIdeal.Scores.ref_res, (hagree c).1, (hagree c).2, Cert.ScoresIdeal.Scores.V_v3]
  obtain rfl : c = 0 := Subsingleton.elim _ _
  have ht := Cert.ScoresIdeal.Scores.tbl_eq m
  unfold Cert.ScoresIdeal.Scores.InRange at hR
  rw [ht] at hR ⊢
  exact Cert.ScoresIdeal.Scores.scores_eq _ _ hR

/-- All the claims. -/
theorem claim : Cert.Claim := ⟨Cert.Kernel.Gen.facts, Cert.KernelIdeal.Gen.facts, Cert.ReferenceIdeal.Gen.facts,
  Cert.Tail.Gen.facts, Cert.TailIdeal.Gen.facts, Cert.TailReferenceIdeal.Gen.facts,
  Cert.Select.Gen.facts, Cert.SelectIdeal.Gen.facts, Cert.SelectReferenceIdeal.Gen.facts,
  Cert.Scores.Gen.facts, Cert.ScoresIdeal.Gen.facts, Cert.ScoresReferenceIdeal.Gen.facts,
  Cert.Merge.Gen.facts, Cert.MergeIdeal.Gen.facts, Cert.MergeReferenceIdeal.Gen.facts,
  Cert.Pre_rows_have_length.Gen.facts, Cert.Pre_in_range.Gen.facts, Cert.Pre_pairs_in_range.Gen.facts, Cert.Pre_in_ranges.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  quiescent_Tail, quiescent_TailIdeal, quiescent_TailReferenceIdeal, fun m ρ _ => quiescent_TailReferenceIdeal m ρ trivial,
  fun m ρ _ => Cert.Select.Gen.frame m ρ, fun m ρ _ => Cert.SelectIdeal.Gen.frame m ρ, quiescent_SelectReferenceIdeal,
  quiescent_Scores, quiescent_ScoresIdeal, quiescent_ScoresReferenceIdeal, fun m ρ _ => quiescent_ScoresReferenceIdeal m ρ trivial,
  quiescent_Merge, quiescent_MergeIdeal, quiescent_MergeReferenceIdeal, fun m ρ _ => quiescent_MergeReferenceIdeal m ρ trivial,
  (trivial : preserves_Kernel_KernelIdeal), algebraic_colsum, (trivial : preserves_Tail_TailIdeal), algebraic_tail,
  (trivial : preserves_Select_SelectIdeal), algebraic_select,
  (trivial : preserves_Scores_ScoresIdeal), algebraic_scores, (trivial : preserves_Merge_MergeIdeal), algebraic_merge⟩

end Cert.Proof

end
